-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![1, 1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x1024 .f32) (main_arg2 : FVec F S1x4096x32x128 .f32) (main_arg3 : FVec F S1x4096x32x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Pre_finite_scores_ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x1024x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S4x128x1024 : Shape := ⟨3, ![4, 128, 1024]⟩
abbrev S2x3x1408x128 : Shape := ⟨4, ![2, 3, 1408, 128]⟩
abbrev S2x2x320x128 : Shape := ⟨4, ![2, 2, 320, 128]⟩
abbrev S3x1408x128 : Shape := ⟨3, ![3, 1408, 128]⟩
abbrev S2x320x128 : Shape := ⟨3, ![2, 320, 128]⟩
abbrev S4x256x1024 : Shape := ⟨3, ![4, 256, 1024]⟩
abbrev S128x1024 : Shape := ⟨2, ![128, 1024]⟩
abbrev S2x128x1024 : Shape := ⟨3, ![2, 128, 1024]⟩
abbrev S3x128x1024 : Shape := ⟨3, ![3, 128, 1024]⟩
abbrev S2 : Shape := ⟨1, ![2]⟩
abbrev S3 : Shape := ⟨1, ![3]⟩
abbrev S_ : Shape := ⟨0, ![]⟩
abbrev S1 : Shape := ⟨1, ![1]⟩
abbrev S1x1x64x128 : Shape := ⟨4, ![1, 1, 64, 128]⟩
abbrev S64x128 : Shape := ⟨2, ![64, 128]⟩
abbrev S1x64x1x128 : Shape := ⟨4, ![1, 64, 1, 128]⟩
abbrev S1x128x1024 : Shape := ⟨3, ![1, 128, 1024]⟩
abbrev S64x1024 : Shape := ⟨2, ![64, 1024]⟩
abbrev S1x3x1408x128 : Shape := ⟨4, ![1, 3, 1408, 128]⟩
abbrev S1x2x320x128 : Shape := ⟨4, ![1, 2, 320, 128]⟩
abbrev S384x128 : Shape := ⟨2, ![384, 128]⟩
abbrev S1x1408x128 : Shape := ⟨3, ![1, 1408, 128]⟩
abbrev S1408x128 : Shape := ⟨2, ![1408, 128]⟩
abbrev S384x1408 : Shape := ⟨2, ![384, 1408]⟩
abbrev S384 : Shape := ⟨1, ![384]⟩
abbrev S384x1 : Shape := ⟨2, ![384, 1]⟩
abbrev S320x128 : Shape := ⟨2, ![320, 128]⟩
abbrev S320x1408 : Shape := ⟨2, ![320, 1408]⟩
abbrev S1x320x128 : Shape := ⟨3, ![1, 320, 128]⟩
abbrev S320x320 : Shape := ⟨2, ![320, 320]⟩
abbrev S320 : Shape := ⟨1, ![320]⟩
abbrev S320x1 : Shape := ⟨2, ![320, 1]⟩
abbrev S256x1024 : Shape := ⟨2, ![256, 1024]⟩

abbrev nBuf : Space → Nat
  | .hbm => 6
  | .vmem => 25
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x32x128, .f32⟩
  | .hbm, ⟨3, _⟩ => ⟨S1x4096x32x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S4x128x1024, .bf16⟩
  | .local _ .vmem, ⟨5, _⟩ => ⟨S4x128x1024, .bf16⟩
  | .local _ .vmem, ⟨6, _⟩ => ⟨S1024x1024, .bf16⟩
  | .local _ .vmem, ⟨7, _⟩ => ⟨S2x3x1408x128, .f32⟩
  | .local _ .vmem, ⟨8, _⟩ => ⟨S2x3x1408x128, .f32⟩
  | .local _ .vmem, ⟨9, _⟩ => ⟨S2x2x320x128, .f32⟩
  | .local _ .vmem, ⟨10, _⟩ => ⟨S2x2x320x128, .f32⟩
  | .local _ .vmem, ⟨11, _⟩ => ⟨S3x1408x128, .bf16⟩
  | .local _ .vmem, ⟨12, _⟩ => ⟨S3x1408x128, .bf16⟩
  | .local _ .vmem, ⟨13, _⟩ => ⟨S2x320x128, .bf16⟩
  | .local _ .vmem, ⟨14, _⟩ => ⟨S2x320x128, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S4x256x1024, .f32⟩
  | .local _ .vmem, ⟨19, _⟩ => ⟨S128x1024, .bf16⟩
  | .local _ .vmem, ⟨20, _⟩ => ⟨S128x1024, .bf16⟩
  | .local _ .vmem, ⟨21, _⟩ => ⟨S2x128x1024, .bf16⟩
  | .local _ .vmem, ⟨22, _⟩ => ⟨S2x128x1024, .bf16⟩
  | .local _ .vmem, ⟨23, _⟩ => ⟨S3x128x1024, .bf16⟩
  | .local _ .vmem, ⟨24, _⟩ => ⟨S3x128x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_scratch13 : Ref sig .tc := ⟨.vmem, 17, rfl⟩
abbrev cc0_scratch14 : Ref sig .tc := ⟨.vmem, 18, rfl⟩
abbrev cc0_scratch15 : Ref sig .tc := ⟨.vmem, 19, rfl⟩
abbrev cc0_scratch16 : Ref sig .tc := ⟨.vmem, 20, rfl⟩
abbrev cc0_scratch17 : Ref sig .tc := ⟨.vmem, 21, rfl⟩
abbrev cc0_scratch18 : Ref sig .tc := ⟨.vmem, 22, rfl⟩
abbrev cc0_scratch19 : Ref sig .tc := ⟨.vmem, 23, rfl⟩
abbrev cc0_scratch20 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v10 : BitVec 32 := Scalar.muli v5 c1_i32_6
  let v11 : BitVec 32 := Scalar.addi c0_i32 v10
  v11.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v12 : BitVec 32 := Scalar.muli v7 c1_i32_8
  let v13 : BitVec 32 := Scalar.addi c0_i32_9 v12
  v13.toNat
def k0_off1 (d0 : Dev nD) : Fin 4 → Nat :=
  let c0_i32_11 : BitVec 32 := 0#32
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_18 : BitVec 32 := 0#32
  ![0, 0, v14.toNat, 0]
def k0_off2 (d0 : Dev nD) : Fin 4 → Nat :=
  let c0_i32_27 : BitVec 32 := 0#32
  let c192_i32 : BitVec 32 := 192#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_32 : BitVec 32 := 0#32
  ![0, 192, v14.toNat, 0]
def k0_off3 (d0 : Dev nD) : Fin 4 → Nat :=
  let c0_i32_41 : BitVec 32 := 0#32
  let c384_i32 : BitVec 32 := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_46 : BitVec 32 := 0#32
  ![0, 384, v14.toNat, 0]
def k0_off4 (d0 : Dev nD) : Fin 4 → Nat :=
  let c0_i32_55 : BitVec 32 := 0#32
  let c576_i32 : BitVec 32 := 576#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_61 : BitVec 32 := 0#32
  ![0, 576, v14.toNat, 0]
def k0_off5 (d0 : Dev nD) : Fin 4 → Nat :=
  let c0_i32_70 : BitVec 32 := 0#32
  let c768_i32 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_75 : BitVec 32 := 0#32
  ![0, 768, v14.toNat, 0]
def k0_off6 (d0 : Dev nD) : Fin 4 → Nat :=
  let c0_i32_84 : BitVec 32 := 0#32
  let c960_i32 : BitVec 32 := 960#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_89 : BitVec 32 := 0#32
  ![0, 960, v14.toNat, 0]
def k0_off7 (d0 : Dev nD) : Fin 4 → Nat :=
  let c0_i32_98 : BitVec 32 := 0#32
  let c1152_i32 : BitVec 32 := 1152#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_104 : BitVec 32 := 0#32
  ![0, 1152, v14.toNat, 0]
def k0_off8 (d0 : Dev nD) : Fin 4 → Nat :=
  let c0_i32_113 : BitVec 32 := 0#32
  let c1344_i32 : BitVec 32 := 1344#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_118 : BitVec 32 := 0#32
  ![0, 1344, v14.toNat, 0]
def k0_off9 (d0 : Dev nD) : Fin 4 → Nat :=
  let c0_i32_127 : BitVec 32 := 0#32
  let c1536_i32 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_132 : BitVec 32 := 0#32
  ![0, 1536, v14.toNat, 0]
def k0_off10 (d0 : Dev nD) : Fin 4 → Nat :=
  let c0_i32_141 : BitVec 32 := 0#32
  let c1728_i32 : BitVec 32 := 1728#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_147 : BitVec 32 := 0#32
  ![0, 1728, v14.toNat, 0]
def k0_off11 (d0 : Dev nD) : Fin 4 → Nat :=
  let c0_i32_156 : BitVec 32 := 0#32
  let c1920_i32 : BitVec 32 := 1920#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_161 : BitVec 32 := 0#32
  ![0, 1920, v14.toNat, 0]
def k0_off12 (d0 : Dev nD) : Fin 4 → Nat :=
  let c0_i32_170 : BitVec 32 := 0#32
  let c2112_i32 : BitVec 32 := 2112#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_175 : BitVec 32 := 0#32
  ![0, 2112, v14.toNat, 0]
def k0_off13 (d0 : Dev nD) : Fin 4 → Nat :=
  let c0_i32_184 : BitVec 32 := 0#32
  let c2304_i32 : BitVec 32 := 2304#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_190 : BitVec 32 := 0#32
  ![0, 2304, v14.toNat, 0]
def k0_off14 (d0 : Dev nD) : Fin 4 → Nat :=
  let c0_i32_199 : BitVec 32 := 0#32
  let c2496_i32 : BitVec 32 := 2496#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_204 : BitVec 32 := 0#32
  ![0, 2496, v14.toNat, 0]
def k0_off15 (d0 : Dev nD) : Fin 4 → Nat :=
  let c0_i32_213 : BitVec 32 := 0#32
  let c2688_i32 : BitVec 32 := 2688#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_218 : BitVec 32 := 0#32
  ![0, 2688, v14.toNat, 0]
def k0_off16 (d0 : Dev nD) : Fin 4 → Nat :=
  let c0_i32_227 : BitVec 32 := 0#32
  let c2880_i32 : BitVec 32 := 2880#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_233 : BitVec 32 := 0#32
  ![0, 2880, v14.toNat, 0]
def k0_off17 (d0 : Dev nD) : Fin 4 → Nat :=
  let c0_i32_242 : BitVec 32 := 0#32
  let c3072_i32 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_247 : BitVec 32 := 0#32
  ![0, 3072, v14.toNat, 0]
def k0_off18 (d0 : Dev nD) : Fin 4 → Nat :=
  let c0_i32_256 : BitVec 32 := 0#32
  let c3264_i32 : BitVec 32 := 3264#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_261 : BitVec 32 := 0#32
  ![0, 3264, v14.toNat, 0]
def k0_off19 (d0 : Dev nD) : Fin 4 → Nat :=
  let c0_i32_270 : BitVec 32 := 0#32
  let c3456_i32 : BitVec 32 := 3456#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_276 : BitVec 32 := 0#32
  ![0, 3456, v14.toNat, 0]
def k0_off20 (d0 : Dev nD) : Fin 4 → Nat :=
  let c0_i32_285 : BitVec 32 := 0#32
  let c3648_i32 : BitVec 32 := 3648#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_290 : BitVec 32 := 0#32
  ![0, 3648, v14.toNat, 0]
def k0_off21 (d0 : Dev nD) : Fin 4 → Nat :=
  let c0_i32_299 : BitVec 32 := 0#32
  let c3840_i32 : BitVec 32 := 3840#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_304 : BitVec 32 := 0#32
  ![0, 3840, v14.toNat, 0]
def k0_off22 (d0 : Dev nD) : Fin 4 → Nat :=
  let c0_i32_313 : BitVec 32 := 0#32
  let c4032_i32 : BitVec 32 := 4032#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_319 : BitVec 32 := 0#32
  ![0, 4032, v14.toNat, 0]
def k0_off23 (d0 : Dev nD) : Fin 4 → Nat :=
  let c0_i32_344 : BitVec 32 := 0#32
  let c128_i32_350 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_351 : BitVec 32 := 0#32
  ![0, 128, v14.toNat, 0]
def k0_off24 (d0 : Dev nD) : Fin 4 → Nat :=
  let c0_i32_360 : BitVec 32 := 0#32
  let c320_i32_366 : BitVec 32 := 320#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_367 : BitVec 32 := 0#32
  ![0, 320, v14.toNat, 0]
def k0_off25 (d0 : Dev nD) : Fin 4 → Nat :=
  let c0_i32_376 : BitVec 32 := 0#32
  let c512_i32_382 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_383 : BitVec 32 := 0#32
  ![0, 512, v14.toNat, 0]
def k0_off26 (d0 : Dev nD) : Fin 4 → Nat :=
  let c0_i32_392 : BitVec 32 := 0#32
  let c704_i32_398 : BitVec 32 := 704#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_399 : BitVec 32 := 0#32
  ![0, 704, v14.toNat, 0]
def k0_off27 (d0 : Dev nD) : Fin 4 → Nat :=
  let c0_i32_408 : BitVec 32 := 0#32
  let c896_i32_414 : BitVec 32 := 896#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_415 : BitVec 32 := 0#32
  ![0, 896, v14.toNat, 0]
def k0_off28 (d0 : Dev nD) : Fin 4 → Nat :=
  let c0_i32_424 : BitVec 32 := 0#32
  let c1088_i32_430 : BitVec 32 := 1088#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_431 : BitVec 32 := 0#32
  ![0, 1088, v14.toNat, 0]
def k0_off29 (d0 : Dev nD) : Fin 4 → Nat :=
  let c0_i32_440 : BitVec 32 := 0#32
  let c1280_i32_446 : BitVec 32 := 1280#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_447 : BitVec 32 := 0#32
  ![0, 1280, v14.toNat, 0]
def k0_off30 (d0 : Dev nD) : Fin 4 → Nat :=
  let c0_i32_456 : BitVec 32 := 0#32
  let c1472_i32 : BitVec 32 := 1472#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_462 : BitVec 32 := 0#32
  ![0, 1472, v14.toNat, 0]
def k0_off31 (d0 : Dev nD) : Fin 4 → Nat :=
  let c0_i32_471 : BitVec 32 := 0#32
  let c1664_i32 : BitVec 32 := 1664#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_477 : BitVec 32 := 0#32
  ![0, 1664, v14.toNat, 0]
def k0_off32 (d0 : Dev nD) : Fin 4 → Nat :=
  let c0_i32_486 : BitVec 32 := 0#32
  let c1856_i32 : BitVec 32 := 1856#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_492 : BitVec 32 := 0#32
  ![0, 1856, v14.toNat, 0]
def k0_off33 (d0 : Dev nD) : Fin 4 → Nat :=
  let c0_i32_501 : BitVec 32 := 0#32
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_507 : BitVec 32 := 0#32
  ![0, 2048, v14.toNat, 0]
def k0_off34 (d0 : Dev nD) : Fin 4 → Nat :=
  let c0_i32_516 : BitVec 32 := 0#32
  let c2240_i32 : BitVec 32 := 2240#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_522 : BitVec 32 := 0#32
  ![0, 2240, v14.toNat, 0]
def k0_off35 (d0 : Dev nD) : Fin 4 → Nat :=
  let c0_i32_531 : BitVec 32 := 0#32
  let c2432_i32 : BitVec 32 := 2432#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_537 : BitVec 32 := 0#32
  ![0, 2432, v14.toNat, 0]
def k0_off36 (d0 : Dev nD) : Fin 4 → Nat :=
  let c0_i32_546 : BitVec 32 := 0#32
  let c2624_i32 : BitVec 32 := 2624#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_552 : BitVec 32 := 0#32
  ![0, 2624, v14.toNat, 0]
def k0_off37 (d0 : Dev nD) : Fin 4 → Nat :=
  let c0_i32_561 : BitVec 32 := 0#32
  let c2816_i32 : BitVec 32 := 2816#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_567 : BitVec 32 := 0#32
  ![0, 2816, v14.toNat, 0]
def k0_off38 (d0 : Dev nD) : Fin 4 → Nat :=
  let c0_i32_576 : BitVec 32 := 0#32
  let c3008_i32 : BitVec 32 := 3008#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_582 : BitVec 32 := 0#32
  ![0, 3008, v14.toNat, 0]
def k0_off39 (d0 : Dev nD) : Fin 4 → Nat :=
  let c0_i32_591 : BitVec 32 := 0#32
  let c3200_i32 : BitVec 32 := 3200#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_597 : BitVec 32 := 0#32
  ![0, 3200, v14.toNat, 0]
def k0_off40 (d0 : Dev nD) : Fin 4 → Nat :=
  let c0_i32_606 : BitVec 32 := 0#32
  let c3392_i32 : BitVec 32 := 3392#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_612 : BitVec 32 := 0#32
  ![0, 3392, v14.toNat, 0]
def k0_off41 (d0 : Dev nD) : Fin 4 → Nat :=
  let c0_i32_621 : BitVec 32 := 0#32
  let c3584_i32 : BitVec 32 := 3584#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_627 : BitVec 32 := 0#32
  ![0, 3584, v14.toNat, 0]
def k0_off42 (d0 : Dev nD) : Fin 4 → Nat :=
  let c0_i32_636 : BitVec 32 := 0#32
  let c3776_i32 : BitVec 32 := 3776#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_642 : BitVec 32 := 0#32
  ![0, 3776, v14.toNat, 0]
def k0_off43 (d0 : Dev nD) : Fin 4 → Nat :=
  let c0_i32_651 : BitVec 32 := 0#32
  let c3968_i32 : BitVec 32 := 3968#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_657 : BitVec 32 := 0#32
  ![0, 3968, v14.toNat, 0]
def k0_off44 (d0 : Dev nD) : Fin 4 → Nat :=
  let c0_i32_682 : BitVec 32 := 0#32
  let c64_i32_688 : BitVec 32 := 64#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_689 : BitVec 32 := 0#32
  ![0, 64, v14.toNat, 0]
def k0_off45 (d0 : Dev nD) : Fin 4 → Nat :=
  let c0_i32_698 : BitVec 32 := 0#32
  let c256_i32_704 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_705 : BitVec 32 := 0#32
  ![0, 256, v14.toNat, 0]
def k0_off46 (d0 : Dev nD) : Fin 4 → Nat :=
  let c0_i32_714 : BitVec 32 := 0#32
  let c448_i32_720 : BitVec 32 := 448#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_721 : BitVec 32 := 0#32
  ![0, 448, v14.toNat, 0]
def k0_off47 (d0 : Dev nD) : Fin 4 → Nat :=
  let c0_i32_730 : BitVec 32 := 0#32
  let c640_i32_736 : BitVec 32 := 640#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_737 : BitVec 32 := 0#32
  ![0, 640, v14.toNat, 0]
def k0_off48 (d0 : Dev nD) : Fin 4 → Nat :=
  let c0_i32_746 : BitVec 32 := 0#32
  let c832_i32_752 : BitVec 32 := 832#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_753 : BitVec 32 := 0#32
  ![0, 832, v14.toNat, 0]
def k0_off49 (d0 : Dev nD) : Fin 4 → Nat :=
  let c0_i32_762 : BitVec 32 := 0#32
  let c1024_i32_768 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_769 : BitVec 32 := 0#32
  ![0, 1024, v14.toNat, 0]
def k0_off50 (d0 : Dev nD) : Fin 4 → Nat :=
  let c0_i32_778 : BitVec 32 := 0#32
  let c1216_i32_784 : BitVec 32 := 1216#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_785 : BitVec 32 := 0#32
  ![0, 1216, v14.toNat, 0]
def k0_off51 (d0 : Dev nD) : Fin 4 → Nat :=
  let c0_i32_794 : BitVec 32 := 0#32
  let c1408_i32 : BitVec 32 := 1408#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_800 : BitVec 32 := 0#32
  ![0, 1408, v14.toNat, 0]
def k0_off52 (d0 : Dev nD) : Fin 4 → Nat :=
  let c0_i32_809 : BitVec 32 := 0#32
  let c1600_i32 : BitVec 32 := 1600#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_815 : BitVec 32 := 0#32
  ![0, 1600, v14.toNat, 0]
def k0_off53 (d0 : Dev nD) : Fin 4 → Nat :=
  let c0_i32_824 : BitVec 32 := 0#32
  let c1792_i32 : BitVec 32 := 1792#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_830 : BitVec 32 := 0#32
  ![0, 1792, v14.toNat, 0]
def k0_off54 (d0 : Dev nD) : Fin 4 → Nat :=
  let c0_i32_839 : BitVec 32 := 0#32
  let c1984_i32 : BitVec 32 := 1984#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_845 : BitVec 32 := 0#32
  ![0, 1984, v14.toNat, 0]
def k0_off55 (d0 : Dev nD) : Fin 4 → Nat :=
  let c0_i32_854 : BitVec 32 := 0#32
  let c2176_i32 : BitVec 32 := 2176#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_860 : BitVec 32 := 0#32
  ![0, 2176, v14.toNat, 0]
def k0_off56 (d0 : Dev nD) : Fin 4 → Nat :=
  let c0_i32_869 : BitVec 32 := 0#32
  let c2368_i32 : BitVec 32 := 2368#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_875 : BitVec 32 := 0#32
  ![0, 2368, v14.toNat, 0]
def k0_off57 (d0 : Dev nD) : Fin 4 → Nat :=
  let c0_i32_884 : BitVec 32 := 0#32
  let c2560_i32 : BitVec 32 := 2560#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_890 : BitVec 32 := 0#32
  ![0, 2560, v14.toNat, 0]
def k0_off58 (d0 : Dev nD) : Fin 4 → Nat :=
  let c0_i32_899 : BitVec 32 := 0#32
  let c2752_i32 : BitVec 32 := 2752#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_905 : BitVec 32 := 0#32
  ![0, 2752, v14.toNat, 0]
def k0_off59 (d0 : Dev nD) : Fin 4 → Nat :=
  let c0_i32_914 : BitVec 32 := 0#32
  let c2944_i32 : BitVec 32 := 2944#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_920 : BitVec 32 := 0#32
  ![0, 2944, v14.toNat, 0]
def k0_off60 (d0 : Dev nD) : Fin 4 → Nat :=
  let c0_i32_929 : BitVec 32 := 0#32
  let c3136_i32 : BitVec 32 := 3136#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_935 : BitVec 32 := 0#32
  ![0, 3136, v14.toNat, 0]
def k0_off61 (d0 : Dev nD) : Fin 4 → Nat :=
  let c0_i32_944 : BitVec 32 := 0#32
  let c3328_i32 : BitVec 32 := 3328#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_950 : BitVec 32 := 0#32
  ![0, 3328, v14.toNat, 0]
def k0_off62 (d0 : Dev nD) : Fin 4 → Nat :=
  let c0_i32_959 : BitVec 32 := 0#32
  let c3520_i32 : BitVec 32 := 3520#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_965 : BitVec 32 := 0#32
  ![0, 3520, v14.toNat, 0]
def k0_off63 (d0 : Dev nD) : Fin 4 → Nat :=
  let c0_i32_974 : BitVec 32 := 0#32
  let c3712_i32 : BitVec 32 := 3712#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_980 : BitVec 32 := 0#32
  ![0, 3712, v14.toNat, 0]
def k0_off64 (d0 : Dev nD) : Fin 4 → Nat :=
  let c0_i32_989 : BitVec 32 := 0#32
  let c3904_i32 : BitVec 32 := 3904#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_10 : BitVec 32 := 0#32
  let v14 : BitVec 32 := Scalar.addi v8 c0_i32_10
  let c0_i32_995 : BitVec 32 := 0#32
  ![0, 3904, v14.toNat, 0]
def k0_dev3 (d0 : Dev nD) : Nat :=
  let c0_i32_1187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1186 : BitVec 32 := 1#32
  let v951 : BitVec 32 := Scalar.muli v7 c1_i32_1186
  let v952 : BitVec 32 := Scalar.addi c0_i32_1187 v951
  v952.toNat
def k0_dev4 (d0 : Dev nD) : Nat :=
  let c0_i32_1197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1196 : BitVec 32 := 1#32
  let v961 : BitVec 32 := Scalar.muli v5 c1_i32_1196
  let v962 : BitVec 32 := Scalar.addi c0_i32_1197 v961
  v962.toNat
def k0_off65 (d0 : Dev nD) (c0_i32_1208 : BitVec 32) (c0_i32_1209 : BitVec 32) : Fin 2 → Nat :=
  let c4_i32_1207 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v976 : BitVec 32 := Scalar.muli c4_i32_1207 v2
  let v977 : BitVec 32 := Scalar.addi v976 c0_i32_1208
  let v978 : BitVec 32 := Scalar.addi v977 c0_i32_1209
  let c3_i32 : BitVec 32 := 3#32
  let v979 : BitVec 32 := Scalar.remsi v978 c3_i32
  let c0_i32_1217 : BitVec 32 := 0#32
  let v997 : BitVec 1 := Scalar.cmpi .eq v979 c0_i32_1217
  let c0_i32_1221 : BitVec 32 := 0#32
  let c1_i32_1218 : BitVec 32 := 1#32
  let v998 : BitVec 1 := Scalar.cmpi .eq v979 c1_i32_1218
  let c384_i32_1219 : BitVec 32 := 384#32
  let c704_i32_1220 : BitVec 32 := 704#32
  let v999 : BitVec 32 := Scalar.select v998 c384_i32_1219 c704_i32_1220
  let v1000 : BitVec 32 := Scalar.select v997 c0_i32_1221 v999
  let c0_i32_1211 : BitVec 32 := 0#32
  let v981 : BitVec 1 := Scalar.cmpi .sgt v978 c0_i32_1211
  let v982 : BitVec 32 := Scalar.extui v981
  let c0_i32_1212 : BitVec 32 := 0#32
  let v983 : BitVec 1 := Scalar.cmpi .slt v978 c0_i32_1212
  let v984 : BitVec 32 := Scalar.extui v983
  let v985 : BitVec 32 := Scalar.subi v982 v984
  let c3_i32_1210 : BitVec 32 := 3#32
  let c0_i32_1213 : BitVec 32 := 0#32
  let v986 : BitVec 1 := Scalar.cmpi .sgt c3_i32_1210 c0_i32_1213
  let v987 : BitVec 32 := Scalar.extui v986
  let c0_i32_1214 : BitVec 32 := 0#32
  let v988 : BitVec 1 := Scalar.cmpi .slt c3_i32_1210 c0_i32_1214
  let v989 : BitVec 32 := Scalar.extui v988
  let v990 : BitVec 32 := Scalar.subi v987 v989
  let v991 : BitVec 1 := Scalar.cmpi .ne v985 v990
  let v992 : BitVec 32 := Scalar.remsi v978 c3_i32_1210
  let c0_i32_1215 : BitVec 32 := 0#32
  let v993 : BitVec 1 := Scalar.cmpi .ne v992 c0_i32_1215
  let v994 : BitVec 1 := Scalar.andi v991 v993
  let v980 : BitVec 32 := Scalar.divsi v978 c3_i32_1210
  let c1_i32_1216 : BitVec 32 := 1#32
  let v995 : BitVec 32 := Scalar.subi v980 c1_i32_1216
  let v996 : BitVec 32 := Scalar.select v994 v995 v980
  let c64_i32_1222 : BitVec 32 := 64#32
  let v1001 : BitVec 32 := Scalar.muli v996 c64_i32_1222
  let v1002 : BitVec 32 := Scalar.addi v1000 v1001
  let v1004 : Index := Scalar.indexCast v1002
  let c0_1223 : Index := 0#32
  ![v1004.toNat, 0]
def k0_dev5 (d0 : Dev nD) : Nat :=
  let c0_i32_1327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1326 : BitVec 32 := 1#32
  let v1137 : BitVec 32 := Scalar.muli v7 c1_i32_1326
  let v1138 : BitVec 32 := Scalar.addi c0_i32_1327 v1137
  v1138.toNat
def k0_dev6 (d0 : Dev nD) : Nat :=
  let c0_i32_1337 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1336 : BitVec 32 := 1#32
  let v1147 : BitVec 32 := Scalar.muli v5 c1_i32_1336
  let v1148 : BitVec 32 := Scalar.addi c0_i32_1337 v1147
  v1148.toNat
def k0_off66 (d0 : Dev nD) (c1_i32_1345 : BitVec 32) (c0_i32_1351 : BitVec 32) (c0_i32_1352 : BitVec 32) : Fin 2 → Nat :=
  let c4_i32_1350 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1344 : BitVec 32 := 4#32
  let v1159 : BitVec 32 := Scalar.addi v2 c4_i32_1344
  let v1160 : BitVec 32 := Scalar.subi v1159 c1_i32_1345
  let c4_i32_1346 : BitVec 32 := 4#32
  let v1161 : BitVec 32 := Scalar.remsi v1160 c4_i32_1346
  let v1165 : BitVec 32 := Scalar.muli c4_i32_1350 v1161
  let v1166 : BitVec 32 := Scalar.addi v1165 c0_i32_1351
  let v1167 : BitVec 32 := Scalar.addi v1166 c0_i32_1352
  let c3_i32_1353 : BitVec 32 := 3#32
  let v1168 : BitVec 32 := Scalar.remsi v1167 c3_i32_1353
  let c0_i32_1361 : BitVec 32 := 0#32
  let v1186 : BitVec 1 := Scalar.cmpi .eq v1168 c0_i32_1361
  let c0_i32_1365 : BitVec 32 := 0#32
  let c1_i32_1362 : BitVec 32 := 1#32
  let v1187 : BitVec 1 := Scalar.cmpi .eq v1168 c1_i32_1362
  let c384_i32_1363 : BitVec 32 := 384#32
  let c704_i32_1364 : BitVec 32 := 704#32
  let v1188 : BitVec 32 := Scalar.select v1187 c384_i32_1363 c704_i32_1364
  let v1189 : BitVec 32 := Scalar.select v1186 c0_i32_1365 v1188
  let c0_i32_1355 : BitVec 32 := 0#32
  let v1170 : BitVec 1 := Scalar.cmpi .sgt v1167 c0_i32_1355
  let v1171 : BitVec 32 := Scalar.extui v1170
  let c0_i32_1356 : BitVec 32 := 0#32
  let v1172 : BitVec 1 := Scalar.cmpi .slt v1167 c0_i32_1356
  let v1173 : BitVec 32 := Scalar.extui v1172
  let v1174 : BitVec 32 := Scalar.subi v1171 v1173
  let c3_i32_1354 : BitVec 32 := 3#32
  let c0_i32_1357 : BitVec 32 := 0#32
  let v1175 : BitVec 1 := Scalar.cmpi .sgt c3_i32_1354 c0_i32_1357
  let v1176 : BitVec 32 := Scalar.extui v1175
  let c0_i32_1358 : BitVec 32 := 0#32
  let v1177 : BitVec 1 := Scalar.cmpi .slt c3_i32_1354 c0_i32_1358
  let v1178 : BitVec 32 := Scalar.extui v1177
  let v1179 : BitVec 32 := Scalar.subi v1176 v1178
  let v1180 : BitVec 1 := Scalar.cmpi .ne v1174 v1179
  let v1181 : BitVec 32 := Scalar.remsi v1167 c3_i32_1354
  let c0_i32_1359 : BitVec 32 := 0#32
  let v1182 : BitVec 1 := Scalar.cmpi .ne v1181 c0_i32_1359
  let v1183 : BitVec 1 := Scalar.andi v1180 v1182
  let v1169 : BitVec 32 := Scalar.divsi v1167 c3_i32_1354
  let c1_i32_1360 : BitVec 32 := 1#32
  let v1184 : BitVec 32 := Scalar.subi v1169 c1_i32_1360
  let v1185 : BitVec 32 := Scalar.select v1183 v1184 v1169
  let c64_i32_1366 : BitVec 32 := 64#32
  let v1190 : BitVec 32 := Scalar.muli v1185 c64_i32_1366
  let v1191 : BitVec 32 := Scalar.addi v1189 v1190
  let v1193 : Index := Scalar.indexCast v1191
  let c0_1367 : Index := 0#32
  ![v1193.toNat, 0]
def k0_off66_at (r : Fin 6) : BitVec 32 × BitVec 32 × BitVec 32 :=
  if r.val < 3 then
    if r.val < 1 then
      (1#32, 0#32, 0#32)
    else
      if r.val < 2 then
        (1#32, 0#32, 1#32)
      else
        (2#32, 0#32, 0#32)
  else
    if r.val < 4 then
      (2#32, 0#32, 1#32)
    else
      if r.val < 5 then
        (1#32, 2#32, 0#32)
      else
        (1#32, 2#32, 1#32)
def k0_off67 (d0 : Dev nD) (c1_i32_1389 : BitVec 32) (c2_i32_1395 : BitVec 32) (c0_i32_1396 : BitVec 32) : Fin 2 → Nat :=
  let c4_i32_1394 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1231 : BitVec 32 := Scalar.addi v2 c1_i32_1389
  let c4_i32_1390 : BitVec 32 := 4#32
  let v1232 : BitVec 32 := Scalar.remsi v1231 c4_i32_1390
  let v1236 : BitVec 32 := Scalar.muli c4_i32_1394 v1232
  let v1237 : BitVec 32 := Scalar.addi v1236 c2_i32_1395
  let v1238 : BitVec 32 := Scalar.addi v1237 c0_i32_1396
  let c3_i32_1397 : BitVec 32 := 3#32
  let v1239 : BitVec 32 := Scalar.remsi v1238 c3_i32_1397
  let c0_i32_1405 : BitVec 32 := 0#32
  let v1257 : BitVec 1 := Scalar.cmpi .eq v1239 c0_i32_1405
  let c0_i32_1409 : BitVec 32 := 0#32
  let c1_i32_1406 : BitVec 32 := 1#32
  let v1258 : BitVec 1 := Scalar.cmpi .eq v1239 c1_i32_1406
  let c384_i32_1407 : BitVec 32 := 384#32
  let c704_i32_1408 : BitVec 32 := 704#32
  let v1259 : BitVec 32 := Scalar.select v1258 c384_i32_1407 c704_i32_1408
  let v1260 : BitVec 32 := Scalar.select v1257 c0_i32_1409 v1259
  let c0_i32_1399 : BitVec 32 := 0#32
  let v1241 : BitVec 1 := Scalar.cmpi .sgt v1238 c0_i32_1399
  let v1242 : BitVec 32 := Scalar.extui v1241
  let c0_i32_1400 : BitVec 32 := 0#32
  let v1243 : BitVec 1 := Scalar.cmpi .slt v1238 c0_i32_1400
  let v1244 : BitVec 32 := Scalar.extui v1243
  let v1245 : BitVec 32 := Scalar.subi v1242 v1244
  let c3_i32_1398 : BitVec 32 := 3#32
  let c0_i32_1401 : BitVec 32 := 0#32
  let v1246 : BitVec 1 := Scalar.cmpi .sgt c3_i32_1398 c0_i32_1401
  let v1247 : BitVec 32 := Scalar.extui v1246
  let c0_i32_1402 : BitVec 32 := 0#32
  let v1248 : BitVec 1 := Scalar.cmpi .slt c3_i32_1398 c0_i32_1402
  let v1249 : BitVec 32 := Scalar.extui v1248
  let v1250 : BitVec 32 := Scalar.subi v1247 v1249
  let v1251 : BitVec 1 := Scalar.cmpi .ne v1245 v1250
  let v1252 : BitVec 32 := Scalar.remsi v1238 c3_i32_1398
  let c0_i32_1403 : BitVec 32 := 0#32
  let v1253 : BitVec 1 := Scalar.cmpi .ne v1252 c0_i32_1403
  let v1254 : BitVec 1 := Scalar.andi v1251 v1253
  let v1240 : BitVec 32 := Scalar.divsi v1238 c3_i32_1398
  let c1_i32_1404 : BitVec 32 := 1#32
  let v1255 : BitVec 32 := Scalar.subi v1240 c1_i32_1404
  let v1256 : BitVec 32 := Scalar.select v1254 v1255 v1240
  let c64_i32_1410 : BitVec 32 := 64#32
  let v1261 : BitVec 32 := Scalar.muli v1256 c64_i32_1410
  let v1262 : BitVec 32 := Scalar.addi v1260 v1261
  let v1264 : Index := Scalar.indexCast v1262
  let c0_1411 : Index := 0#32
  ![v1264.toNat, 0]
def k0_off67_at (r : Fin 6) : BitVec 32 × BitVec 32 × BitVec 32 :=
  if r.val < 3 then
    if r.val < 1 then
      (1#32, 2#32, 0#32)
    else
      if r.val < 2 then
        (1#32, 2#32, 1#32)
      else
        (2#32, 2#32, 0#32)
  else
    if r.val < 4 then
      (2#32, 2#32, 1#32)
    else
      if r.val < 5 then
        (1#32, 0#32, 0#32)
      else
        (1#32, 0#32, 1#32)
def k0_dev7 (d0 : Dev nD) : Nat :=
  let c0_i32_1473 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1472 : BitVec 32 := 1#32
  let v1328 : BitVec 32 := Scalar.muli v7 c1_i32_1472
  let v1329 : BitVec 32 := Scalar.addi c0_i32_1473 v1328
  v1329.toNat
def k0_dev8 (d0 : Dev nD) : Nat :=
  let c0_i32_1483 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1482 : BitVec 32 := 1#32
  let v1338 : BitVec 32 := Scalar.muli v5 c1_i32_1482
  let v1339 : BitVec 32 := Scalar.addi c0_i32_1483 v1338
  v1339.toNat
@[reducible] def k0_t1_loop : Scf.Loop 32 :=
  let c0_i32_1702 : BitVec 32 := 0#32
  let c8_i32_1703 : BitVec 32 := 8#32
  let v1662 : BitVec 32 := Scalar.addi c0_i32_1702 c8_i32_1703
  let c1_i32_1704 : BitVec 32 := 1#32
  ⟨c0_i32_1702, v1662, c1_i32_1704⟩
def k0_cond1 (k0_t1 : Fin k0_t1_loop.trips) : BitVec 1 :=
  let c0_i32_1702 : BitVec 32 := 0#32
  let c1_i32_1704 : BitVec 32 := 1#32
  let arg39 : BitVec 32 := Scf.iv c0_i32_1702 c1_i32_1704 k0_t1
  let c7_i32 : BitVec 32 := 7#32
  let v1904 : BitVec 1 := Scalar.cmpi .slt arg39 c7_i32
  let v1905 : BitVec 32 := Scalar.extui v1904
  let c0_i32_1965 : BitVec 32 := 0#32
  let v1906 : BitVec 1 := Scalar.cmpi .ne v1905 c0_i32_1965
  v1906

def k0_off68 (k0_t1 : Fin k0_t1_loop.trips) : Fin 1 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  ![v3150.toNat]
def k0_off69 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_2996 : BitVec 32 := 0#32
  let c0_i32_2997 : BitVec 32 := 0#32
  let c0_i32_2998 : BitVec 32 := 0#32
  ![v3150.toNat, 0, 0, 0]
def k0_off70 (d0 : Dev nD) (k0_t1 : Fin k0_t1_loop.trips) : Fin 4 → Nat :=
  let c0_i32_2995 : BitVec 32 := 0#32
  let c0_i32_2999 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3000 : BitVec 32 := 0#32
  ![0, 0, v3151.toNat, 0]
def k0_off71 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3008 : BitVec 32 := 0#32
  let c64_i32_3009 : BitVec 32 := 64#32
  let c0_i32_3010 : BitVec 32 := 0#32
  ![v3150.toNat, 0, 64, 0]
def k0_off72 (d0 : Dev nD) (k0_t1 : Fin k0_t1_loop.trips) : Fin 4 → Nat :=
  let c0_i32_3007 : BitVec 32 := 0#32
  let c192_i32_3011 : BitVec 32 := 192#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3012 : BitVec 32 := 0#32
  ![0, 192, v3151.toNat, 0]
def k0_off73 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3020 : BitVec 32 := 0#32
  let c128_i32_3021 : BitVec 32 := 128#32
  let c0_i32_3022 : BitVec 32 := 0#32
  ![v3150.toNat, 0, 128, 0]
def k0_off74 (d0 : Dev nD) (k0_t1 : Fin k0_t1_loop.trips) : Fin 4 → Nat :=
  let c0_i32_3019 : BitVec 32 := 0#32
  let c384_i32_3023 : BitVec 32 := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3024 : BitVec 32 := 0#32
  ![0, 384, v3151.toNat, 0]
def k0_off75 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3032 : BitVec 32 := 0#32
  let c192_i32_3033 : BitVec 32 := 192#32
  let c0_i32_3034 : BitVec 32 := 0#32
  ![v3150.toNat, 0, 192, 0]
def k0_off76 (d0 : Dev nD) (k0_t1 : Fin k0_t1_loop.trips) : Fin 4 → Nat :=
  let c0_i32_3031 : BitVec 32 := 0#32
  let c576_i32_3035 : BitVec 32 := 576#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3036 : BitVec 32 := 0#32
  ![0, 576, v3151.toNat, 0]
def k0_off77 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3044 : BitVec 32 := 0#32
  let c256_i32_3045 : BitVec 32 := 256#32
  let c0_i32_3046 : BitVec 32 := 0#32
  ![v3150.toNat, 0, 256, 0]
def k0_off78 (d0 : Dev nD) (k0_t1 : Fin k0_t1_loop.trips) : Fin 4 → Nat :=
  let c0_i32_3043 : BitVec 32 := 0#32
  let c768_i32_3047 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3048 : BitVec 32 := 0#32
  ![0, 768, v3151.toNat, 0]
def k0_off79 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3056 : BitVec 32 := 0#32
  let c320_i32_3057 : BitVec 32 := 320#32
  let c0_i32_3058 : BitVec 32 := 0#32
  ![v3150.toNat, 0, 320, 0]
def k0_off80 (d0 : Dev nD) (k0_t1 : Fin k0_t1_loop.trips) : Fin 4 → Nat :=
  let c0_i32_3055 : BitVec 32 := 0#32
  let c960_i32_3059 : BitVec 32 := 960#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3060 : BitVec 32 := 0#32
  ![0, 960, v3151.toNat, 0]
def k0_off81 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3068 : BitVec 32 := 0#32
  let c384_i32_3069 : BitVec 32 := 384#32
  let c0_i32_3070 : BitVec 32 := 0#32
  ![v3150.toNat, 0, 384, 0]
def k0_off82 (d0 : Dev nD) (k0_t1 : Fin k0_t1_loop.trips) : Fin 4 → Nat :=
  let c0_i32_3067 : BitVec 32 := 0#32
  let c1152_i32_3071 : BitVec 32 := 1152#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3072 : BitVec 32 := 0#32
  ![0, 1152, v3151.toNat, 0]
def k0_off83 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3080 : BitVec 32 := 0#32
  let c448_i32_3081 : BitVec 32 := 448#32
  let c0_i32_3082 : BitVec 32 := 0#32
  ![v3150.toNat, 0, 448, 0]
def k0_off84 (d0 : Dev nD) (k0_t1 : Fin k0_t1_loop.trips) : Fin 4 → Nat :=
  let c0_i32_3079 : BitVec 32 := 0#32
  let c1344_i32_3083 : BitVec 32 := 1344#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3084 : BitVec 32 := 0#32
  ![0, 1344, v3151.toNat, 0]
def k0_off85 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3092 : BitVec 32 := 0#32
  let c512_i32_3093 : BitVec 32 := 512#32
  let c0_i32_3094 : BitVec 32 := 0#32
  ![v3150.toNat, 0, 512, 0]
def k0_off86 (d0 : Dev nD) (k0_t1 : Fin k0_t1_loop.trips) : Fin 4 → Nat :=
  let c0_i32_3091 : BitVec 32 := 0#32
  let c1536_i32_3095 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3096 : BitVec 32 := 0#32
  ![0, 1536, v3151.toNat, 0]
def k0_off87 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3104 : BitVec 32 := 0#32
  let c576_i32_3105 : BitVec 32 := 576#32
  let c0_i32_3106 : BitVec 32 := 0#32
  ![v3150.toNat, 0, 576, 0]
def k0_off88 (d0 : Dev nD) (k0_t1 : Fin k0_t1_loop.trips) : Fin 4 → Nat :=
  let c0_i32_3103 : BitVec 32 := 0#32
  let c1728_i32_3107 : BitVec 32 := 1728#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3108 : BitVec 32 := 0#32
  ![0, 1728, v3151.toNat, 0]
def k0_off89 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3116 : BitVec 32 := 0#32
  let c640_i32_3117 : BitVec 32 := 640#32
  let c0_i32_3118 : BitVec 32 := 0#32
  ![v3150.toNat, 0, 640, 0]
def k0_off90 (d0 : Dev nD) (k0_t1 : Fin k0_t1_loop.trips) : Fin 4 → Nat :=
  let c0_i32_3115 : BitVec 32 := 0#32
  let c1920_i32_3119 : BitVec 32 := 1920#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3120 : BitVec 32 := 0#32
  ![0, 1920, v3151.toNat, 0]
def k0_off91 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3128 : BitVec 32 := 0#32
  let c704_i32_3129 : BitVec 32 := 704#32
  let c0_i32_3130 : BitVec 32 := 0#32
  ![v3150.toNat, 0, 704, 0]
def k0_off92 (d0 : Dev nD) (k0_t1 : Fin k0_t1_loop.trips) : Fin 4 → Nat :=
  let c0_i32_3127 : BitVec 32 := 0#32
  let c2112_i32_3131 : BitVec 32 := 2112#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3132 : BitVec 32 := 0#32
  ![0, 2112, v3151.toNat, 0]
def k0_off93 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3140 : BitVec 32 := 0#32
  let c768_i32_3141 : BitVec 32 := 768#32
  let c0_i32_3142 : BitVec 32 := 0#32
  ![v3150.toNat, 0, 768, 0]
def k0_off94 (d0 : Dev nD) (k0_t1 : Fin k0_t1_loop.trips) : Fin 4 → Nat :=
  let c0_i32_3139 : BitVec 32 := 0#32
  let c2304_i32_3143 : BitVec 32 := 2304#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3144 : BitVec 32 := 0#32
  ![0, 2304, v3151.toNat, 0]
def k0_off95 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3152 : BitVec 32 := 0#32
  let c832_i32_3153 : BitVec 32 := 832#32
  let c0_i32_3154 : BitVec 32 := 0#32
  ![v3150.toNat, 0, 832, 0]
def k0_off96 (d0 : Dev nD) (k0_t1 : Fin k0_t1_loop.trips) : Fin 4 → Nat :=
  let c0_i32_3151 : BitVec 32 := 0#32
  let c2496_i32_3155 : BitVec 32 := 2496#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3156 : BitVec 32 := 0#32
  ![0, 2496, v3151.toNat, 0]
def k0_off97 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3164 : BitVec 32 := 0#32
  let c896_i32_3165 : BitVec 32 := 896#32
  let c0_i32_3166 : BitVec 32 := 0#32
  ![v3150.toNat, 0, 896, 0]
def k0_off98 (d0 : Dev nD) (k0_t1 : Fin k0_t1_loop.trips) : Fin 4 → Nat :=
  let c0_i32_3163 : BitVec 32 := 0#32
  let c2688_i32_3167 : BitVec 32 := 2688#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3168 : BitVec 32 := 0#32
  ![0, 2688, v3151.toNat, 0]
def k0_off99 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3176 : BitVec 32 := 0#32
  let c960_i32_3177 : BitVec 32 := 960#32
  let c0_i32_3178 : BitVec 32 := 0#32
  ![v3150.toNat, 0, 960, 0]
def k0_off100 (d0 : Dev nD) (k0_t1 : Fin k0_t1_loop.trips) : Fin 4 → Nat :=
  let c0_i32_3175 : BitVec 32 := 0#32
  let c2880_i32_3179 : BitVec 32 := 2880#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3180 : BitVec 32 := 0#32
  ![0, 2880, v3151.toNat, 0]
def k0_off101 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3188 : BitVec 32 := 0#32
  let c1024_i32_3189 : BitVec 32 := 1024#32
  let c0_i32_3190 : BitVec 32 := 0#32
  ![v3150.toNat, 0, 1024, 0]
def k0_off102 (d0 : Dev nD) (k0_t1 : Fin k0_t1_loop.trips) : Fin 4 → Nat :=
  let c0_i32_3187 : BitVec 32 := 0#32
  let c3072_i32_3191 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3192 : BitVec 32 := 0#32
  ![0, 3072, v3151.toNat, 0]
def k0_off103 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3200 : BitVec 32 := 0#32
  let c1088_i32_3201 : BitVec 32 := 1088#32
  let c0_i32_3202 : BitVec 32 := 0#32
  ![v3150.toNat, 0, 1088, 0]
def k0_off104 (d0 : Dev nD) (k0_t1 : Fin k0_t1_loop.trips) : Fin 4 → Nat :=
  let c0_i32_3199 : BitVec 32 := 0#32
  let c3264_i32_3203 : BitVec 32 := 3264#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3204 : BitVec 32 := 0#32
  ![0, 3264, v3151.toNat, 0]
def k0_off105 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3212 : BitVec 32 := 0#32
  let c1152_i32_3213 : BitVec 32 := 1152#32
  let c0_i32_3214 : BitVec 32 := 0#32
  ![v3150.toNat, 0, 1152, 0]
def k0_off106 (d0 : Dev nD) (k0_t1 : Fin k0_t1_loop.trips) : Fin 4 → Nat :=
  let c0_i32_3211 : BitVec 32 := 0#32
  let c3456_i32_3215 : BitVec 32 := 3456#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3216 : BitVec 32 := 0#32
  ![0, 3456, v3151.toNat, 0]
def k0_off107 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3224 : BitVec 32 := 0#32
  let c1216_i32_3225 : BitVec 32 := 1216#32
  let c0_i32_3226 : BitVec 32 := 0#32
  ![v3150.toNat, 0, 1216, 0]
def k0_off108 (d0 : Dev nD) (k0_t1 : Fin k0_t1_loop.trips) : Fin 4 → Nat :=
  let c0_i32_3223 : BitVec 32 := 0#32
  let c3648_i32_3227 : BitVec 32 := 3648#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3228 : BitVec 32 := 0#32
  ![0, 3648, v3151.toNat, 0]
def k0_off109 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3236 : BitVec 32 := 0#32
  let c1280_i32_3237 : BitVec 32 := 1280#32
  let c0_i32_3238 : BitVec 32 := 0#32
  ![v3150.toNat, 0, 1280, 0]
def k0_off110 (d0 : Dev nD) (k0_t1 : Fin k0_t1_loop.trips) : Fin 4 → Nat :=
  let c0_i32_3235 : BitVec 32 := 0#32
  let c3840_i32_3239 : BitVec 32 := 3840#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3240 : BitVec 32 := 0#32
  ![0, 3840, v3151.toNat, 0]
def k0_off111 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3248 : BitVec 32 := 0#32
  let c1344_i32_3249 : BitVec 32 := 1344#32
  let c0_i32_3250 : BitVec 32 := 0#32
  ![v3150.toNat, 0, 1344, 0]
def k0_off112 (d0 : Dev nD) (k0_t1 : Fin k0_t1_loop.trips) : Fin 4 → Nat :=
  let c0_i32_3247 : BitVec 32 := 0#32
  let c4032_i32_3251 : BitVec 32 := 4032#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3252 : BitVec 32 := 0#32
  ![0, 4032, v3151.toNat, 0]
def k0_off113 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3260 : BitVec 32 := 1#32
  let c0_i32_3261 : BitVec 32 := 0#32
  let c0_i32_3262 : BitVec 32 := 0#32
  ![v3150.toNat, 1, 0, 0]
def k0_off114 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3272 : BitVec 32 := 1#32
  let c64_i32_3273 : BitVec 32 := 64#32
  let c0_i32_3274 : BitVec 32 := 0#32
  ![v3150.toNat, 1, 64, 0]
def k0_off115 (d0 : Dev nD) (k0_t1 : Fin k0_t1_loop.trips) : Fin 4 → Nat :=
  let c0_i32_3271 : BitVec 32 := 0#32
  let c128_i32_3275 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3276 : BitVec 32 := 0#32
  ![0, 128, v3151.toNat, 0]
def k0_off116 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3284 : BitVec 32 := 1#32
  let c128_i32_3285 : BitVec 32 := 128#32
  let c0_i32_3286 : BitVec 32 := 0#32
  ![v3150.toNat, 1, 128, 0]
def k0_off117 (d0 : Dev nD) (k0_t1 : Fin k0_t1_loop.trips) : Fin 4 → Nat :=
  let c0_i32_3283 : BitVec 32 := 0#32
  let c320_i32_3287 : BitVec 32 := 320#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3288 : BitVec 32 := 0#32
  ![0, 320, v3151.toNat, 0]
def k0_off118 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3296 : BitVec 32 := 1#32
  let c192_i32_3297 : BitVec 32 := 192#32
  let c0_i32_3298 : BitVec 32 := 0#32
  ![v3150.toNat, 1, 192, 0]
def k0_off119 (d0 : Dev nD) (k0_t1 : Fin k0_t1_loop.trips) : Fin 4 → Nat :=
  let c0_i32_3295 : BitVec 32 := 0#32
  let c512_i32_3299 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3300 : BitVec 32 := 0#32
  ![0, 512, v3151.toNat, 0]
def k0_off120 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3308 : BitVec 32 := 1#32
  let c256_i32_3309 : BitVec 32 := 256#32
  let c0_i32_3310 : BitVec 32 := 0#32
  ![v3150.toNat, 1, 256, 0]
def k0_off121 (d0 : Dev nD) (k0_t1 : Fin k0_t1_loop.trips) : Fin 4 → Nat :=
  let c0_i32_3307 : BitVec 32 := 0#32
  let c704_i32_3311 : BitVec 32 := 704#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3312 : BitVec 32 := 0#32
  ![0, 704, v3151.toNat, 0]
def k0_off122 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3320 : BitVec 32 := 1#32
  let c320_i32_3321 : BitVec 32 := 320#32
  let c0_i32_3322 : BitVec 32 := 0#32
  ![v3150.toNat, 1, 320, 0]
def k0_off123 (d0 : Dev nD) (k0_t1 : Fin k0_t1_loop.trips) : Fin 4 → Nat :=
  let c0_i32_3319 : BitVec 32 := 0#32
  let c896_i32_3323 : BitVec 32 := 896#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3324 : BitVec 32 := 0#32
  ![0, 896, v3151.toNat, 0]
def k0_off124 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3332 : BitVec 32 := 1#32
  let c384_i32_3333 : BitVec 32 := 384#32
  let c0_i32_3334 : BitVec 32 := 0#32
  ![v3150.toNat, 1, 384, 0]
def k0_off125 (d0 : Dev nD) (k0_t1 : Fin k0_t1_loop.trips) : Fin 4 → Nat :=
  let c0_i32_3331 : BitVec 32 := 0#32
  let c1088_i32_3335 : BitVec 32 := 1088#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3336 : BitVec 32 := 0#32
  ![0, 1088, v3151.toNat, 0]
def k0_off126 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3344 : BitVec 32 := 1#32
  let c448_i32_3345 : BitVec 32 := 448#32
  let c0_i32_3346 : BitVec 32 := 0#32
  ![v3150.toNat, 1, 448, 0]
def k0_off127 (d0 : Dev nD) (k0_t1 : Fin k0_t1_loop.trips) : Fin 4 → Nat :=
  let c0_i32_3343 : BitVec 32 := 0#32
  let c1280_i32_3347 : BitVec 32 := 1280#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3348 : BitVec 32 := 0#32
  ![0, 1280, v3151.toNat, 0]
def k0_off128 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3356 : BitVec 32 := 1#32
  let c512_i32_3357 : BitVec 32 := 512#32
  let c0_i32_3358 : BitVec 32 := 0#32
  ![v3150.toNat, 1, 512, 0]
def k0_off129 (d0 : Dev nD) (k0_t1 : Fin k0_t1_loop.trips) : Fin 4 → Nat :=
  let c0_i32_3355 : BitVec 32 := 0#32
  let c1472_i32_3359 : BitVec 32 := 1472#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3360 : BitVec 32 := 0#32
  ![0, 1472, v3151.toNat, 0]
def k0_off130 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3368 : BitVec 32 := 1#32
  let c576_i32_3369 : BitVec 32 := 576#32
  let c0_i32_3370 : BitVec 32 := 0#32
  ![v3150.toNat, 1, 576, 0]
def k0_off131 (d0 : Dev nD) (k0_t1 : Fin k0_t1_loop.trips) : Fin 4 → Nat :=
  let c0_i32_3367 : BitVec 32 := 0#32
  let c1664_i32_3371 : BitVec 32 := 1664#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3372 : BitVec 32 := 0#32
  ![0, 1664, v3151.toNat, 0]
def k0_off132 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3380 : BitVec 32 := 1#32
  let c640_i32_3381 : BitVec 32 := 640#32
  let c0_i32_3382 : BitVec 32 := 0#32
  ![v3150.toNat, 1, 640, 0]
def k0_off133 (d0 : Dev nD) (k0_t1 : Fin k0_t1_loop.trips) : Fin 4 → Nat :=
  let c0_i32_3379 : BitVec 32 := 0#32
  let c1856_i32_3383 : BitVec 32 := 1856#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3384 : BitVec 32 := 0#32
  ![0, 1856, v3151.toNat, 0]
def k0_off134 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3392 : BitVec 32 := 1#32
  let c704_i32_3393 : BitVec 32 := 704#32
  let c0_i32_3394 : BitVec 32 := 0#32
  ![v3150.toNat, 1, 704, 0]
def k0_off135 (d0 : Dev nD) (k0_t1 : Fin k0_t1_loop.trips) : Fin 4 → Nat :=
  let c0_i32_3391 : BitVec 32 := 0#32
  let c2048_i32_3395 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3396 : BitVec 32 := 0#32
  ![0, 2048, v3151.toNat, 0]
def k0_off136 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3404 : BitVec 32 := 1#32
  let c768_i32_3405 : BitVec 32 := 768#32
  let c0_i32_3406 : BitVec 32 := 0#32
  ![v3150.toNat, 1, 768, 0]
def k0_off137 (d0 : Dev nD) (k0_t1 : Fin k0_t1_loop.trips) : Fin 4 → Nat :=
  let c0_i32_3403 : BitVec 32 := 0#32
  let c2240_i32_3407 : BitVec 32 := 2240#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3408 : BitVec 32 := 0#32
  ![0, 2240, v3151.toNat, 0]
def k0_off138 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3416 : BitVec 32 := 1#32
  let c832_i32_3417 : BitVec 32 := 832#32
  let c0_i32_3418 : BitVec 32 := 0#32
  ![v3150.toNat, 1, 832, 0]
def k0_off139 (d0 : Dev nD) (k0_t1 : Fin k0_t1_loop.trips) : Fin 4 → Nat :=
  let c0_i32_3415 : BitVec 32 := 0#32
  let c2432_i32_3419 : BitVec 32 := 2432#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3420 : BitVec 32 := 0#32
  ![0, 2432, v3151.toNat, 0]
def k0_off140 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3428 : BitVec 32 := 1#32
  let c896_i32_3429 : BitVec 32 := 896#32
  let c0_i32_3430 : BitVec 32 := 0#32
  ![v3150.toNat, 1, 896, 0]
def k0_off141 (d0 : Dev nD) (k0_t1 : Fin k0_t1_loop.trips) : Fin 4 → Nat :=
  let c0_i32_3427 : BitVec 32 := 0#32
  let c2624_i32_3431 : BitVec 32 := 2624#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3432 : BitVec 32 := 0#32
  ![0, 2624, v3151.toNat, 0]
def k0_off142 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3440 : BitVec 32 := 1#32
  let c960_i32_3441 : BitVec 32 := 960#32
  let c0_i32_3442 : BitVec 32 := 0#32
  ![v3150.toNat, 1, 960, 0]
def k0_off143 (d0 : Dev nD) (k0_t1 : Fin k0_t1_loop.trips) : Fin 4 → Nat :=
  let c0_i32_3439 : BitVec 32 := 0#32
  let c2816_i32_3443 : BitVec 32 := 2816#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3444 : BitVec 32 := 0#32
  ![0, 2816, v3151.toNat, 0]
def k0_off144 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3452 : BitVec 32 := 1#32
  let c1024_i32_3453 : BitVec 32 := 1024#32
  let c0_i32_3454 : BitVec 32 := 0#32
  ![v3150.toNat, 1, 1024, 0]
def k0_off145 (d0 : Dev nD) (k0_t1 : Fin k0_t1_loop.trips) : Fin 4 → Nat :=
  let c0_i32_3451 : BitVec 32 := 0#32
  let c3008_i32_3455 : BitVec 32 := 3008#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3456 : BitVec 32 := 0#32
  ![0, 3008, v3151.toNat, 0]
def k0_off146 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3464 : BitVec 32 := 1#32
  let c1088_i32_3465 : BitVec 32 := 1088#32
  let c0_i32_3466 : BitVec 32 := 0#32
  ![v3150.toNat, 1, 1088, 0]
def k0_off147 (d0 : Dev nD) (k0_t1 : Fin k0_t1_loop.trips) : Fin 4 → Nat :=
  let c0_i32_3463 : BitVec 32 := 0#32
  let c3200_i32_3467 : BitVec 32 := 3200#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3468 : BitVec 32 := 0#32
  ![0, 3200, v3151.toNat, 0]
def k0_off148 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3476 : BitVec 32 := 1#32
  let c1152_i32_3477 : BitVec 32 := 1152#32
  let c0_i32_3478 : BitVec 32 := 0#32
  ![v3150.toNat, 1, 1152, 0]
def k0_off149 (d0 : Dev nD) (k0_t1 : Fin k0_t1_loop.trips) : Fin 4 → Nat :=
  let c0_i32_3475 : BitVec 32 := 0#32
  let c3392_i32_3479 : BitVec 32 := 3392#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3480 : BitVec 32 := 0#32
  ![0, 3392, v3151.toNat, 0]
def k0_off150 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3488 : BitVec 32 := 1#32
  let c1216_i32_3489 : BitVec 32 := 1216#32
  let c0_i32_3490 : BitVec 32 := 0#32
  ![v3150.toNat, 1, 1216, 0]
def k0_off151 (d0 : Dev nD) (k0_t1 : Fin k0_t1_loop.trips) : Fin 4 → Nat :=
  let c0_i32_3487 : BitVec 32 := 0#32
  let c3584_i32_3491 : BitVec 32 := 3584#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3492 : BitVec 32 := 0#32
  ![0, 3584, v3151.toNat, 0]
def k0_off152 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3500 : BitVec 32 := 1#32
  let c1280_i32_3501 : BitVec 32 := 1280#32
  let c0_i32_3502 : BitVec 32 := 0#32
  ![v3150.toNat, 1, 1280, 0]
def k0_off153 (d0 : Dev nD) (k0_t1 : Fin k0_t1_loop.trips) : Fin 4 → Nat :=
  let c0_i32_3499 : BitVec 32 := 0#32
  let c3776_i32_3503 : BitVec 32 := 3776#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3504 : BitVec 32 := 0#32
  ![0, 3776, v3151.toNat, 0]
def k0_off154 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3512 : BitVec 32 := 1#32
  let c1344_i32_3513 : BitVec 32 := 1344#32
  let c0_i32_3514 : BitVec 32 := 0#32
  ![v3150.toNat, 1, 1344, 0]
def k0_off155 (d0 : Dev nD) (k0_t1 : Fin k0_t1_loop.trips) : Fin 4 → Nat :=
  let c0_i32_3511 : BitVec 32 := 0#32
  let c3968_i32_3515 : BitVec 32 := 3968#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3516 : BitVec 32 := 0#32
  ![0, 3968, v3151.toNat, 0]
def k0_off156 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3524 : BitVec 32 := 2#32
  let c0_i32_3525 : BitVec 32 := 0#32
  let c0_i32_3526 : BitVec 32 := 0#32
  ![v3150.toNat, 2, 0, 0]
def k0_off157 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3536 : BitVec 32 := 2#32
  let c64_i32_3537 : BitVec 32 := 64#32
  let c0_i32_3538 : BitVec 32 := 0#32
  ![v3150.toNat, 2, 64, 0]
def k0_off158 (d0 : Dev nD) (k0_t1 : Fin k0_t1_loop.trips) : Fin 4 → Nat :=
  let c0_i32_3535 : BitVec 32 := 0#32
  let c64_i32_3539 : BitVec 32 := 64#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3540 : BitVec 32 := 0#32
  ![0, 64, v3151.toNat, 0]
def k0_off159 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3548 : BitVec 32 := 2#32
  let c128_i32_3549 : BitVec 32 := 128#32
  let c0_i32_3550 : BitVec 32 := 0#32
  ![v3150.toNat, 2, 128, 0]
def k0_off160 (d0 : Dev nD) (k0_t1 : Fin k0_t1_loop.trips) : Fin 4 → Nat :=
  let c0_i32_3547 : BitVec 32 := 0#32
  let c256_i32_3551 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3552 : BitVec 32 := 0#32
  ![0, 256, v3151.toNat, 0]
def k0_off161 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3560 : BitVec 32 := 2#32
  let c192_i32_3561 : BitVec 32 := 192#32
  let c0_i32_3562 : BitVec 32 := 0#32
  ![v3150.toNat, 2, 192, 0]
def k0_off162 (d0 : Dev nD) (k0_t1 : Fin k0_t1_loop.trips) : Fin 4 → Nat :=
  let c0_i32_3559 : BitVec 32 := 0#32
  let c448_i32_3563 : BitVec 32 := 448#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3564 : BitVec 32 := 0#32
  ![0, 448, v3151.toNat, 0]
def k0_off163 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3572 : BitVec 32 := 2#32
  let c256_i32_3573 : BitVec 32 := 256#32
  let c0_i32_3574 : BitVec 32 := 0#32
  ![v3150.toNat, 2, 256, 0]
def k0_off164 (d0 : Dev nD) (k0_t1 : Fin k0_t1_loop.trips) : Fin 4 → Nat :=
  let c0_i32_3571 : BitVec 32 := 0#32
  let c640_i32_3575 : BitVec 32 := 640#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3576 : BitVec 32 := 0#32
  ![0, 640, v3151.toNat, 0]
def k0_off165 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3584 : BitVec 32 := 2#32
  let c320_i32_3585 : BitVec 32 := 320#32
  let c0_i32_3586 : BitVec 32 := 0#32
  ![v3150.toNat, 2, 320, 0]
def k0_off166 (d0 : Dev nD) (k0_t1 : Fin k0_t1_loop.trips) : Fin 4 → Nat :=
  let c0_i32_3583 : BitVec 32 := 0#32
  let c832_i32_3587 : BitVec 32 := 832#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3588 : BitVec 32 := 0#32
  ![0, 832, v3151.toNat, 0]
def k0_off167 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3596 : BitVec 32 := 2#32
  let c384_i32_3597 : BitVec 32 := 384#32
  let c0_i32_3598 : BitVec 32 := 0#32
  ![v3150.toNat, 2, 384, 0]
def k0_off168 (d0 : Dev nD) (k0_t1 : Fin k0_t1_loop.trips) : Fin 4 → Nat :=
  let c0_i32_3595 : BitVec 32 := 0#32
  let c1024_i32_3599 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3600 : BitVec 32 := 0#32
  ![0, 1024, v3151.toNat, 0]
def k0_off169 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3608 : BitVec 32 := 2#32
  let c448_i32_3609 : BitVec 32 := 448#32
  let c0_i32_3610 : BitVec 32 := 0#32
  ![v3150.toNat, 2, 448, 0]
def k0_off170 (d0 : Dev nD) (k0_t1 : Fin k0_t1_loop.trips) : Fin 4 → Nat :=
  let c0_i32_3607 : BitVec 32 := 0#32
  let c1216_i32_3611 : BitVec 32 := 1216#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3612 : BitVec 32 := 0#32
  ![0, 1216, v3151.toNat, 0]
def k0_off171 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3620 : BitVec 32 := 2#32
  let c512_i32_3621 : BitVec 32 := 512#32
  let c0_i32_3622 : BitVec 32 := 0#32
  ![v3150.toNat, 2, 512, 0]
def k0_off172 (d0 : Dev nD) (k0_t1 : Fin k0_t1_loop.trips) : Fin 4 → Nat :=
  let c0_i32_3619 : BitVec 32 := 0#32
  let c1408_i32_3623 : BitVec 32 := 1408#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3624 : BitVec 32 := 0#32
  ![0, 1408, v3151.toNat, 0]
def k0_off173 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3632 : BitVec 32 := 2#32
  let c576_i32_3633 : BitVec 32 := 576#32
  let c0_i32_3634 : BitVec 32 := 0#32
  ![v3150.toNat, 2, 576, 0]
def k0_off174 (d0 : Dev nD) (k0_t1 : Fin k0_t1_loop.trips) : Fin 4 → Nat :=
  let c0_i32_3631 : BitVec 32 := 0#32
  let c1600_i32_3635 : BitVec 32 := 1600#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3636 : BitVec 32 := 0#32
  ![0, 1600, v3151.toNat, 0]
def k0_off175 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3644 : BitVec 32 := 2#32
  let c640_i32_3645 : BitVec 32 := 640#32
  let c0_i32_3646 : BitVec 32 := 0#32
  ![v3150.toNat, 2, 640, 0]
def k0_off176 (d0 : Dev nD) (k0_t1 : Fin k0_t1_loop.trips) : Fin 4 → Nat :=
  let c0_i32_3643 : BitVec 32 := 0#32
  let c1792_i32_3647 : BitVec 32 := 1792#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3648 : BitVec 32 := 0#32
  ![0, 1792, v3151.toNat, 0]
def k0_off177 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3656 : BitVec 32 := 2#32
  let c704_i32_3657 : BitVec 32 := 704#32
  let c0_i32_3658 : BitVec 32 := 0#32
  ![v3150.toNat, 2, 704, 0]
def k0_off178 (d0 : Dev nD) (k0_t1 : Fin k0_t1_loop.trips) : Fin 4 → Nat :=
  let c0_i32_3655 : BitVec 32 := 0#32
  let c1984_i32_3659 : BitVec 32 := 1984#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3660 : BitVec 32 := 0#32
  ![0, 1984, v3151.toNat, 0]
def k0_off179 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3668 : BitVec 32 := 2#32
  let c768_i32_3669 : BitVec 32 := 768#32
  let c0_i32_3670 : BitVec 32 := 0#32
  ![v3150.toNat, 2, 768, 0]
def k0_off180 (d0 : Dev nD) (k0_t1 : Fin k0_t1_loop.trips) : Fin 4 → Nat :=
  let c0_i32_3667 : BitVec 32 := 0#32
  let c2176_i32_3671 : BitVec 32 := 2176#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3672 : BitVec 32 := 0#32
  ![0, 2176, v3151.toNat, 0]
def k0_off181 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3680 : BitVec 32 := 2#32
  let c832_i32_3681 : BitVec 32 := 832#32
  let c0_i32_3682 : BitVec 32 := 0#32
  ![v3150.toNat, 2, 832, 0]
def k0_off182 (d0 : Dev nD) (k0_t1 : Fin k0_t1_loop.trips) : Fin 4 → Nat :=
  let c0_i32_3679 : BitVec 32 := 0#32
  let c2368_i32_3683 : BitVec 32 := 2368#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3684 : BitVec 32 := 0#32
  ![0, 2368, v3151.toNat, 0]
def k0_off183 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3692 : BitVec 32 := 2#32
  let c896_i32_3693 : BitVec 32 := 896#32
  let c0_i32_3694 : BitVec 32 := 0#32
  ![v3150.toNat, 2, 896, 0]
def k0_off184 (d0 : Dev nD) (k0_t1 : Fin k0_t1_loop.trips) : Fin 4 → Nat :=
  let c0_i32_3691 : BitVec 32 := 0#32
  let c2560_i32_3695 : BitVec 32 := 2560#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3696 : BitVec 32 := 0#32
  ![0, 2560, v3151.toNat, 0]
def k0_off185 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3704 : BitVec 32 := 2#32
  let c960_i32_3705 : BitVec 32 := 960#32
  let c0_i32_3706 : BitVec 32 := 0#32
  ![v3150.toNat, 2, 960, 0]
def k0_off186 (d0 : Dev nD) (k0_t1 : Fin k0_t1_loop.trips) : Fin 4 → Nat :=
  let c0_i32_3703 : BitVec 32 := 0#32
  let c2752_i32_3707 : BitVec 32 := 2752#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3708 : BitVec 32 := 0#32
  ![0, 2752, v3151.toNat, 0]
def k0_off187 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3716 : BitVec 32 := 2#32
  let c1024_i32_3717 : BitVec 32 := 1024#32
  let c0_i32_3718 : BitVec 32 := 0#32
  ![v3150.toNat, 2, 1024, 0]
def k0_off188 (d0 : Dev nD) (k0_t1 : Fin k0_t1_loop.trips) : Fin 4 → Nat :=
  let c0_i32_3715 : BitVec 32 := 0#32
  let c2944_i32_3719 : BitVec 32 := 2944#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3720 : BitVec 32 := 0#32
  ![0, 2944, v3151.toNat, 0]
def k0_off189 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3728 : BitVec 32 := 2#32
  let c1088_i32_3729 : BitVec 32 := 1088#32
  let c0_i32_3730 : BitVec 32 := 0#32
  ![v3150.toNat, 2, 1088, 0]
def k0_off190 (d0 : Dev nD) (k0_t1 : Fin k0_t1_loop.trips) : Fin 4 → Nat :=
  let c0_i32_3727 : BitVec 32 := 0#32
  let c3136_i32_3731 : BitVec 32 := 3136#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3732 : BitVec 32 := 0#32
  ![0, 3136, v3151.toNat, 0]
def k0_off191 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3740 : BitVec 32 := 2#32
  let c1152_i32_3741 : BitVec 32 := 1152#32
  let c0_i32_3742 : BitVec 32 := 0#32
  ![v3150.toNat, 2, 1152, 0]
def k0_off192 (d0 : Dev nD) (k0_t1 : Fin k0_t1_loop.trips) : Fin 4 → Nat :=
  let c0_i32_3739 : BitVec 32 := 0#32
  let c3328_i32_3743 : BitVec 32 := 3328#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3744 : BitVec 32 := 0#32
  ![0, 3328, v3151.toNat, 0]
def k0_off193 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3752 : BitVec 32 := 2#32
  let c1216_i32_3753 : BitVec 32 := 1216#32
  let c0_i32_3754 : BitVec 32 := 0#32
  ![v3150.toNat, 2, 1216, 0]
def k0_off194 (d0 : Dev nD) (k0_t1 : Fin k0_t1_loop.trips) : Fin 4 → Nat :=
  let c0_i32_3751 : BitVec 32 := 0#32
  let c3520_i32_3755 : BitVec 32 := 3520#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3756 : BitVec 32 := 0#32
  ![0, 3520, v3151.toNat, 0]
def k0_off195 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3764 : BitVec 32 := 2#32
  let c1280_i32_3765 : BitVec 32 := 1280#32
  let c0_i32_3766 : BitVec 32 := 0#32
  ![v3150.toNat, 2, 1280, 0]
def k0_off196 (d0 : Dev nD) (k0_t1 : Fin k0_t1_loop.trips) : Fin 4 → Nat :=
  let c0_i32_3763 : BitVec 32 := 0#32
  let c3712_i32_3767 : BitVec 32 := 3712#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3768 : BitVec 32 := 0#32
  ![0, 3712, v3151.toNat, 0]
def k0_off197 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c2_i32_3776 : BitVec 32 := 2#32
  let c1344_i32_3777 : BitVec 32 := 1344#32
  let c0_i32_3778 : BitVec 32 := 0#32
  ![v3150.toNat, 2, 1344, 0]
def k0_off198 (d0 : Dev nD) (k0_t1 : Fin k0_t1_loop.trips) : Fin 4 → Nat :=
  let c0_i32_3775 : BitVec 32 := 0#32
  let c3904_i32_3779 : BitVec 32 := 3904#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let c1_i32_2993 : BitVec 32 := 1#32
  let v3149 : BitVec 32 := Scalar.addi arg39 c1_i32_2993
  let v3151 : BitVec 32 := Scalar.addi v8 v3149
  let c0_i32_3780 : BitVec 32 := 0#32
  ![0, 3904, v3151.toNat, 0]
def k0_off199 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3788 : BitVec 32 := 0#32
  let c0_i32_3789 : BitVec 32 := 0#32
  let c0_i32_3790 : BitVec 32 := 0#32
  ![v3150.toNat, 0, 0, 0]
def k0_off200 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3800 : BitVec 32 := 0#32
  let c64_i32_3801 : BitVec 32 := 64#32
  let c0_i32_3802 : BitVec 32 := 0#32
  ![v3150.toNat, 0, 64, 0]
def k0_off201 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3812 : BitVec 32 := 0#32
  let c128_i32_3813 : BitVec 32 := 128#32
  let c0_i32_3814 : BitVec 32 := 0#32
  ![v3150.toNat, 0, 128, 0]
def k0_off202 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3824 : BitVec 32 := 0#32
  let c192_i32_3825 : BitVec 32 := 192#32
  let c0_i32_3826 : BitVec 32 := 0#32
  ![v3150.toNat, 0, 192, 0]
def k0_off203 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c0_i32_3836 : BitVec 32 := 0#32
  let c256_i32_3837 : BitVec 32 := 256#32
  let c0_i32_3838 : BitVec 32 := 0#32
  ![v3150.toNat, 0, 256, 0]
def k0_off204 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3848 : BitVec 32 := 1#32
  let c0_i32_3849 : BitVec 32 := 0#32
  let c0_i32_3850 : BitVec 32 := 0#32
  ![v3150.toNat, 1, 0, 0]
def k0_off205 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3860 : BitVec 32 := 1#32
  let c64_i32_3861 : BitVec 32 := 64#32
  let c0_i32_3862 : BitVec 32 := 0#32
  ![v3150.toNat, 1, 64, 0]
def k0_off206 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3872 : BitVec 32 := 1#32
  let c128_i32_3873 : BitVec 32 := 128#32
  let c0_i32_3874 : BitVec 32 := 0#32
  ![v3150.toNat, 1, 128, 0]
def k0_off207 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3884 : BitVec 32 := 1#32
  let c192_i32_3885 : BitVec 32 := 192#32
  let c0_i32_3886 : BitVec 32 := 0#32
  ![v3150.toNat, 1, 192, 0]
def k0_off208 (k0_t1 : Fin k0_t1_loop.trips) : Fin 4 → Nat :=
  let c1_i32_2994 : BitVec 32 := 1#32
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v3150 : BitVec 32 := Scalar.subi c1_i32_2994 v1903
  let c1_i32_3896 : BitVec 32 := 1#32
  let c256_i32_3897 : BitVec 32 := 256#32
  let c0_i32_3898 : BitVec 32 := 0#32
  ![v3150.toNat, 1, 256, 0]
def k0_off209 (k0_t1 : Fin k0_t1_loop.trips) : Fin 1 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  ![v1903.toNat]
def k0_off210 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_1967 : BitVec 32 := 0#32
  let c0_i32_1968 : BitVec 32 := 0#32
  let c0_i32_1969 : BitVec 32 := 0#32
  ![v1903.toNat, 0, 0, 0]
def k0_off211 (d0 : Dev nD) (k0_t1 : Fin k0_t1_loop.trips) : Fin 4 → Nat :=
  let c0_i32_1966 : BitVec 32 := 0#32
  let c0_i32_1970 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_1971 : BitVec 32 := 0#32
  ![0, 0, v1907.toNat, 0]
def k0_off212 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_1979 : BitVec 32 := 0#32
  let c64_i32_1980 : BitVec 32 := 64#32
  let c0_i32_1981 : BitVec 32 := 0#32
  ![v1903.toNat, 0, 64, 0]
def k0_off213 (d0 : Dev nD) (k0_t1 : Fin k0_t1_loop.trips) : Fin 4 → Nat :=
  let c0_i32_1978 : BitVec 32 := 0#32
  let c192_i32_1982 : BitVec 32 := 192#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_1983 : BitVec 32 := 0#32
  ![0, 192, v1907.toNat, 0]
def k0_off214 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_1991 : BitVec 32 := 0#32
  let c128_i32_1992 : BitVec 32 := 128#32
  let c0_i32_1993 : BitVec 32 := 0#32
  ![v1903.toNat, 0, 128, 0]
def k0_off215 (d0 : Dev nD) (k0_t1 : Fin k0_t1_loop.trips) : Fin 4 → Nat :=
  let c0_i32_1990 : BitVec 32 := 0#32
  let c384_i32_1994 : BitVec 32 := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_1995 : BitVec 32 := 0#32
  ![0, 384, v1907.toNat, 0]
def k0_off216 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2003 : BitVec 32 := 0#32
  let c192_i32_2004 : BitVec 32 := 192#32
  let c0_i32_2005 : BitVec 32 := 0#32
  ![v1903.toNat, 0, 192, 0]
def k0_off217 (d0 : Dev nD) (k0_t1 : Fin k0_t1_loop.trips) : Fin 4 → Nat :=
  let c0_i32_2002 : BitVec 32 := 0#32
  let c576_i32_2006 : BitVec 32 := 576#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2007 : BitVec 32 := 0#32
  ![0, 576, v1907.toNat, 0]
def k0_off218 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2015 : BitVec 32 := 0#32
  let c256_i32_2016 : BitVec 32 := 256#32
  let c0_i32_2017 : BitVec 32 := 0#32
  ![v1903.toNat, 0, 256, 0]
def k0_off219 (d0 : Dev nD) (k0_t1 : Fin k0_t1_loop.trips) : Fin 4 → Nat :=
  let c0_i32_2014 : BitVec 32 := 0#32
  let c768_i32_2018 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2019 : BitVec 32 := 0#32
  ![0, 768, v1907.toNat, 0]
def k0_off220 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2027 : BitVec 32 := 0#32
  let c320_i32_2028 : BitVec 32 := 320#32
  let c0_i32_2029 : BitVec 32 := 0#32
  ![v1903.toNat, 0, 320, 0]
def k0_off221 (d0 : Dev nD) (k0_t1 : Fin k0_t1_loop.trips) : Fin 4 → Nat :=
  let c0_i32_2026 : BitVec 32 := 0#32
  let c960_i32_2030 : BitVec 32 := 960#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2031 : BitVec 32 := 0#32
  ![0, 960, v1907.toNat, 0]
def k0_off222 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2039 : BitVec 32 := 0#32
  let c384_i32_2040 : BitVec 32 := 384#32
  let c0_i32_2041 : BitVec 32 := 0#32
  ![v1903.toNat, 0, 384, 0]
def k0_off223 (d0 : Dev nD) (k0_t1 : Fin k0_t1_loop.trips) : Fin 4 → Nat :=
  let c0_i32_2038 : BitVec 32 := 0#32
  let c1152_i32_2042 : BitVec 32 := 1152#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2043 : BitVec 32 := 0#32
  ![0, 1152, v1907.toNat, 0]
def k0_off224 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2051 : BitVec 32 := 0#32
  let c448_i32_2052 : BitVec 32 := 448#32
  let c0_i32_2053 : BitVec 32 := 0#32
  ![v1903.toNat, 0, 448, 0]
def k0_off225 (d0 : Dev nD) (k0_t1 : Fin k0_t1_loop.trips) : Fin 4 → Nat :=
  let c0_i32_2050 : BitVec 32 := 0#32
  let c1344_i32_2054 : BitVec 32 := 1344#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2055 : BitVec 32 := 0#32
  ![0, 1344, v1907.toNat, 0]
def k0_off226 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2063 : BitVec 32 := 0#32
  let c512_i32_2064 : BitVec 32 := 512#32
  let c0_i32_2065 : BitVec 32 := 0#32
  ![v1903.toNat, 0, 512, 0]
def k0_off227 (d0 : Dev nD) (k0_t1 : Fin k0_t1_loop.trips) : Fin 4 → Nat :=
  let c0_i32_2062 : BitVec 32 := 0#32
  let c1536_i32_2066 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2067 : BitVec 32 := 0#32
  ![0, 1536, v1907.toNat, 0]
def k0_off228 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2075 : BitVec 32 := 0#32
  let c576_i32_2076 : BitVec 32 := 576#32
  let c0_i32_2077 : BitVec 32 := 0#32
  ![v1903.toNat, 0, 576, 0]
def k0_off229 (d0 : Dev nD) (k0_t1 : Fin k0_t1_loop.trips) : Fin 4 → Nat :=
  let c0_i32_2074 : BitVec 32 := 0#32
  let c1728_i32_2078 : BitVec 32 := 1728#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2079 : BitVec 32 := 0#32
  ![0, 1728, v1907.toNat, 0]
def k0_off230 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2087 : BitVec 32 := 0#32
  let c640_i32_2088 : BitVec 32 := 640#32
  let c0_i32_2089 : BitVec 32 := 0#32
  ![v1903.toNat, 0, 640, 0]
def k0_off231 (d0 : Dev nD) (k0_t1 : Fin k0_t1_loop.trips) : Fin 4 → Nat :=
  let c0_i32_2086 : BitVec 32 := 0#32
  let c1920_i32_2090 : BitVec 32 := 1920#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2091 : BitVec 32 := 0#32
  ![0, 1920, v1907.toNat, 0]
def k0_off232 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2099 : BitVec 32 := 0#32
  let c704_i32_2100 : BitVec 32 := 704#32
  let c0_i32_2101 : BitVec 32 := 0#32
  ![v1903.toNat, 0, 704, 0]
def k0_off233 (d0 : Dev nD) (k0_t1 : Fin k0_t1_loop.trips) : Fin 4 → Nat :=
  let c0_i32_2098 : BitVec 32 := 0#32
  let c2112_i32_2102 : BitVec 32 := 2112#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2103 : BitVec 32 := 0#32
  ![0, 2112, v1907.toNat, 0]
def k0_off234 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2111 : BitVec 32 := 0#32
  let c768_i32_2112 : BitVec 32 := 768#32
  let c0_i32_2113 : BitVec 32 := 0#32
  ![v1903.toNat, 0, 768, 0]
def k0_off235 (d0 : Dev nD) (k0_t1 : Fin k0_t1_loop.trips) : Fin 4 → Nat :=
  let c0_i32_2110 : BitVec 32 := 0#32
  let c2304_i32_2114 : BitVec 32 := 2304#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2115 : BitVec 32 := 0#32
  ![0, 2304, v1907.toNat, 0]
def k0_off236 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2123 : BitVec 32 := 0#32
  let c832_i32_2124 : BitVec 32 := 832#32
  let c0_i32_2125 : BitVec 32 := 0#32
  ![v1903.toNat, 0, 832, 0]
def k0_off237 (d0 : Dev nD) (k0_t1 : Fin k0_t1_loop.trips) : Fin 4 → Nat :=
  let c0_i32_2122 : BitVec 32 := 0#32
  let c2496_i32_2126 : BitVec 32 := 2496#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2127 : BitVec 32 := 0#32
  ![0, 2496, v1907.toNat, 0]
def k0_off238 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2135 : BitVec 32 := 0#32
  let c896_i32_2136 : BitVec 32 := 896#32
  let c0_i32_2137 : BitVec 32 := 0#32
  ![v1903.toNat, 0, 896, 0]
def k0_off239 (d0 : Dev nD) (k0_t1 : Fin k0_t1_loop.trips) : Fin 4 → Nat :=
  let c0_i32_2134 : BitVec 32 := 0#32
  let c2688_i32_2138 : BitVec 32 := 2688#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2139 : BitVec 32 := 0#32
  ![0, 2688, v1907.toNat, 0]
def k0_off240 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2147 : BitVec 32 := 0#32
  let c960_i32_2148 : BitVec 32 := 960#32
  let c0_i32_2149 : BitVec 32 := 0#32
  ![v1903.toNat, 0, 960, 0]
def k0_off241 (d0 : Dev nD) (k0_t1 : Fin k0_t1_loop.trips) : Fin 4 → Nat :=
  let c0_i32_2146 : BitVec 32 := 0#32
  let c2880_i32_2150 : BitVec 32 := 2880#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2151 : BitVec 32 := 0#32
  ![0, 2880, v1907.toNat, 0]
def k0_off242 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2159 : BitVec 32 := 0#32
  let c1024_i32_2160 : BitVec 32 := 1024#32
  let c0_i32_2161 : BitVec 32 := 0#32
  ![v1903.toNat, 0, 1024, 0]
def k0_off243 (d0 : Dev nD) (k0_t1 : Fin k0_t1_loop.trips) : Fin 4 → Nat :=
  let c0_i32_2158 : BitVec 32 := 0#32
  let c3072_i32_2162 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2163 : BitVec 32 := 0#32
  ![0, 3072, v1907.toNat, 0]
def k0_off244 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2171 : BitVec 32 := 0#32
  let c1088_i32_2172 : BitVec 32 := 1088#32
  let c0_i32_2173 : BitVec 32 := 0#32
  ![v1903.toNat, 0, 1088, 0]
def k0_off245 (d0 : Dev nD) (k0_t1 : Fin k0_t1_loop.trips) : Fin 4 → Nat :=
  let c0_i32_2170 : BitVec 32 := 0#32
  let c3264_i32_2174 : BitVec 32 := 3264#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2175 : BitVec 32 := 0#32
  ![0, 3264, v1907.toNat, 0]
def k0_off246 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2183 : BitVec 32 := 0#32
  let c1152_i32_2184 : BitVec 32 := 1152#32
  let c0_i32_2185 : BitVec 32 := 0#32
  ![v1903.toNat, 0, 1152, 0]
def k0_off247 (d0 : Dev nD) (k0_t1 : Fin k0_t1_loop.trips) : Fin 4 → Nat :=
  let c0_i32_2182 : BitVec 32 := 0#32
  let c3456_i32_2186 : BitVec 32 := 3456#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2187 : BitVec 32 := 0#32
  ![0, 3456, v1907.toNat, 0]
def k0_off248 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2195 : BitVec 32 := 0#32
  let c1216_i32_2196 : BitVec 32 := 1216#32
  let c0_i32_2197 : BitVec 32 := 0#32
  ![v1903.toNat, 0, 1216, 0]
def k0_off249 (d0 : Dev nD) (k0_t1 : Fin k0_t1_loop.trips) : Fin 4 → Nat :=
  let c0_i32_2194 : BitVec 32 := 0#32
  let c3648_i32_2198 : BitVec 32 := 3648#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2199 : BitVec 32 := 0#32
  ![0, 3648, v1907.toNat, 0]
def k0_off250 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2207 : BitVec 32 := 0#32
  let c1280_i32_2208 : BitVec 32 := 1280#32
  let c0_i32_2209 : BitVec 32 := 0#32
  ![v1903.toNat, 0, 1280, 0]
def k0_off251 (d0 : Dev nD) (k0_t1 : Fin k0_t1_loop.trips) : Fin 4 → Nat :=
  let c0_i32_2206 : BitVec 32 := 0#32
  let c3840_i32_2210 : BitVec 32 := 3840#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2211 : BitVec 32 := 0#32
  ![0, 3840, v1907.toNat, 0]
def k0_off252 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2219 : BitVec 32 := 0#32
  let c1344_i32_2220 : BitVec 32 := 1344#32
  let c0_i32_2221 : BitVec 32 := 0#32
  ![v1903.toNat, 0, 1344, 0]
def k0_off253 (d0 : Dev nD) (k0_t1 : Fin k0_t1_loop.trips) : Fin 4 → Nat :=
  let c0_i32_2218 : BitVec 32 := 0#32
  let c4032_i32_2222 : BitVec 32 := 4032#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2223 : BitVec 32 := 0#32
  ![0, 4032, v1907.toNat, 0]
def k0_off254 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2231 : BitVec 32 := 1#32
  let c0_i32_2232 : BitVec 32 := 0#32
  let c0_i32_2233 : BitVec 32 := 0#32
  ![v1903.toNat, 1, 0, 0]
def k0_off255 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2243 : BitVec 32 := 1#32
  let c64_i32_2244 : BitVec 32 := 64#32
  let c0_i32_2245 : BitVec 32 := 0#32
  ![v1903.toNat, 1, 64, 0]
def k0_off256 (d0 : Dev nD) (k0_t1 : Fin k0_t1_loop.trips) : Fin 4 → Nat :=
  let c0_i32_2242 : BitVec 32 := 0#32
  let c128_i32_2246 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2247 : BitVec 32 := 0#32
  ![0, 128, v1907.toNat, 0]
def k0_off257 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2255 : BitVec 32 := 1#32
  let c128_i32_2256 : BitVec 32 := 128#32
  let c0_i32_2257 : BitVec 32 := 0#32
  ![v1903.toNat, 1, 128, 0]
def k0_off258 (d0 : Dev nD) (k0_t1 : Fin k0_t1_loop.trips) : Fin 4 → Nat :=
  let c0_i32_2254 : BitVec 32 := 0#32
  let c320_i32_2258 : BitVec 32 := 320#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2259 : BitVec 32 := 0#32
  ![0, 320, v1907.toNat, 0]
def k0_off259 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2267 : BitVec 32 := 1#32
  let c192_i32_2268 : BitVec 32 := 192#32
  let c0_i32_2269 : BitVec 32 := 0#32
  ![v1903.toNat, 1, 192, 0]
def k0_off260 (d0 : Dev nD) (k0_t1 : Fin k0_t1_loop.trips) : Fin 4 → Nat :=
  let c0_i32_2266 : BitVec 32 := 0#32
  let c512_i32_2270 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2271 : BitVec 32 := 0#32
  ![0, 512, v1907.toNat, 0]
def k0_off261 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2279 : BitVec 32 := 1#32
  let c256_i32_2280 : BitVec 32 := 256#32
  let c0_i32_2281 : BitVec 32 := 0#32
  ![v1903.toNat, 1, 256, 0]
def k0_off262 (d0 : Dev nD) (k0_t1 : Fin k0_t1_loop.trips) : Fin 4 → Nat :=
  let c0_i32_2278 : BitVec 32 := 0#32
  let c704_i32_2282 : BitVec 32 := 704#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2283 : BitVec 32 := 0#32
  ![0, 704, v1907.toNat, 0]
def k0_off263 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2291 : BitVec 32 := 1#32
  let c320_i32_2292 : BitVec 32 := 320#32
  let c0_i32_2293 : BitVec 32 := 0#32
  ![v1903.toNat, 1, 320, 0]
def k0_off264 (d0 : Dev nD) (k0_t1 : Fin k0_t1_loop.trips) : Fin 4 → Nat :=
  let c0_i32_2290 : BitVec 32 := 0#32
  let c896_i32_2294 : BitVec 32 := 896#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2295 : BitVec 32 := 0#32
  ![0, 896, v1907.toNat, 0]
def k0_off265 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2303 : BitVec 32 := 1#32
  let c384_i32_2304 : BitVec 32 := 384#32
  let c0_i32_2305 : BitVec 32 := 0#32
  ![v1903.toNat, 1, 384, 0]
def k0_off266 (d0 : Dev nD) (k0_t1 : Fin k0_t1_loop.trips) : Fin 4 → Nat :=
  let c0_i32_2302 : BitVec 32 := 0#32
  let c1088_i32_2306 : BitVec 32 := 1088#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2307 : BitVec 32 := 0#32
  ![0, 1088, v1907.toNat, 0]
def k0_off267 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2315 : BitVec 32 := 1#32
  let c448_i32_2316 : BitVec 32 := 448#32
  let c0_i32_2317 : BitVec 32 := 0#32
  ![v1903.toNat, 1, 448, 0]
def k0_off268 (d0 : Dev nD) (k0_t1 : Fin k0_t1_loop.trips) : Fin 4 → Nat :=
  let c0_i32_2314 : BitVec 32 := 0#32
  let c1280_i32_2318 : BitVec 32 := 1280#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2319 : BitVec 32 := 0#32
  ![0, 1280, v1907.toNat, 0]
def k0_off269 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2327 : BitVec 32 := 1#32
  let c512_i32_2328 : BitVec 32 := 512#32
  let c0_i32_2329 : BitVec 32 := 0#32
  ![v1903.toNat, 1, 512, 0]
def k0_off270 (d0 : Dev nD) (k0_t1 : Fin k0_t1_loop.trips) : Fin 4 → Nat :=
  let c0_i32_2326 : BitVec 32 := 0#32
  let c1472_i32_2330 : BitVec 32 := 1472#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2331 : BitVec 32 := 0#32
  ![0, 1472, v1907.toNat, 0]
def k0_off271 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2339 : BitVec 32 := 1#32
  let c576_i32_2340 : BitVec 32 := 576#32
  let c0_i32_2341 : BitVec 32 := 0#32
  ![v1903.toNat, 1, 576, 0]
def k0_off272 (d0 : Dev nD) (k0_t1 : Fin k0_t1_loop.trips) : Fin 4 → Nat :=
  let c0_i32_2338 : BitVec 32 := 0#32
  let c1664_i32_2342 : BitVec 32 := 1664#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2343 : BitVec 32 := 0#32
  ![0, 1664, v1907.toNat, 0]
def k0_off273 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2351 : BitVec 32 := 1#32
  let c640_i32_2352 : BitVec 32 := 640#32
  let c0_i32_2353 : BitVec 32 := 0#32
  ![v1903.toNat, 1, 640, 0]
def k0_off274 (d0 : Dev nD) (k0_t1 : Fin k0_t1_loop.trips) : Fin 4 → Nat :=
  let c0_i32_2350 : BitVec 32 := 0#32
  let c1856_i32_2354 : BitVec 32 := 1856#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2355 : BitVec 32 := 0#32
  ![0, 1856, v1907.toNat, 0]
def k0_off275 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2363 : BitVec 32 := 1#32
  let c704_i32_2364 : BitVec 32 := 704#32
  let c0_i32_2365 : BitVec 32 := 0#32
  ![v1903.toNat, 1, 704, 0]
def k0_off276 (d0 : Dev nD) (k0_t1 : Fin k0_t1_loop.trips) : Fin 4 → Nat :=
  let c0_i32_2362 : BitVec 32 := 0#32
  let c2048_i32_2366 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2367 : BitVec 32 := 0#32
  ![0, 2048, v1907.toNat, 0]
def k0_off277 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2375 : BitVec 32 := 1#32
  let c768_i32_2376 : BitVec 32 := 768#32
  let c0_i32_2377 : BitVec 32 := 0#32
  ![v1903.toNat, 1, 768, 0]
def k0_off278 (d0 : Dev nD) (k0_t1 : Fin k0_t1_loop.trips) : Fin 4 → Nat :=
  let c0_i32_2374 : BitVec 32 := 0#32
  let c2240_i32_2378 : BitVec 32 := 2240#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2379 : BitVec 32 := 0#32
  ![0, 2240, v1907.toNat, 0]
def k0_off279 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2387 : BitVec 32 := 1#32
  let c832_i32_2388 : BitVec 32 := 832#32
  let c0_i32_2389 : BitVec 32 := 0#32
  ![v1903.toNat, 1, 832, 0]
def k0_off280 (d0 : Dev nD) (k0_t1 : Fin k0_t1_loop.trips) : Fin 4 → Nat :=
  let c0_i32_2386 : BitVec 32 := 0#32
  let c2432_i32_2390 : BitVec 32 := 2432#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2391 : BitVec 32 := 0#32
  ![0, 2432, v1907.toNat, 0]
def k0_off281 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2399 : BitVec 32 := 1#32
  let c896_i32_2400 : BitVec 32 := 896#32
  let c0_i32_2401 : BitVec 32 := 0#32
  ![v1903.toNat, 1, 896, 0]
def k0_off282 (d0 : Dev nD) (k0_t1 : Fin k0_t1_loop.trips) : Fin 4 → Nat :=
  let c0_i32_2398 : BitVec 32 := 0#32
  let c2624_i32_2402 : BitVec 32 := 2624#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2403 : BitVec 32 := 0#32
  ![0, 2624, v1907.toNat, 0]
def k0_off283 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2411 : BitVec 32 := 1#32
  let c960_i32_2412 : BitVec 32 := 960#32
  let c0_i32_2413 : BitVec 32 := 0#32
  ![v1903.toNat, 1, 960, 0]
def k0_off284 (d0 : Dev nD) (k0_t1 : Fin k0_t1_loop.trips) : Fin 4 → Nat :=
  let c0_i32_2410 : BitVec 32 := 0#32
  let c2816_i32_2414 : BitVec 32 := 2816#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2415 : BitVec 32 := 0#32
  ![0, 2816, v1907.toNat, 0]
def k0_off285 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2423 : BitVec 32 := 1#32
  let c1024_i32_2424 : BitVec 32 := 1024#32
  let c0_i32_2425 : BitVec 32 := 0#32
  ![v1903.toNat, 1, 1024, 0]
def k0_off286 (d0 : Dev nD) (k0_t1 : Fin k0_t1_loop.trips) : Fin 4 → Nat :=
  let c0_i32_2422 : BitVec 32 := 0#32
  let c3008_i32_2426 : BitVec 32 := 3008#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2427 : BitVec 32 := 0#32
  ![0, 3008, v1907.toNat, 0]
def k0_off287 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2435 : BitVec 32 := 1#32
  let c1088_i32_2436 : BitVec 32 := 1088#32
  let c0_i32_2437 : BitVec 32 := 0#32
  ![v1903.toNat, 1, 1088, 0]
def k0_off288 (d0 : Dev nD) (k0_t1 : Fin k0_t1_loop.trips) : Fin 4 → Nat :=
  let c0_i32_2434 : BitVec 32 := 0#32
  let c3200_i32_2438 : BitVec 32 := 3200#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2439 : BitVec 32 := 0#32
  ![0, 3200, v1907.toNat, 0]
def k0_off289 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2447 : BitVec 32 := 1#32
  let c1152_i32_2448 : BitVec 32 := 1152#32
  let c0_i32_2449 : BitVec 32 := 0#32
  ![v1903.toNat, 1, 1152, 0]
def k0_off290 (d0 : Dev nD) (k0_t1 : Fin k0_t1_loop.trips) : Fin 4 → Nat :=
  let c0_i32_2446 : BitVec 32 := 0#32
  let c3392_i32_2450 : BitVec 32 := 3392#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2451 : BitVec 32 := 0#32
  ![0, 3392, v1907.toNat, 0]
def k0_off291 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2459 : BitVec 32 := 1#32
  let c1216_i32_2460 : BitVec 32 := 1216#32
  let c0_i32_2461 : BitVec 32 := 0#32
  ![v1903.toNat, 1, 1216, 0]
def k0_off292 (d0 : Dev nD) (k0_t1 : Fin k0_t1_loop.trips) : Fin 4 → Nat :=
  let c0_i32_2458 : BitVec 32 := 0#32
  let c3584_i32_2462 : BitVec 32 := 3584#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2463 : BitVec 32 := 0#32
  ![0, 3584, v1907.toNat, 0]
def k0_off293 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2471 : BitVec 32 := 1#32
  let c1280_i32_2472 : BitVec 32 := 1280#32
  let c0_i32_2473 : BitVec 32 := 0#32
  ![v1903.toNat, 1, 1280, 0]
def k0_off294 (d0 : Dev nD) (k0_t1 : Fin k0_t1_loop.trips) : Fin 4 → Nat :=
  let c0_i32_2470 : BitVec 32 := 0#32
  let c3776_i32_2474 : BitVec 32 := 3776#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2475 : BitVec 32 := 0#32
  ![0, 3776, v1907.toNat, 0]
def k0_off295 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2483 : BitVec 32 := 1#32
  let c1344_i32_2484 : BitVec 32 := 1344#32
  let c0_i32_2485 : BitVec 32 := 0#32
  ![v1903.toNat, 1, 1344, 0]
def k0_off296 (d0 : Dev nD) (k0_t1 : Fin k0_t1_loop.trips) : Fin 4 → Nat :=
  let c0_i32_2482 : BitVec 32 := 0#32
  let c3968_i32_2486 : BitVec 32 := 3968#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2487 : BitVec 32 := 0#32
  ![0, 3968, v1907.toNat, 0]
def k0_off297 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2495 : BitVec 32 := 2#32
  let c0_i32_2496 : BitVec 32 := 0#32
  let c0_i32_2497 : BitVec 32 := 0#32
  ![v1903.toNat, 2, 0, 0]
def k0_off298 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2507 : BitVec 32 := 2#32
  let c64_i32_2508 : BitVec 32 := 64#32
  let c0_i32_2509 : BitVec 32 := 0#32
  ![v1903.toNat, 2, 64, 0]
def k0_off299 (d0 : Dev nD) (k0_t1 : Fin k0_t1_loop.trips) : Fin 4 → Nat :=
  let c0_i32_2506 : BitVec 32 := 0#32
  let c64_i32_2510 : BitVec 32 := 64#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2511 : BitVec 32 := 0#32
  ![0, 64, v1907.toNat, 0]
def k0_off300 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2519 : BitVec 32 := 2#32
  let c128_i32_2520 : BitVec 32 := 128#32
  let c0_i32_2521 : BitVec 32 := 0#32
  ![v1903.toNat, 2, 128, 0]
def k0_off301 (d0 : Dev nD) (k0_t1 : Fin k0_t1_loop.trips) : Fin 4 → Nat :=
  let c0_i32_2518 : BitVec 32 := 0#32
  let c256_i32_2522 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2523 : BitVec 32 := 0#32
  ![0, 256, v1907.toNat, 0]
def k0_off302 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2531 : BitVec 32 := 2#32
  let c192_i32_2532 : BitVec 32 := 192#32
  let c0_i32_2533 : BitVec 32 := 0#32
  ![v1903.toNat, 2, 192, 0]
def k0_off303 (d0 : Dev nD) (k0_t1 : Fin k0_t1_loop.trips) : Fin 4 → Nat :=
  let c0_i32_2530 : BitVec 32 := 0#32
  let c448_i32_2534 : BitVec 32 := 448#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2535 : BitVec 32 := 0#32
  ![0, 448, v1907.toNat, 0]
def k0_off304 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2543 : BitVec 32 := 2#32
  let c256_i32_2544 : BitVec 32 := 256#32
  let c0_i32_2545 : BitVec 32 := 0#32
  ![v1903.toNat, 2, 256, 0]
def k0_off305 (d0 : Dev nD) (k0_t1 : Fin k0_t1_loop.trips) : Fin 4 → Nat :=
  let c0_i32_2542 : BitVec 32 := 0#32
  let c640_i32_2546 : BitVec 32 := 640#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2547 : BitVec 32 := 0#32
  ![0, 640, v1907.toNat, 0]
def k0_off306 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2555 : BitVec 32 := 2#32
  let c320_i32_2556 : BitVec 32 := 320#32
  let c0_i32_2557 : BitVec 32 := 0#32
  ![v1903.toNat, 2, 320, 0]
def k0_off307 (d0 : Dev nD) (k0_t1 : Fin k0_t1_loop.trips) : Fin 4 → Nat :=
  let c0_i32_2554 : BitVec 32 := 0#32
  let c832_i32_2558 : BitVec 32 := 832#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2559 : BitVec 32 := 0#32
  ![0, 832, v1907.toNat, 0]
def k0_off308 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2567 : BitVec 32 := 2#32
  let c384_i32_2568 : BitVec 32 := 384#32
  let c0_i32_2569 : BitVec 32 := 0#32
  ![v1903.toNat, 2, 384, 0]
def k0_off309 (d0 : Dev nD) (k0_t1 : Fin k0_t1_loop.trips) : Fin 4 → Nat :=
  let c0_i32_2566 : BitVec 32 := 0#32
  let c1024_i32_2570 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2571 : BitVec 32 := 0#32
  ![0, 1024, v1907.toNat, 0]
def k0_off310 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2579 : BitVec 32 := 2#32
  let c448_i32_2580 : BitVec 32 := 448#32
  let c0_i32_2581 : BitVec 32 := 0#32
  ![v1903.toNat, 2, 448, 0]
def k0_off311 (d0 : Dev nD) (k0_t1 : Fin k0_t1_loop.trips) : Fin 4 → Nat :=
  let c0_i32_2578 : BitVec 32 := 0#32
  let c1216_i32_2582 : BitVec 32 := 1216#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2583 : BitVec 32 := 0#32
  ![0, 1216, v1907.toNat, 0]
def k0_off312 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2591 : BitVec 32 := 2#32
  let c512_i32_2592 : BitVec 32 := 512#32
  let c0_i32_2593 : BitVec 32 := 0#32
  ![v1903.toNat, 2, 512, 0]
def k0_off313 (d0 : Dev nD) (k0_t1 : Fin k0_t1_loop.trips) : Fin 4 → Nat :=
  let c0_i32_2590 : BitVec 32 := 0#32
  let c1408_i32_2594 : BitVec 32 := 1408#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2595 : BitVec 32 := 0#32
  ![0, 1408, v1907.toNat, 0]
def k0_off314 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2603 : BitVec 32 := 2#32
  let c576_i32_2604 : BitVec 32 := 576#32
  let c0_i32_2605 : BitVec 32 := 0#32
  ![v1903.toNat, 2, 576, 0]
def k0_off315 (d0 : Dev nD) (k0_t1 : Fin k0_t1_loop.trips) : Fin 4 → Nat :=
  let c0_i32_2602 : BitVec 32 := 0#32
  let c1600_i32_2606 : BitVec 32 := 1600#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2607 : BitVec 32 := 0#32
  ![0, 1600, v1907.toNat, 0]
def k0_off316 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2615 : BitVec 32 := 2#32
  let c640_i32_2616 : BitVec 32 := 640#32
  let c0_i32_2617 : BitVec 32 := 0#32
  ![v1903.toNat, 2, 640, 0]
def k0_off317 (d0 : Dev nD) (k0_t1 : Fin k0_t1_loop.trips) : Fin 4 → Nat :=
  let c0_i32_2614 : BitVec 32 := 0#32
  let c1792_i32_2618 : BitVec 32 := 1792#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2619 : BitVec 32 := 0#32
  ![0, 1792, v1907.toNat, 0]
def k0_off318 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2627 : BitVec 32 := 2#32
  let c704_i32_2628 : BitVec 32 := 704#32
  let c0_i32_2629 : BitVec 32 := 0#32
  ![v1903.toNat, 2, 704, 0]
def k0_off319 (d0 : Dev nD) (k0_t1 : Fin k0_t1_loop.trips) : Fin 4 → Nat :=
  let c0_i32_2626 : BitVec 32 := 0#32
  let c1984_i32_2630 : BitVec 32 := 1984#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2631 : BitVec 32 := 0#32
  ![0, 1984, v1907.toNat, 0]
def k0_off320 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2639 : BitVec 32 := 2#32
  let c768_i32_2640 : BitVec 32 := 768#32
  let c0_i32_2641 : BitVec 32 := 0#32
  ![v1903.toNat, 2, 768, 0]
def k0_off321 (d0 : Dev nD) (k0_t1 : Fin k0_t1_loop.trips) : Fin 4 → Nat :=
  let c0_i32_2638 : BitVec 32 := 0#32
  let c2176_i32_2642 : BitVec 32 := 2176#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2643 : BitVec 32 := 0#32
  ![0, 2176, v1907.toNat, 0]
def k0_off322 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2651 : BitVec 32 := 2#32
  let c832_i32_2652 : BitVec 32 := 832#32
  let c0_i32_2653 : BitVec 32 := 0#32
  ![v1903.toNat, 2, 832, 0]
def k0_off323 (d0 : Dev nD) (k0_t1 : Fin k0_t1_loop.trips) : Fin 4 → Nat :=
  let c0_i32_2650 : BitVec 32 := 0#32
  let c2368_i32_2654 : BitVec 32 := 2368#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2655 : BitVec 32 := 0#32
  ![0, 2368, v1907.toNat, 0]
def k0_off324 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2663 : BitVec 32 := 2#32
  let c896_i32_2664 : BitVec 32 := 896#32
  let c0_i32_2665 : BitVec 32 := 0#32
  ![v1903.toNat, 2, 896, 0]
def k0_off325 (d0 : Dev nD) (k0_t1 : Fin k0_t1_loop.trips) : Fin 4 → Nat :=
  let c0_i32_2662 : BitVec 32 := 0#32
  let c2560_i32_2666 : BitVec 32 := 2560#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2667 : BitVec 32 := 0#32
  ![0, 2560, v1907.toNat, 0]
def k0_off326 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2675 : BitVec 32 := 2#32
  let c960_i32_2676 : BitVec 32 := 960#32
  let c0_i32_2677 : BitVec 32 := 0#32
  ![v1903.toNat, 2, 960, 0]
def k0_off327 (d0 : Dev nD) (k0_t1 : Fin k0_t1_loop.trips) : Fin 4 → Nat :=
  let c0_i32_2674 : BitVec 32 := 0#32
  let c2752_i32_2678 : BitVec 32 := 2752#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2679 : BitVec 32 := 0#32
  ![0, 2752, v1907.toNat, 0]
def k0_off328 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2687 : BitVec 32 := 2#32
  let c1024_i32_2688 : BitVec 32 := 1024#32
  let c0_i32_2689 : BitVec 32 := 0#32
  ![v1903.toNat, 2, 1024, 0]
def k0_off329 (d0 : Dev nD) (k0_t1 : Fin k0_t1_loop.trips) : Fin 4 → Nat :=
  let c0_i32_2686 : BitVec 32 := 0#32
  let c2944_i32_2690 : BitVec 32 := 2944#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2691 : BitVec 32 := 0#32
  ![0, 2944, v1907.toNat, 0]
def k0_off330 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2699 : BitVec 32 := 2#32
  let c1088_i32_2700 : BitVec 32 := 1088#32
  let c0_i32_2701 : BitVec 32 := 0#32
  ![v1903.toNat, 2, 1088, 0]
def k0_off331 (d0 : Dev nD) (k0_t1 : Fin k0_t1_loop.trips) : Fin 4 → Nat :=
  let c0_i32_2698 : BitVec 32 := 0#32
  let c3136_i32_2702 : BitVec 32 := 3136#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2703 : BitVec 32 := 0#32
  ![0, 3136, v1907.toNat, 0]
def k0_off332 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2711 : BitVec 32 := 2#32
  let c1152_i32_2712 : BitVec 32 := 1152#32
  let c0_i32_2713 : BitVec 32 := 0#32
  ![v1903.toNat, 2, 1152, 0]
def k0_off333 (d0 : Dev nD) (k0_t1 : Fin k0_t1_loop.trips) : Fin 4 → Nat :=
  let c0_i32_2710 : BitVec 32 := 0#32
  let c3328_i32_2714 : BitVec 32 := 3328#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2715 : BitVec 32 := 0#32
  ![0, 3328, v1907.toNat, 0]
def k0_off334 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2723 : BitVec 32 := 2#32
  let c1216_i32_2724 : BitVec 32 := 1216#32
  let c0_i32_2725 : BitVec 32 := 0#32
  ![v1903.toNat, 2, 1216, 0]
def k0_off335 (d0 : Dev nD) (k0_t1 : Fin k0_t1_loop.trips) : Fin 4 → Nat :=
  let c0_i32_2722 : BitVec 32 := 0#32
  let c3520_i32_2726 : BitVec 32 := 3520#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2727 : BitVec 32 := 0#32
  ![0, 3520, v1907.toNat, 0]
def k0_off336 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2735 : BitVec 32 := 2#32
  let c1280_i32_2736 : BitVec 32 := 1280#32
  let c0_i32_2737 : BitVec 32 := 0#32
  ![v1903.toNat, 2, 1280, 0]
def k0_off337 (d0 : Dev nD) (k0_t1 : Fin k0_t1_loop.trips) : Fin 4 → Nat :=
  let c0_i32_2734 : BitVec 32 := 0#32
  let c3712_i32_2738 : BitVec 32 := 3712#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2739 : BitVec 32 := 0#32
  ![0, 3712, v1907.toNat, 0]
def k0_off338 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c2_i32_2747 : BitVec 32 := 2#32
  let c1344_i32_2748 : BitVec 32 := 1344#32
  let c0_i32_2749 : BitVec 32 := 0#32
  ![v1903.toNat, 2, 1344, 0]
def k0_off339 (d0 : Dev nD) (k0_t1 : Fin k0_t1_loop.trips) : Fin 4 → Nat :=
  let c0_i32_2746 : BitVec 32 := 0#32
  let c3904_i32_2750 : BitVec 32 := 3904#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_1702 : BitVec 32 := 0#32
  let c1_i32_1704 : BitVec 32 := 1#32
  let arg39 : BitVec 32 := Scf.iv c0_i32_1702 c1_i32_1704 k0_t1
  let v1907 : BitVec 32 := Scalar.addi v8 arg39
  let c0_i32_2751 : BitVec 32 := 0#32
  ![0, 3904, v1907.toNat, 0]
def k0_off340 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2759 : BitVec 32 := 0#32
  let c0_i32_2760 : BitVec 32 := 0#32
  let c0_i32_2761 : BitVec 32 := 0#32
  ![v1903.toNat, 0, 0, 0]
def k0_off341 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2771 : BitVec 32 := 0#32
  let c64_i32_2772 : BitVec 32 := 64#32
  let c0_i32_2773 : BitVec 32 := 0#32
  ![v1903.toNat, 0, 64, 0]
def k0_off342 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2783 : BitVec 32 := 0#32
  let c128_i32_2784 : BitVec 32 := 128#32
  let c0_i32_2785 : BitVec 32 := 0#32
  ![v1903.toNat, 0, 128, 0]
def k0_off343 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2795 : BitVec 32 := 0#32
  let c192_i32_2796 : BitVec 32 := 192#32
  let c0_i32_2797 : BitVec 32 := 0#32
  ![v1903.toNat, 0, 192, 0]
def k0_off344 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c0_i32_2807 : BitVec 32 := 0#32
  let c256_i32_2808 : BitVec 32 := 256#32
  let c0_i32_2809 : BitVec 32 := 0#32
  ![v1903.toNat, 0, 256, 0]
def k0_off345 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2819 : BitVec 32 := 1#32
  let c0_i32_2820 : BitVec 32 := 0#32
  let c0_i32_2821 : BitVec 32 := 0#32
  ![v1903.toNat, 1, 0, 0]
def k0_off346 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2831 : BitVec 32 := 1#32
  let c64_i32_2832 : BitVec 32 := 64#32
  let c0_i32_2833 : BitVec 32 := 0#32
  ![v1903.toNat, 1, 64, 0]
def k0_off347 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2843 : BitVec 32 := 1#32
  let c128_i32_2844 : BitVec 32 := 128#32
  let c0_i32_2845 : BitVec 32 := 0#32
  ![v1903.toNat, 1, 128, 0]
def k0_off348 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2855 : BitVec 32 := 1#32
  let c192_i32_2856 : BitVec 32 := 192#32
  let c0_i32_2857 : BitVec 32 := 0#32
  ![v1903.toNat, 1, 192, 0]
def k0_off349 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let c1_i32_2867 : BitVec 32 := 1#32
  let c256_i32_2868 : BitVec 32 := 256#32
  let c0_i32_2869 : BitVec 32 := 0#32
  ![v1903.toNat, 1, 256, 0]
def k0_off350 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v2820 : Index := Scalar.indexCast v1903
  let c0_2878 : Index := 0#32
  let c0_2879 : Index := 0#32
  let c0_2880 : Index := 0#32
  ![v2820.toNat, 0, 0, 0]
def k0_off351 (k0_t1 : Fin k0_t1_loop.trips) : Fin 4 → Nat :=
  let c0_i32_1702 : BitVec 32 := 0#32
  let c1_i32_1704 : BitVec 32 := 1#32
  let arg39 : BitVec 32 := Scf.iv c0_i32_1702 c1_i32_1704 k0_t1
  let c2_i32_1964 : BitVec 32 := 2#32
  let v1903 : BitVec 32 := Scalar.remsi arg39 c2_i32_1964
  let v2834 : Index := Scalar.indexCast v1903
  let c0_2890 : Index := 0#32
  let c0_2891 : Index := 0#32
  let c0_2892 : Index := 0#32
  ![v2834.toNat, 0, 0, 0]
def k0_off352 (k0_t1 : Fin k0_t1_loop.trips) : Fin 2 → Nat :=
  let c0_2903 : Index := 0#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v2849 : Index := Scalar.indexCast v2848
  ![0, v2849.toNat]
def k0_off353 (k0_t1 : Fin k0_t1_loop.trips) : Fin 2 → Nat :=
  let c0_2915 : Index := 0#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v2871 : Index := Scalar.indexCast v2848
  ![0, v2871.toNat]
def k0_off354 (k0_t1 : Fin k0_t1_loop.trips) : Fin 2 → Nat :=
  let c192 : Index := 192#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v2877 : Index := Scalar.indexCast v2848
  ![192, v2877.toNat]
def k0_off355 (k0_t1 : Fin k0_t1_loop.trips) : Fin 2 → Nat :=
  let c384 : Index := 384#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v2883 : Index := Scalar.indexCast v2848
  ![384, v2883.toNat]
def k0_off356 (k0_t1 : Fin k0_t1_loop.trips) : Fin 2 → Nat :=
  let c576 : Index := 576#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v2889 : Index := Scalar.indexCast v2848
  ![576, v2889.toNat]
def k0_off357 (k0_t1 : Fin k0_t1_loop.trips) : Fin 2 → Nat :=
  let c768 : Index := 768#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v2895 : Index := Scalar.indexCast v2848
  ![768, v2895.toNat]
def k0_off358 (k0_t1 : Fin k0_t1_loop.trips) : Fin 2 → Nat :=
  let c960 : Index := 960#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v2901 : Index := Scalar.indexCast v2848
  ![960, v2901.toNat]
def k0_off359 (k0_t1 : Fin k0_t1_loop.trips) : Fin 2 → Nat :=
  let c384_2916 : Index := 384#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v2905 : Index := Scalar.indexCast v2848
  ![384, v2905.toNat]
def k0_off360 (k0_t1 : Fin k0_t1_loop.trips) : Fin 2 → Nat :=
  let c64 : Index := 64#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v2999 : Index := Scalar.indexCast v2848
  ![64, v2999.toNat]
def k0_off361 (k0_t1 : Fin k0_t1_loop.trips) : Fin 2 → Nat :=
  let c256 : Index := 256#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v3005 : Index := Scalar.indexCast v2848
  ![256, v3005.toNat]
def k0_off362 (k0_t1 : Fin k0_t1_loop.trips) : Fin 2 → Nat :=
  let c448 : Index := 448#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v3011 : Index := Scalar.indexCast v2848
  ![448, v3011.toNat]
def k0_off363 (k0_t1 : Fin k0_t1_loop.trips) : Fin 2 → Nat :=
  let c640 : Index := 640#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v3017 : Index := Scalar.indexCast v2848
  ![640, v3017.toNat]
def k0_off364 (k0_t1 : Fin k0_t1_loop.trips) : Fin 2 → Nat :=
  let c832 : Index := 832#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v3023 : Index := Scalar.indexCast v2848
  ![832, v3023.toNat]
def k0_off365 (k0_t1 : Fin k0_t1_loop.trips) : Fin 2 → Nat :=
  let c704 : Index := 704#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v3027 : Index := Scalar.indexCast v2848
  ![704, v3027.toNat]
def k0_off366 (k0_t1 : Fin k0_t1_loop.trips) : Fin 2 → Nat :=
  let c128_2991 : Index := 128#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v3121 : Index := Scalar.indexCast v2848
  ![128, v3121.toNat]
def k0_off367 (k0_t1 : Fin k0_t1_loop.trips) : Fin 2 → Nat :=
  let c320 : Index := 320#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v3127 : Index := Scalar.indexCast v2848
  ![320, v3127.toNat]
def k0_off368 (k0_t1 : Fin k0_t1_loop.trips) : Fin 2 → Nat :=
  let c512 : Index := 512#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v3133 : Index := Scalar.indexCast v2848
  ![512, v3133.toNat]
def k0_off369 (k0_t1 : Fin k0_t1_loop.trips) : Fin 2 → Nat :=
  let c704_2992 : Index := 704#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v3139 : Index := Scalar.indexCast v2848
  ![704, v3139.toNat]
def k0_off370 (k0_t1 : Fin k0_t1_loop.trips) : Fin 2 → Nat :=
  let c896 : Index := 896#32
  let c0_i32_1702 : BitVec 32 := 0#32
  let c1_i32_1704 : BitVec 32 := 1#32
  let arg39 : BitVec 32 := Scf.iv c0_i32_1702 c1_i32_1704 k0_t1
  let c128_i32_2902 : BitVec 32 := 128#32
  let v2848 : BitVec 32 := Scalar.muli arg39 c128_i32_2902
  let v3145 : Index := Scalar.indexCast v2848
  ![896, v3145.toNat]
def k0_off371 (d0 : Dev nD) (c3_i32_1706 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1663 : BitVec 32 := Scalar.addi v2 c3_i32_1706
  let c4_i32_1707 : BitVec 32 := 4#32
  let v1664 : BitVec 32 := Scalar.remsi v1663 c4_i32_1707
  let c256_i32_1708 : BitVec 32 := 256#32
  let v1665 : BitVec 32 := Scalar.muli v1664 c256_i32_1708
  let v1666 : Index := Scalar.indexCast v1665
  let c0_1709 : Index := 0#32
  ![v1666.toNat, 0]
def k0_dev9 (d0 : Dev nD) : Nat :=
  let c0_i32_1740 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1739 : BitVec 32 := 1#32
  let v1695 : BitVec 32 := Scalar.muli v7 c1_i32_1739
  let v1696 : BitVec 32 := Scalar.addi c0_i32_1740 v1695
  v1696.toNat
def k0_dev10 (d0 : Dev nD) : Nat :=
  let c0_i32_1747 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1746 : BitVec 32 := 1#32
  let v1703 : BitVec 32 := Scalar.muli v5 c1_i32_1746
  let v1704 : BitVec 32 := Scalar.addi c0_i32_1747 v1703
  v1704.toNat
def k0_dev11 (d0 : Dev nD) : Nat :=
  let c0_i32_1809 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1808 : BitVec 32 := 1#32
  let v1761 : BitVec 32 := Scalar.muli v7 c1_i32_1808
  let v1762 : BitVec 32 := Scalar.addi c0_i32_1809 v1761
  v1762.toNat
def k0_dev12 (d0 : Dev nD) : Nat :=
  let c0_i32_1819 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1818 : BitVec 32 := 1#32
  let v1771 : BitVec 32 := Scalar.muli v5 c1_i32_1818
  let v1772 : BitVec 32 := Scalar.addi c0_i32_1819 v1771
  v1772.toNat
def k0_off372 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1824 : BitVec 32 := 256#32
  let v1781 : BitVec 32 := Scalar.muli v2 c256_i32_1824
  let v1782 : Index := Scalar.indexCast v1781
  let c0_1825 : Index := 0#32
  ![v1782.toNat, 0]
def k0_dev13 (d0 : Dev nD) : Nat :=
  let c0_i32_1893 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1892 : BitVec 32 := 1#32
  let v1837 : BitVec 32 := Scalar.muli v7 c1_i32_1892
  let v1838 : BitVec 32 := Scalar.addi c0_i32_1893 v1837
  v1838.toNat
def k0_dev14 (d0 : Dev nD) : Nat :=
  let c0_i32_1903 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1902 : BitVec 32 := 1#32
  let v1847 : BitVec 32 := Scalar.muli v5 c1_i32_1902
  let v1848 : BitVec 32 := Scalar.addi c0_i32_1903 v1847
  v1848.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x4096 : Shape := ⟨3, ![1, 1024, 4096]⟩
abbrev S1x1024x32x128 : Shape := ⟨4, ![1, 1024, 32, 128]⟩
abbrev S1024 : Shape := ⟨1, ![1024]⟩
abbrev S_ : Shape := ⟨0, ![]⟩
abbrev S1024x1 : Shape := ⟨2, ![1024, 1]⟩
abbrev S4096 : Shape := ⟨1, ![4096]⟩
abbrev S1x4096 : Shape := ⟨2, ![1, 4096]⟩
abbrev S1x32x1024x4096 : Shape := ⟨4, ![1, 32, 1024, 4096]⟩
abbrev S1x1x1024x4096 : Shape := ⟨4, ![1, 1, 1024, 4096]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x4096x32x128, .f32⟩
  | .hbm, ⟨3, _⟩ => ⟨S1x4096x32x128, .f32⟩
  | .hbm, ⟨4, _⟩ => ⟨S4096x1024, .f32⟩
  | .hbm, ⟨5, _⟩ => ⟨S1x1024x4096, .f32⟩
  | .hbm, ⟨6, _⟩ => ⟨S1x1024x32x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S1024x4096, .i32⟩
  | .hbm, ⟨48, _⟩ => ⟨S1024x4096, .i32⟩
  | .hbm, ⟨49, _⟩ => ⟨S1024x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S1024x4096, .i1⟩
  | .hbm, ⟨54, _⟩ => ⟨S1024x4096, .i1⟩
  | .hbm, ⟨55, _⟩ => ⟨S1024x4096, .i32⟩
  | .hbm, ⟨56, _⟩ => ⟨S1024x4096, .i32⟩
  | .hbm, ⟨57, _⟩ => ⟨S1024x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x4096, .i32⟩
  | .hbm, ⟨65, _⟩ => ⟨S1024x4096, .i32⟩
  | .hbm, ⟨66, _⟩ => ⟨S_, .i32⟩
  | .hbm, ⟨67, _⟩ => ⟨S1024x4096, .i32⟩
  | .hbm, ⟨68, _⟩ => ⟨S1024x4096, .i1⟩
  | .hbm, ⟨69, _⟩ => ⟨S_, .i32⟩
  | .hbm, ⟨70, _⟩ => ⟨S1024x4096, .i32⟩
  | .hbm, ⟨71, _⟩ => ⟨S1024x4096, .i1⟩
  | .hbm, ⟨72, _⟩ => ⟨S_, .i32⟩
  | .hbm, ⟨73, _⟩ => ⟨S_, .i1⟩
  | .hbm, ⟨74, _⟩ => ⟨S1024x4096, .i1⟩
  | .hbm, ⟨75, _⟩ => ⟨S1024x4096, .i1⟩
  | .hbm, ⟨76, _⟩ => ⟨S1024x4096, .i1⟩
  | .hbm, ⟨77, _⟩ => ⟨S1024x4096, .i32⟩
  | .hbm, ⟨78, _⟩ => ⟨S1024x4096, .i32⟩
  | .hbm, ⟨79, _⟩ => ⟨S1024x4096, .i32⟩
  | .hbm, ⟨80, _⟩ => ⟨S_, .i32⟩
  | .hbm, ⟨81, _⟩ => ⟨S1024x4096, .i32⟩
  | .hbm, ⟨82, _⟩ => ⟨S1024x4096, .i1⟩
  | .hbm, ⟨83, _⟩ => ⟨S1024x4096, .i1⟩
  | .hbm, ⟨84, _⟩ => ⟨S1x32x1024x4096, .f32⟩
  | .hbm, ⟨85, _⟩ => ⟨S_, .f32⟩
  | .hbm, ⟨86, _⟩ => ⟨S1x32x1024x4096, .f32⟩
  | .hbm, ⟨87, _⟩ => ⟨S1x32x1024x4096, .f32⟩
  | .hbm, ⟨88, _⟩ => ⟨S1x1x1024x4096, .i1⟩
  | .hbm, ⟨89, _⟩ => ⟨S_, .f32⟩
  | .hbm, ⟨90, _⟩ => ⟨S_, .f32⟩
  | .hbm, ⟨91, _⟩ => ⟨S1x32x1024x4096, .i1⟩
  | .hbm, ⟨92, _⟩ => ⟨S1x32x1024x4096, .f32⟩
  | .hbm, ⟨93, _⟩ => ⟨S1x32x1024x4096, .f32⟩
  | .hbm, ⟨94, _⟩ => ⟨S_, .f32⟩
  | .hbm, ⟨95, _⟩ => ⟨S1x32x1024, .f32⟩
  | .hbm, ⟨96, _⟩ => ⟨S1x32x1024x1, .f32⟩
  | .hbm, ⟨97, _⟩ => ⟨S1x32x1024x4096, .f32⟩
  | .hbm, ⟨98, _⟩ => ⟨S1x32x1024x4096, .f32⟩
  | .hbm, ⟨99, _⟩ => ⟨S1x32x1024x4096, .f32⟩
  | .hbm, ⟨100, _⟩ => ⟨S_, .i1⟩
  | .hbm, ⟨101, _⟩ => ⟨S1024, .i1⟩
  | .hbm, ⟨102, _⟩ => ⟨S1x1x1024x1, .i1⟩
  | .hbm, ⟨103, _⟩ => ⟨S_, .f32⟩
  | .hbm, ⟨104, _⟩ => ⟨S1x32x1024, .f32⟩
  | .hbm, ⟨105, _⟩ => ⟨S1x32x1024x1, .f32⟩
  | .hbm, ⟨106, _⟩ => ⟨S_, .f32⟩
  | .hbm, ⟨107, _⟩ => ⟨S_, .f32⟩
  | .hbm, ⟨108, _⟩ => ⟨S1x32x1024x1, .i1⟩
  | .hbm, ⟨109, _⟩ => ⟨S1x32x1024x1, .f32⟩
  | .hbm, ⟨110, _⟩ => ⟨S1x32x1024x1, .f32⟩
  | .hbm, ⟨111, _⟩ => ⟨S1x32x1024x4096, .f32⟩
  | .hbm, ⟨112, _⟩ => ⟨S1x32x1024x4096, .f32⟩
  | .hbm, ⟨113, _⟩ => ⟨S1x1x1024x1, .i1⟩
  | .hbm, ⟨114, _⟩ => ⟨S_, .f32⟩
  | .hbm, ⟨115, _⟩ => ⟨S_, .f32⟩
  | .hbm, ⟨116, _⟩ => ⟨S1x32x1024x4096, .i1⟩
  | .hbm, ⟨117, _⟩ => ⟨S1x32x1024x4096, .f32⟩
  | .hbm, ⟨118, _⟩ => ⟨S1x32x1024x4096, .f32⟩
  | .hbm, ⟨119, _⟩ => ⟨S1x32x128x1024, .f32⟩
  | .hbm, ⟨120, _⟩ => ⟨S1x1024x32x128, .f32⟩
  | .hbm, ⟨121, _⟩ => ⟨S1x1024x4096, .f32⟩
  | .hbm, ⟨122, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]

def κ : String → Option EReal := fun
  | "mask" => some ⊥
  | _ => none
-- ==== Proof.Model.lean ====
module

public import proofs.«01_k».proof.Proof.Gen.KernelIdeal
public import Idealize.ShloMosaic.Lib.Pipeline.Regions

@[expose] public section

noncomputable section

namespace Cert.KernelIdeal.Body

open Cert.KernelIdeal Cert.KernelIdeal.Gen
open Idealize.ShloMosaic Idealize.SL.Sem
open Idealize.ShloMosaic.Pipeline

variable {F : FTy → Type} [FloatOps F] [Named F]

/-- The shape of a two-slot staging buffer of key or value blocks. -/
abbrev KS (a b : ℕ) : Shape := ⟨4, ![2, a, b, 128]⟩

/-- One transfer of a block of keys (and of the same block of values): where it lands, where it is read, which
semaphore it reports to. -/
structure Iss (a b : ℕ) where
  od : Fin 4 → ℕ
  hd : ∀ i, od i + S1x1x64x128.size i ≤ (KS a b).size i
  os : Fin 4 → ℕ
  hs : ∀ i, os i + S1x64x1x128.size i ≤ S1x4096x32x128.size i
  oq : Fin 1 → ℕ
  hq : ∀ i, oq i + S1.size i ≤ S2.size i

variable {a b : ℕ}

def dstV (M : Memref sig .tc .vmem (KS a b) .f32) (x : Iss a b) : Memref sig .tc .vmem S64x128 .f32 :=
  (M.slice (Rect.unit (s := KS a b) x.od S1x1x64x128.size x.hd) (fun _ => rfl)).squeeze S64x128 squeezes_S1x1x64x128_S64x128

def srcV (H : Memref sig .tc .hbm S1x4096x32x128 .f32) (x : Iss a b) : Memref sig .tc .hbm S64x128 .f32 :=
  (H.slice (Rect.unit (s := S1x4096x32x128) x.os S1x64x1x128.size x.hs) (fun _ => rfl)).squeeze S64x128 squeezes_S1x64x1x128_S64x128

def semV (S : DmaSems sig S2) (x : Iss a b) : DmaSem sig :=
  ((S.slice (Rect.unit (s := S2) x.oq S1.size x.hq)).squeeze S_ squeezes_S1_S_).sem

abbrev P (F : FTy → Type) [FloatOps F] (α : Type) := Prog (TpuEff nD τ sig (Elt F) Λ₀ .tc) α

def issue (H : Memref sig .tc .hbm S1x4096x32x128 .f32) (M : Memref sig .tc .vmem (KS a b) .f32) (S : DmaSems sig S2)
    (x : Iss a b) : P F PUnit :=
  Prog.lift (.enqueueDma (srcV H x) (.here (dstV M x)) (.dma (semV S x)) ((View.wordExact_bits rfl).reshape _ _)
    ((View.wordExact_bits rfl).reshape _ _) ⟨Or.inl rfl, trivial⟩)

def await (H : Memref sig .tc .hbm S1x4096x32x128 .f32) (M : Memref sig .tc .vmem (KS a b) .f32) (S : DmaSems sig S2)
    (x : Iss a b) : P F PUnit :=
  Prog.lift (.waitDma2 (semV S x) (srcV H x) (dstV M x) ((View.wordExact_bits rfl).reshape _ _)
    ((View.wordExact_bits rfl).reshape _ _))

/-- Issue the transfers of a list: each block of keys, then the same block of values. -/
def issueAll (MK MV : Memref sig .tc .vmem (KS a b) .f32) (SK SV : DmaSems sig S2) : List (Iss a b) → P F PUnit
  | [] => .ret ⟨⟩
  | x :: l => issue (Memref.whole main_arg2) MK SK x >>= fun _ => issue (Memref.whole main_arg3) MV SV x >>= fun _ =>
      issueAll MK MV SK SV l

def awaitAll (MK MV : Memref sig .tc .vmem (KS a b) .f32) (SK SV : DmaSems sig S2) : List (Iss a b) → P F PUnit
  | [] => .ret ⟨⟩
  | x :: l => await (Memref.whole main_arg2) MK SK x >>= fun _ => await (Memref.whole main_arg3) MV SV x >>= fun _ =>
      awaitAll MK MV SK SV l

def proG (c : Dev nD) : List (Iss 3 1408) :=
  [⟨![0, 0, 0, 0], inb_S2x3x1408x128_S1x1x64x128_0_0_0_0, (k0_off1 c), (k0_off1_inb c), ![0], inb_S2_S1_0⟩,
   ⟨![0, 0, 64, 0], inb_S2x3x1408x128_S1x1x64x128_0_0_64_0, (k0_off2 c), (k0_off2_inb c), ![0], inb_S2_S1_0⟩,
   ⟨![0, 0, 128, 0], inb_S2x3x1408x128_S1x1x64x128_0_0_128_0, (k0_off3 c), (k0_off3_inb c), ![0], inb_S2_S1_0⟩,
   ⟨![0, 0, 192, 0], inb_S2x3x1408x128_S1x1x64x128_0_0_192_0, (k0_off4 c), (k0_off4_inb c), ![0], inb_S2_S1_0⟩,
   ⟨![0, 0, 256, 0], inb_S2x3x1408x128_S1x1x64x128_0_0_256_0, (k0_off5 c), (k0_off5_inb c), ![0], inb_S2_S1_0⟩,
   ⟨![0, 0, 320, 0], inb_S2x3x1408x128_S1x1x64x128_0_0_320_0, (k0_off6 c), (k0_off6_inb c), ![0], inb_S2_S1_0⟩,
   ⟨![0, 0, 384, 0], inb_S2x3x1408x128_S1x1x64x128_0_0_384_0, (k0_off7 c), (k0_off7_inb c), ![0], inb_S2_S1_0⟩,
   ⟨![0, 0, 448, 0], inb_S2x3x1408x128_S1x1x64x128_0_0_448_0, (k0_off8 c), (k0_off8_inb c), ![0], inb_S2_S1_0⟩,
   ⟨![0, 0, 512, 0], inb_S2x3x1408x128_S1x1x64x128_0_0_512_0, (k0_off9 c), (k0_off9_inb c), ![0], inb_S2_S1_0⟩,
   ⟨![0, 0, 576, 0], inb_S2x3x1408x128_S1x1x64x128_0_0_576_0, (k0_off10 c), (k0_off10_inb c), ![0], inb_S2_S1_0⟩,
   ⟨![0, 0, 640, 0], inb_S2x3x1408x128_S1x1x64x128_0_0_640_0, (k0_off11 c), (k0_off11_inb c), ![0], inb_S2_S1_0⟩,
   ⟨![0, 0, 704, 0], inb_S2x3x1408x128_S1x1x64x128_0_0_704_0, (k0_off12 c), (k0_off12_inb c), ![0], inb_S2_S1_0⟩,
   ⟨![0, 0, 768, 0], inb_S2x3x1408x128_S1x1x64x128_0_0_768_0, (k0_off13 c), (k0_off13_inb c), ![0], inb_S2_S1_0⟩,
   ⟨![0, 0, 832, 0], inb_S2x3x1408x128_S1x1x64x128_0_0_832_0, (k0_off14 c), (k0_off14_inb c), ![0], inb_S2_S1_0⟩,
   ⟨![0, 0, 896, 0], inb_S2x3x1408x128_S1x1x64x128_0_0_896_0, (k0_off15 c), (k0_off15_inb c), ![0], inb_S2_S1_0⟩,
   ⟨![0, 0, 960, 0], inb_S2x3x1408x128_S1x1x64x128_0_0_960_0, (k0_off16 c), (k0_off16_inb c), ![0], inb_S2_S1_0⟩,
   ⟨![0, 0, 1024, 0], inb_S2x3x1408x128_S1x1x64x128_0_0_1024_0, (k0_off17 c), (k0_off17_inb c), ![0], inb_S2_S1_0⟩,
   ⟨![0, 0, 1088, 0], inb_S2x3x1408x128_S1x1x64x128_0_0_1088_0, (k0_off18 c), (k0_off18_inb c), ![0], inb_S2_S1_0⟩,
   ⟨![0, 0, 1152, 0], inb_S2x3x1408x128_S1x1x64x128_0_0_1152_0, (k0_off19 c), (k0_off19_inb c), ![0], inb_S2_S1_0⟩,
   ⟨![0, 0, 1216, 0], inb_S2x3x1408x128_S1x1x64x128_0_0_1216_0, (k0_off20 c), (k0_off20_inb c), ![0], inb_S2_S1_0⟩,
   ⟨![0, 0, 1280, 0], inb_S2x3x1408x128_S1x1x64x128_0_0_1280_0, (k0_off21 c), (k0_off21_inb c), ![0], inb_S2_S1_0⟩,
   ⟨![0, 0, 1344, 0], inb_S2x3x1408x128_S1x1x64x128_0_0_1344_0, (k0_off22 c), (k0_off22_inb c), ![0], inb_S2_S1_0⟩,
   ⟨![0, 1, 0, 0], inb_S2x3x1408x128_S1x1x64x128_0_1_0_0, (k0_off1 c), (k0_off1_inb c), ![0], inb_S2_S1_0⟩,
   ⟨![0, 1, 64, 0], inb_S2x3x1408x128_S1x1x64x128_0_1_64_0, (k0_off23 c), (k0_off23_inb c), ![0], inb_S2_S1_0⟩,
   ⟨![0, 1, 128, 0], inb_S2x3x1408x128_S1x1x64x128_0_1_128_0, (k0_off24 c), (k0_off24_inb c), ![0], inb_S2_S1_0⟩,
   ⟨![0, 1, 192, 0], inb_S2x3x1408x128_S1x1x64x128_0_1_192_0, (k0_off25 c), (k0_off25_inb c), ![0], inb_S2_S1_0⟩,
   ⟨![0, 1, 256, 0], inb_S2x3x1408x128_S1x1x64x128_0_1_256_0, (k0_off26 c), (k0_off26_inb c), ![0], inb_S2_S1_0⟩,
   ⟨![0, 1, 320, 0], inb_S2x3x1408x128_S1x1x64x128_0_1_320_0, (k0_off27 c), (k0_off27_inb c), ![0], inb_S2_S1_0⟩,
   ⟨![0, 1, 384, 0], inb_S2x3x1408x128_S1x1x64x128_0_1_384_0, (k0_off28 c), (k0_off28_inb c), ![0], inb_S2_S1_0⟩,
   ⟨![0, 1, 448, 0], inb_S2x3x1408x128_S1x1x64x128_0_1_448_0, (k0_off29 c), (k0_off29_inb c), ![0], inb_S2_S1_0⟩,
   ⟨![0, 1, 512, 0], inb_S2x3x1408x128_S1x1x64x128_0_1_512_0, (k0_off30 c), (k0_off30_inb c), ![0], inb_S2_S1_0⟩,
   ⟨![0, 1, 576, 0], inb_S2x3x1408x128_S1x1x64x128_0_1_576_0, (k0_off31 c), (k0_off31_inb c), ![0], inb_S2_S1_0⟩,
   ⟨![0, 1, 640, 0], inb_S2x3x1408x128_S1x1x64x128_0_1_640_0, (k0_off32 c), (k0_off32_inb c), ![0], inb_S2_S1_0⟩,
   ⟨![0, 1, 704, 0], inb_S2x3x1408x128_S1x1x64x128_0_1_704_0, (k0_off33 c), (k0_off33_inb c), ![0], inb_S2_S1_0⟩,
   ⟨![0, 1, 768, 0], inb_S2x3x1408x128_S1x1x64x128_0_1_768_0, (k0_off34 c), (k0_off34_inb c), ![0], inb_S2_S1_0⟩,
   ⟨![0, 1, 832, 0], inb_S2x3x1408x128_S1x1x64x128_0_1_832_0, (k0_off35 c), (k0_off35_inb c), ![0], inb_S2_S1_0⟩,
   ⟨![0, 1, 896, 0], inb_S2x3x1408x128_S1x1x64x128_0_1_896_0, (k0_off36 c), (k0_off36_inb c), ![0], inb_S2_S1_0⟩,
   ⟨![0, 1, 960, 0], inb_S2x3x1408x128_S1x1x64x128_0_1_960_0, (k0_off37 c), (k0_off37_inb c), ![0], inb_S2_S1_0⟩,
   ⟨![0, 1, 1024, 0], inb_S2x3x1408x128_S1x1x64x128_0_1_1024_0, (k0_off38 c), (k0_off38_inb c), ![0], inb_S2_S1_0⟩,
   ⟨![0, 1, 1088, 0], inb_S2x3x1408x128_S1x1x64x128_0_1_1088_0, (k0_off39 c), (k0_off39_inb c), ![0], inb_S2_S1_0⟩,
   ⟨![0, 1, 1152, 0], inb_S2x3x1408x128_S1x1x64x128_0_1_1152_0, (k0_off40 c), (k0_off40_inb c), ![0], inb_S2_S1_0⟩,
   ⟨![0, 1, 1216, 0], inb_S2x3x1408x128_S1x1x64x128_0_1_1216_0, (k0_off41 c), (k0_off41_inb c), ![0], inb_S2_S1_0⟩,
   ⟨![0, 1, 1280, 0], inb_S2x3x1408x128_S1x1x64x128_0_1_1280_0, (k0_off42 c), (k0_off42_inb c), ![0], inb_S2_S1_0⟩,
   ⟨![0, 1, 1344, 0], inb_S2x3x1408x128_S1x1x64x128_0_1_1344_0, (k0_off43 c), (k0_off43_inb c), ![0], inb_S2_S1_0⟩,
   ⟨![0, 2, 0, 0], inb_S2x3x1408x128_S1x1x64x128_0_2_0_0, (k0_off1 c), (k0_off1_inb c), ![0], inb_S2_S1_0⟩,
   ⟨![0, 2, 64, 0], inb_S2x3x1408x128_S1x1x64x128_0_2_64_0, (k0_off44 c), (k0_off44_inb c), ![0], inb_S2_S1_0⟩,
   ⟨![0, 2, 128, 0], inb_S2x3x1408x128_S1x1x64x128_0_2_128_0, (k0_off45 c), (k0_off45_inb c), ![0], inb_S2_S1_0⟩,
   ⟨![0, 2, 192, 0], inb_S2x3x1408x128_S1x1x64x128_0_2_192_0, (k0_off46 c), (k0_off46_inb c), ![0], inb_S2_S1_0⟩,
   ⟨![0, 2, 256, 0], inb_S2x3x1408x128_S1x1x64x128_0_2_256_0, (k0_off47 c), (k0_off47_inb c), ![0], inb_S2_S1_0⟩,
   ⟨![0, 2, 320, 0], inb_S2x3x1408x128_S1x1x64x128_0_2_320_0, (k0_off48 c), (k0_off48_inb c), ![0], inb_S2_S1_0⟩,
   ⟨![0, 2, 384, 0], inb_S2x3x1408x128_S1x1x64x128_0_2_384_0, (k0_off49 c), (k0_off49_inb c), ![0], inb_S2_S1_0⟩,
   ⟨![0, 2, 448, 0], inb_S2x3x1408x128_S1x1x64x128_0_2_448_0, (k0_off50 c), (k0_off50_inb c), ![0], inb_S2_S1_0⟩,
   ⟨![0, 2, 512, 0], inb_S2x3x1408x128_S1x1x64x128_0_2_512_0, (k0_off51 c), (k0_off51_inb c), ![0], inb_S2_S1_0⟩,
   ⟨![0, 2, 576, 0], inb_S2x3x1408x128_S1x1x64x128_0_2_576_0, (k0_off52 c), (k0_off52_inb c), ![0], inb_S2_S1_0⟩,
   ⟨![0, 2, 640, 0], inb_S2x3x1408x128_S1x1x64x128_0_2_640_0, (k0_off53 c), (k0_off53_inb c), ![0], inb_S2_S1_0⟩,
   ⟨![0, 2, 704, 0], inb_S2x3x1408x128_S1x1x64x128_0_2_704_0, (k0_off54 c), (k0_off54_inb c), ![0], inb_S2_S1_0⟩,
   ⟨![0, 2, 768, 0], inb_S2x3x1408x128_S1x1x64x128_0_2_768_0, (k0_off55 c), (k0_off55_inb c), ![0], inb_S2_S1_0⟩,
   ⟨![0, 2, 832, 0], inb_S2x3x1408x128_S1x1x64x128_0_2_832_0, (k0_off56 c), (k0_off56_inb c), ![0], inb_S2_S1_0⟩,
   ⟨![0, 2, 896, 0], inb_S2x3x1408x128_S1x1x64x128_0_2_896_0, (k0_off57 c), (k0_off57_inb c), ![0], inb_S2_S1_0⟩,
   ⟨![0, 2, 960, 0], inb_S2x3x1408x128_S1x1x64x128_0_2_960_0, (k0_off58 c), (k0_off58_inb c), ![0], inb_S2_S1_0⟩,
   ⟨![0, 2, 1024, 0], inb_S2x3x1408x128_S1x1x64x128_0_2_1024_0, (k0_off59 c), (k0_off59_inb c), ![0], inb_S2_S1_0⟩,
   ⟨![0, 2, 1088, 0], inb_S2x3x1408x128_S1x1x64x128_0_2_1088_0, (k0_off60 c), (k0_off60_inb c), ![0], inb_S2_S1_0⟩,
   ⟨![0, 2, 1152, 0], inb_S2x3x1408x128_S1x1x64x128_0_2_1152_0, (k0_off61 c), (k0_off61_inb c), ![0], inb_S2_S1_0⟩,
   ⟨![0, 2, 1216, 0], inb_S2x3x1408x128_S1x1x64x128_0_2_1216_0, (k0_off62 c), (k0_off62_inb c), ![0], inb_S2_S1_0⟩,
   ⟨![0, 2, 1280, 0], inb_S2x3x1408x128_S1x1x64x128_0_2_1280_0, (k0_off63 c), (k0_off63_inb c), ![0], inb_S2_S1_0⟩,
   ⟨![0, 2, 1344, 0], inb_S2x3x1408x128_S1x1x64x128_0_2_1344_0, (k0_off64 c), (k0_off64_inb c), ![0], inb_S2_S1_0⟩]

def proD (c : Dev nD) : List (Iss 2 320) :=
  [⟨![0, 0, 0, 0], inb_S2x2x320x128_S1x1x64x128_0_0_0_0, (k0_off44 c), (k0_off44_inb c), ![0], inb_S2_S1_0⟩,
   ⟨![0, 0, 64, 0], inb_S2x2x320x128_S1x1x64x128_0_0_64_0, (k0_off45 c), (k0_off45_inb c), ![0], inb_S2_S1_0⟩,
   ⟨![0, 0, 128, 0], inb_S2x2x320x128_S1x1x64x128_0_0_128_0, (k0_off46 c), (k0_off46_inb c), ![0], inb_S2_S1_0⟩,
   ⟨![0, 0, 192, 0], inb_S2x2x320x128_S1x1x64x128_0_0_192_0, (k0_off47 c), (k0_off47_inb c), ![0], inb_S2_S1_0⟩,
   ⟨![0, 0, 256, 0], inb_S2x2x320x128_S1x1x64x128_0_0_256_0, (k0_off48 c), (k0_off48_inb c), ![0], inb_S2_S1_0⟩,
   ⟨![0, 1, 0, 0], inb_S2x2x320x128_S1x1x64x128_0_1_0_0, (k0_off23 c), (k0_off23_inb c), ![0], inb_S2_S1_0⟩,
   ⟨![0, 1, 64, 0], inb_S2x2x320x128_S1x1x64x128_0_1_64_0, (k0_off24 c), (k0_off24_inb c), ![0], inb_S2_S1_0⟩,
   ⟨![0, 1, 128, 0], inb_S2x2x320x128_S1x1x64x128_0_1_128_0, (k0_off25 c), (k0_off25_inb c), ![0], inb_S2_S1_0⟩,
   ⟨![0, 1, 192, 0], inb_S2x2x320x128_S1x1x64x128_0_1_192_0, (k0_off26 c), (k0_off26_inb c), ![0], inb_S2_S1_0⟩,
   ⟨![0, 1, 256, 0], inb_S2x2x320x128_S1x1x64x128_0_1_256_0, (k0_off27 c), (k0_off27_inb c), ![0], inb_S2_S1_0⟩]

def nxtG (c : Dev nD) (t : Fin k0_t1_loop.trips) (h : k0_cond1 t = 1#1) : List (Iss 3 1408) :=
  [⟨(k0_off69 t), (k0_off69_inb t h), (k0_off70 c t), (k0_off70_inb c t h), (k0_off68 t), (k0_off68_inb t h)⟩,
   ⟨(k0_off71 t), (k0_off71_inb t h), (k0_off72 c t), (k0_off72_inb c t h), (k0_off68 t), (k0_off68_inb t h)⟩,
   ⟨(k0_off73 t), (k0_off73_inb t h), (k0_off74 c t), (k0_off74_inb c t h), (k0_off68 t), (k0_off68_inb t h)⟩,
   ⟨(k0_off75 t), (k0_off75_inb t h), (k0_off76 c t), (k0_off76_inb c t h), (k0_off68 t), (k0_off68_inb t h)⟩,
   ⟨(k0_off77 t), (k0_off77_inb t h), (k0_off78 c t), (k0_off78_inb c t h), (k0_off68 t), (k0_off68_inb t h)⟩,
   ⟨(k0_off79 t), (k0_off79_inb t h), (k0_off80 c t), (k0_off80_inb c t h), (k0_off68 t), (k0_off68_inb t h)⟩,
   ⟨(k0_off81 t), (k0_off81_inb t h), (k0_off82 c t), (k0_off82_inb c t h), (k0_off68 t), (k0_off68_inb t h)⟩,
   ⟨(k0_off83 t), (k0_off83_inb t h), (k0_off84 c t), (k0_off84_inb c t h), (k0_off68 t), (k0_off68_inb t h)⟩,
   ⟨(k0_off85 t), (k0_off85_inb t h), (k0_off86 c t), (k0_off86_inb c t h), (k0_off68 t), (k0_off68_inb t h)⟩,
   ⟨(k0_off87 t), (k0_off87_inb t h), (k0_off88 c t), (k0_off88_inb c t h), (k0_off68 t), (k0_off68_inb t h)⟩,
   ⟨(k0_off89 t), (k0_off89_inb t h), (k0_off90 c t), (k0_off90_inb c t h), (k0_off68 t), (k0_off68_inb t h)⟩,
   ⟨(k0_off91 t), (k0_off91_inb t h), (k0_off92 c t), (k0_off92_inb c t h), (k0_off68 t), (k0_off68_inb t h)⟩,
   ⟨(k0_off93 t), (k0_off93_inb t h), (k0_off94 c t), (k0_off94_inb c t h), (k0_off68 t), (k0_off68_inb t h)⟩,
   ⟨(k0_off95 t), (k0_off95_inb t h), (k0_off96 c t), (k0_off96_inb c t h), (k0_off68 t), (k0_off68_inb t h)⟩,
   ⟨(k0_off97 t), (k0_off97_inb t h), (k0_off98 c t), (k0_off98_inb c t h), (k0_off68 t), (k0_off68_inb t h)⟩,
   ⟨(k0_off99 t), (k0_off99_inb t h), (k0_off100 c t), (k0_off100_inb c t h), (k0_off68 t), (k0_off68_inb t h)⟩,
   ⟨(k0_off101 t), (k0_off101_inb t h), (k0_off102 c t), (k0_off102_inb c t h), (k0_off68 t), (k0_off68_inb t h)⟩,
   ⟨(k0_off103 t), (k0_off103_inb t h), (k0_off104 c t), (k0_off104_inb c t h), (k0_off68 t), (k0_off68_inb t h)⟩,
   ⟨(k0_off105 t), (k0_off105_inb t h), (k0_off106 c t), (k0_off106_inb c t h), (k0_off68 t), (k0_off68_inb t h)⟩,
   ⟨(k0_off107 t), (k0_off107_inb t h), (k0_off108 c t), (k0_off108_inb c t h), (k0_off68 t), (k0_off68_inb t h)⟩,
   ⟨(k0_off109 t), (k0_off109_inb t h), (k0_off110 c t), (k0_off110_inb c t h), (k0_off68 t), (k0_off68_inb t h)⟩,
   ⟨(k0_off111 t), (k0_off111_inb t h), (k0_off112 c t), (k0_off112_inb c t h), (k0_off68 t), (k0_off68_inb t h)⟩,
   ⟨(k0_off113 t), (k0_off113_inb t h), (k0_off70 c t), (k0_off70_inb c t h), (k0_off68 t), (k0_off68_inb t h)⟩,
   ⟨(k0_off114 t), (k0_off114_inb t h), (k0_off115 c t), (k0_off115_inb c t h), (k0_off68 t), (k0_off68_inb t h)⟩,
   ⟨(k0_off116 t), (k0_off116_inb t h), (k0_off117 c t), (k0_off117_inb c t h), (k0_off68 t), (k0_off68_inb t h)⟩,
   ⟨(k0_off118 t), (k0_off118_inb t h), (k0_off119 c t), (k0_off119_inb c t h), (k0_off68 t), (k0_off68_inb t h)⟩,
   ⟨(k0_off120 t), (k0_off120_inb t h), (k0_off121 c t), (k0_off121_inb c t h), (k0_off68 t), (k0_off68_inb t h)⟩,
   ⟨(k0_off122 t), (k0_off122_inb t h), (k0_off123 c t), (k0_off123_inb c t h), (k0_off68 t), (k0_off68_inb t h)⟩,
   ⟨(k0_off124 t), (k0_off124_inb t h), (k0_off125 c t), (k0_off125_inb c t h), (k0_off68 t), (k0_off68_inb t h)⟩,
   ⟨(k0_off126 t), (k0_off126_inb t h), (k0_off127 c t), (k0_off127_inb c t h), (k0_off68 t), (k0_off68_inb t h)⟩,
   ⟨(k0_off128 t), (k0_off128_inb t h), (k0_off129 c t), (k0_off129_inb c t h), (k0_off68 t), (k0_off68_inb t h)⟩,
   ⟨(k0_off130 t), (k0_off130_inb t h), (k0_off131 c t), (k0_off131_inb c t h), (k0_off68 t), (k0_off68_inb t h)⟩,
   ⟨(k0_off132 t), (k0_off132_inb t h), (k0_off133 c t), (k0_off133_inb c t h), (k0_off68 t), (k0_off68_inb t h)⟩,
   ⟨(k0_off134 t), (k0_off134_inb t h), (k0_off135 c t), (k0_off135_inb c t h), (k0_off68 t), (k0_off68_inb t h)⟩,
   ⟨(k0_off136 t), (k0_off136_inb t h), (k0_off137 c t), (k0_off137_inb c t h), (k0_off68 t), (k0_off68_inb t h)⟩,
   ⟨(k0_off138 t), (k0_off138_inb t h), (k0_off139 c t), (k0_off139_inb c t h), (k0_off68 t), (k0_off68_inb t h)⟩,
   ⟨(k0_off140 t), (k0_off140_inb t h), (k0_off141 c t), (k0_off141_inb c t h), (k0_off68 t), (k0_off68_inb t h)⟩,
   ⟨(k0_off142 t), (k0_off142_inb t h), (k0_off143 c t), (k0_off143_inb c t h), (k0_off68 t), (k0_off68_inb t h)⟩,
   ⟨(k0_off144 t), (k0_off144_inb t h), (k0_off145 c t), (k0_off145_inb c t h), (k0_off68 t), (k0_off68_inb t h)⟩,
   ⟨(k0_off146 t), (k0_off146_inb t h), (k0_off147 c t), (k0_off147_inb c t h), (k0_off68 t), (k0_off68_inb t h)⟩,
   ⟨(k0_off148 t), (k0_off148_inb t h), (k0_off149 c t), (k0_off149_inb c t h), (k0_off68 t), (k0_off68_inb t h)⟩,
   ⟨(k0_off150 t), (k0_off150_inb t h), (k0_off151 c t), (k0_off151_inb c t h), (k0_off68 t), (k0_off68_inb t h)⟩,
   ⟨(k0_off152 t), (k0_off152_inb t h), (k0_off153 c t), (k0_off153_inb c t h), (k0_off68 t), (k0_off68_inb t h)⟩,
   ⟨(k0_off154 t), (k0_off154_inb t h), (k0_off155 c t), (k0_off155_inb c t h), (k0_off68 t), (k0_off68_inb t h)⟩,
   ⟨(k0_off156 t), (k0_off156_inb t h), (k0_off70 c t), (k0_off70_inb c t h), (k0_off68 t), (k0_off68_inb t h)⟩,
   ⟨(k0_off157 t), (k0_off157_inb t h), (k0_off158 c t), (k0_off158_inb c t h), (k0_off68 t), (k0_off68_inb t h)⟩,
   ⟨(k0_off159 t), (k0_off159_inb t h), (k0_off160 c t), (k0_off160_inb c t h), (k0_off68 t), (k0_off68_inb t h)⟩,
   ⟨(k0_off161 t), (k0_off161_inb t h), (k0_off162 c t), (k0_off162_inb c t h), (k0_off68 t), (k0_off68_inb t h)⟩,
   ⟨(k0_off163 t), (k0_off163_inb t h), (k0_off164 c t), (k0_off164_inb c t h), (k0_off68 t), (k0_off68_inb t h)⟩,
   ⟨(k0_off165 t), (k0_off165_inb t h), (k0_off166 c t), (k0_off166_inb c t h), (k0_off68 t), (k0_off68_inb t h)⟩,
   ⟨(k0_off167 t), (k0_off167_inb t h), (k0_off168 c t), (k0_off168_inb c t h), (k0_off68 t), (k0_off68_inb t h)⟩,
   ⟨(k0_off169 t), (k0_off169_inb t h), (k0_off170 c t), (k0_off170_inb c t h), (k0_off68 t), (k0_off68_inb t h)⟩,
   ⟨(k0_off171 t), (k0_off171_inb t h), (k0_off172 c t), (k0_off172_inb c t h), (k0_off68 t), (k0_off68_inb t h)⟩,
   ⟨(k0_off173 t), (k0_off173_inb t h), (k0_off174 c t), (k0_off174_inb c t h), (k0_off68 t), (k0_off68_inb t h)⟩,
   ⟨(k0_off175 t), (k0_off175_inb t h), (k0_off176 c t), (k0_off176_inb c t h), (k0_off68 t), (k0_off68_inb t h)⟩,
   ⟨(k0_off177 t), (k0_off177_inb t h), (k0_off178 c t), (k0_off178_inb c t h), (k0_off68 t), (k0_off68_inb t h)⟩,
   ⟨(k0_off179 t), (k0_off179_inb t h), (k0_off180 c t), (k0_off180_inb c t h), (k0_off68 t), (k0_off68_inb t h)⟩,
   ⟨(k0_off181 t), (k0_off181_inb t h), (k0_off182 c t), (k0_off182_inb c t h), (k0_off68 t), (k0_off68_inb t h)⟩,
   ⟨(k0_off183 t), (k0_off183_inb t h), (k0_off184 c t), (k0_off184_inb c t h), (k0_off68 t), (k0_off68_inb t h)⟩,
   ⟨(k0_off185 t), (k0_off185_inb t h), (k0_off186 c t), (k0_off186_inb c t h), (k0_off68 t), (k0_off68_inb t h)⟩,
   ⟨(k0_off187 t), (k0_off187_inb t h), (k0_off188 c t), (k0_off188_inb c t h), (k0_off68 t), (k0_off68_inb t h)⟩,
   ⟨(k0_off189 t), (k0_off189_inb t h), (k0_off190 c t), (k0_off190_inb c t h), (k0_off68 t), (k0_off68_inb t h)⟩,
   ⟨(k0_off191 t), (k0_off191_inb t h), (k0_off192 c t), (k0_off192_inb c t h), (k0_off68 t), (k0_off68_inb t h)⟩,
   ⟨(k0_off193 t), (k0_off193_inb t h), (k0_off194 c t), (k0_off194_inb c t h), (k0_off68 t), (k0_off68_inb t h)⟩,
   ⟨(k0_off195 t), (k0_off195_inb t h), (k0_off196 c t), (k0_off196_inb c t h), (k0_off68 t), (k0_off68_inb t h)⟩,
   ⟨(k0_off197 t), (k0_off197_inb t h), (k0_off198 c t), (k0_off198_inb c t h), (k0_off68 t), (k0_off68_inb t h)⟩]

def nxtD (c : Dev nD) (t : Fin k0_t1_loop.trips) (h : k0_cond1 t = 1#1) : List (Iss 2 320) :=
  [⟨(k0_off199 t), (k0_off199_inb t h), (k0_off158 c t), (k0_off158_inb c t h), (k0_off68 t), (k0_off68_inb t h)⟩,
   ⟨(k0_off200 t), (k0_off200_inb t h), (k0_off160 c t), (k0_off160_inb c t h), (k0_off68 t), (k0_off68_inb t h)⟩,
   ⟨(k0_off201 t), (k0_off201_inb t h), (k0_off162 c t), (k0_off162_inb c t h), (k0_off68 t), (k0_off68_inb t h)⟩,
   ⟨(k0_off202 t), (k0_off202_inb t h), (k0_off164 c t), (k0_off164_inb c t h), (k0_off68 t), (k0_off68_inb t h)⟩,
   ⟨(k0_off203 t), (k0_off203_inb t h), (k0_off166 c t), (k0_off166_inb c t h), (k0_off68 t), (k0_off68_inb t h)⟩,
   ⟨(k0_off204 t), (k0_off204_inb t h), (k0_off115 c t), (k0_off115_inb c t h), (k0_off68 t), (k0_off68_inb t h)⟩,
   ⟨(k0_off205 t), (k0_off205_inb t h), (k0_off117 c t), (k0_off117_inb c t h), (k0_off68 t), (k0_off68_inb t h)⟩,
   ⟨(k0_off206 t), (k0_off206_inb t h), (k0_off119 c t), (k0_off119_inb c t h), (k0_off68 t), (k0_off68_inb t h)⟩,
   ⟨(k0_off207 t), (k0_off207_inb t h), (k0_off121 c t), (k0_off121_inb c t h), (k0_off68 t), (k0_off68_inb t h)⟩,
   ⟨(k0_off208 t), (k0_off208_inb t h), (k0_off123 c t), (k0_off123_inb c t h), (k0_off68 t), (k0_off68_inb t h)⟩]

def curG0 (c : Dev nD) (t : Fin k0_t1_loop.trips) : Iss 3 1408 := ⟨(k0_off210 t), (k0_off210_inb t), (k0_off211 c t), (k0_off211_inb c t), (k0_off209 t), (k0_off209_inb t)⟩

def curG1 (c : Dev nD) (t : Fin k0_t1_loop.trips) : Iss 3 1408 := ⟨(k0_off212 t), (k0_off212_inb t), (k0_off213 c t), (k0_off213_inb c t), (k0_off209 t), (k0_off209_inb t)⟩

def curGt (c : Dev nD) (t : Fin k0_t1_loop.trips) : List (Iss 3 1408) :=
  [⟨(k0_off214 t), (k0_off214_inb t), (k0_off215 c t), (k0_off215_inb c t), (k0_off209 t), (k0_off209_inb t)⟩,
   ⟨(k0_off216 t), (k0_off216_inb t), (k0_off217 c t), (k0_off217_inb c t), (k0_off209 t), (k0_off209_inb t)⟩,
   ⟨(k0_off218 t), (k0_off218_inb t), (k0_off219 c t), (k0_off219_inb c t), (k0_off209 t), (k0_off209_inb t)⟩,
   ⟨(k0_off220 t), (k0_off220_inb t), (k0_off221 c t), (k0_off221_inb c t), (k0_off209 t), (k0_off209_inb t)⟩,
   ⟨(k0_off222 t), (k0_off222_inb t), (k0_off223 c t), (k0_off223_inb c t), (k0_off209 t), (k0_off209_inb t)⟩,
   ⟨(k0_off224 t), (k0_off224_inb t), (k0_off225 c t), (k0_off225_inb c t), (k0_off209 t), (k0_off209_inb t)⟩,
   ⟨(k0_off226 t), (k0_off226_inb t), (k0_off227 c t), (k0_off227_inb c t), (k0_off209 t), (k0_off209_inb t)⟩,
   ⟨(k0_off228 t), (k0_off228_inb t), (k0_off229 c t), (k0_off229_inb c t), (k0_off209 t), (k0_off209_inb t)⟩,
   ⟨(k0_off230 t), (k0_off230_inb t), (k0_off231 c t), (k0_off231_inb c t), (k0_off209 t), (k0_off209_inb t)⟩,
   ⟨(k0_off232 t), (k0_off232_inb t), (k0_off233 c t), (k0_off233_inb c t), (k0_off209 t), (k0_off209_inb t)⟩,
   ⟨(k0_off234 t), (k0_off234_inb t), (k0_off235 c t), (k0_off235_inb c t), (k0_off209 t), (k0_off209_inb t)⟩,
   ⟨(k0_off236 t), (k0_off236_inb t), (k0_off237 c t), (k0_off237_inb c t), (k0_off209 t), (k0_off209_inb t)⟩,
   ⟨(k0_off238 t), (k0_off238_inb t), (k0_off239 c t), (k0_off239_inb c t), (k0_off209 t), (k0_off209_inb t)⟩,
   ⟨(k0_off240 t), (k0_off240_inb t), (k0_off241 c t), (k0_off241_inb c t), (k0_off209 t), (k0_off209_inb t)⟩,
   ⟨(k0_off242 t), (k0_off242_inb t), (k0_off243 c t), (k0_off243_inb c t), (k0_off209 t), (k0_off209_inb t)⟩,
   ⟨(k0_off244 t), (k0_off244_inb t), (k0_off245 c t), (k0_off245_inb c t), (k0_off209 t), (k0_off209_inb t)⟩,
   ⟨(k0_off246 t), (k0_off246_inb t), (k0_off247 c t), (k0_off247_inb c t), (k0_off209 t), (k0_off209_inb t)⟩,
   ⟨(k0_off248 t), (k0_off248_inb t), (k0_off249 c t), (k0_off249_inb c t), (k0_off209 t), (k0_off209_inb t)⟩,
   ⟨(k0_off250 t), (k0_off250_inb t), (k0_off251 c t), (k0_off251_inb c t), (k0_off209 t), (k0_off209_inb t)⟩,
   ⟨(k0_off252 t), (k0_off252_inb t), (k0_off253 c t), (k0_off253_inb c t), (k0_off209 t), (k0_off209_inb t)⟩,
   ⟨(k0_off254 t), (k0_off254_inb t), (k0_off211 c t), (k0_off211_inb c t), (k0_off209 t), (k0_off209_inb t)⟩,
   ⟨(k0_off255 t), (k0_off255_inb t), (k0_off256 c t), (k0_off256_inb c t), (k0_off209 t), (k0_off209_inb t)⟩,
   ⟨(k0_off257 t), (k0_off257_inb t), (k0_off258 c t), (k0_off258_inb c t), (k0_off209 t), (k0_off209_inb t)⟩,
   ⟨(k0_off259 t), (k0_off259_inb t), (k0_off260 c t), (k0_off260_inb c t), (k0_off209 t), (k0_off209_inb t)⟩,
   ⟨(k0_off261 t), (k0_off261_inb t), (k0_off262 c t), (k0_off262_inb c t), (k0_off209 t), (k0_off209_inb t)⟩,
   ⟨(k0_off263 t), (k0_off263_inb t), (k0_off264 c t), (k0_off264_inb c t), (k0_off209 t), (k0_off209_inb t)⟩,
   ⟨(k0_off265 t), (k0_off265_inb t), (k0_off266 c t), (k0_off266_inb c t), (k0_off209 t), (k0_off209_inb t)⟩,
   ⟨(k0_off267 t), (k0_off267_inb t), (k0_off268 c t), (k0_off268_inb c t), (k0_off209 t), (k0_off209_inb t)⟩,
   ⟨(k0_off269 t), (k0_off269_inb t), (k0_off270 c t), (k0_off270_inb c t), (k0_off209 t), (k0_off209_inb t)⟩,
   ⟨(k0_off271 t), (k0_off271_inb t), (k0_off272 c t), (k0_off272_inb c t), (k0_off209 t), (k0_off209_inb t)⟩,
   ⟨(k0_off273 t), (k0_off273_inb t), (k0_off274 c t), (k0_off274_inb c t), (k0_off209 t), (k0_off209_inb t)⟩,
   ⟨(k0_off275 t), (k0_off275_inb t), (k0_off276 c t), (k0_off276_inb c t), (k0_off209 t), (k0_off209_inb t)⟩,
   ⟨(k0_off277 t), (k0_off277_inb t), (k0_off278 c t), (k0_off278_inb c t), (k0_off209 t), (k0_off209_inb t)⟩,
   ⟨(k0_off279 t), (k0_off279_inb t), (k0_off280 c t), (k0_off280_inb c t), (k0_off209 t), (k0_off209_inb t)⟩,
   ⟨(k0_off281 t), (k0_off281_inb t), (k0_off282 c t), (k0_off282_inb c t), (k0_off209 t), (k0_off209_inb t)⟩,
   ⟨(k0_off283 t), (k0_off283_inb t), (k0_off284 c t), (k0_off284_inb c t), (k0_off209 t), (k0_off209_inb t)⟩,
   ⟨(k0_off285 t), (k0_off285_inb t), (k0_off286 c t), (k0_off286_inb c t), (k0_off209 t), (k0_off209_inb t)⟩,
   ⟨(k0_off287 t), (k0_off287_inb t), (k0_off288 c t), (k0_off288_inb c t), (k0_off209 t), (k0_off209_inb t)⟩,
   ⟨(k0_off289 t), (k0_off289_inb t), (k0_off290 c t), (k0_off290_inb c t), (k0_off209 t), (k0_off209_inb t)⟩,
   ⟨(k0_off291 t), (k0_off291_inb t), (k0_off292 c t), (k0_off292_inb c t), (k0_off209 t), (k0_off209_inb t)⟩,
   ⟨(k0_off293 t), (k0_off293_inb t), (k0_off294 c t), (k0_off294_inb c t), (k0_off209 t), (k0_off209_inb t)⟩,
   ⟨(k0_off295 t), (k0_off295_inb t), (k0_off296 c t), (k0_off296_inb c t), (k0_off209 t), (k0_off209_inb t)⟩,
   ⟨(k0_off297 t), (k0_off297_inb t), (k0_off211 c t), (k0_off211_inb c t), (k0_off209 t), (k0_off209_inb t)⟩,
   ⟨(k0_off298 t), (k0_off298_inb t), (k0_off299 c t), (k0_off299_inb c t), (k0_off209 t), (k0_off209_inb t)⟩,
   ⟨(k0_off300 t), (k0_off300_inb t), (k0_off301 c t), (k0_off301_inb c t), (k0_off209 t), (k0_off209_inb t)⟩,
   ⟨(k0_off302 t), (k0_off302_inb t), (k0_off303 c t), (k0_off303_inb c t), (k0_off209 t), (k0_off209_inb t)⟩,
   ⟨(k0_off304 t), (k0_off304_inb t), (k0_off305 c t), (k0_off305_inb c t), (k0_off209 t), (k0_off209_inb t)⟩,
   ⟨(k0_off306 t), (k0_off306_inb t), (k0_off307 c t), (k0_off307_inb c t), (k0_off209 t), (k0_off209_inb t)⟩,
   ⟨(k0_off308 t), (k0_off308_inb t), (k0_off309 c t), (k0_off309_inb c t), (k0_off209 t), (k0_off209_inb t)⟩,
   ⟨(k0_off310 t), (k0_off310_inb t), (k0_off311 c t), (k0_off311_inb c t), (k0_off209 t), (k0_off209_inb t)⟩,
   ⟨(k0_off312 t), (k0_off312_inb t), (k0_off313 c t), (k0_off313_inb c t), (k0_off209 t), (k0_off209_inb t)⟩,
   ⟨(k0_off314 t), (k0_off314_inb t), (k0_off315 c t), (k0_off315_inb c t), (k0_off209 t), (k0_off209_inb t)⟩,
   ⟨(k0_off316 t), (k0_off316_inb t), (k0_off317 c t), (k0_off317_inb c t), (k0_off209 t), (k0_off209_inb t)⟩,
   ⟨(k0_off318 t), (k0_off318_inb t), (k0_off319 c t), (k0_off319_inb c t), (k0_off209 t), (k0_off209_inb t)⟩,
   ⟨(k0_off320 t), (k0_off320_inb t), (k0_off321 c t), (k0_off321_inb c t), (k0_off209 t), (k0_off209_inb t)⟩,
   ⟨(k0_off322 t), (k0_off322_inb t), (k0_off323 c t), (k0_off323_inb c t), (k0_off209 t), (k0_off209_inb t)⟩,
   ⟨(k0_off324 t), (k0_off324_inb t), (k0_off325 c t), (k0_off325_inb c t), (k0_off209 t), (k0_off209_inb t)⟩,
   ⟨(k0_off326 t), (k0_off326_inb t), (k0_off327 c t), (k0_off327_inb c t), (k0_off209 t), (k0_off209_inb t)⟩,
   ⟨(k0_off328 t), (k0_off328_inb t), (k0_off329 c t), (k0_off329_inb c t), (k0_off209 t), (k0_off209_inb t)⟩,
   ⟨(k0_off330 t), (k0_off330_inb t), (k0_off331 c t), (k0_off331_inb c t), (k0_off209 t), (k0_off209_inb t)⟩,
   ⟨(k0_off332 t), (k0_off332_inb t), (k0_off333 c t), (k0_off333_inb c t), (k0_off209 t), (k0_off209_inb t)⟩,
   ⟨(k0_off334 t), (k0_off334_inb t), (k0_off335 c t), (k0_off335_inb c t), (k0_off209 t), (k0_off209_inb t)⟩,
   ⟨(k0_off336 t), (k0_off336_inb t), (k0_off337 c t), (k0_off337_inb c t), (k0_off209 t), (k0_off209_inb t)⟩,
   ⟨(k0_off338 t), (k0_off338_inb t), (k0_off339 c t), (k0_off339_inb c t), (k0_off209 t), (k0_off209_inb t)⟩]

def curG (c : Dev nD) (t : Fin k0_t1_loop.trips) : List (Iss 3 1408) := curG0 c t :: curG1 c t :: curGt c t

def curD (c : Dev nD) (t : Fin k0_t1_loop.trips) : List (Iss 2 320) :=
  [⟨(k0_off340 t), (k0_off340_inb t), (k0_off299 c t), (k0_off299_inb c t), (k0_off209 t), (k0_off209_inb t)⟩,
   ⟨(k0_off341 t), (k0_off341_inb t), (k0_off301 c t), (k0_off301_inb c t), (k0_off209 t), (k0_off209_inb t)⟩,
   ⟨(k0_off342 t), (k0_off342_inb t), (k0_off303 c t), (k0_off303_inb c t), (k0_off209 t), (k0_off209_inb t)⟩,
   ⟨(k0_off343 t), (k0_off343_inb t), (k0_off305 c t), (k0_off305_inb c t), (k0_off209 t), (k0_off209_inb t)⟩,
   ⟨(k0_off344 t), (k0_off344_inb t), (k0_off307 c t), (k0_off307_inb c t), (k0_off209 t), (k0_off209_inb t)⟩,
   ⟨(k0_off345 t), (k0_off345_inb t), (k0_off256 c t), (k0_off256_inb c t), (k0_off209 t), (k0_off209_inb t)⟩,
   ⟨(k0_off346 t), (k0_off346_inb t), (k0_off258 c t), (k0_off258_inb c t), (k0_off209 t), (k0_off209_inb t)⟩,
   ⟨(k0_off347 t), (k0_off347_inb t), (k0_off260 c t), (k0_off260_inb c t), (k0_off209 t), (k0_off209_inb t)⟩,
   ⟨(k0_off348 t), (k0_off348_inb t), (k0_off262 c t), (k0_off262_inb c t), (k0_off209 t), (k0_off209_inb t)⟩,
   ⟨(k0_off349 t), (k0_off349_inb t), (k0_off264 c t), (k0_off264_inb c t), (k0_off209 t), (k0_off209_inb t)⟩]

/-! ## The values -/

/-- One block product with the transposed keys, scaled. -/
def scores0 (q : Vec F S384x128 .bf16) (k : Vec F S1x1408x128 .bf16) : FVec F S384x1408 .f32 :=
  mulf (matmul dot_S384x128_S1408x128_S384x1408_1_1_0_0_n_n none q (shapeCast S1408x128 k shapeCasts_S1x1408x128_S1408x128 : FVec F S1408x128 .bf16)
    (constant S384x1408 .f32 0x00000000#32 : FVec F S384x1408 .f32)) (broadcast S384x1408 (Scalar.ofBits .f32 0x3DB504F3#32 : F .f32))

def expo0 (s : FVec F S384x1408 .f32) : FVec F S384x1408 .f32 :=
  exp (subf s (broadcastTo S384x1408 (shapeCast S384x1 (multiReduction .maximumf [1] S384 s 0xFF800000#32 reduces_S384x1408_S384 (.inl rfl) rfl : FVec F S384 .f32)
    shapeCasts_S384_S384x1 : FVec F S384x1 .f32) broadcasts_S384x1_S384x1408))

/-- The first group's attention: six blocks of queries against the keys of their class. -/
def att0 (q : Vec F S384x128 .bf16) (k v : Vec F S1x1408x128 .bf16) : FVec F S384x128 .f32 :=
  divf (matmul dot_S384x1408_S1408x128_S384x128_1_0_0_1_n_n none (truncf .bf16 (expo0 (scores0 q k)) bitsLt_bf16_f32 : FVec F S384x1408 .bf16)
      (shapeCast S1408x128 v shapeCasts_S1x1408x128_S1408x128 : FVec F S1408x128 .bf16) (constant S384x128 .f32 0x00000000#32 : FVec F S384x128 .f32))
    (broadcastTo S384x128 (shapeCast S384x1 (multiReduction .add [1] S384 (expo0 (scores0 q k)) 0x00000000#32 reduces_S384x1408_S384 (.inl rfl) rfl : FVec F S384 .f32)
      shapeCasts_S384_S384x1 : FVec F S384x1 .f32) broadcasts_S384x1_S384x128)

/-- The block number of an index: its quotient by 64, rounded down. -/
def blockOf (x : IVec S320x320 32) : IVec S320x320 32 :=
  select (andi
      (cmpi .ne (subi (extui 32 (cmpi .sgt x (broadcast S320x320 0#32)) natLt_1_32) (extui 32 (cmpi .slt x (broadcast S320x320 0#32)) natLt_1_32) : IVec S320x320 32)
        (broadcast S320x320 (Scalar.subi (Scalar.extui (Scalar.cmpi .sgt (64#32 : BitVec 32) 0#32) : BitVec 32) (Scalar.extui (Scalar.cmpi .slt (64#32 : BitVec 32) 0#32))) : IVec S320x320 32))
      (cmpi .ne (remsi x (broadcast S320x320 64#32) : IVec S320x320 32) (broadcast S320x320 0#32)))
    (subi (divsi x (broadcast S320x320 64#32)) (broadcast S320x320 1#32)) (divsi x (broadcast S320x320 64#32))

/-- The pairs of a query and a key of the same block. -/
def sameBlock : IVec S320x320 1 :=
  cmpi .eq (blockOf (iota .tc S320x320 32 [0] iota_S320x320_d0_w32)) (blockOf (iota .tc S320x320 32 [1] iota_S320x320_d1_w32))

def scoresG (q : Vec F S320x128 .bf16) (k : Vec F S1x1408x128 .bf16) : FVec F S320x1408 .f32 :=
  mulf (matmul dot_S320x128_S1408x128_S320x1408_1_1_0_0_n_n none q (shapeCast S1408x128 k shapeCasts_S1x1408x128_S1408x128 : FVec F S1408x128 .bf16)
    (constant S320x1408 .f32 0x00000000#32 : FVec F S320x1408 .f32)) (broadcast S320x1408 (Scalar.ofBits .f32 0x3DB504F3#32 : F .f32))

def scoresD (q : Vec F S320x128 .bf16) (k : Vec F S1x320x128 .bf16) : FVec F S320x320 .f32 :=
  select sameBlock
    (mulf (matmul dot_S320x128_S320x128_S320x320_1_1_0_0_n_n none q (shapeCast S320x128 k shapeCasts_S1x320x128_S320x128 : FVec F S320x128 .bf16)
      (constant S320x320 .f32 0x00000000#32 : FVec F S320x320 .f32)) (broadcast S320x320 (Scalar.ofBits .f32 0x3DB504F3#32 : F .f32)))
    (broadcast S320x320 (Named.named κ "mask" 0xCE6E6B28#32 : F .f32))

def top (s : FVec F S320x1408 .f32) (d : FVec F S320x320 .f32) : FVec F S320x1 .f32 :=
  maximumf (shapeCast S320x1 (multiReduction .maximumf [1] S320 s 0xFF800000#32 reduces_S320x1408_S320 (.inl rfl) rfl : FVec F S320 .f32) shapeCasts_S320_S320x1)
    (shapeCast S320x1 (multiReduction .maximumf [1] S320 d 0xFF800000#32 reduces_S320x320_S320 (.inl rfl) rfl : FVec F S320 .f32) shapeCasts_S320_S320x1)

def expoG (s : FVec F S320x1408 .f32) (d : FVec F S320x320 .f32) : FVec F S320x1408 .f32 :=
  exp (subf s (broadcastTo S320x1408 (top s d) broadcasts_S320x1_S320x1408))

def expoD (s : FVec F S320x1408 .f32) (d : FVec F S320x320 .f32) : FVec F S320x320 .f32 :=
  exp (subf d (broadcastTo S320x320 (top s d) broadcasts_S320x1_S320x320))

/-- From the scores of a group's queries against its class and against its own blocks, the attention. -/
def mixG (s : FVec F S320x1408 .f32) (d : FVec F S320x320 .f32) (v : Vec F S1x1408x128 .bf16) (vd : Vec F S1x320x128 .bf16) :
    FVec F S320x128 .f32 :=
  divf
    (addf (matmul dot_S320x1408_S1408x128_S320x128_1_0_0_1_n_n none (truncf .bf16 (expoG s d) bitsLt_bf16_f32 : FVec F S320x1408 .bf16)
        (shapeCast S1408x128 v shapeCasts_S1x1408x128_S1408x128 : FVec F S1408x128 .bf16) (constant S320x128 .f32 0x00000000#32 : FVec F S320x128 .f32))
      (matmul dot_S320x320_S320x128_S320x128_1_0_0_1_n_n none (truncf .bf16 (expoD s d) bitsLt_bf16_f32 : FVec F S320x320 .bf16)
        (shapeCast S320x128 vd shapeCasts_S1x320x128_S320x128 : FVec F S320x128 .bf16) (constant S320x128 .f32 0x00000000#32 : FVec F S320x128 .f32)))
    (broadcastTo S320x128 (addf
        (shapeCast S320x1 (multiReduction .add [1] S320 (expoG s d) 0x00000000#32 reduces_S320x1408_S320 (.inl rfl) rfl : FVec F S320 .f32) shapeCasts_S320_S320x1 : FVec F S320x1 .f32)
        (shapeCast S320x1 (multiReduction .add [1] S320 (expoD s d) 0x00000000#32 reduces_S320x320_S320 (.inl rfl) rfl : FVec F S320 .f32) shapeCasts_S320_S320x1))
      broadcasts_S320x1_S320x128)

/-- The other groups' attention: five blocks of queries against the keys of their class and their own blocks. -/
def attG (q : Vec F S320x128 .bf16) (k : Vec F S1x1408x128 .bf16) (kd : Vec F S1x320x128 .bf16) (v : Vec F S1x1408x128 .bf16)
    (vd : Vec F S1x320x128 .bf16) : FVec F S320x128 .f32 :=
  mixG (scoresG q k) (scoresD q kd) v vd

def xSlot (v : Vec F S1x128x1024 .f32) : FVec F S1x128x1024 .bf16 :=
  shapeCast S1x128x1024 (truncf .bf16 (shapeCast S128x1024 v shapeCasts_S1x128x1024_S128x1024 : FVec F S128x1024 .f32) bitsLt_bf16_f32 : FVec F S128x1024 .bf16)
    shapeCasts_S128x1024_S1x128x1024

def qRows (v : Vec F S1x128x1024 .bf16) (w : Vec F S1024x1024 .bf16) : FVec F S128x1024 .bf16 :=
  truncf .bf16 (matmul dot_S128x1024_S1024x1024_S128x1024_1_0_0_1_n_n none (shapeCast S128x1024 v shapeCasts_S1x128x1024_S128x1024 : FVec F S128x1024 .bf16) w
    (constant S128x1024 .f32 0x00000000#32 : FVec F S128x1024 .f32) : FVec F S128x1024 .f32) bitsLt_bf16_f32

def qTop (v : Vec F S1x128x1024 .bf16) (w : Vec F S1024x1024 .bf16) : FVec F S64x1024 .bf16 :=
  shapeCast S64x1024 (extractStridedSlice S64x1024 ![0, 0] (qRows v w) slices_S128x1024_o0_0_S64x1024 : FVec F S64x1024 .bf16) shapeCasts_S64x1024_S64x1024

def qBot (v : Vec F S1x128x1024 .bf16) (w : Vec F S1024x1024 .bf16) : FVec F S64x1024 .bf16 :=
  shapeCast S64x1024 (extractStridedSlice S64x1024 ![64, 0] (qRows v w) slices_S128x1024_o64_0_S64x1024 : FVec F S64x1024 .bf16) shapeCasts_S64x1024_S64x1024

def wRound (v : Vec F S1024x1024 .f32) : FVec F S1024x1024 .bf16 :=
  shapeCast S1024x1024 (truncf .bf16 (shapeCast S1024x1024 v shapeCasts_S1024x1024_S1024x1024 : FVec F S1024x1024 .f32) bitsLt_bf16_f32 : FVec F S1024x1024 .bf16)
    shapeCasts_S1024x1024_S1024x1024

def gRound (v : Vec F S1x3x1408x128 .f32) : FVec F S3x1408x128 .bf16 :=
  shapeCast S3x1408x128 (truncf .bf16 (shapeCast S3x1408x128 v shapeCasts_S1x3x1408x128_S3x1408x128 : FVec F S3x1408x128 .f32) bitsLt_bf16_f32 : FVec F S3x1408x128 .bf16)
    shapeCasts_S3x1408x128_S3x1408x128

def dRound (v : Vec F S1x2x320x128 .f32) : FVec F S2x320x128 .bf16 :=
  shapeCast S2x320x128 (truncf .bf16 (shapeCast S2x320x128 v shapeCasts_S1x2x320x128_S2x320x128 : FVec F S2x320x128 .f32) bitsLt_bf16_f32 : FVec F S2x320x128 .bf16)
    shapeCasts_S2x320x128_S2x320x128

def cut0 (o : Fin 2 → ℕ) (h : S384x128.Slices o S64x128) (v : FVec F S384x128 .f32) : FVec F S64x128 .bf16 :=
  shapeCast S64x128 (truncf .bf16 (extractStridedSlice S64x128 o v h : FVec F S64x128 .f32) bitsLt_bf16_f32 : FVec F S64x128 .bf16) shapeCasts_S64x128_S64x128

def cutG (o : Fin 2 → ℕ) (h : S320x128.Slices o S64x128) (v : FVec F S320x128 .f32) : FVec F S64x128 .bf16 :=
  shapeCast S64x128 (truncf .bf16 (extractStridedSlice S64x128 o v h : FVec F S64x128 .f32) bitsLt_bf16_f32 : FVec F S64x128 .bf16) shapeCasts_S64x128_S64x128

def chunk (x : Vec F S256x1024 .bf16) (w : Vec F S1024x1024 .bf16) : FVec F S1x256x1024 .f32 :=
  shapeCast S1x256x1024 (matmul dot_S256x1024_S1024x1024_S256x1024_1_0_0_1_n_n none x w (constant S256x1024 .f32 0x00000000#32 : FVec F S256x1024 .f32) : FVec F S256x1024 .f32)
    shapeCasts_S256x1024_S1x256x1024

def stage0 (p : Vec F S1x128x1024 .f32) : FVec F S128x1024 .bf16 :=
  shapeCast S128x1024 (truncf .bf16 (shapeCast S128x1024 p shapeCasts_S1x128x1024_S128x1024 : FVec F S128x1024 .f32) bitsLt_bf16_f32 : FVec F S128x1024 .bf16)
    shapeCasts_S128x1024_S128x1024

def sum0 (r : Vec F S1x128x1024 .bf16) (p : Vec F S1x128x1024 .f32) : FVec F S128x1024 .f32 :=
  addf (extf .f32 (shapeCast S128x1024 r shapeCasts_S1x128x1024_S128x1024 : FVec F S128x1024 .bf16) bitsLt_bf16_f32)
    (shapeCast S128x1024 p shapeCasts_S1x128x1024_S128x1024)

def pass (r : Vec F S1x128x1024 .bf16) (p : Vec F S1x128x1024 .f32) : FVec F S1x128x1024 .bf16 :=
  shapeCast S1x128x1024 (truncf .bf16 (sum0 r p) bitsLt_bf16_f32 : FVec F S128x1024 .bf16) shapeCasts_S128x1024_S1x128x1024

def last (r : Vec F S1x128x1024 .bf16) (p : Vec F S1x128x1024 .f32) : FVec F S1x128x1024 .f32 :=
  shapeCast S1x128x1024 (sum0 r p) shapeCasts_S128x1024_S1x128x1024

/-! ## The steps -/

def loadR {n : ℕ} {d : Fin n → ℕ} {e : EltTy} (m : Memref sig .tc .vmem ⟨n, d⟩ e) (off sz : Fin n → ℕ)
    (inb : ∀ a, off a + sz a ≤ d a) (h : 0 < (⟨n, sz⟩ : Shape).numel) : P F (Vec F ⟨n, sz⟩ e) :=
  Prog.lift (.load m (Rect.unit (s := ⟨n, d⟩) off sz inb).toLoadRect (View.loadsAt_vmem h))

/-- A store; the code reads the place first and drops what it read. -/
def putR {n : ℕ} {d : Fin n → ℕ} {e : EltTy} (m : Memref sig .tc .vmem ⟨n, d⟩ e) (off sz : Fin n → ℕ)
    (inb : ∀ a, off a + sz a ≤ d a) (h : 0 < (⟨n, sz⟩ : Shape).numel) (w : Vec F ⟨n, sz⟩ e)
    (hx : (m.access (Rect.unit (s := ⟨n, d⟩) off sz inb)).Stores Finset.univ) : P F PUnit :=
  loadR m off sz inb h >>= fun _ => Prog.lift (.store m (Rect.unit (s := ⟨n, d⟩) off sz inb) w Finset.univ hx (.inl rfl))

abbrev CS (n : ℕ) : Shape := ⟨3, ![n, 128, 1024]⟩

def slotV {n : ℕ} (m : Memref sig .tc .vmem (CS n) .bf16) (k : ℕ) (h : ∀ a, (![k, 0, 0] : Fin 3 → ℕ) a + S1x128x1024.size a ≤ (CS n).size a) :
    Memref sig .tc .vmem S128x1024 .bf16 :=
  (m.slice (Rect.unit (s := CS n) ![k, 0, 0] S1x128x1024.size h) (fun _ => rfl)).squeeze S128x1024 squeezes_S1x128x1024_S128x1024

def semC (S : DmaSems sig S3) (k : ℕ) (h : ∀ a, (![k] : Fin 1 → ℕ) a + S1.size a ≤ S3.size a) : DmaSem sig :=
  ((S.slice (Rect.unit (s := S3) ![k] S1.size h)).squeeze S_ squeezes_S1_S_).sem

def send (n : Dev nD) (src dst : Memref sig .tc .vmem S128x1024 .bf16) (sS sR : DmaSem sig) (hs : src.view.WordExact) (hd : dst.view.WordExact) :
    P F PUnit :=
  Prog.lift (.enqueueDma src (.remote (Dev.tc n) dst (.dma sS)) (.dma sR) hs hd ⟨⟨rfl, Or.inl rfl⟩, trivial⟩)

def arrive (s : DmaSem sig) (src dst : Memref sig .tc .vmem S128x1024 .bf16) (hs : src.view.WordExact) (hd : dst.view.WordExact) :
    P F PUnit :=
  Prog.lift (.waitDma2 s src dst hs hd)

abbrev sX : Memref sig .tc .vmem S1x256x1024 .f32 := win0_0.stage 0
abbrev sWq : Memref sig .tc .vmem S1024x1024 .f32 := win0_1.stage 0
abbrev sWo : Memref sig .tc .vmem S1024x1024 .f32 := win0_2.stage 0
abbrev sOut : Memref sig .tc .vmem S1x256x1024 .f32 := win0_3.stage 0
abbrev commR : Memref sig .tc .vmem S4x128x1024 .bf16 := Memref.whole cc0_scratch0
abbrev commL : Memref sig .tc .vmem S4x128x1024 .bf16 := Memref.whole cc0_scratch1
abbrev mQ : Memref sig .tc .vmem S1024x1024 .bf16 := Memref.whole cc0_scratch2
abbrev kG : Memref sig .tc .vmem S2x3x1408x128 .f32 := Memref.whole cc0_scratch3
abbrev vG : Memref sig .tc .vmem S2x3x1408x128 .f32 := Memref.whole cc0_scratch4
abbrev kD : Memref sig .tc .vmem S2x2x320x128 .f32 := Memref.whole cc0_scratch5
abbrev vD : Memref sig .tc .vmem S2x2x320x128 .f32 := Memref.whole cc0_scratch6
abbrev kGb : Memref sig .tc .vmem S3x1408x128 .bf16 := Memref.whole cc0_scratch7
abbrev vGb : Memref sig .tc .vmem S3x1408x128 .bf16 := Memref.whole cc0_scratch8
abbrev kDb : Memref sig .tc .vmem S2x320x128 .bf16 := Memref.whole cc0_scratch9
abbrev vDb : Memref sig .tc .vmem S2x320x128 .bf16 := Memref.whole cc0_scratch10
abbrev wQ : Memref sig .tc .vmem S1024x1024 .bf16 := Memref.whole cc0_scratch11
abbrev wO : Memref sig .tc .vmem S1024x1024 .bf16 := Memref.whole cc0_scratch12
abbrev mCtx : Memref sig .tc .vmem S1024x1024 .bf16 := Memref.whole cc0_scratch13
abbrev mPart : Memref sig .tc .vmem S4x256x1024 .f32 := Memref.whole cc0_scratch14
abbrev stR : Memref sig .tc .vmem S128x1024 .bf16 := Memref.whole cc0_scratch15
abbrev stL : Memref sig .tc .vmem S128x1024 .bf16 := Memref.whole cc0_scratch16
abbrev sdR : Memref sig .tc .vmem S2x128x1024 .bf16 := Memref.whole cc0_scratch17
abbrev sdL : Memref sig .tc .vmem S2x128x1024 .bf16 := Memref.whole cc0_scratch18
abbrev rvR : Memref sig .tc .vmem S3x128x1024 .bf16 := Memref.whole cc0_scratch19
abbrev rvL : Memref sig .tc .vmem S3x128x1024 .bf16 := Memref.whole cc0_scratch20

/-- Load the keys' and values' first list, then the second. -/
def issueHead (lG : List (Iss 3 1408)) (lD : List (Iss 2 320)) : P F PUnit :=
  issueAll kG vG cc0_scratch21 cc0_scratch22 lG >>= fun _ => issueAll kD vD cc0_scratch23 cc0_scratch24 lD

def awaitHead (lG : List (Iss 3 1408)) (lD : List (Iss 2 320)) : P F PUnit :=
  awaitAll kG vG cc0_scratch21 cc0_scratch22 lG >>= fun _ => awaitAll kD vD cc0_scratch23 cc0_scratch24 lD

/-- Where 64 rows of queries go. -/
structure QDst where
  off : Fin 2 → ℕ
  inb : ∀ a, off a + S64x1024.size a ≤ S1024x1024.size a
  hx : (mQ.access (Rect.unit (s := S1024x1024) off S64x1024.size inb)).Stores Finset.univ

/-- The queries of a slot of the gathered rows, stored as two blocks. -/
def storeQ (m : Memref sig .tc .vmem S4x128x1024 .bf16) (k : ℕ)
    (h : ∀ a, (![k, 0, 0] : Fin 3 → ℕ) a + S1x128x1024.size a ≤ S4x128x1024.size a) (p p' : QDst) : P F PUnit := do
  let v ← loadR m ![k, 0, 0] S1x128x1024.size h h_S1x128x1024
  let w ← loadR wQ ![0, 0] S1024x1024.size inb_S1024x1024_S1024x1024_0_0 h_S1024x1024
  putR mQ p.off S64x1024.size p.inb h_S64x1024 (qTop v w) p.hx
  putR mQ p'.off S64x1024.size p'.inb h_S64x1024 (qBot v w) p'.hx

/-- Where 64 rows of one head's context go. -/
structure CDst where
  off : Fin 2 → ℕ
  inb : ∀ a, off a + S64x128.size a ≤ S1024x1024.size a
  hx : (mCtx.access (Rect.unit (s := S1024x1024) off S64x128.size inb)).Stores Finset.univ

def putC (p : CDst) (w : Vec F S64x128 .bf16) : P F PUnit := putR mCtx p.off S64x128.size p.inb h_S64x128 w p.hx

def qR0 (c : Dev nD) : QDst :=
  ⟨k0_off65 c 0#32 0#32, k0_off65_inb c 0 0, View.stores_vmem h_S64x1024 ((Memref.isWhole_whole _).storeExact_slice rfl _ (k0_off65_packedbf16 c 0 0)) (fun _ => rfl)⟩
def qR0' (c : Dev nD) : QDst :=
  ⟨k0_off65 c 0#32 1#32, k0_off65_inb c 0 1, View.stores_vmem h_S64x1024 ((Memref.isWhole_whole _).storeExact_slice rfl _ (k0_off65_packedbf16 c 0 1)) (fun _ => rfl)⟩
def qL0 (c : Dev nD) : QDst :=
  ⟨k0_off65 c 2#32 0#32, k0_off65_inb c 1 0, View.stores_vmem h_S64x1024 ((Memref.isWhole_whole _).storeExact_slice rfl _ (k0_off65_packedbf16 c 1 0)) (fun _ => rfl)⟩
def qL0' (c : Dev nD) : QDst :=
  ⟨k0_off65 c 2#32 1#32, k0_off65_inb c 1 1, View.stores_vmem h_S64x1024 ((Memref.isWhole_whole _).storeExact_slice rfl _ (k0_off65_packedbf16 c 1 1)) (fun _ => rfl)⟩
def qR1 (c : Dev nD) : QDst :=
  ⟨k0_off66 c 1#32 0#32 0#32, k0_off66_inb c 0, View.stores_vmem h_S64x1024 ((Memref.isWhole_whole _).storeExact_slice rfl _ (k0_off66_packedbf16 c 0)) (fun _ => rfl)⟩
def qR1' (c : Dev nD) : QDst :=
  ⟨k0_off66 c 1#32 0#32 1#32, k0_off66_inb c 1, View.stores_vmem h_S64x1024 ((Memref.isWhole_whole _).storeExact_slice rfl _ (k0_off66_packedbf16 c 1)) (fun _ => rfl)⟩
def qL1 (c : Dev nD) : QDst :=
  ⟨k0_off67 c 1#32 2#32 0#32, k0_off67_inb c 0, View.stores_vmem h_S64x1024 ((Memref.isWhole_whole _).storeExact_slice rfl _ (k0_off67_packedbf16 c 0)) (fun _ => rfl)⟩
def qL1' (c : Dev nD) : QDst :=
  ⟨k0_off67 c 1#32 2#32 1#32, k0_off67_inb c 1, View.stores_vmem h_S64x1024 ((Memref.isWhole_whole _).storeExact_slice rfl _ (k0_off67_packedbf16 c 1)) (fun _ => rfl)⟩
def qR2 (c : Dev nD) : QDst :=
  ⟨k0_off66 c 2#32 0#32 0#32, k0_off66_inb c 2, View.stores_vmem h_S64x1024 ((Memref.isWhole_whole _).storeExact_slice rfl _ (k0_off66_packedbf16 c 2)) (fun _ => rfl)⟩
def qR2' (c : Dev nD) : QDst :=
  ⟨k0_off66 c 2#32 0#32 1#32, k0_off66_inb c 3, View.stores_vmem h_S64x1024 ((Memref.isWhole_whole _).storeExact_slice rfl _ (k0_off66_packedbf16 c 3)) (fun _ => rfl)⟩
def qL2 (c : Dev nD) : QDst :=
  ⟨k0_off67 c 2#32 2#32 0#32, k0_off67_inb c 2, View.stores_vmem h_S64x1024 ((Memref.isWhole_whole _).storeExact_slice rfl _ (k0_off67_packedbf16 c 2)) (fun _ => rfl)⟩
def qL2' (c : Dev nD) : QDst :=
  ⟨k0_off67 c 2#32 2#32 1#32, k0_off67_inb c 3, View.stores_vmem h_S64x1024 ((Memref.isWhole_whole _).storeExact_slice rfl _ (k0_off67_packedbf16 c 3)) (fun _ => rfl)⟩
def qR3 (c : Dev nD) : QDst :=
  ⟨k0_off67 c 1#32 0#32 0#32, k0_off67_inb c 4, View.stores_vmem h_S64x1024 ((Memref.isWhole_whole _).storeExact_slice rfl _ (k0_off67_packedbf16 c 4)) (fun _ => rfl)⟩
def qR3' (c : Dev nD) : QDst :=
  ⟨k0_off67 c 1#32 0#32 1#32, k0_off67_inb c 5, View.stores_vmem h_S64x1024 ((Memref.isWhole_whole _).storeExact_slice rfl _ (k0_off67_packedbf16 c 5)) (fun _ => rfl)⟩
def qL3 (c : Dev nD) : QDst :=
  ⟨k0_off66 c 1#32 2#32 0#32, k0_off66_inb c 4, View.stores_vmem h_S64x1024 ((Memref.isWhole_whole _).storeExact_slice rfl _ (k0_off66_packedbf16 c 4)) (fun _ => rfl)⟩
def qL3' (c : Dev nD) : QDst :=
  ⟨k0_off66 c 1#32 2#32 1#32, k0_off66_inb c 5, View.stores_vmem h_S64x1024 ((Memref.isWhole_whole _).storeExact_slice rfl _ (k0_off66_packedbf16 c 5)) (fun _ => rfl)⟩

def castW : P F PUnit := do
  let a ← loadR sWq ![0, 0] S1024x1024.size inb_S1024x1024_S1024x1024_0_0 h_S1024x1024
  putR wQ ![0, 0] S1024x1024.size inb_S1024x1024_S1024x1024_0_0 h_S1024x1024 (wRound a) (View.stores_vmem h_S1024x1024 ((Memref.isWhole_whole _).storeExact_slice rfl _ packedbf16_S1024x1024_S1024x1024_0_0) (fun _ => rfl))
  let b ← loadR sWo ![0, 0] S1024x1024.size inb_S1024x1024_S1024x1024_0_0 h_S1024x1024
  putR wO ![0, 0] S1024x1024.size inb_S1024x1024_S1024x1024_0_0 h_S1024x1024 (wRound b) (View.stores_vmem h_S1024x1024 ((Memref.isWhole_whole _).storeExact_slice rfl _ packedbf16_S1024x1024_S1024x1024_0_0) (fun _ => rfl))

def fillX : P F PUnit := do
  let a ← loadR sX ![0, 0, 0] S1x128x1024.size inb_S1x256x1024_S1x128x1024_0_0_0 h_S1x128x1024
  putR commR ![0, 0, 0] S1x128x1024.size inb_S4x128x1024_S1x128x1024_0_0_0 h_S1x128x1024 (xSlot a) (View.stores_vmem h_S1x128x1024 ((Memref.isWhole_whole _).storeExact_slice rfl _ packedbf16_S4x128x1024_S1x128x1024_0_0_0) (fun _ => rfl))
  let b ← loadR sX ![0, 128, 0] S1x128x1024.size inb_S1x256x1024_S1x128x1024_0_128_0 h_S1x128x1024
  putR commL ![0, 0, 0] S1x128x1024.size inb_S4x128x1024_S1x128x1024_0_0_0 h_S1x128x1024 (xSlot b) (View.stores_vmem h_S1x128x1024 ((Memref.isWhole_whole _).storeExact_slice rfl _ packedbf16_S4x128x1024_S1x128x1024_0_0_0) (fun _ => rfl))

/-- Hop 0 of the gathering of the rows. -/
def hop0 (c : Dev nD) : P F PUnit := do
  send ⟨k0_dev3 c, k0_dev3_lt c⟩ (slotV (n := 4) commR 0 inb_S4x128x1024_S1x128x1024_0_0_0) (slotV (n := 4) commR 1 inb_S4x128x1024_S1x128x1024_1_0_0) (semC cc0_scratch25 0 inb_S3_S1_0) (semC cc0_scratch26 0 inb_S3_S1_0) (((Memref.isWhole_whole _).wordExact_slice rfl _ wordsbf16_S4x128x1024_S1x128x1024_0_0_0).reshape _ _) (((Memref.isWhole_whole _).wordExact_slice rfl _ wordsbf16_S4x128x1024_S1x128x1024_1_0_0).reshape _ _)
  send ⟨k0_dev4 c, k0_dev4_lt c⟩ (slotV (n := 4) commL 0 inb_S4x128x1024_S1x128x1024_0_0_0) (slotV (n := 4) commL 1 inb_S4x128x1024_S1x128x1024_1_0_0) (semC cc0_scratch27 0 inb_S3_S1_0) (semC cc0_scratch28 0 inb_S3_S1_0) (((Memref.isWhole_whole _).wordExact_slice rfl _ wordsbf16_S4x128x1024_S1x128x1024_0_0_0).reshape _ _) (((Memref.isWhole_whole _).wordExact_slice rfl _ wordsbf16_S4x128x1024_S1x128x1024_1_0_0).reshape _ _)
  storeQ commR 0 inb_S4x128x1024_S1x128x1024_0_0_0 (qR0 c) (qR0' c)
  storeQ commL 0 inb_S4x128x1024_S1x128x1024_0_0_0 (qL0 c) (qL0' c)
  arrive (semC cc0_scratch25 0 inb_S3_S1_0) (slotV (n := 4) commR 1 inb_S4x128x1024_S1x128x1024_1_0_0) (slotV (n := 4) commR 0 inb_S4x128x1024_S1x128x1024_0_0_0) (((Memref.isWhole_whole _).wordExact_slice rfl _ wordsbf16_S4x128x1024_S1x128x1024_1_0_0).reshape _ _) (((Memref.isWhole_whole _).wordExact_slice rfl _ wordsbf16_S4x128x1024_S1x128x1024_0_0_0).reshape _ _)
  arrive (semC cc0_scratch26 0 inb_S3_S1_0) (slotV (n := 4) commR 0 inb_S4x128x1024_S1x128x1024_0_0_0) (slotV (n := 4) commR 1 inb_S4x128x1024_S1x128x1024_1_0_0) (((Memref.isWhole_whole _).wordExact_slice rfl _ wordsbf16_S4x128x1024_S1x128x1024_0_0_0).reshape _ _) (((Memref.isWhole_whole _).wordExact_slice rfl _ wordsbf16_S4x128x1024_S1x128x1024_1_0_0).reshape _ _)
  arrive (semC cc0_scratch27 0 inb_S3_S1_0) (slotV (n := 4) commL 1 inb_S4x128x1024_S1x128x1024_1_0_0) (slotV (n := 4) commL 0 inb_S4x128x1024_S1x128x1024_0_0_0) (((Memref.isWhole_whole _).wordExact_slice rfl _ wordsbf16_S4x128x1024_S1x128x1024_1_0_0).reshape _ _) (((Memref.isWhole_whole _).wordExact_slice rfl _ wordsbf16_S4x128x1024_S1x128x1024_0_0_0).reshape _ _)
  arrive (semC cc0_scratch28 0 inb_S3_S1_0) (slotV (n := 4) commL 0 inb_S4x128x1024_S1x128x1024_0_0_0) (slotV (n := 4) commL 1 inb_S4x128x1024_S1x128x1024_1_0_0) (((Memref.isWhole_whole _).wordExact_slice rfl _ wordsbf16_S4x128x1024_S1x128x1024_0_0_0).reshape _ _) (((Memref.isWhole_whole _).wordExact_slice rfl _ wordsbf16_S4x128x1024_S1x128x1024_1_0_0).reshape _ _)

/-- Hop 1 of the gathering of the rows. -/
def hop1 (c : Dev nD) : P F PUnit := do
  send ⟨k0_dev5 c, k0_dev5_lt c⟩ (slotV (n := 4) commR 1 inb_S4x128x1024_S1x128x1024_1_0_0) (slotV (n := 4) commR 2 inb_S4x128x1024_S1x128x1024_2_0_0) (semC cc0_scratch25 1 inb_S3_S1_1) (semC cc0_scratch26 1 inb_S3_S1_1) (((Memref.isWhole_whole _).wordExact_slice rfl _ wordsbf16_S4x128x1024_S1x128x1024_1_0_0).reshape _ _) (((Memref.isWhole_whole _).wordExact_slice rfl _ wordsbf16_S4x128x1024_S1x128x1024_2_0_0).reshape _ _)
  send ⟨k0_dev6 c, k0_dev6_lt c⟩ (slotV (n := 4) commL 1 inb_S4x128x1024_S1x128x1024_1_0_0) (slotV (n := 4) commL 2 inb_S4x128x1024_S1x128x1024_2_0_0) (semC cc0_scratch27 1 inb_S3_S1_1) (semC cc0_scratch28 1 inb_S3_S1_1) (((Memref.isWhole_whole _).wordExact_slice rfl _ wordsbf16_S4x128x1024_S1x128x1024_1_0_0).reshape _ _) (((Memref.isWhole_whole _).wordExact_slice rfl _ wordsbf16_S4x128x1024_S1x128x1024_2_0_0).reshape _ _)
  storeQ commR 1 inb_S4x128x1024_S1x128x1024_1_0_0 (qR1 c) (qR1' c)
  storeQ commL 1 inb_S4x128x1024_S1x128x1024_1_0_0 (qL1 c) (qL1' c)
  arrive (semC cc0_scratch25 1 inb_S3_S1_1) (slotV (n := 4) commR 2 inb_S4x128x1024_S1x128x1024_2_0_0) (slotV (n := 4) commR 1 inb_S4x128x1024_S1x128x1024_1_0_0) (((Memref.isWhole_whole _).wordExact_slice rfl _ wordsbf16_S4x128x1024_S1x128x1024_2_0_0).reshape _ _) (((Memref.isWhole_whole _).wordExact_slice rfl _ wordsbf16_S4x128x1024_S1x128x1024_1_0_0).reshape _ _)
  arrive (semC cc0_scratch26 1 inb_S3_S1_1) (slotV (n := 4) commR 1 inb_S4x128x1024_S1x128x1024_1_0_0) (slotV (n := 4) commR 2 inb_S4x128x1024_S1x128x1024_2_0_0) (((Memref.isWhole_whole _).wordExact_slice rfl _ wordsbf16_S4x128x1024_S1x128x1024_1_0_0).reshape _ _) (((Memref.isWhole_whole _).wordExact_slice rfl _ wordsbf16_S4x128x1024_S1x128x1024_2_0_0).reshape _ _)
  arrive (semC cc0_scratch27 1 inb_S3_S1_1) (slotV (n := 4) commL 2 inb_S4x128x1024_S1x128x1024_2_0_0) (slotV (n := 4) commL 1 inb_S4x128x1024_S1x128x1024_1_0_0) (((Memref.isWhole_whole _).wordExact_slice rfl _ wordsbf16_S4x128x1024_S1x128x1024_2_0_0).reshape _ _) (((Memref.isWhole_whole _).wordExact_slice rfl _ wordsbf16_S4x128x1024_S1x128x1024_1_0_0).reshape _ _)
  arrive (semC cc0_scratch28 1 inb_S3_S1_1) (slotV (n := 4) commL 1 inb_S4x128x1024_S1x128x1024_1_0_0) (slotV (n := 4) commL 2 inb_S4x128x1024_S1x128x1024_2_0_0) (((Memref.isWhole_whole _).wordExact_slice rfl _ wordsbf16_S4x128x1024_S1x128x1024_1_0_0).reshape _ _) (((Memref.isWhole_whole _).wordExact_slice rfl _ wordsbf16_S4x128x1024_S1x128x1024_2_0_0).reshape _ _)

/-- Hop 2 of the gathering of the rows. -/
def hop2 (c : Dev nD) : P F PUnit := do
  send ⟨k0_dev7 c, k0_dev7_lt c⟩ (slotV (n := 4) commR 2 inb_S4x128x1024_S1x128x1024_2_0_0) (slotV (n := 4) commR 3 inb_S4x128x1024_S1x128x1024_3_0_0) (semC cc0_scratch25 2 inb_S3_S1_2) (semC cc0_scratch26 2 inb_S3_S1_2) (((Memref.isWhole_whole _).wordExact_slice rfl _ wordsbf16_S4x128x1024_S1x128x1024_2_0_0).reshape _ _) (((Memref.isWhole_whole _).wordExact_slice rfl _ wordsbf16_S4x128x1024_S1x128x1024_3_0_0).reshape _ _)
  send ⟨k0_dev8 c, k0_dev8_lt c⟩ (slotV (n := 4) commL 2 inb_S4x128x1024_S1x128x1024_2_0_0) (slotV (n := 4) commL 3 inb_S4x128x1024_S1x128x1024_3_0_0) (semC cc0_scratch27 2 inb_S3_S1_2) (semC cc0_scratch28 2 inb_S3_S1_2) (((Memref.isWhole_whole _).wordExact_slice rfl _ wordsbf16_S4x128x1024_S1x128x1024_2_0_0).reshape _ _) (((Memref.isWhole_whole _).wordExact_slice rfl _ wordsbf16_S4x128x1024_S1x128x1024_3_0_0).reshape _ _)
  storeQ commR 2 inb_S4x128x1024_S1x128x1024_2_0_0 (qR2 c) (qR2' c)
  storeQ commL 2 inb_S4x128x1024_S1x128x1024_2_0_0 (qL2 c) (qL2' c)
  arrive (semC cc0_scratch25 2 inb_S3_S1_2) (slotV (n := 4) commR 3 inb_S4x128x1024_S1x128x1024_3_0_0) (slotV (n := 4) commR 2 inb_S4x128x1024_S1x128x1024_2_0_0) (((Memref.isWhole_whole _).wordExact_slice rfl _ wordsbf16_S4x128x1024_S1x128x1024_3_0_0).reshape _ _) (((Memref.isWhole_whole _).wordExact_slice rfl _ wordsbf16_S4x128x1024_S1x128x1024_2_0_0).reshape _ _)
  arrive (semC cc0_scratch26 2 inb_S3_S1_2) (slotV (n := 4) commR 2 inb_S4x128x1024_S1x128x1024_2_0_0) (slotV (n := 4) commR 3 inb_S4x128x1024_S1x128x1024_3_0_0) (((Memref.isWhole_whole _).wordExact_slice rfl _ wordsbf16_S4x128x1024_S1x128x1024_2_0_0).reshape _ _) (((Memref.isWhole_whole _).wordExact_slice rfl _ wordsbf16_S4x128x1024_S1x128x1024_3_0_0).reshape _ _)
  arrive (semC cc0_scratch27 2 inb_S3_S1_2) (slotV (n := 4) commL 3 inb_S4x128x1024_S1x128x1024_3_0_0) (slotV (n := 4) commL 2 inb_S4x128x1024_S1x128x1024_2_0_0) (((Memref.isWhole_whole _).wordExact_slice rfl _ wordsbf16_S4x128x1024_S1x128x1024_3_0_0).reshape _ _) (((Memref.isWhole_whole _).wordExact_slice rfl _ wordsbf16_S4x128x1024_S1x128x1024_2_0_0).reshape _ _)
  arrive (semC cc0_scratch28 2 inb_S3_S1_2) (slotV (n := 4) commL 2 inb_S4x128x1024_S1x128x1024_2_0_0) (slotV (n := 4) commL 3 inb_S4x128x1024_S1x128x1024_3_0_0) (((Memref.isWhole_whole _).wordExact_slice rfl _ wordsbf16_S4x128x1024_S1x128x1024_2_0_0).reshape _ _) (((Memref.isWhole_whole _).wordExact_slice rfl _ wordsbf16_S4x128x1024_S1x128x1024_3_0_0).reshape _ _)

def enter (c : Dev nD) : P F PUnit := do
  semSignalWord ⟨k0_dev1 c, k0_dev1_lt c⟩ (SemArray.scalar (sig.barrier 0 rfl) : Sems sig S_).sem 1#32
  semSignalWord ⟨k0_dev2 c, k0_dev2_lt c⟩ (SemArray.scalar (sig.barrier 0 rfl) : Sems sig S_).sem 1#32
  semWaitWord (SemArray.scalar (sig.barrier 0 rfl) : Sems sig S_).sem 2#32

def gather (c : Dev nD) : P F PUnit := do
  fillX
  hop0 c
  hop1 c
  hop2 c
  storeQ commR 3 inb_S4x128x1024_S1x128x1024_3_0_0 (qR3 c) (qR3' c)
  storeQ commL 3 inb_S4x128x1024_S1x128x1024_3_0_0 (qL3 c) (qL3' c)

def rounds (t : Fin k0_t1_loop.trips) : P F PUnit := do
  let kG' ← loadR kG (k0_off350 t) S1x3x1408x128.size (k0_off350_inb t) h_S1x3x1408x128
  putR kGb ![0, 0, 0] S3x1408x128.size inb_S3x1408x128_S3x1408x128_0_0_0 h_S3x1408x128 (gRound kG') (View.stores_vmem h_S3x1408x128 ((Memref.isWhole_whole _).storeExact_slice rfl _ packedbf16_S3x1408x128_S3x1408x128_0_0_0) (fun _ => rfl))
  let vG' ← loadR vG (k0_off350 t) S1x3x1408x128.size (k0_off350_inb t) h_S1x3x1408x128
  putR vGb ![0, 0, 0] S3x1408x128.size inb_S3x1408x128_S3x1408x128_0_0_0 h_S3x1408x128 (gRound vG') (View.stores_vmem h_S3x1408x128 ((Memref.isWhole_whole _).storeExact_slice rfl _ packedbf16_S3x1408x128_S3x1408x128_0_0_0) (fun _ => rfl))
  let kD' ← loadR kD (k0_off351 t) S1x2x320x128.size (k0_off351_inb t) h_S1x2x320x128
  putR kDb ![0, 0, 0] S2x320x128.size inb_S2x320x128_S2x320x128_0_0_0 h_S2x320x128 (dRound kD') (View.stores_vmem h_S2x320x128 ((Memref.isWhole_whole _).storeExact_slice rfl _ packedbf16_S2x320x128_S2x320x128_0_0_0) (fun _ => rfl))
  let vD' ← loadR vD (k0_off351 t) S1x2x320x128.size (k0_off351_inb t) h_S1x2x320x128
  putR vDb ![0, 0, 0] S2x320x128.size inb_S2x320x128_S2x320x128_0_0_0 h_S2x320x128 (dRound vD') (View.stores_vmem h_S2x320x128 ((Memref.isWhole_whole _).storeExact_slice rfl _ packedbf16_S2x320x128_S2x320x128_0_0_0) (fun _ => rfl))

def group0 (t : Fin k0_t1_loop.trips) : P F PUnit := do
  let q ← loadR mQ (k0_off352 t) S384x128.size (k0_off352_inb t) h_S384x128
  let k ← loadR kGb ![0, 0, 0] S1x1408x128.size inb_S3x1408x128_S1x1408x128_0_0_0 h_S1x1408x128
  let v ← loadR vGb ![0, 0, 0] S1x1408x128.size inb_S3x1408x128_S1x1408x128_0_0_0 h_S1x1408x128
  putC ⟨k0_off353 t, k0_off353_inb t, View.stores_vmem h_S64x128 ((Memref.isWhole_whole _).storeExact_slice rfl _ (k0_off353_packedbf16 t)) (fun _ => rfl)⟩ (cut0 ![0, 0] slices_S384x128_o0_0_S64x128 (att0 q k v))
  putC ⟨k0_off354 t, k0_off354_inb t, View.stores_vmem h_S64x128 ((Memref.isWhole_whole _).storeExact_slice rfl _ (k0_off354_packedbf16 t)) (fun _ => rfl)⟩ (cut0 ![64, 0] slices_S384x128_o64_0_S64x128 (att0 q k v))
  putC ⟨k0_off355 t, k0_off355_inb t, View.stores_vmem h_S64x128 ((Memref.isWhole_whole _).storeExact_slice rfl _ (k0_off355_packedbf16 t)) (fun _ => rfl)⟩ (cut0 ![128, 0] slices_S384x128_o128_0_S64x128 (att0 q k v))
  putC ⟨k0_off356 t, k0_off356_inb t, View.stores_vmem h_S64x128 ((Memref.isWhole_whole _).storeExact_slice rfl _ (k0_off356_packedbf16 t)) (fun _ => rfl)⟩ (cut0 ![192, 0] slices_S384x128_o192_0_S64x128 (att0 q k v))
  putC ⟨k0_off357 t, k0_off357_inb t, View.stores_vmem h_S64x128 ((Memref.isWhole_whole _).storeExact_slice rfl _ (k0_off357_packedbf16 t)) (fun _ => rfl)⟩ (cut0 ![256, 0] slices_S384x128_o256_0_S64x128 (att0 q k v))
  putC ⟨k0_off358 t, k0_off358_inb t, View.stores_vmem h_S64x128 ((Memref.isWhole_whole _).storeExact_slice rfl _ (k0_off358_packedbf16 t)) (fun _ => rfl)⟩ (cut0 ![320, 0] slices_S384x128_o320_0_S64x128 (att0 q k v))

def group1 (t : Fin k0_t1_loop.trips) : P F PUnit := do
  let q ← loadR mQ (k0_off359 t) S320x128.size (k0_off359_inb t) h_S320x128
  let k ← loadR kGb ![1, 0, 0] S1x1408x128.size inb_S3x1408x128_S1x1408x128_1_0_0 h_S1x1408x128
  let kd ← loadR kDb ![0, 0, 0] S1x320x128.size inb_S2x320x128_S1x320x128_0_0_0 h_S1x320x128
  let v ← loadR vGb ![1, 0, 0] S1x1408x128.size inb_S3x1408x128_S1x1408x128_1_0_0 h_S1x1408x128
  let vd ← loadR vDb ![0, 0, 0] S1x320x128.size inb_S2x320x128_S1x320x128_0_0_0 h_S1x320x128
  putC ⟨k0_off360 t, k0_off360_inb t, View.stores_vmem h_S64x128 ((Memref.isWhole_whole _).storeExact_slice rfl _ (k0_off360_packedbf16 t)) (fun _ => rfl)⟩ (cutG ![0, 0] slices_S320x128_o0_0_S64x128 (attG q k kd v vd))
  putC ⟨k0_off361 t, k0_off361_inb t, View.stores_vmem h_S64x128 ((Memref.isWhole_whole _).storeExact_slice rfl _ (k0_off361_packedbf16 t)) (fun _ => rfl)⟩ (cutG ![64, 0] slices_S320x128_o64_0_S64x128 (attG q k kd v vd))
  putC ⟨k0_off362 t, k0_off362_inb t, View.stores_vmem h_S64x128 ((Memref.isWhole_whole _).storeExact_slice rfl _ (k0_off362_packedbf16 t)) (fun _ => rfl)⟩ (cutG ![128, 0] slices_S320x128_o128_0_S64x128 (attG q k kd v vd))
  putC ⟨k0_off363 t, k0_off363_inb t, View.stores_vmem h_S64x128 ((Memref.isWhole_whole _).storeExact_slice rfl _ (k0_off363_packedbf16 t)) (fun _ => rfl)⟩ (cutG ![192, 0] slices_S320x128_o192_0_S64x128 (attG q k kd v vd))
  putC ⟨k0_off364 t, k0_off364_inb t, View.stores_vmem h_S64x128 ((Memref.isWhole_whole _).storeExact_slice rfl _ (k0_off364_packedbf16 t)) (fun _ => rfl)⟩ (cutG ![256, 0] slices_S320x128_o256_0_S64x128 (attG q k kd v vd))

def group2 (t : Fin k0_t1_loop.trips) : P F PUnit := do
  let q ← loadR mQ (k0_off365 t) S320x128.size (k0_off365_inb t) h_S320x128
  let k ← loadR kGb ![2, 0, 0] S1x1408x128.size inb_S3x1408x128_S1x1408x128_2_0_0 h_S1x1408x128
  let kd ← loadR kDb ![1, 0, 0] S1x320x128.size inb_S2x320x128_S1x320x128_1_0_0 h_S1x320x128
  let v ← loadR vGb ![2, 0, 0] S1x1408x128.size inb_S3x1408x128_S1x1408x128_2_0_0 h_S1x1408x128
  let vd ← loadR vDb ![1, 0, 0] S1x320x128.size inb_S2x320x128_S1x320x128_1_0_0 h_S1x320x128
  putC ⟨k0_off366 t, k0_off366_inb t, View.stores_vmem h_S64x128 ((Memref.isWhole_whole _).storeExact_slice rfl _ (k0_off366_packedbf16 t)) (fun _ => rfl)⟩ (cutG ![0, 0] slices_S320x128_o0_0_S64x128 (attG q k kd v vd))
  putC ⟨k0_off367 t, k0_off367_inb t, View.stores_vmem h_S64x128 ((Memref.isWhole_whole _).storeExact_slice rfl _ (k0_off367_packedbf16 t)) (fun _ => rfl)⟩ (cutG ![64, 0] slices_S320x128_o64_0_S64x128 (attG q k kd v vd))
  putC ⟨k0_off368 t, k0_off368_inb t, View.stores_vmem h_S64x128 ((Memref.isWhole_whole _).storeExact_slice rfl _ (k0_off368_packedbf16 t)) (fun _ => rfl)⟩ (cutG ![128, 0] slices_S320x128_o128_0_S64x128 (attG q k kd v vd))
  putC ⟨k0_off369 t, k0_off369_inb t, View.stores_vmem h_S64x128 ((Memref.isWhole_whole _).storeExact_slice rfl _ (k0_off369_packedbf16 t)) (fun _ => rfl)⟩ (cutG ![192, 0] slices_S320x128_o192_0_S64x128 (attG q k kd v vd))
  putC ⟨k0_off370 t, k0_off370_inb t, View.stores_vmem h_S64x128 ((Memref.isWhole_whole _).storeExact_slice rfl _ (k0_off370_packedbf16 t)) (fun _ => rfl)⟩ (cutG ![256, 0] slices_S320x128_o256_0_S64x128 (attG q k kd v vd))

/-- The next head's transfers, if there is a next head. -/
def prefetch (c : Dev nD) (t : Fin k0_t1_loop.trips) : P F PUnit :=
  if h : k0_cond1 t = 1#1 then issueHead (nxtG c t h) (nxtD c t h) else .ret ⟨⟩

def trip (c : Dev nD) (t : Fin k0_t1_loop.trips) : P F PUnit := do
  prefetch c t
  awaitHead (curG c t) (curD c t)
  rounds t
  group0 t
  group1 t
  group2 t

def part0a (c : Dev nD) : P F (FVec F S1x256x1024 .f32) := do
  let x ← loadR mCtx (k0_off371 c 3#32) S256x1024.size (k0_off371_inb c 2) h_S256x1024
  let w ← loadR wO ![0, 0] S1024x1024.size inb_S1024x1024_S1024x1024_0_0 h_S1024x1024
  let _ ← loadR mPart ![0, 0, 0] S1x256x1024.size inb_S4x256x1024_S1x256x1024_0_0_0 h_S1x256x1024
  pure (chunk x w)

def part0b (v : FVec F S1x256x1024 .f32) : P F PUnit :=
  Prog.lift (.store mPart (Rect.unit (s := S4x256x1024) ![0, 0, 0] S1x256x1024.size inb_S4x256x1024_S1x256x1024_0_0_0) v Finset.univ (View.stores_vmem_bits_univ h_S1x256x1024 rfl) (.inl rfl))

def part0 (c : Dev nD) : P F PUnit := do
  let x ← loadR mCtx (k0_off371 c 3#32) S256x1024.size (k0_off371_inb c 2) h_S256x1024
  let w ← loadR wO ![0, 0] S1024x1024.size inb_S1024x1024_S1024x1024_0_0 h_S1024x1024
  putR mPart ![0, 0, 0] S1x256x1024.size inb_S4x256x1024_S1x256x1024_0_0_0 h_S1x256x1024 (chunk x w) (View.stores_vmem_bits_univ h_S1x256x1024 rfl)

def part1 (c : Dev nD) : P F PUnit := do
  let x ← loadR mCtx (k0_off371 c 1#32) S256x1024.size (k0_off371_inb c 0) h_S256x1024
  let w ← loadR wO ![0, 0] S1024x1024.size inb_S1024x1024_S1024x1024_0_0 h_S1024x1024
  putR mPart ![1, 0, 0] S1x256x1024.size inb_S4x256x1024_S1x256x1024_1_0_0 h_S1x256x1024 (chunk x w) (View.stores_vmem_bits_univ h_S1x256x1024 rfl)

def part2 (c : Dev nD) : P F PUnit := do
  let x ← loadR mCtx (k0_off371 c 2#32) S256x1024.size (k0_off371_inb c 1) h_S256x1024
  let w ← loadR wO ![0, 0] S1024x1024.size inb_S1024x1024_S1024x1024_0_0 h_S1024x1024
  putR mPart ![2, 0, 0] S1x256x1024.size inb_S4x256x1024_S1x256x1024_2_0_0 h_S1x256x1024 (chunk x w) (View.stores_vmem_bits_univ h_S1x256x1024 rfl)

def part3 (c : Dev nD) : P F PUnit := do
  let x ← loadR mCtx (k0_off372 c) S256x1024.size (k0_off372_inb c) h_S256x1024
  let w ← loadR wO ![0, 0] S1024x1024.size inb_S1024x1024_S1024x1024_0_0 h_S1024x1024
  putR mPart ![3, 0, 0] S1x256x1024.size inb_S4x256x1024_S1x256x1024_3_0_0 h_S1x256x1024 (chunk x w) (View.stores_vmem_bits_univ h_S1x256x1024 rfl)

def stages : P F PUnit := do
  let stR' ← loadR mPart ![0, 0, 0] S1x128x1024.size inb_S4x256x1024_S1x128x1024_0_0_0 h_S1x128x1024
  putR stR ![0, 0] S128x1024.size inb_S128x1024_S128x1024_0_0 h_S128x1024 (stage0 stR') (View.stores_vmem h_S128x1024 ((Memref.isWhole_whole _).storeExact_slice rfl _ packedbf16_S128x1024_S128x1024_0_0) (fun _ => rfl))
  let stL' ← loadR mPart ![1, 128, 0] S1x128x1024.size inb_S4x256x1024_S1x128x1024_1_128_0 h_S1x128x1024
  putR stL ![0, 0] S128x1024.size inb_S128x1024_S128x1024_0_0 h_S128x1024 (stage0 stL') (View.stores_vmem h_S128x1024 ((Memref.isWhole_whole _).storeExact_slice rfl _ packedbf16_S128x1024_S128x1024_0_0) (fun _ => rfl))

def sendStep0 (c : Dev nD) : P F PUnit := do
  send ⟨k0_dev9 c, k0_dev9_lt c⟩ stR (slotV (n := 3) rvR 0 inb_S3x128x1024_S1x128x1024_0_0_0) (semC cc0_scratch29 0 inb_S3_S1_0) (semC cc0_scratch30 0 inb_S3_S1_0) (Memref.isWhole_whole _).wordExact (((Memref.isWhole_whole _).wordExact_slice rfl _ wordsbf16_S3x128x1024_S1x128x1024_0_0_0).reshape _ _)
  send ⟨k0_dev10 c, k0_dev10_lt c⟩ stL (slotV (n := 3) rvL 0 inb_S3x128x1024_S1x128x1024_0_0_0) (semC cc0_scratch31 0 inb_S3_S1_0) (semC cc0_scratch32 0 inb_S3_S1_0) (Memref.isWhole_whole _).wordExact (((Memref.isWhole_whole _).wordExact_slice rfl _ wordsbf16_S3x128x1024_S1x128x1024_0_0_0).reshape _ _)

def waitStep0 : P F PUnit := do
  arrive (semC cc0_scratch29 0 inb_S3_S1_0) (slotV (n := 3) rvR 0 inb_S3x128x1024_S1x128x1024_0_0_0) stR (((Memref.isWhole_whole _).wordExact_slice rfl _ wordsbf16_S3x128x1024_S1x128x1024_0_0_0).reshape _ _) (Memref.isWhole_whole _).wordExact
  arrive (semC cc0_scratch30 0 inb_S3_S1_0) stR (slotV (n := 3) rvR 0 inb_S3x128x1024_S1x128x1024_0_0_0) (Memref.isWhole_whole _).wordExact (((Memref.isWhole_whole _).wordExact_slice rfl _ wordsbf16_S3x128x1024_S1x128x1024_0_0_0).reshape _ _)
  arrive (semC cc0_scratch31 0 inb_S3_S1_0) (slotV (n := 3) rvL 0 inb_S3x128x1024_S1x128x1024_0_0_0) stL (((Memref.isWhole_whole _).wordExact_slice rfl _ wordsbf16_S3x128x1024_S1x128x1024_0_0_0).reshape _ _) (Memref.isWhole_whole _).wordExact
  arrive (semC cc0_scratch32 0 inb_S3_S1_0) stL (slotV (n := 3) rvL 0 inb_S3x128x1024_S1x128x1024_0_0_0) (Memref.isWhole_whole _).wordExact (((Memref.isWhole_whole _).wordExact_slice rfl _ wordsbf16_S3x128x1024_S1x128x1024_0_0_0).reshape _ _)

def sendStep1 (c : Dev nD) : P F PUnit := do
  send ⟨k0_dev11 c, k0_dev11_lt c⟩ (slotV (n := 2) sdR 0 inb_S2x128x1024_S1x128x1024_0_0_0) (slotV (n := 3) rvR 1 inb_S3x128x1024_S1x128x1024_1_0_0) (semC cc0_scratch29 1 inb_S3_S1_1) (semC cc0_scratch30 1 inb_S3_S1_1) (((Memref.isWhole_whole _).wordExact_slice rfl _ wordsbf16_S2x128x1024_S1x128x1024_0_0_0).reshape _ _) (((Memref.isWhole_whole _).wordExact_slice rfl _ wordsbf16_S3x128x1024_S1x128x1024_1_0_0).reshape _ _)
  send ⟨k0_dev12 c, k0_dev12_lt c⟩ (slotV (n := 2) sdL 0 inb_S2x128x1024_S1x128x1024_0_0_0) (slotV (n := 3) rvL 1 inb_S3x128x1024_S1x128x1024_1_0_0) (semC cc0_scratch31 1 inb_S3_S1_1) (semC cc0_scratch32 1 inb_S3_S1_1) (((Memref.isWhole_whole _).wordExact_slice rfl _ wordsbf16_S2x128x1024_S1x128x1024_0_0_0).reshape _ _) (((Memref.isWhole_whole _).wordExact_slice rfl _ wordsbf16_S3x128x1024_S1x128x1024_1_0_0).reshape _ _)

def waitStep1 : P F PUnit := do
  arrive (semC cc0_scratch29 1 inb_S3_S1_1) (slotV (n := 3) rvR 1 inb_S3x128x1024_S1x128x1024_1_0_0) (slotV (n := 2) sdR 0 inb_S2x128x1024_S1x128x1024_0_0_0) (((Memref.isWhole_whole _).wordExact_slice rfl _ wordsbf16_S3x128x1024_S1x128x1024_1_0_0).reshape _ _) (((Memref.isWhole_whole _).wordExact_slice rfl _ wordsbf16_S2x128x1024_S1x128x1024_0_0_0).reshape _ _)
  arrive (semC cc0_scratch30 1 inb_S3_S1_1) (slotV (n := 2) sdR 0 inb_S2x128x1024_S1x128x1024_0_0_0) (slotV (n := 3) rvR 1 inb_S3x128x1024_S1x128x1024_1_0_0) (((Memref.isWhole_whole _).wordExact_slice rfl _ wordsbf16_S2x128x1024_S1x128x1024_0_0_0).reshape _ _) (((Memref.isWhole_whole _).wordExact_slice rfl _ wordsbf16_S3x128x1024_S1x128x1024_1_0_0).reshape _ _)
  arrive (semC cc0_scratch31 1 inb_S3_S1_1) (slotV (n := 3) rvL 1 inb_S3x128x1024_S1x128x1024_1_0_0) (slotV (n := 2) sdL 0 inb_S2x128x1024_S1x128x1024_0_0_0) (((Memref.isWhole_whole _).wordExact_slice rfl _ wordsbf16_S3x128x1024_S1x128x1024_1_0_0).reshape _ _) (((Memref.isWhole_whole _).wordExact_slice rfl _ wordsbf16_S2x128x1024_S1x128x1024_0_0_0).reshape _ _)
  arrive (semC cc0_scratch32 1 inb_S3_S1_1) (slotV (n := 2) sdL 0 inb_S2x128x1024_S1x128x1024_0_0_0) (slotV (n := 3) rvL 1 inb_S3x128x1024_S1x128x1024_1_0_0) (((Memref.isWhole_whole _).wordExact_slice rfl _ wordsbf16_S2x128x1024_S1x128x1024_0_0_0).reshape _ _) (((Memref.isWhole_whole _).wordExact_slice rfl _ wordsbf16_S3x128x1024_S1x128x1024_1_0_0).reshape _ _)

def sendStep2 (c : Dev nD) : P F PUnit := do
  send ⟨k0_dev13 c, k0_dev13_lt c⟩ (slotV (n := 2) sdR 1 inb_S2x128x1024_S1x128x1024_1_0_0) (slotV (n := 3) rvR 2 inb_S3x128x1024_S1x128x1024_2_0_0) (semC cc0_scratch29 2 inb_S3_S1_2) (semC cc0_scratch30 2 inb_S3_S1_2) (((Memref.isWhole_whole _).wordExact_slice rfl _ wordsbf16_S2x128x1024_S1x128x1024_1_0_0).reshape _ _) (((Memref.isWhole_whole _).wordExact_slice rfl _ wordsbf16_S3x128x1024_S1x128x1024_2_0_0).reshape _ _)
  send ⟨k0_dev14 c, k0_dev14_lt c⟩ (slotV (n := 2) sdL 1 inb_S2x128x1024_S1x128x1024_1_0_0) (slotV (n := 3) rvL 2 inb_S3x128x1024_S1x128x1024_2_0_0) (semC cc0_scratch31 2 inb_S3_S1_2) (semC cc0_scratch32 2 inb_S3_S1_2) (((Memref.isWhole_whole _).wordExact_slice rfl _ wordsbf16_S2x128x1024_S1x128x1024_1_0_0).reshape _ _) (((Memref.isWhole_whole _).wordExact_slice rfl _ wordsbf16_S3x128x1024_S1x128x1024_2_0_0).reshape _ _)

def waitStep2 : P F PUnit := do
  arrive (semC cc0_scratch29 2 inb_S3_S1_2) (slotV (n := 3) rvR 2 inb_S3x128x1024_S1x128x1024_2_0_0) (slotV (n := 2) sdR 1 inb_S2x128x1024_S1x128x1024_1_0_0) (((Memref.isWhole_whole _).wordExact_slice rfl _ wordsbf16_S3x128x1024_S1x128x1024_2_0_0).reshape _ _) (((Memref.isWhole_whole _).wordExact_slice rfl _ wordsbf16_S2x128x1024_S1x128x1024_1_0_0).reshape _ _)
  arrive (semC cc0_scratch30 2 inb_S3_S1_2) (slotV (n := 2) sdR 1 inb_S2x128x1024_S1x128x1024_1_0_0) (slotV (n := 3) rvR 2 inb_S3x128x1024_S1x128x1024_2_0_0) (((Memref.isWhole_whole _).wordExact_slice rfl _ wordsbf16_S2x128x1024_S1x128x1024_1_0_0).reshape _ _) (((Memref.isWhole_whole _).wordExact_slice rfl _ wordsbf16_S3x128x1024_S1x128x1024_2_0_0).reshape _ _)
  arrive (semC cc0_scratch31 2 inb_S3_S1_2) (slotV (n := 3) rvL 2 inb_S3x128x1024_S1x128x1024_2_0_0) (slotV (n := 2) sdL 1 inb_S2x128x1024_S1x128x1024_1_0_0) (((Memref.isWhole_whole _).wordExact_slice rfl _ wordsbf16_S3x128x1024_S1x128x1024_2_0_0).reshape _ _) (((Memref.isWhole_whole _).wordExact_slice rfl _ wordsbf16_S2x128x1024_S1x128x1024_1_0_0).reshape _ _)
  arrive (semC cc0_scratch32 2 inb_S3_S1_2) (slotV (n := 2) sdL 1 inb_S2x128x1024_S1x128x1024_1_0_0) (slotV (n := 3) rvL 2 inb_S3x128x1024_S1x128x1024_2_0_0) (((Memref.isWhole_whole _).wordExact_slice rfl _ wordsbf16_S2x128x1024_S1x128x1024_1_0_0).reshape _ _) (((Memref.isWhole_whole _).wordExact_slice rfl _ wordsbf16_S3x128x1024_S1x128x1024_2_0_0).reshape _ _)

def passOn0 : P F PUnit := do
  let r ← loadR rvR ![0, 0, 0] S1x128x1024.size inb_S3x128x1024_S1x128x1024_0_0_0 h_S1x128x1024
  let p ← loadR mPart ![2, 0, 0] S1x128x1024.size inb_S4x256x1024_S1x128x1024_2_0_0 h_S1x128x1024
  putR sdR ![0, 0, 0] S1x128x1024.size inb_S2x128x1024_S1x128x1024_0_0_0 h_S1x128x1024 (pass r p) (View.stores_vmem h_S1x128x1024 ((Memref.isWhole_whole _).storeExact_slice rfl _ packedbf16_S2x128x1024_S1x128x1024_0_0_0) (fun _ => rfl))
  let r' ← loadR rvL ![0, 0, 0] S1x128x1024.size inb_S3x128x1024_S1x128x1024_0_0_0 h_S1x128x1024
  let p' ← loadR mPart ![2, 128, 0] S1x128x1024.size inb_S4x256x1024_S1x128x1024_2_128_0 h_S1x128x1024
  putR sdL ![0, 0, 0] S1x128x1024.size inb_S2x128x1024_S1x128x1024_0_0_0 h_S1x128x1024 (pass r' p') (View.stores_vmem h_S1x128x1024 ((Memref.isWhole_whole _).storeExact_slice rfl _ packedbf16_S2x128x1024_S1x128x1024_0_0_0) (fun _ => rfl))

def passOn1 : P F PUnit := do
  let r ← loadR rvR ![1, 0, 0] S1x128x1024.size inb_S3x128x1024_S1x128x1024_1_0_0 h_S1x128x1024
  let p ← loadR mPart ![1, 0, 0] S1x128x1024.size inb_S4x256x1024_S1x128x1024_1_0_0 h_S1x128x1024
  putR sdR ![1, 0, 0] S1x128x1024.size inb_S2x128x1024_S1x128x1024_1_0_0 h_S1x128x1024 (pass r p) (View.stores_vmem h_S1x128x1024 ((Memref.isWhole_whole _).storeExact_slice rfl _ packedbf16_S2x128x1024_S1x128x1024_1_0_0) (fun _ => rfl))
  let r' ← loadR rvL ![1, 0, 0] S1x128x1024.size inb_S3x128x1024_S1x128x1024_1_0_0 h_S1x128x1024
  let p' ← loadR mPart ![0, 128, 0] S1x128x1024.size inb_S4x256x1024_S1x128x1024_0_128_0 h_S1x128x1024
  putR sdL ![1, 0, 0] S1x128x1024.size inb_S2x128x1024_S1x128x1024_1_0_0 h_S1x128x1024 (pass r' p') (View.stores_vmem h_S1x128x1024 ((Memref.isWhole_whole _).storeExact_slice rfl _ packedbf16_S2x128x1024_S1x128x1024_1_0_0) (fun _ => rfl))

def finish : P F PUnit := do
  let r ← loadR rvR ![2, 0, 0] S1x128x1024.size inb_S3x128x1024_S1x128x1024_2_0_0 h_S1x128x1024
  let p ← loadR mPart ![3, 0, 0] S1x128x1024.size inb_S4x256x1024_S1x128x1024_3_0_0 h_S1x128x1024
  putR sOut ![0, 0, 0] S1x128x1024.size inb_S1x256x1024_S1x128x1024_0_0_0 h_S1x128x1024 (last r p) (View.stores_vmem_bits_univ h_S1x128x1024 rfl)
  let r' ← loadR rvL ![2, 0, 0] S1x128x1024.size inb_S3x128x1024_S1x128x1024_2_0_0 h_S1x128x1024
  let p' ← loadR mPart ![3, 128, 0] S1x128x1024.size inb_S4x256x1024_S1x128x1024_3_128_0 h_S1x128x1024
  putR sOut ![0, 128, 0] S1x128x1024.size inb_S1x256x1024_S1x128x1024_0_128_0 h_S1x128x1024 (last r' p') (View.stores_vmem_bits_univ h_S1x128x1024 rfl)

def scatter (c : Dev nD) : P F PUnit := do
  part0 c
  part1 c
  stages
  sendStep0 c
  part2 c
  waitStep0
  passOn0
  sendStep1 c
  part3 c
  waitStep1
  passOn1
  sendStep2 c
  waitStep2
  finish

/-- Everything before the loop over the heads. -/
def before (c : Dev nD) : P F PUnit := do
  enter c
  issueHead (proG c) (proD c)
  castW
  gather c

/-- The kernel's body at device `c`. -/
def kmain (c : Dev nD) : P F PUnit := do
  before c
  Scf.Loop.for k0_t1_loop k0_t1_ok ⟨⟩ fun t _ => trip c t
  scatter c

end Cert.KernelIdeal.Body
-- ==== Proof.BodyEq.lean ====
module

public import proofs.«01_k».proof.Proof.Model

@[expose] public section

noncomputable section

namespace Cert.KernelIdeal.Body

open Cert.KernelIdeal Cert.KernelIdeal.Gen
open Idealize.ShloMosaic Idealize.SL.Sem
open Idealize.ShloMosaic.Pipeline

variable {F : FTy → Type} [FloatOps F] [Named F]

/-! ## The printed body is this program -/

/-- The first of a head's transfers and the wait for the second block's keys. -/
def tripHead (c : Dev nD) (t : Fin k0_t1_loop.trips) : P F (Σ' (_ : BitVec 32), BitVec 32) :=
  await (Memref.whole main_arg2) kG cc0_scratch21 (curG0 c t) >>= fun _ =>
  await (Memref.whole main_arg3) vG cc0_scratch22 (curG0 c t) >>= fun _ =>
  await (Memref.whole main_arg2) kG cc0_scratch21 (curG1 c t) >>= fun _ =>
  .ret ⟨Scf.iv 0#32 1#32 t, Scalar.remsi (Scf.iv 0#32 1#32 t) 2#32⟩

def tripRest (c : Dev nD) (t : Fin k0_t1_loop.trips) : P F PUnit :=
  await (Memref.whole main_arg3) vG cc0_scratch22 (curG1 c t) >>= fun _ =>
  awaitAll kG vG cc0_scratch21 cc0_scratch22 (curGt c t) >>= fun _ =>
  awaitAll kD vD cc0_scratch23 cc0_scratch24 (curD c t) >>= fun _ => rounds t >>= fun _ => group0 t >>= fun _ =>
  group1 t >>= fun _ => group2 t

/-- A loop trip as it is printed, the waits split after the third. -/
def trip' (c : Dev nD) (t : Fin k0_t1_loop.trips) : P F PUnit :=
  (if h : k0_cond1 t = 1#1 then issueHead (nxtG c t h) (nxtD c t h) >>= fun _ => tripHead c t else tripHead c t) >>= fun _ => tripRest c t

theorem trip_eq (c : Dev nD) (t : Fin k0_t1_loop.trips) : (trip' c t : P F PUnit) = trip c t := by
  unfold trip' trip prefetch
  by_cases h : k0_cond1 t = 1#1
  · rw [dif_pos h, dif_pos h]
    chain_rfl
  · rw [dif_neg h, dif_neg h]
    chain_rfl

def after (c : Dev nD) (v : FVec F S1x256x1024 .f32) : P F PUnit :=
  part0b v >>= fun _ => part1 c >>= fun _ => stages >>= fun _ => sendStep0 c >>= fun _ => part2 c >>= fun _ => waitStep0 >>= fun _ => passOn0 >>= fun _ =>
  sendStep1 c >>= fun _ => part3 c >>= fun _ => waitStep1 >>= fun _ => passOn1 >>= fun _ => sendStep2 c >>= fun _ => waitStep2 >>= fun _ => finish

def kmain' (c : Dev nD) : P F PUnit :=
  before c >>= fun _ => ((Scf.Loop.for k0_t1_loop k0_t1_ok ⟨⟩ fun t _ => trip' c t) >>= fun _ => part0a c) >>= after c

theorem kmain_eq (c : Dev nD) : (kmain' c : P F PUnit) = kmain c := by
  unfold kmain'
  simp only [Prog.bind_assoc, trip_eq]
  chain_rfl

theorem body_eq' : (cc0_body sX (hstage0_0 0) sWq (hstage0_1 0) (Memref.whole main_arg2) (Memref.isWhole_whole _) (Memref.whole main_arg3) (Memref.isWhole_whole _) sWo (hstage0_2 0) sOut (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) cc0_scratch21 cc0_scratch22 cc0_scratch23 cc0_scratch24 cc0_scratch25 cc0_scratch26 cc0_scratch27 cc0_scratch28 cc0_scratch29 cc0_scratch30 cc0_scratch31 cc0_scratch32 : P F PUnit) = (Prog.lift .deviceId >>= fun c => kmain' c) := by chain_rfl

theorem body_eq : (cc0_body sX (hstage0_0 0) sWq (hstage0_1 0) (Memref.whole main_arg2) (Memref.isWhole_whole _) (Memref.whole main_arg3) (Memref.isWhole_whole _) sWo (hstage0_2 0) sOut (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) cc0_scratch21 cc0_scratch22 cc0_scratch23 cc0_scratch24 cc0_scratch25 cc0_scratch26 cc0_scratch27 cc0_scratch28 cc0_scratch29 cc0_scratch30 cc0_scratch31 cc0_scratch32 : P F PUnit) = (Prog.lift .deviceId >>= fun c => kmain c) := by
  rw [body_eq']
  simp only [kmain_eq]

end Cert.KernelIdeal.Body
-- ==== Proof.Steps.lean ====
module

public import proofs.«01_k».proof.Proof.Model
public import Idealize.ShloMosaic.Lib.Pipeline.Launch
public import Idealize.ShloMosaic.Lib.Pipeline.Kit
public import Idealize.ShloMosaic.Lib.Tactic
public import Idealize.ShloMosaic.Lib.Batch

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The rounds of the ring's cells have at most two duties. -/
abbrev UB := URounds (GSem nD τ sig) Bool
abbrev UU := UR sig nD τ × (UB × Counters)
local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

instance ER_lands : (ER : Emb UB 𝕄).LandsIn (upEmb : UEmb _ 𝕄) := by unfold ER; infer_instance
instance EC_lands : (EC : UEmb Counters 𝕄).LandsIn (upEmb : UEmb _ 𝕄) := by unfold EC; infer_instance

abbrev 𝒱₀ : Variants := Variants.none

/-- What a device's program establishes. -/
abbrev runs {α : Type} (c : Dev nD) (p : P F α) (Q : α → sProp 𝕄) : sProp 𝕄 :=
  wp frame (wpE (defs₀ (F := F)) 𝒱₀ (c : Thread nD τ) none) Set.univ p Q

/-- A buffer's places `S`, holding the wanted contents `g` at those that have been filled (`D`). -/
def Tr (c : Dev nD) {s : Shape} {e : EltTy} (m : Memref sig .tc .vmem s e) (S : Finset (Idx (m.view.loc (c : Thread nD τ))))
    (D : Idx (m.view.loc (c : Thread nD τ)) → Prop) (g : Buf (Elt F) (m.view.loc (c : Thread nD τ))) : sProp 𝕄 :=
  iprop(∃ f : Buf (Elt F) (m.view.loc (c : Thread nD τ)), ⌜∀ i ∈ S, D i → f i = g i⌝ ∗ (m.view.loc (c : Thread nD τ) ↦[S]{fullShare} f))

section
variable (c : Dev nD)

theorem wp_loadR {α : Type} {Q : α → sProp 𝕄} {n : ℕ} {d : Fin n → ℕ} {e : EltTy} {m : Memref sig .tc .vmem ⟨n, d⟩ e} {off sz : Fin n → ℕ}
    {inb : ∀ a, off a + sz a ≤ d a} {h : 0 < (⟨n, sz⟩ : Shape).numel} {S : Finset (Idx (m.view.loc (c : Thread nD τ)))}
    {q : PosShare TreeShare} {g : Buf (Elt F) (m.view.loc (c : Thread nD τ))} {k : Vec F ⟨n, sz⟩ e → P F α}
    (hS : m.view.setOn (Rect.unit (s := ⟨n, d⟩) off sz inb).set ⊆ S) :
    (m.view.loc (c : Thread nD τ) ↦[S]{q} g) ⊢ iprop(((m.view.loc (c : Thread nD τ) ↦[S]{q} g)
        -∗ runs c (k (m.view.readAt (Elt F) (Rect.unit (s := ⟨n, d⟩) off sz inb).toLoadRect g)) Q)
      -∗ runs c (loadR m off sz inb h >>= k) Q) :=
  wp_load 𝒱₀ (c : Thread nD τ) none Set.univ hS

theorem wp_loadT {α : Type} {Q : α → sProp 𝕄} {n : ℕ} {d : Fin n → ℕ} {e : EltTy} {m : Memref sig .tc .vmem ⟨n, d⟩ e} {off sz : Fin n → ℕ}
    {inb : ∀ a, off a + sz a ≤ d a} {h : 0 < (⟨n, sz⟩ : Shape).numel} {S : Finset (Idx (m.view.loc (c : Thread nD τ)))}
    {D : Idx (m.view.loc (c : Thread nD τ)) → Prop} {g : Buf (Elt F) (m.view.loc (c : Thread nD τ))} {k : Vec F ⟨n, sz⟩ e → P F α}
    (hS : m.view.setOn (Rect.unit (s := ⟨n, d⟩) off sz inb).set ⊆ S)
    (hD : ∀ i ∈ m.view.setOn (Rect.unit (s := ⟨n, d⟩) off sz inb).set, D i) :
    Tr c m S D g ⊢ iprop((Tr c m S D g
        -∗ runs c (k (m.view.readAt (Elt F) (Rect.unit (s := ⟨n, d⟩) off sz inb).toLoadRect g)) Q)
      -∗ runs c (loadR m off sz inb h >>= k) Q) := by
  unfold Tr
  iintro ⟨%f, %hf, H⟩ Hk
  iapply (wp_loadR c hS) $$ H
  iintro H
  rw [View.readAt_congr (f := f) (g := g) fun i hi => hf i (hS hi) (hD i hi)]
  iapply Hk
  iexists f
  isplitr; · ipureintro; exact hf
  iexact H

theorem cast_readAt {n : ℕ} {d : Fin n → ℕ} {e : EltTy} (m : Memref sig .tc .vmem ⟨n, d⟩ e) (r : Rect ⟨n, d⟩)
    (g : m.view.ty.Contents (Elt F)) (x : r.shape.Idx) (h) :
    cast h (m.view.readAt (Elt F) r.toLoadRect g x) = g ((m.access r).emb x) := by
  rw [View.readAt_rect, View.read_apply, cast_cast]
  exact cast_eq _ _

/-- A store whose value is the wanted one there fills the stored places. -/
theorem wp_putT {α : Type} {Q : α → sProp 𝕄} {n : ℕ} {d : Fin n → ℕ} {e : EltTy} {m : Memref sig .tc .vmem ⟨n, d⟩ e} {off sz : Fin n → ℕ}
    {inb : ∀ a, off a + sz a ≤ d a} {h : 0 < (⟨n, sz⟩ : Shape).numel} {S : Finset (Idx (m.view.loc (c : Thread nD τ)))}
    {D : Idx (m.view.loc (c : Thread nD τ)) → Prop} (D' : Idx (m.view.loc (c : Thread nD τ)) → Prop)
    {g : Buf (Elt F) (m.view.loc (c : Thread nD τ))} {w : Vec F ⟨n, sz⟩ e} {hx} {k : PUnit → P F α}
    (hS : m.view.setOn (Rect.unit (s := ⟨n, d⟩) off sz inb).set ⊆ S)
    (hw : m.view.readAt (Elt F) (Rect.unit (s := ⟨n, d⟩) off sz inb).toLoadRect g = w)
    (hD : ∀ i, D' i → i ∉ m.view.setOn (Rect.unit (s := ⟨n, d⟩) off sz inb).set → D i) :
    Tr c m S D g ⊢ iprop((Tr c m S D' g -∗ runs c (k ⟨⟩) Q)
      -∗ runs c (putR m off sz inb h w hx >>= k) Q) := by
  unfold Tr
  show _ ⊢ iprop(_ -∗ runs c (loadR m off sz inb h >>= fun _ => Prog.lift (.store m (Rect.unit (s := ⟨n, d⟩) off sz inb) w Finset.univ hx (.inl rfl)) >>= k) Q)
  iintro ⟨%f, %hf, H⟩ Hk
  iapply (wp_loadR c (h := h) (k := fun _ => Prog.lift (.store m (Rect.unit (s := ⟨n, d⟩) off sz inb) w Finset.univ hx (.inl rfl)) >>= k) hS) $$ H
  iintro H
  have hset : (m.access (Rect.unit (s := ⟨n, d⟩) off sz inb)).setOn Finset.univ = m.view.setOn (Rect.unit (s := ⟨n, d⟩) off sz inb).set :=
    View.set_slice m.view (Rect.unit (s := ⟨n, d⟩) off sz inb)
  iapply (wp_store 𝒱₀ (c : Thread nD τ) none Set.univ (m := m) (r := Rect.unit (s := ⟨n, d⟩) off sz inb) (w := w) (Mk := Finset.univ)
    (hx := hx) (k := k) (S := S) (f := f) (hset.trans_subset hS)) $$ H
  iintro H
  iapply Hk
  iexists ((m.access (Rect.unit (s := ⟨n, d⟩) off sz inb)).write (Elt F) f w Finset.univ)
  isplitr
  · ipureintro
    intro i hi hDi
    by_cases hm : i ∈ (m.access (Rect.unit (s := ⟨n, d⟩) off sz inb)).setOn Finset.univ
    · obtain ⟨x, -, rfl⟩ := Finset.mem_map.mp hm
      refine (View.write_emb_of_mem (v := m.access (Rect.unit (s := ⟨n, d⟩) off sz inb)) f w (Finset.mem_univ x)).trans ?_
      rw [← hw]
      exact cast_readAt ..
    · refine (View.write_of_not_mem (v := m.access (Rect.unit (s := ⟨n, d⟩) off sz inb)) f w Finset.univ hm).trans (hf i hi (hD i hDi fun h' => hm (hset ▸ h')))
  iexact H

/-- A buffer whose contents do not matter; one all of whose places are filled. -/
theorem Tr_intro {s : Shape} {e : EltTy} {m : Memref sig .tc .vmem s e} {S : Finset (Idx (m.view.loc (c : Thread nD τ)))}
    {D : Idx (m.view.loc (c : Thread nD τ)) → Prop} (hD : ∀ i ∈ S, ¬ D i) (f g : Buf (Elt F) (m.view.loc (c : Thread nD τ))) :
    (m.view.loc (c : Thread nD τ) ↦[S]{fullShare} f : sProp 𝕄) ⊢ Tr c m S D g := by
  unfold Tr
  iintro H
  iexists f
  isplitr; · ipureintro; exact fun i hi h => absurd h (hD i hi)
  iexact H

theorem Tr_full {s : Shape} {e : EltTy} {m : Memref sig .tc .vmem s e} {S : Finset (Idx (m.view.loc (c : Thread nD τ)))}
    {D : Idx (m.view.loc (c : Thread nD τ)) → Prop} (hD : ∀ i ∈ S, D i) (g : Buf (Elt F) (m.view.loc (c : Thread nD τ))) :
    Tr c m S D g ⊢ (m.view.loc (c : Thread nD τ) ↦[S]{fullShare} g : sProp 𝕄) := by
  unfold Tr
  iintro ⟨%f, %hf, H⟩
  have he : (m.view.loc (c : Thread nD τ) ↦[S]{fullShare} f : sProp 𝕄) = (m.view.loc (c : Thread nD τ) ↦[S]{fullShare} g) :=
    pointsTo_congr fun i hi => hf i hi (hD i hi)
  iapply (Entails.of_eq he)
  iexact H

theorem Tr_mono {s : Shape} {e : EltTy} {m : Memref sig .tc .vmem s e} {S : Finset (Idx (m.view.loc (c : Thread nD τ)))}
    {D D' : Idx (m.view.loc (c : Thread nD τ)) → Prop} (hD : ∀ i ∈ S, D' i → D i) (g : Buf (Elt F) (m.view.loc (c : Thread nD τ))) :
    Tr c m S D g ⊢ Tr c m S D' g := by
  unfold Tr
  iintro ⟨%f, %hf, H⟩
  iexists f
  isplitr; · ipureintro; exact fun i hi h => hf i hi (hD i hi h)
  iexact H

end

end Cert.KernelIdeal.Body
-- ==== Proof.Contents.lean ====
module

public import proofs.«01_k».proof.Proof.Steps
public import Idealize.ShloMosaic.Lib.ValueLayout
public import Idealize.ShloMosaic.Lib.Pipeline.Value

@[expose] public section

noncomputable section

namespace Cert.KernelIdeal.Body

open Cert.KernelIdeal Cert.KernelIdeal.Gen
open Idealize.ShloMosaic
open Idealize.ShloMosaic.TcCoe
open Idealize.ShloMosaic.ValueIdx

variable {F : FTy → Type} [FloatOps F] [Named F]

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The devices `k` places before and after a device. -/
def up (c : Dev nD) : ℕ → Dev nD
  | 0 => c
  | k + 1 => up (prv c) k
def dn (c : Dev nD) : ℕ → Dev nD
  | 0 => c
  | k + 1 => dn (nxt c) k

/-- What each device is given: its rows, its two weight blocks, the keys and the values. -/
structure In (F : FTy → Type) where
  x : Dev nD → Vec F S1x256x1024 .f32
  wq : Dev nD → Vec F S1024x1024 .f32
  wo : Dev nD → Vec F S1024x1024 .f32
  k : Dev nD → Vec F S1x4096x32x128 .f32
  v : Dev nD → Vec F S1x4096x32x128 .f32

/-- What a load of a rectangle reads. -/
abbrev rd {n : ℕ} {d : Fin n → ℕ} {e : EltTy} (m : Memref sig .tc .vmem ⟨n, d⟩ e) (off sz : Fin n → ℕ)
    (inb : ∀ a, off a + sz a ≤ d a) (f : m.view.ty.Contents (Elt F)) : Vec F ⟨n, sz⟩ e :=
  m.view.readAt (Elt F) (Rect.unit (s := ⟨n, d⟩) off sz inb).toLoadRect f

/-- A stack of slots. -/
def stk {n : ℕ} (w : ℕ → Vec F S1x128x1024 .bf16) : Vec F (CS n) .bf16 := fun i => w (i 0).val (ix3 (0 : Fin 1) (i 1) (i 2))

variable (I : In F) (c : Dev nD)

/-! ## The gathered rows and the queries -/

def upRows : Vec F S1x128x1024 .bf16 := xSlot (rd sX ![0, 0, 0] S1x128x1024.size inb_S1x256x1024_S1x128x1024_0_0_0 (I.x c))
def loRows : Vec F S1x128x1024 .bf16 := xSlot (rd sX ![0, 128, 0] S1x128x1024.size inb_S1x256x1024_S1x128x1024_0_128_0 (I.x c))
def fWq : Vec F S1024x1024 .bf16 := wRound (rd sWq ![0, 0] S1024x1024.size inb_S1024x1024_S1024x1024_0_0 (I.wq c))
def fWo : Vec F S1024x1024 .bf16 := wRound (rd sWo ![0, 0] S1024x1024.size inb_S1024x1024_S1024x1024_0_0 (I.wo c))
def fCR : Vec F S4x128x1024 .bf16 := stk (n := 4) fun k => upRows I (up c k)
def fCL : Vec F S4x128x1024 .bf16 := stk (n := 4) fun k => loRows I (dn c k)

/-- The device whose rows hold a block of queries. -/
def devOf (b : ℕ) : Dev nD := ⟨b / 4 % 4, Nat.mod_lt _ (by decide)⟩

/-- A block of queries. -/
def qBlk (b : ℕ) : Vec F S64x1024 .bf16 :=
  match b % 4 with
  | 0 => qTop (upRows I (devOf b)) (fWq I c)
  | 1 => qBot (upRows I (devOf b)) (fWq I c)
  | 2 => qTop (loRows I (devOf b)) (fWq I c)
  | _ => qBot (loRows I (devOf b)) (fWq I c)

/-- Which block of queries is at a place, and where a block is: the blocks are grouped by their class modulo three. -/
def qbOf (p : ℕ) : ℕ := if p < 6 then 3 * p else if p < 11 then 3 * (p - 6) + 1 else 3 * (p - 11) + 2
def posOf (b : ℕ) : ℕ := if b % 3 = 0 then b / 3 else if b % 3 = 1 then 6 + b / 3 else 11 + b / 3

def fQ : Vec F S1024x1024 .bf16 := fun i =>
  qBlk I c (qbOf ((i 0).val / 64)) (ix2 (⟨(i 0).val % 64, Nat.mod_lt _ (by decide)⟩ : Fin 64) (i 1))

/-! ## The keys and values of a head -/

/-- The block of keys at each place of the three classes, and of the queries' own blocks. -/
def kbG (g j : ℕ) : ℕ := if g = 0 then 3 * j else if j = 0 then 0 else if g = 1 then 3 * j - 1 else 3 * j - 2
def kbD (g j : ℕ) : ℕ := if g = 0 then 3 * j + 1 else 3 * j + 2

/-- A staged buffer: both slots of it laid out as head `t`'s blocks `kb`. -/
def fKV {a b : ℕ} (kb : ℕ → ℕ → ℕ) (h : Vec F S1x4096x32x128 .f32) (t : ℕ) : Vec F (KS a b) .f32 := fun i =>
  h (ix4 (0 : Fin 1) (⟨(64 * kb (i 1).val ((i 2).val / 64) + (i 2).val % 64) % 4096, Nat.mod_lt _ (by decide)⟩ : Fin 4096)
    (⟨(8 * c.val + t) % 32, Nat.mod_lt _ (by decide)⟩ : Fin 32) (i 3))

variable (t : Fin k0_t1_loop.trips)

def gK : Vec F S3x1408x128 .bf16 := gRound (rd kG (k0_off350 t) S1x3x1408x128.size (k0_off350_inb t) (fKV c kbG (I.k c) t.val))
def gV : Vec F S3x1408x128 .bf16 := gRound (rd vG (k0_off350 t) S1x3x1408x128.size (k0_off350_inb t) (fKV c kbG (I.v c) t.val))
def dK : Vec F S2x320x128 .bf16 := dRound (rd kD (k0_off351 t) S1x2x320x128.size (k0_off351_inb t) (fKV c kbD (I.k c) t.val))
def dV : Vec F S2x320x128 .bf16 := dRound (rd vD (k0_off351 t) S1x2x320x128.size (k0_off351_inb t) (fKV c kbD (I.v c) t.val))

/-! ## The context -/

def out0 : FVec F S384x128 .f32 :=
  att0 (rd mQ (k0_off352 t) S384x128.size (k0_off352_inb t) (fQ I c))
    (rd kGb ![0, 0, 0] S1x1408x128.size inb_S3x1408x128_S1x1408x128_0_0_0 (gK I c t))
    (rd vGb ![0, 0, 0] S1x1408x128.size inb_S3x1408x128_S1x1408x128_0_0_0 (gV I c t))

def out1 : FVec F S320x128 .f32 :=
  attG (rd mQ (k0_off359 t) S320x128.size (k0_off359_inb t) (fQ I c))
    (rd kGb ![1, 0, 0] S1x1408x128.size inb_S3x1408x128_S1x1408x128_1_0_0 (gK I c t))
    (rd kDb ![0, 0, 0] S1x320x128.size inb_S2x320x128_S1x320x128_0_0_0 (dK I c t))
    (rd vGb ![1, 0, 0] S1x1408x128.size inb_S3x1408x128_S1x1408x128_1_0_0 (gV I c t))
    (rd vDb ![0, 0, 0] S1x320x128.size inb_S2x320x128_S1x320x128_0_0_0 (dV I c t))

def out2 : FVec F S320x128 .f32 :=
  attG (rd mQ (k0_off365 t) S320x128.size (k0_off365_inb t) (fQ I c))
    (rd kGb ![2, 0, 0] S1x1408x128.size inb_S3x1408x128_S1x1408x128_2_0_0 (gK I c t))
    (rd kDb ![1, 0, 0] S1x320x128.size inb_S2x320x128_S1x320x128_1_0_0 (dK I c t))
    (rd vGb ![2, 0, 0] S1x1408x128.size inb_S3x1408x128_S1x1408x128_2_0_0 (gV I c t))
    (rd vDb ![1, 0, 0] S1x320x128.size inb_S2x320x128_S1x320x128_1_0_0 (dV I c t))

/-- Head `t`'s context of a block of queries. -/
def cBlk (b : ℕ) : Vec F S64x128 .bf16 :=
  match b with
  | 0 => cut0 ![0, 0] slices_S384x128_o0_0_S64x128 (out0 I c t)
  | 3 => cut0 ![64, 0] slices_S384x128_o64_0_S64x128 (out0 I c t)
  | 6 => cut0 ![128, 0] slices_S384x128_o128_0_S64x128 (out0 I c t)
  | 9 => cut0 ![192, 0] slices_S384x128_o192_0_S64x128 (out0 I c t)
  | 12 => cut0 ![256, 0] slices_S384x128_o256_0_S64x128 (out0 I c t)
  | 15 => cut0 ![320, 0] slices_S384x128_o320_0_S64x128 (out0 I c t)
  | 1 => cutG ![0, 0] slices_S320x128_o0_0_S64x128 (out1 I c t)
  | 4 => cutG ![64, 0] slices_S320x128_o64_0_S64x128 (out1 I c t)
  | 7 => cutG ![128, 0] slices_S320x128_o128_0_S64x128 (out1 I c t)
  | 10 => cutG ![192, 0] slices_S320x128_o192_0_S64x128 (out1 I c t)
  | 13 => cutG ![256, 0] slices_S320x128_o256_0_S64x128 (out1 I c t)
  | 2 => cutG ![0, 0] slices_S320x128_o0_0_S64x128 (out2 I c t)
  | 5 => cutG ![64, 0] slices_S320x128_o64_0_S64x128 (out2 I c t)
  | 8 => cutG ![128, 0] slices_S320x128_o128_0_S64x128 (out2 I c t)
  | 11 => cutG ![192, 0] slices_S320x128_o192_0_S64x128 (out2 I c t)
  | _ => cutG ![256, 0] slices_S320x128_o256_0_S64x128 (out2 I c t)

theorem trips_eq : k0_t1_loop.trips = 8 := rfl

def headOf (n : ℕ) : Fin k0_t1_loop.trips := ⟨n % 8, Nat.mod_lt _ (by decide)⟩

def fC : Vec F S1024x1024 .bf16 := fun i =>
  cBlk I c (headOf ((i 1).val / 128)) ((i 0).val / 64)
    (ix2 (⟨(i 0).val % 64, Nat.mod_lt _ (by decide)⟩ : Fin 64) (⟨(i 1).val % 128, Nat.mod_lt _ (by decide)⟩ : Fin 128))

/-! ## The products with the output weights, and their sums around the ring -/

/-- The four chunks of rows, in the order they are computed. -/
def pt (j : ℕ) : Vec F S1x256x1024 .f32 :=
  chunk (match j with
      | 0 => rd mCtx (k0_off371 c 3#32) S256x1024.size (k0_off371_inb c 2) (fC I c)
      | 1 => rd mCtx (k0_off371 c 1#32) S256x1024.size (k0_off371_inb c 0) (fC I c)
      | 2 => rd mCtx (k0_off371 c 2#32) S256x1024.size (k0_off371_inb c 1) (fC I c)
      | _ => rd mCtx (k0_off372 c) S256x1024.size (k0_off372_inb c) (fC I c))
    (rd wO ![0, 0] S1024x1024.size inb_S1024x1024_S1024x1024_0_0 (fWo I c))

def fP : Vec F S4x256x1024 .f32 := fun i => pt I c (i 0).val (ix3 (0 : Fin 1) (i 1) (i 2))

def fStR : Vec F S128x1024 .bf16 := stage0 (rd mPart ![0, 0, 0] S1x128x1024.size inb_S4x256x1024_S1x128x1024_0_0_0 (fP I c))
def fStL : Vec F S128x1024 .bf16 := stage0 (rd mPart ![1, 128, 0] S1x128x1024.size inb_S4x256x1024_S1x128x1024_1_128_0 (fP I c))

/-- Rows with a unit axis in front, and without it. -/
def bare (v : Vec F S1x128x1024 .bf16) : Vec F S128x1024 .bf16 := shapeCast S128x1024 v shapeCasts_S1x128x1024_S128x1024
def slot (v : Vec F S128x1024 .bf16) : Vec F S1x128x1024 .bf16 := shapeCast S1x128x1024 v shapeCasts_S128x1024_S1x128x1024

/-- What a device sends up, and down, at each step of the summation. -/
def sumR (d : Dev nD) : ℕ → Vec F S128x1024 .bf16
  | 0 => fStR I d
  | 1 => bare (pass (slot (fStR I (prv d))) (rd mPart ![2, 0, 0] S1x128x1024.size inb_S4x256x1024_S1x128x1024_2_0_0 (fP I d)))
  | k + 2 => bare (pass (slot (sumR (prv d) (k + 1))) (rd mPart ![1, 0, 0] S1x128x1024.size inb_S4x256x1024_S1x128x1024_1_0_0 (fP I d)))
def sumL (d : Dev nD) : ℕ → Vec F S128x1024 .bf16
  | 0 => fStL I d
  | 1 => bare (pass (slot (fStL I (nxt d))) (rd mPart ![2, 128, 0] S1x128x1024.size inb_S4x256x1024_S1x128x1024_2_128_0 (fP I d)))
  | k + 2 => bare (pass (slot (sumL (nxt d) (k + 1))) (rd mPart ![0, 128, 0] S1x128x1024.size inb_S4x256x1024_S1x128x1024_0_128_0 (fP I d)))

def fSdR : Vec F S2x128x1024 .bf16 := stk (n := 2) fun k => slot (sumR I c (k + 1))
def fSdL : Vec F S2x128x1024 .bf16 := stk (n := 2) fun k => slot (sumL I c (k + 1))
def fRvR : Vec F S3x128x1024 .bf16 := stk (n := 3) fun k => slot (sumR I (prv c) k)
def fRvL : Vec F S3x128x1024 .bf16 := stk (n := 3) fun k => slot (sumL I (nxt c) k)

/-- The kernel's result on a device. -/
def fO : Vec F S1x256x1024 .f32 := fun i =>
  if h : (i 1).val < 128 then
    last (slot (sumR I (prv c) 2)) (rd mPart ![3, 0, 0] S1x128x1024.size inb_S4x256x1024_S1x128x1024_3_0_0 (fP I c)) (ix3 (0 : Fin 1) ⟨(i 1).val, h⟩ (i 2))
  else
    last (slot (sumL I (nxt c) 2)) (rd mPart ![3, 128, 0] S1x128x1024.size inb_S4x256x1024_S1x128x1024_3_128_0 (fP I c))
      (ix3 (0 : Fin 1) (⟨(i 1).val - 128, by have := (i 1).isLt; change _ < 256 at this; omega⟩ : Fin 128) (i 2))

/-! ## The pieces of a buffer -/

theorem slot_bare (v : Vec F S1x128x1024 .bf16) : slot (bare v) = v := by
  unfold slot bare
  exact shapeCast_shapeCast ..

theorem bare_slot (v : Vec F S128x1024 .bf16) : bare (slot v) = v := by
  unfold slot bare
  exact shapeCast_shapeCast ..

theorem stk_rect {n : ℕ} (w : ℕ → Vec F S1x128x1024 .bf16) (k : ℕ) (h : ∀ a, (![k, 0, 0] : Fin 3 → ℕ) a + S1x128x1024.size a ≤ (CS n).size a)
    (x : S1x128x1024.Idx) : stk (n := n) w ((Rect.unit (s := CS n) ![k, 0, 0] S1x128x1024.size h).emb x) = w k x := by
  have h0 : (x 0).val = 0 := Nat.lt_one_iff.mp (x 0).isLt
  have e0 : ((Rect.unit (s := CS n) ![k, 0, 0] S1x128x1024.size h).emb x 0).val = k := by
    show k + 1 * (x 0).val = k
    rw [h0, Nat.mul_zero, Nat.add_zero]
  unfold stk
  rw [e0]
  refine congrArg (w k) (funext fun a => Fin.ext ?_)
  fin_cases a
  · exact h0.symm
  · show 0 + 1 * (x 1).val = (x 1).val; omega
  · show 0 + 1 * (x 2).val = (x 2).val; omega

theorem rd_commR (k : ℕ) (h) : rd commR ![k, 0, 0] S1x128x1024.size h (fCR I c) = upRows I (up c k) := funext fun x => stk_rect (n := 4) (fun j => upRows I (up c j)) k h x
theorem rd_commL (k : ℕ) (h) : rd commL ![k, 0, 0] S1x128x1024.size h (fCL I c) = loRows I (dn c k) := funext fun x => stk_rect (n := 4) (fun j => loRows I (dn c j)) k h x
theorem rd_sdR (k : ℕ) (h) : rd sdR ![k, 0, 0] S1x128x1024.size h (fSdR I c) = slot (sumR I c (k + 1)) := funext fun x => stk_rect (n := 2) (fun j => slot (sumR I c (j + 1))) k h x
theorem rd_sdL (k : ℕ) (h) : rd sdL ![k, 0, 0] S1x128x1024.size h (fSdL I c) = slot (sumL I c (k + 1)) := funext fun x => stk_rect (n := 2) (fun j => slot (sumL I c (j + 1))) k h x
theorem rd_rvR (k : ℕ) (h) : rd rvR ![k, 0, 0] S1x128x1024.size h (fRvR I c) = slot (sumR I (prv c) k) := funext fun x => stk_rect (n := 3) (fun j => slot (sumR I (prv c) j)) k h x
theorem rd_rvL (k : ℕ) (h) : rd rvL ![k, 0, 0] S1x128x1024.size h (fRvL I c) = slot (sumL I (nxt c) k) := funext fun x => stk_rect (n := 3) (fun j => slot (sumL I (nxt c) j)) k h x

theorem rd_part (j : ℕ) (h) : rd mPart ![j, 0, 0] S1x256x1024.size h (fP I c) = pt I c j := by
  funext x
  have h0 : (x 0).val = 0 := Nat.lt_one_iff.mp (x 0).isLt
  show pt I c (j + 1 * (x 0).val) _ = _
  rw [h0, Nat.mul_zero, Nat.add_zero]
  refine congrArg (pt I c j) (funext fun a => Fin.ext ?_)
  fin_cases a
  · exact h0.symm
  · show 0 + 1 * (x 1).val = (x 1).val; omega
  · show 0 + 1 * (x 2).val = (x 2).val; omega

theorem qbOf_posOf {b : ℕ} (hb : b < 16) : qbOf (posOf b) = b := by revert b; decide

theorem rd_q {off : Fin 2 → ℕ} {b : ℕ} (hb : b < 16) (ho : off = ![64 * posOf b, 0]) (h) :
    rd mQ off S64x1024.size h (fQ I c) = qBlk I c b := by
  subst ho
  funext x
  have hx : (x 0).val < 64 := (x 0).isLt
  show qBlk I c (qbOf ((64 * posOf b + 1 * (x 0).val) / 64)) _ = _
  rw [show (64 * posOf b + 1 * (x 0).val) / 64 = posOf b by omega, qbOf_posOf hb]
  refine congrArg (qBlk I c b) (funext fun a => Fin.ext ?_)
  fin_cases a
  · show (64 * posOf b + 1 * (x 0).val) % 64 = (x 0).val; omega
  · show 0 + 1 * (x 1).val = (x 1).val; omega

theorem rd_ctx {off : Fin 2 → ℕ} {b : ℕ} (ho : off = ![64 * b, 128 * t.val]) (h) :
    rd mCtx off S64x128.size h (fC I c) = cBlk I c t b := by
  subst ho
  funext x
  have hx : (x 0).val < 64 := (x 0).isLt
  have hy : (x 1).val < 128 := (x 1).isLt
  have ht : t.val < 8 := t.isLt
  show cBlk I c (headOf ((128 * t.val + 1 * (x 1).val) / 128)) ((64 * b + 1 * (x 0).val) / 64) _ = _
  rw [show (64 * b + 1 * (x 0).val) / 64 = b by omega,
    show headOf ((128 * t.val + 1 * (x 1).val) / 128) = t from Fin.ext (by show (128 * t.val + 1 * (x 1).val) / 128 % 8 = t.val; omega)]
  refine congrArg (cBlk I c t b) (funext fun a => Fin.ext ?_)
  fin_cases a
  · show (64 * b + 1 * (x 0).val) % 64 = (x 0).val; omega
  · show (128 * t.val + 1 * (x 1).val) % 128 = (x 1).val; omega

theorem rd_out_top (h) : rd sOut ![0, 0, 0] S1x128x1024.size h (fO I c)
    = last (slot (sumR I (prv c) 2)) (rd mPart ![3, 0, 0] S1x128x1024.size inb_S4x256x1024_S1x128x1024_3_0_0 (fP I c)) := by
  funext x
  have h0 : (x 0).val = 0 := Nat.lt_one_iff.mp (x 0).isLt
  have hx : (x 1).val < 128 := (x 1).isLt
  have hc : 0 + 1 * (x 1).val < 128 := by omega
  refine (dif_pos hc).trans (congrArg (last _ _) (funext fun a => Fin.ext ?_))
  fin_cases a
  · exact h0.symm
  · show 0 + 1 * (x 1).val = (x 1).val; omega
  · show 0 + 1 * (x 2).val = (x 2).val; omega

theorem rd_out_bot (h) : rd sOut ![0, 128, 0] S1x128x1024.size h (fO I c)
    = last (slot (sumL I (nxt c) 2)) (rd mPart ![3, 128, 0] S1x128x1024.size inb_S4x256x1024_S1x128x1024_3_128_0 (fP I c)) := by
  funext x
  have h0 : (x 0).val = 0 := Nat.lt_one_iff.mp (x 0).isLt
  have hc : ¬ 128 + 1 * (x 1).val < 128 := by omega
  refine (dif_neg hc).trans (congrArg (last _ _) (funext fun a => Fin.ext ?_))
  fin_cases a
  · exact h0.symm
  · show 128 + 1 * (x 1).val - 128 = (x 1).val; omega
  · show 0 + 1 * (x 2).val = (x 2).val; omega

end Cert.KernelIdeal.Body
-- ==== Proof.Ring.lean ====
module

public import proofs.«01_k».proof.Proof.Contents

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The four lanes

Lane 0 gathers upwards, lane 1 gathers downwards, lane 2 sums upwards and lane 3 sums downwards; each makes three hops.
-/

theorem slot_inb {n k : ℕ} (h : k < n) : ∀ a, (![k, 0, 0] : Fin 3 → ℕ) a + S1x128x1024.size a ≤ (CS n).size a := by
  intro a
  fin_cases a
  · show k + 1 ≤ n; omega
  · exact le_of_eq (Nat.zero_add _)
  · exact le_of_eq (Nat.zero_add _)

theorem sem_inb (k : Fin 3) : ∀ a, (![k.val] : Fin 1 → ℕ) a + S1.size a ≤ S3.size a := by revert k; decide

set_option backward.proofsInPublic true in
abbrev srcM (l : Fin 4) (k : Fin 3) : Memref sig .tc .vmem S128x1024 .bf16 :=
  match l, k with
  | 0, k => slotV (n := 4) commR k.val (slot_inb (by omega))
  | 1, k => slotV (n := 4) commL k.val (slot_inb (by omega))
  | 2, 0 => stR
  | 2, ⟨j + 1, hj⟩ => slotV (n := 2) sdR j (slot_inb (by omega))
  | 3, 0 => stL
  | 3, ⟨j + 1, hj⟩ => slotV (n := 2) sdL j (slot_inb (by omega))

set_option backward.proofsInPublic true in
abbrev dstM (l : Fin 4) (k : Fin 3) : Memref sig .tc .vmem S128x1024 .bf16 :=
  match l with
  | 0 => slotV (n := 4) commR (k.val + 1) (slot_inb (by omega))
  | 1 => slotV (n := 4) commL (k.val + 1) (slot_inb (by omega))
  | 2 => slotV (n := 3) rvR k.val (slot_inb (by omega))
  | 3 => slotV (n := 3) rvL k.val (slot_inb (by omega))

abbrev sS (l : Fin 4) (k : Fin 3) : DmaSem sig :=
  semC (match l with | 0 => cc0_scratch25 | 1 => cc0_scratch27 | 2 => cc0_scratch29 | 3 => cc0_scratch31) k.val (sem_inb k)
abbrev sR (l : Fin 4) (k : Fin 3) : DmaSem sig :=
  semC (match l with | 0 => cc0_scratch26 | 1 => cc0_scratch28 | 2 => cc0_scratch30 | 3 => cc0_scratch32) k.val (sem_inb k)

theorem sS_val : ∀ l k, (sS l k).val = 12 + 6 * l.val + k.val := by decide
theorem sR_val : ∀ l k, (sR l k).val = 15 + 6 * l.val + k.val := by decide

/-- The device a lane sends to, and the one it receives from. -/
def peer (l : Fin 4) (c : Dev nD) : Dev nD := match l with | 0 => nxt c | 1 => prv c | 2 => nxt c | 3 => prv c
def orig (l : Fin 4) (c : Dev nD) : Dev nD := match l with | 0 => prv c | 1 => nxt c | 2 => prv c | 3 => nxt c

theorem orig_peer (l : Fin 4) (c : Dev nD) : orig l (peer l c) = c := by revert l c; decide
theorem peer_orig (l : Fin 4) (c : Dev nD) : peer l (orig l c) = c := by revert l c; decide

/-- What a lane carries at each hop. -/
def val (I : In F) (l : Fin 4) (k : Fin 3) (c : Dev nD) : Vec F S128x1024 .bf16 :=
  match l with
  | 0 => bare (upRows I (up c k.val))
  | 1 => bare (loRows I (dn c k.val))
  | 2 => sumR I c k.val
  | 3 => sumL I c k.val

/-- The share of the source that a transfer holds: the gathering goes on reading what it sends. -/
def shr (l : Fin 4) : PosShare TreeShare := if l.val < 2 then (fullShare : PosShare TreeShare).right else fullShare

/-! ## Cells -/

abbrev barS : Sem sig := (SemArray.scalar (sig.barrier 0 rfl) : Sems sig S_).sem
abbrev barCell (c : Dev nD) : GSem nD τ sig := ((c : Thread nD τ), .reg barS)
abbrev sendCell (l : Fin 4) (k : Fin 3) (c : Dev nD) : GSem nD τ sig := ((c : Thread nD τ), .dma (sS l k))
abbrev recvCell (l : Fin 4) (k : Fin 3) (c : Dev nD) : GSem nD τ sig := ((c : Thread nD τ), .dma (sR l k))

abbrev NN : ℕ := (slotV (n := 4) commR 0 (slot_inb (by decide))).view.dmaCredit
theorem NN_pos : 0 < NN := View.dmaCredit_pos _ (by decide)

theorem credit_src (l : Fin 4) (k : Fin 3) : (srcM l k).view.dmaCredit = NN := by
  fin_cases l <;> fin_cases k <;> rfl
theorem credit_dst (l : Fin 4) (k : Fin 3) : (dstM l k).view.dmaCredit = NN := by
  fin_cases l <;> fin_cases k <;> rfl

/-- A landing buffer, whatever it holds. -/
def room (l : Fin 4) (k : Fin 3) (c : Dev nD) : sProp 𝕄 :=
  iprop(∃ f : Buf (Elt F) ((dstM l k).view.loc (c : Thread nD τ)), (dstM l k).view.loc (c : Thread nD τ) ↦[(dstM l k).view.set]{fullShare} f)
def rooms (l : Fin 4) (c : Dev nD) : sProp 𝕄 := iprop(room l 0 c ∗ room l 1 c ∗ room l 2 c)

instance room_storable (l k c) : BI.Storable (upEmb : UEmb _ 𝕄) (room (F := F) l k c) := by unfold room; infer_instance
instance rooms_storable (l c) : BI.Storable (upEmb : UEmb _ 𝕄) (rooms (F := F) l c) := by unfold rooms; infer_instance

/-- A neighbour's entry signal hands over its landing buffers of the lanes that come to it from here. -/
def barPay (c : Dev nD) (d : Bool) : sProp 𝕄 :=
  if d then iprop(rooms 0 (nxt c) ∗ rooms 2 (nxt c)) else iprop(rooms 1 (prv c) ∗ rooms 3 (prv c))

variable (I : In F)

def sendPay (l : Fin 4) (k : Fin 3) (c : Dev nD) : sProp 𝕄 := owns (c : Thread nD τ) (srcM l k) (shr l) (val I l k c)
def recvPay (l : Fin 4) (k : Fin 3) (c : Dev nD) : sProp 𝕄 := owns (c : Thread nD τ) (dstM l k) fullShare (val I l k (orig l c))

/-- The lane and the hop of a ring semaphore. -/
def laneOf (n : ℕ) : Fin 4 := ⟨(n - 12) / 6 % 4, Nat.mod_lt _ (by decide)⟩
def hopOf (n : ℕ) : Fin 3 := ⟨n % 3, Nat.mod_lt _ (by decide)⟩

def dmaPay (n : ℕ) (c : Dev nD) : sProp 𝕄 :=
  if (n - 12) % 6 < 3 then sendPay I (laneOf n) (hopOf n) c else recvPay I (laneOf n) (hopOf n) c

instance barPay_storable (c d) : BI.Storable (upEmb : UEmb _ 𝕄) (barPay (F := F) c d) := by
  unfold barPay; split <;> infer_instance
instance dmaPay_storable (n c) : BI.Storable (upEmb : UEmb _ 𝕄) (dmaPay I n c) := by
  unfold dmaPay sendPay recvPay; split <;> infer_instance

def payOf (sm : SemLoc sig) (c : Dev nD) (d : Bool) : sProp 𝕄 :=
  match sm with
  | .reg _ => barPay c d
  | .dma q => dmaPay I q.val c

instance payOf_storable (sm c d) : BI.Storable (upEmb : UEmb _ 𝕄) (payOf I sm c d) := by
  unfold payOf; split <;> infer_instance

def dutiesOf (sm : SemLoc sig) : Finset Bool :=
  match sm with
  | .reg s => if s = barS then Finset.univ else ∅
  | .dma q => if 12 ≤ q.val then {false} else ∅

def amountOf (sm : SemLoc sig) : ℕ := match sm with | .reg _ => 1 | .dma _ => NN

/-- One round: an entry cell is paid by both neighbours, a transfer's cell once. -/
def ringRd : Rounds.Schedule (GSem nD τ sig) Bool 𝕄 where
  duties g r := if r = 0 ∧ g.1.2 = .tc then dutiesOf g.2 else ∅
  unitless _ := False
  amount g _ _ := amountOf g.2
  payload g _ d := payOf I g.2 g.1.1 d
  amount_pos g _ _ _ := by
    unfold amountOf
    split
    · exact Nat.one_pos
    · exact NN_pos

instance ringRd_payload_storable (g : GSem nD τ sig) (r : ℕ) (d : Bool) :
    BI.Storable (upEmb : UEmb _ 𝕄) ((ringRd I).payload g r d) := payOf_storable ..

section Sched
variable (l : Fin 4) (k : Fin 3) (c : Dev nD)

theorem duties_bar : (ringRd I).duties (barCell c) 0 = Finset.univ := by
  dsimp only [ringRd]; rw [if_pos ⟨rfl, rfl⟩]; unfold dutiesOf; exact if_pos rfl
theorem duties_send : (ringRd I).duties (sendCell l k c) 0 = {false} := by
  dsimp only [ringRd]; rw [if_pos ⟨rfl, rfl⟩]; exact if_pos (by rw [sS_val]; omega)
theorem duties_recv : (ringRd I).duties (recvCell l k c) 0 = {false} := by
  dsimp only [ringRd]; rw [if_pos ⟨rfl, rfl⟩]; exact if_pos (by rw [sR_val]; omega)
theorem duties_later (g : GSem nD τ sig) : ∀ r, 1 ≤ r → (ringRd I).duties g r = ∅ := fun r hr => if_neg fun h => by omega

theorem expect_bar : (ringRd I).expect (barCell c) 0 = 2 := by
  unfold Schedule.expect Schedule.amountOf
  rw [duties_bar]; rfl
theorem expect_send : (ringRd I).expect (sendCell l k c) 0 = NN := by
  unfold Schedule.expect Schedule.amountOf
  rw [duties_send, Finset.sum_singleton]; rfl
theorem expect_recv : (ringRd I).expect (recvCell l k c) 0 = NN := by
  unfold Schedule.expect Schedule.amountOf
  rw [duties_recv, Finset.sum_singleton]; rfl

theorem lane_S : laneOf (sS l k).val = l := by revert l k; decide
theorem lane_R : laneOf (sR l k).val = l := by revert l k; decide
theorem hop_S : hopOf (sS l k).val = k := by revert l k; decide
theorem hop_R : hopOf (sR l k).val = k := by revert l k; decide

theorem payload_send (d : Bool) : (ringRd I).payload (sendCell l k c) 0 d = sendPay I l k c := by
  show dmaPay I (sS l k).val c = _
  unfold dmaPay
  rw [lane_S, hop_S, if_pos (by rw [sS_val]; omega)]
theorem payload_recv (d : Bool) : (ringRd I).payload (recvCell l k c) 0 d = recvPay I l k c := by
  show dmaPay I (sR l k).val c = _
  unfold dmaPay
  rw [lane_R, hop_R, if_neg (by rw [sR_val]; omega)]

theorem payload_bar_true : (ringRd I).payload (barCell (prv c)) 0 true = iprop(rooms 0 c ∗ rooms 2 c) := by
  show iprop(rooms 0 (nxt (prv c)) ∗ rooms 2 (nxt (prv c))) = _
  rw [nxt_prv]
theorem payload_bar_false : (ringRd I).payload (barCell (nxt c)) 0 false = iprop(rooms 1 c ∗ rooms 3 c) := by
  show iprop(rooms 1 (prv (nxt c)) ∗ rooms 3 (prv (nxt c))) = _
  rw [prv_nxt]

theorem rest_bar : bigSep ((ringRd I).duties (barCell c) 0 \ ∅) (fun d => (ringRd I).payload (barCell c) 0 d)
    = iprop((rooms 0 (nxt c) ∗ rooms 2 (nxt c)) ∗ (rooms 1 (prv c) ∗ rooms 3 (prv c))) := by
  rw [Finset.sdiff_empty, duties_bar, bigSep_univ_eq_bigSepL [true, false] (by decide) (by decide), bigSepL_cons_cons, bigSepL_singleton]
  rfl
theorem rest_send : bigSep ((ringRd I).duties (sendCell l k c) 0 \ ∅) (fun d => (ringRd I).payload (sendCell l k c) 0 d) = sendPay I l k c := by
  rw [Finset.sdiff_empty, duties_send, bigSep_singleton, payload_send]
theorem rest_recv : bigSep ((ringRd I).duties (recvCell l k c) 0 \ ∅) (fun d => (ringRd I).payload (recvCell l k c) 0 d) = recvPay I l k c := by
  rw [Finset.sdiff_empty, duties_recv, bigSep_singleton, payload_recv]

end Sched

/-! ## What a device owes -/

/-- The lane and the hop of the `m`-th transfer. -/
def mLane (m : ℕ) : Fin 4 := ⟨(2 * (m / 6) + m % 2) % 4, Nat.mod_lt _ (by decide)⟩
def mHop (m : ℕ) : Fin 3 := ⟨m % 6 / 2 % 3, Nat.mod_lt _ (by decide)⟩

/-- The debts, last first: the twelve transfers, then the two entry signals. -/
def debtCell (c : Dev nD) (j : ℕ) : GSem nD τ sig :=
  if j < 12 then recvCell (mLane (11 - j)) (mHop (11 - j)) (peer (mLane (11 - j)) c)
  else if j = 12 then barCell (nxt c) else barCell (prv c)

def owe (c : Dev nD) : ℕ → CellTallies nD τ sig Unit
  | 0 => 0
  | n + 1 => owe c n + tallyAt (debtCell c n) () (if n < 12 then NN else 1)

theorem owe_send (c : Dev nD) (l : Fin 4) (k : Fin 3) (n : ℕ) (hn : n < 12) (hl : mLane (11 - n) = l) (hk : mHop (11 - n) = k) :
    owe c (n + 1) = owe c n + tallyAt (recvCell l k (peer l c)) () NN := by
  subst hl; subst hk
  unfold owe debtCell
  rw [if_pos hn, if_pos hn]
  cases n <;> rfl

def L (g : GSem nD τ sig) : Finset Unit := if g.1.2 = .tc then {()} else ∅
def lvS (sm : SemLoc sig) : ℕ :=
  match sm with
  | .reg _ => 1
  | .dma q => if 12 ≤ q.val ∧ 3 ≤ (q.val - 12) % 6 then 2 + 3 * ((q.val - 12) / 12) + q.val % 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {n : ℕ} {g : GSem nD τ sig} {u : Unit} (h : 0 < owe c n g u) : ∃ j < n, g = debtCell c j := by
  induction n with
  | zero => exact absurd h (Nat.lt_irrefl 0)
  | succ n ih =>
    unfold owe at h
    rw [Pi.add_apply, Finsupp.add_apply, tallyAt_apply] at h
    by_cases hg : g = debtCell c n
    · exact ⟨n, Nat.lt_succ_self n, hg⟩
    · rw [if_neg (fun h' => hg h'.1), Nat.add_zero] at h
      obtain ⟨j, hj, he⟩ := ih h
      exact ⟨j, Nat.lt_succ_of_lt hj, he⟩

def dlv (j : ℕ) : ℕ := if j < 12 then 2 + (11 - j) / 2 else 1

theorem lvS_sR : ∀ l k, lvS (.dma (sR l k)) = 2 + 3 * (l.val / 2) + k.val := by decide
theorem lvS_sS : ∀ l k, lvS (.dma (sS l k)) = 0 := by decide

theorem lv_debt (c : Dev nD) (j : ℕ) : lv (debtCell c j) () = dlv j := by
  unfold debtCell dlv lv
  split
  · show lvS (.dma (sR _ _)) = _
    rw [lvS_sR]
    unfold mLane mHop
    show 2 + 3 * ((2 * ((11 - j) / 6) + (11 - j) % 2) % 4 / 2) + (11 - j) % 6 / 2 % 3 = _
    omega
  · split <;> rfl

theorem debt_tc (c : Dev nD) (j : ℕ) : (debtCell c j).1.2 = .tc := by
  unfold debtCell
  split
  · rfl
  · split <;> rfl

/-- A device may wait on a cell below all that it still owes. -/
theorem mayWait_owe (c : Dev nD) (sm : SemLoc sig) (n : ℕ) (h : ∀ j < n, lvS sm < dlv j) :
    (levAts L lv : sProp 𝕄) ⊢ MayWait (c : Thread nD τ) sm () (owe c n) :=
  MayOwe.of_cut (L := L) (lev := lv) (lvS sm) (fun p hp => by rw [Finset.mem_singleton.mp hp, L_tc]; exact Finset.mem_singleton_self _)
    (fun g u hg => by
      obtain ⟨j, hj, rfl⟩ := owe_pos hg
      unfold L; rw [if_pos (debt_tc c j)]; exact Finset.mem_singleton_self _)
    (fun p hp => by rw [Finset.mem_singleton.mp hp]; exact le_rfl)
    (fun g u hg => by
      obtain ⟨j, hj, rfl⟩ := owe_pos hg
      rw [lv_debt]; exact h j hj)

/-! ## The records of the cells -/

set_option backward.proofsInPublic true in
def csem (i : Fin 25) : SemLoc sig := if h : i.val = 0 then .reg barS else .dma ⟨11 + i.val, by have := i.isLt; show _ < 36; omega⟩
abbrev kcell (ck : Dev nD × Fin 25) : GSem nD τ sig := ((ck.1 : Thread nD τ), csem ck.2)

set_option backward.proofsInPublic true in
def ixS (l : Fin 4) (k : Fin 3) : Fin 25 := ⟨1 + 6 * l.val + k.val, by omega⟩
set_option backward.proofsInPublic true in
def ixR (l : Fin 4) (k : Fin 3) : Fin 25 := ⟨4 + 6 * l.val + k.val, by omega⟩

theorem csem_S (l : Fin 4) (k : Fin 3) : csem (ixS l k) = .dma (sS l k) := by revert l k; decide
theorem csem_R (l : Fin 4) (k : Fin 3) : csem (ixR l k) = .dma (sR l k) := by revert l k; decide

variable (K : Dev nD × Fin 25 → ℕ)

def records : sProp 𝕄 :=
  bigSep Finset.univ fun ck : Dev nD × Fin 25 => iprop(cellInv ER (ringRd I) (K ck) (kcell ck) ∗ reached ER (kcell ck) 0)

instance records_persistent : BI.Persistent (records I K) := by unfold records; infer_instance

theorem rec_at (ck : Dev nD × Fin 25) :
    records I K ⊢ iprop(cellInv ER (ringRd I) (K ck) (kcell ck) ∗ reached ER (kcell ck) 0) := by
  unfold records
  exact bigSep_elim (Finset.mem_univ ck)

theorem rec_bar (c : Dev nD) : records I K ⊢ iprop(cellInv ER (ringRd I) (K (c, 0)) (barCell c) ∗ reached ER (barCell c) 0) := rec_at I K (c, 0)
theorem rec_send (l : Fin 4) (k : Fin 3) (c : Dev nD) :
    records I K ⊢ iprop(cellInv ER (ringRd I) (K (c, ixS l k)) (sendCell l k c) ∗ reached ER (sendCell l k c) 0) := by
  have h := rec_at I K (c, ixS l k)
  unfold kcell at h
  rw [csem_S] at h
  exact h
theorem rec_recv (l : Fin 4) (k : Fin 3) (c : Dev nD) :
    records I K ⊢ iprop(cellInv ER (ringRd I) (K (c, ixR l k)) (recvCell l k c) ∗ reached ER (recvCell l k c) 0) := by
  have h := rec_at I K (c, ixR l k)
  unfold kcell at h
  rw [csem_R] at h
  exact h

/-! ## Transfers -/

/-- What a device needs for a hop of a lane, and what it holds while the transfers are in flight. -/
def ready (l : Fin 4) (k : Fin 3) (c : Dev nD) : sProp 𝕄 :=
  iprop(atPos ER (sendCell l k c) 0 ∅ 0 ∗ atPos ER (recvCell l k c) 0 ∅ 0 ∗ dutyTok ER (sendCell l k c) 0 false
    ∗ dutyTok ER (recvCell l k (peer l c)) 0 false ∗ cred (tallyAt (recvCell l k c) () NN))
def flying (l : Fin 4) (k : Fin 3) (c : Dev nD) : sProp 𝕄 :=
  iprop(atPos ER (sendCell l k c) 0 ∅ 0 ∗ atPos ER (recvCell l k c) 0 ∅ 0 ∗ cred (tallyAt (sendCell l k c) () NN)
    ∗ cred (tallyAt (recvCell l k c) () NN))
/-- The semaphores of a hop, done with. -/
def spent (l : Fin 4) (k : Fin 3) (c : Dev nD) : sProp 𝕄 := iprop(semVal (sendCell l k c) 0 ∗ semVal (recvCell l k c) 0)

def Ow (c : Dev nD) (n : ℕ) : sProp 𝕄 := iprop(∃ W : Waits sig Unit, owes (c : Thread nD τ) (owe c n) W)

theorem owns_at {s : Shape} {e : EltTy} (m : Memref sig .tc .vmem s e) (c : Dev nD) (q : PosShare TreeShare)
    (g : Buf (Elt F) (m.view.loc (c : Thread nD τ))) {X : Vec F s e} (h : m.view.read (Elt F) g = X) :
    (owns (Ix := Unit) (Name := ℕ) (U := UU) (Lvl := ℕ) (c : Thread nD τ) m q X : sProp 𝕄) ⊣⊢ (m.view.loc (c : Thread nD τ) ↦[m.view.set]{q} g) := by
  subst h
  unfold owns
  constructor
  · iintro ⟨%f, %hf, H⟩
    have he : (m.view.loc (c : Thread nD τ) ↦[m.view.set]{q} f : sProp 𝕄) = (m.view.loc (c : Thread nD τ) ↦[m.view.set]{q} g) :=
      pointsTo_congr fun i hi => by
        obtain ⟨x, -, rfl⟩ := Finset.mem_map.mp hi
        have := congrFun hf x
        rw [View.read_apply, View.read_apply] at this
        exact (cast_inj _).mp this
    iapply (Entails.of_eq he)
    iexact H
  · iintro H
    iexists g
    isplitr; · ipureintro; rfl
    iexact H

section Moves
variable (c : Dev nD)

theorem wp_send_lane {α : Type} {Q : α → sProp 𝕄} (l : Fin 4) (k : Fin 3) (j : ℕ) (hj : j < 12) (hl : mLane (11 - j) = l) (hh : mHop (11 - j) = k)
    {n : Dev nD} (hn : n = peer l c) {hs : (srcM l k).view.WordExact} {hd : (dstM l k).view.WordExact} {kk : PUnit → P F α} :
    iprop(records I K ∗ sendPay I l k c ∗ room l k (peer l c) ∗ Ow c (j + 1) ∗ ready l k c)
      ⊢ iprop((iprop(flying l k c ∗ Ow c j) -∗ runs c (kk ⟨⟩) Q) -∗ runs c (send n (srcM l k) (dstM l k) (sS l k) (sR l k) hs hd >>= kk) Q) := by
  subst hn
  unfold sendPay room Ow ready flying
  rw [owns]
  iintro ⟨#HR, ⟨%fs, %hfs, Hs⟩, ⟨%fd, Hd⟩, ⟨%W, HO⟩, HaS, HaR, HtS, HtR, HcR⟩ Hk
  ihave ⟨HIs, Hrs⟩ := (rec_send I K l k c) $$ HR
  ihave ⟨HIr, Hrr⟩ := (rec_recv I K l k (peer l c)) $$ HR
  iapply (Rounds.wp_send_pointsTo 𝒱₀ ER (ringRd I) (c : Thread nD τ) none (c' := (peer l c : Thread nD τ)) (κ₁ := K (c, ixS l k)) (κ₂ := K (peer l c, ixR l k))
    (r₁ := 0) (r₂ := 0) (d₁ := false) (d₂ := false) (fd := fd) (fs := fs) (q := shr l) (src := srcM l k) (dst := dstM l k) (k := kk)
    (sS := .dma (sS l k)) (sem := .dma (sR l k))
    (by rw [duties_send]; exact Finset.mem_singleton_self _) (by rw [duties_recv]; exact Finset.mem_singleton_self _)
    () () NN (credit_dst l k) rfl rfl (owe c j) (owe_send c l k j hj hl hh) (W := W)
    (by rw [payload_send]; unfold sendPay; exact (owns_at (srcM l k) c (shr l) fs hfs).2)
    (by rw [payload_recv]; unfold recvPay; rw [orig_peer]
        exact (owns_at (dstM l k) (peer l c) fullShare _ ((View.read_write_univ ..).trans hfs)).2)) $$ [HIs HIr Hs Hd HO HtS Hrs HtR Hrr]
  · isplitl [HIs]; · iexact HIs
    isplitl [HIr]; · iexact HIr
    isplitl [Hs]; · iexact Hs
    isplitl [Hd]; · iexact Hd
    isplitl [HO]; · iexact HO
    isplitl [HtS]; · iexact HtS
    isplitl [Hrs]; · iexact Hrs
    isplitl [HtR]; · iexact HtR
    iexact Hrr
  iintro ⟨HcS, HO⟩
  iapply Hk
  isplitr [HO]
  · isplitl [HaS]; · iexact HaS
    isplitl [HaR]; · iexact HaR
    isplitl [HcS]; · iexact HcS
    iexact HcR
  iexists W; iexact HO

/-- Both waits of a hop: the source comes back and what the neighbour sent has come. -/
theorem wp_landed {α : Type} {Q : α → sProp 𝕄} (l : Fin 4) (k : Fin 3) (j : ℕ) (hj : ∀ i < j, 2 + 3 * (l.val / 2) + k.val < dlv i)
    {a b a' b' : Memref sig .tc .vmem S128x1024 .bf16} {h1 : a.view.WordExact} {h2 : b.view.WordExact} {h3 : a'.view.WordExact} {h4 : b'.view.WordExact}
    (hb : b.view.dmaCredit = NN) (hb' : b'.view.dmaCredit = NN) {kk : PUnit → P F α} :
    iprop(records I K ∗ levAts L lv ∗ Ow c j ∗ flying l k c)
      ⊢ iprop((iprop(sendPay I l k c ∗ recvPay I l k c ∗ spent l k c ∗ Ow c j) -∗ runs c (kk ⟨⟩) Q)
        -∗ runs c (arrive (sS l k) a b h1 h2 >>= fun _ => arrive (sR l k) a' b' h3 h4 >>= kk) Q) := by
  unfold Ow flying spent
  iintro ⟨#HR, #Hlev, ⟨%W, HO⟩, HaS, HaR, HcS, HcR⟩ Hk
  ihave ⟨#HIs, -⟩ := (rec_send I K l k c) $$ HR
  ihave ⟨#HIr, -⟩ := (rec_recv I K l k c) $$ HR
  iapply (Rounds.wp_wait_rest_token 𝒱₀ ER (ringRd I) (c : Thread nD τ) none (κ := K (c, ixS l k))
      (wpE_waitDma2_eq 𝒱₀ (c : Thread nD τ) none Set.univ (sem := sS l k) (src := a) (dst := b) (hsrc := h1) (hdst := h2)) (Set.mem_univ _) () (O := owe c j) (W := W) (R := 0) (m := 0) (T := ∅)
      (k := fun _ => arrive (sR l k) a' b' h3 h4 >>= kk)
      (by rw [Nat.zero_add, expect_send])) $$ [HcS HO HaS]
  · isplitr; · iexact HIs
    isplitl [HcS]; · iexact HcS
    isplitl [HO]; · iexact HO
    isplitr
    · iapply (mayWait_owe c (.dma (sS l k)) j (fun i hi => by rw [lvS_sS]; exact Nat.lt_of_le_of_lt (Nat.zero_le _) (hj i hi))); iexact Hlev
    iexact HaS
  iintro ⟨HO, HaS, -, Hpay⟩
  ihave Hs := (Entails.of_eq (rest_send I l k c)) $$ Hpay
  iapply (Rounds.wp_wait_rest_token 𝒱₀ ER (ringRd I) (c : Thread nD τ) none (κ := K (c, ixR l k))
      (wpE_waitDma2_eq 𝒱₀ (c : Thread nD τ) none Set.univ (sem := sR l k) (src := a') (dst := b') (hsrc := h3) (hdst := h4)) (Set.mem_univ _) () (O := owe c j)
      (W := insert (SemLoc.dma (sS l k), ()) W) (R := 0) (m := 0) (T := ∅) (k := kk)
      (by rw [Nat.zero_add, expect_recv])) $$ [HcR HO HaR]
  · isplitr; · iexact HIr
    isplitl [HcR]; · iexact HcR
    isplitl [HO]; · iexact HO
    isplitr
    · iapply (mayWait_owe c (.dma (sR l k)) j (fun i hi => by rw [lvS_sR]; exact hj i hi)); iexact Hlev
    iexact HaR
  iintro ⟨HO, HaR, -, Hpay⟩
  ihave Hr := (Entails.of_eq (rest_recv I l k c)) $$ Hpay
  imod (Rounds.cell_close ER (ringRd I) (Set.mem_univ (K (c, ixS l k))) (fun h => h) (R := 0 + 1) (duties_later I (sendCell l k c))) $$ [HaS] with HzS
  · isplitr; · iexact HIs
    iexact HaS
  imod (Rounds.cell_close ER (ringRd I) (Set.mem_univ (K (c, ixR l k))) (fun h => h) (R := 0 + 1) (duties_later I (recvCell l k c))) $$ [HaR] with HzR
  · isplitr; · iexact HIr
    iexact HaR
  iapply Hk
  isplitl [Hs]; · iexact Hs
  isplitl [Hr]; · iexact Hr
  isplitl [HzS HzR]
  · isplitl [HzS] <;> iassumption
  iexists _; iexact HO

/-! ## Entering -/

/-- What a device needs to enter. -/
def knock : sProp 𝕄 :=
  iprop(atPos ER (barCell c) 0 ∅ 0 ∗ dutyTok ER (barCell (prv c)) 0 true ∗ dutyTok ER (barCell (nxt c)) 0 false ∗ cred (tallyAt (barCell c) () 2))

theorem wp_enter {α : Type} {Q : α → sProp 𝕄} {kk : PUnit → P F α} :
    iprop(records I K ∗ levAts L lv ∗ Ow c 14 ∗ knock c ∗ rooms 0 c ∗ rooms 1 c ∗ rooms 2 c ∗ rooms 3 c)
      ⊢ iprop((iprop(rooms 0 (nxt c) ∗ rooms 1 (prv c) ∗ rooms 2 (nxt c) ∗ rooms 3 (prv c) ∗ semVal (barCell c) 0 ∗ Ow c 12) -∗ runs c (kk ⟨⟩) Q)
        -∗ runs c (enter c >>= kk) Q) := by
  have e1 : (⟨k0_dev1 c, k0_dev1_lt c⟩ : Dev nD) = prv c := Fin.ext (k0_dev1_eq c)
  have e2 : (⟨k0_dev2 c, k0_dev2_lt c⟩ : Dev nD) = nxt c := Fin.ext (k0_dev2_eq c)
  unfold enter
  rw [e1, e2]
  simp only [semSignalWord, semWaitWord]
  unfold Ow knock
  iintro ⟨#HR, #Hlev, ⟨%W, HO⟩, ⟨HaB, HtP, HtN, HcB⟩, H0, H1, H2, H3⟩ Hk
  ihave ⟨#HIP, #HrP⟩ := (rec_bar I K (prv c)) $$ HR
  ihave ⟨#HIN, #HrN⟩ := (rec_bar I K (nxt c)) $$ HR
  ihave ⟨#HI, -⟩ := (rec_bar I K c) $$ HR
  iapply (Rounds.wp_signal 𝒱₀ ER (ringRd I) (c : Thread nD τ) none (dst := (prv c : Thread nD τ)) (κ := K (prv c, 0))
      (d := true) (by rw [duties_bar]; exact Finset.mem_univ _) (show 1 = _ by decide) () (owe c 13) rfl) $$ [HO HtP H0 H2]
  · isplitr; · iexact HIP
    isplitl [HO]; · iexact HO
    isplitl [HtP]; · iexact HtP
    isplitl [H0 H2]
    · rw [payload_bar_true]
      isplitl [H0] <;> iassumption
    iexact HrP
  iintro HO
  iapply (Rounds.wp_signal 𝒱₀ ER (ringRd I) (c : Thread nD τ) none (dst := (nxt c : Thread nD τ)) (κ := K (nxt c, 0))
      (d := false) (by rw [duties_bar]; exact Finset.mem_univ _) (show 1 = _ by decide) () (owe c 12) rfl) $$ [HO HtN H1 H3]
  · isplitr; · iexact HIN
    isplitl [HO]; · iexact HO
    isplitl [HtN]; · iexact HtN
    isplitl [H1 H3]
    · rw [payload_bar_false]
      isplitl [H1] <;> iassumption
    iexact HrN
  iintro HO
  iapply (Rounds.wp_wait_rest_token 𝒱₀ ER (ringRd I) (c : Thread nD τ) none (κ := K (c, 0))
      (wpE_semWait_eq 𝒱₀ (c : Thread nD τ) none Set.univ) (Set.mem_univ _) () (O := owe c 12) (W := W) (R := 0) (m := 0) (T := ∅)
      (by rw [expect_bar]; decide)) $$ [HcB HO HaB]
  · isplitr; · iexact HI
    isplitl [HcB]; · iexact HcB
    isplitl [HO]; · iexact HO
    isplitr
    · iapply (mayWait_owe c (.reg barS) 12 (by decide)); iexact Hlev
    iexact HaB
  iintro ⟨HO, HaB, -, Hpay⟩
  ihave ⟨⟨H0, H2⟩, H1, H3⟩ := (Entails.of_eq (rest_bar I c)) $$ Hpay
  imod (Rounds.cell_close ER (ringRd I) (Set.mem_univ (K (c, 0))) (fun h => h) (R := 0 + 1) (duties_later I (barCell c))) $$ [HaB] with HzB
  · isplitr; · iexact HI
    iexact HaB
  iapply Hk
  isplitl [H0]; · iexact H0
  isplitl [H1]; · iexact H1
  isplitl [H2]; · iexact H2
  isplitl [H3]; · iexact H3
  isplitl [HzB]; · iexact HzB
  iexists _; iexact HO

end Moves

end Cert.KernelIdeal.Body
-- ==== Proof.Gather.lean ====
module

public import proofs.«01_k».proof.Proof.Ring

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Places of a buffer -/

theorem mem_whole (b : Ref sig .tc) (M : Finset b.ty.shape.Idx) (i : b.ty.shape.Idx) :
    i ∈ (Memref.whole b : Memref sig .tc _ _ _).view.setOn M ↔ i ∈ M := by
  constructor
  · intro h
    obtain ⟨x, hx, rfl⟩ := Finset.mem_map.mp h
    exact hx
  · intro h
    exact Finset.mem_map.mpr ⟨i, h, rfl⟩

/-- The places of a slot of a stack. -/
abbrev sl {n : ℕ} (m : Memref sig .tc .vmem (CS n) .bf16) (k : ℕ) (h : ∀ a, (![k, 0, 0] : Fin 3 → ℕ) a + S1x128x1024.size a ≤ (CS n).size a) :
    Finset m.view.ty.Idx := m.view.setOn (Rect.unit (s := CS n) ![k, 0, 0] S1x128x1024.size h).set

theorem slotV_set {n : ℕ} (m : Memref sig .tc .vmem (CS n) .bf16) (k : ℕ) (h) : (slotV m k h).view.set = sl m k h := by
  exact (View.set_reshape _ _).trans (View.set_slice m.view _)

abbrev pts (c : Dev nD) {s : Shape} {e : EltTy} (m : Memref sig .tc .vmem s e) (S : Finset (Idx (m.view.loc (c : Thread nD τ)))) (q : PosShare TreeShare)
    (g : Buf (Elt F) (m.view.loc (c : Thread nD τ))) : sProp 𝕄 := (m.view.loc (c : Thread nD τ) ↦[S]{q} g)

abbrev half1 : PosShare TreeShare := (fullShare : PosShare TreeShare).left
abbrev half2 : PosShare TreeShare := (fullShare : PosShare TreeShare).right

theorem halves {ℓ : Loc nD τ sig} (S : Finset (Idx ℓ)) (g : Buf (Elt F) ℓ) :
    (ℓ ↦[S]{fullShare} g : sProp 𝕄) ⊣⊢ iprop((ℓ ↦[S]{half1} g) ∗ (ℓ ↦[S]{half2} g)) := pointsTo_share (PosShare.mem_left_op_right fullShare)

theorem slot_owns {n : ℕ} (m : Memref sig .tc .vmem (CS n) .bf16) (k : ℕ) (h) (c : Dev nD) (q : PosShare TreeShare)
    (g : Buf (Elt F) (m.view.loc (c : Thread nD τ))) {X : Vec F S128x1024 .bf16} (hX : rd m ![k, 0, 0] S1x128x1024.size h g = slot X) :
    (owns (Ix := Unit) (Name := ℕ) (U := UU) (Lvl := ℕ) (c : Thread nD τ) (slotV m k h) q X : sProp 𝕄) ⊣⊢ pts c m (sl m k h) q g := by
  have hr : (slotV m k h).view.read (Elt F) g = X := by
    refine (Memref.read_squeeze_slice m _ _ squeezes_S1x128x1024_S128x1024 shapeCasts_S1x128x1024_S128x1024 g).trans ?_
    show bare (rd m ![k, 0, 0] S1x128x1024.size h g) = X
    rw [hX, bare_slot]
  have := owns_at (slotV m k h) c q g hr
  rw [slotV_set] at this
  exact this

variable (I : In F) (c : Dev nD)

theorem pay_send0 (k : Fin 3) : sendPay I 0 k c ⊣⊢ pts c commR (sl commR k.val (slot_inb (by omega))) half2 (fCR I c) :=
  slot_owns commR k.val _ c half2 (fCR I c) ((rd_commR I c k.val _).trans (slot_bare _).symm)
theorem pay_send1 (k : Fin 3) : sendPay I 1 k c ⊣⊢ pts c commL (sl commL k.val (slot_inb (by omega))) half2 (fCL I c) :=
  slot_owns commL k.val _ c half2 (fCL I c) ((rd_commL I c k.val _).trans (slot_bare _).symm)
theorem pay_recv0 (k : Fin 3) : recvPay I 0 k c ⊣⊢ pts c commR (sl commR (k.val + 1) (slot_inb (by omega))) fullShare (fCR I c) :=
  slot_owns commR (k.val + 1) _ c fullShare (fCR I c) ((rd_commR I c (k.val + 1) _).trans (slot_bare _).symm)
theorem pay_recv1 (k : Fin 3) : recvPay I 1 k c ⊣⊢ pts c commL (sl commL (k.val + 1) (slot_inb (by omega))) fullShare (fCL I c) :=
  slot_owns commL (k.val + 1) _ c fullShare (fCL I c) ((rd_commL I c (k.val + 1) _).trans (slot_bare _).symm)

/-! ## The stored queries -/

/-- The rows of the stored queries that are filled: the blocks at places `ps`. -/
def Dq (ps : List ℕ) (i : S1024x1024.Idx) : Prop := (i 0).val / 64 ∈ ps

theorem mem_q {off : Fin 2 → ℕ} {p : ℕ} (ho : off = ![64 * p, 0]) (h : ∀ a, off a + S64x1024.size a ≤ S1024x1024.size a) (i : S1024x1024.Idx)
    (hp : (i 0).val / 64 = p) : i ∈ mQ.view.setOn (Rect.unit (s := S1024x1024) off S64x1024.size h).set := by
  subst ho
  refine (mem_whole cc0_scratch2 _ i).mpr (Rect.mem_set_unit.mpr fun a => ?_)
  have h1 : (i 1).val < 1024 := (i 1).isLt
  fin_cases a
  · show 64 * p ≤ (i 0).val ∧ (i 0).val < 64 * p + 64; omega
  · show 0 ≤ (i 1).val ∧ (i 1).val < 0 + 1024; omega

theorem hz2 : (![0, 0] : Fin 2 → ℕ) = fun _ => 0 := by funext a; fin_cases a <;> rfl
theorem hz3 : (![0, 0, 0] : Fin 3 → ℕ) = fun _ => 0 := by funext a; fin_cases a <;> rfl

theorem read_wQ (g : Vec F S1024x1024 .bf16) : rd wQ ![0, 0] S1024x1024.size inb_S1024x1024_S1024x1024_0_0 g = g :=
  Memref.readAt_unit_zero (Elt F) cc0_scratch11 hz2 _ g

/-- The queries of a slot, stored. -/
theorem wp_storeQ {α : Type} {Q : α → sProp 𝕄} {m : Memref sig .tc .vmem S4x128x1024 .bf16} {k : ℕ} {h} {p p' : QDst} (ps : List ℕ) (b b' : ℕ)
    {g : Buf (Elt F) (m.view.loc (c : Thread nD τ))} {q : PosShare TreeShare} (hb : b < 16) (hb' : b' < 16)
    (ho : p.off = ![64 * posOf b, 0]) (ho' : p'.off = ![64 * posOf b', 0])
    (hv : qBlk I c b = qTop (rd m ![k, 0, 0] S1x128x1024.size h g) (fWq I c))
    (hv' : qBlk I c b' = qBot (rd m ![k, 0, 0] S1x128x1024.size h g) (fWq I c)) {kk : PUnit → P F α} :
    iprop(pts c m (sl (n := 4) m k h) q g ∗ pts c wQ Finset.univ fullShare (fWq I c) ∗ Tr c mQ Finset.univ (Dq ps) (fQ I c))
      ⊢ iprop((iprop(pts c m (sl (n := 4) m k h) q g ∗ pts c wQ Finset.univ fullShare (fWq I c)
            ∗ Tr c mQ Finset.univ (Dq (posOf b' :: posOf b :: ps)) (fQ I c)) -∗ runs c (kk ⟨⟩) Q)
        -∗ runs c (storeQ m k h p p' >>= kk) Q) := by
  unfold storeQ
  simp only [bind_assoc]
  iintro ⟨Hm, Hw, HQ⟩ Hk
  iapply (wp_loadR c subset_rfl) $$ Hm; iintro Hm
  iapply (wp_loadR c (Finset.subset_univ _)) $$ Hw; iintro Hw
  iapply (wp_putT c (m := mQ) (Dq (posOf b :: ps)) (Finset.subset_univ _) ?_ ?_) $$ HQ
  · exact (rd_q I c hb ho p.inb).trans (hv.trans (congrArg (qTop _) (read_wQ _).symm))
  · intro i hi hn
    rcases List.mem_cons.mp hi with he | he
    · exact absurd (mem_q ho p.inb i he) hn
    · exact he
  iintro HQ
  iapply (wp_putT c (m := mQ) (Dq (posOf b' :: posOf b :: ps)) (Finset.subset_univ _) ?_ ?_) $$ HQ
  · exact (rd_q I c hb' ho' p'.inb).trans (hv'.trans (congrArg (qBot _) (read_wQ _).symm))
  · intro i hi hn
    rcases List.mem_cons.mp hi with he | he
    · exact absurd (mem_q ho' p'.inb i he) hn
    · exact he
  iintro HQ
  iapply Hk
  isplitl [Hm]; · iexact Hm
  isplitl [Hw] <;> iassumption

theorem qBlk_0 (d : Dev nD) : qBlk I c (4 * d.val) = qTop (upRows I d) (fWq I c) := by
  have hd : d.val < 4 := d.isLt
  have h : devOf (4 * d.val) = d := Fin.ext (by show 4 * d.val / 4 % 4 = d.val; omega)
  unfold qBlk
  rw [show 4 * d.val % 4 = 0 by omega, h]
  rfl
theorem qBlk_1 (d : Dev nD) : qBlk I c (4 * d.val + 1) = qBot (upRows I d) (fWq I c) := by
  have hd : d.val < 4 := d.isLt
  have h : devOf (4 * d.val + 1) = d := Fin.ext (by show (4 * d.val + 1) / 4 % 4 = d.val; omega)
  unfold qBlk
  rw [show (4 * d.val + 1) % 4 = 1 by omega, h]
  rfl
theorem qBlk_2 (d : Dev nD) : qBlk I c (4 * d.val + 2) = qTop (loRows I d) (fWq I c) := by
  have hd : d.val < 4 := d.isLt
  have h : devOf (4 * d.val + 2) = d := Fin.ext (by show (4 * d.val + 2) / 4 % 4 = d.val; omega)
  unfold qBlk
  rw [show (4 * d.val + 2) % 4 = 2 by omega, h]
  rfl
theorem qBlk_3 (d : Dev nD) : qBlk I c (4 * d.val + 3) = qBot (loRows I d) (fWq I c) := by
  have hd : d.val < 4 := d.isLt
  have h : devOf (4 * d.val + 3) = d := Fin.ext (by show (4 * d.val + 3) / 4 % 4 = d.val; omega)
  unfold qBlk
  rw [show (4 * d.val + 3) % 4 = 3 by omega, h]
  rfl

theorem wp_storeR {α : Type} {Q : α → sProp 𝕄} (k : ℕ) (h) {p p' : QDst} (ps : List ℕ) {q : PosShare TreeShare}
    (ho : p.off = ![64 * posOf (4 * (up c k).val), 0]) (ho' : p'.off = ![64 * posOf (4 * (up c k).val + 1), 0]) {kk : PUnit → P F α} :
    iprop(pts c commR (sl commR k h) q (fCR I c) ∗ pts c wQ Finset.univ fullShare (fWq I c) ∗ Tr c mQ Finset.univ (Dq ps) (fQ I c))
      ⊢ iprop((iprop(pts c commR (sl commR k h) q (fCR I c) ∗ pts c wQ Finset.univ fullShare (fWq I c)
            ∗ Tr c mQ Finset.univ (Dq (posOf (4 * (up c k).val + 1) :: posOf (4 * (up c k).val) :: ps)) (fQ I c)) -∗ runs c (kk ⟨⟩) Q)
        -∗ runs c (storeQ commR k h p p' >>= kk) Q) :=
  wp_storeQ I c ps _ _ (by have := (up c k).isLt; change _ < 4 at this; omega) (by have := (up c k).isLt; change _ < 4 at this; omega) ho ho'
    ((qBlk_0 I c _).trans (congrArg (qTop · _) (rd_commR I c k h).symm)) ((qBlk_1 I c _).trans (congrArg (qBot · _) (rd_commR I c k h).symm))

theorem wp_storeL {α : Type} {Q : α → sProp 𝕄} (k : ℕ) (h) {p p' : QDst} (ps : List ℕ) {q : PosShare TreeShare}
    (ho : p.off = ![64 * posOf (4 * (dn c k).val + 2), 0]) (ho' : p'.off = ![64 * posOf (4 * (dn c k).val + 3), 0]) {kk : PUnit → P F α} :
    iprop(pts c commL (sl commL k h) q (fCL I c) ∗ pts c wQ Finset.univ fullShare (fWq I c) ∗ Tr c mQ Finset.univ (Dq ps) (fQ I c))
      ⊢ iprop((iprop(pts c commL (sl commL k h) q (fCL I c) ∗ pts c wQ Finset.univ fullShare (fWq I c)
            ∗ Tr c mQ Finset.univ (Dq (posOf (4 * (dn c k).val + 3) :: posOf (4 * (dn c k).val + 2) :: ps)) (fQ I c)) -∗ runs c (kk ⟨⟩) Q)
        -∗ runs c (storeQ commL k h p p' >>= kk) Q) :=
  wp_storeQ I c ps _ _ (by have := (dn c k).isLt; change _ < 4 at this; omega) (by have := (dn c k).isLt; change _ < 4 at this; omega) ho ho'
    ((qBlk_2 I c _).trans (congrArg (qTop · _) (rd_commL I c k h).symm)) ((qBlk_3 I c _).trans (congrArg (qBot · _) (rd_commL I c k h).symm))

/-! ## A hop of the gathering -/

/-- The places of the blocks of queries that a hop fills, before those already filled. -/
def filled (k : ℕ) (ps : List ℕ) : List ℕ :=
  posOf (4 * (dn c k).val + 3) :: posOf (4 * (dn c k).val + 2) :: posOf (4 * (up c k).val + 1) :: posOf (4 * (up c k).val) :: ps

theorem lane_even : ∀ k : Fin 3, mLane (11 - (11 - 2 * k.val)) = 0 ∧ mHop (11 - (11 - 2 * k.val)) = k := by decide
theorem lane_odd : ∀ k : Fin 3, mLane (11 - (10 - 2 * k.val)) = 1 ∧ mHop (11 - (10 - 2 * k.val)) = k := by decide

variable (K : Dev nD × Fin 25 → ℕ)

abbrev slotR (k : ℕ) (h : k < 4) : sProp 𝕄 := pts c commR (sl commR k (slot_inb h)) fullShare (fCR I c)
abbrev slotL (k : ℕ) (h : k < 4) : sProp 𝕄 := pts c commL (sl commL k (slot_inb h)) fullShare (fCL I c)

theorem wp_hop {α : Type} {Q : α → sProp 𝕄} (k : Fin 3) (j : ℕ) (hj : j = 10 - 2 * k.val) {n n' : Dev nD} (hn : n = nxt c) (hn' : n' = prv c) {p p' r r' : QDst} (ps : List ℕ)
    (h1 : p.off = ![64 * posOf (4 * (up c k.val).val), 0]) (h2 : p'.off = ![64 * posOf (4 * (up c k.val).val + 1), 0])
    (h3 : r.off = ![64 * posOf (4 * (dn c k.val).val + 2), 0]) (h4 : r'.off = ![64 * posOf (4 * (dn c k.val).val + 3), 0])
    {w0 w1 w2 w3 w4 w5 w6 w7 w8 w9 w10 w11 i0 i1} {kk : PUnit → P F α} :
    iprop(records I K ∗ levAts L lv ∗ Ow c (j + 1 + 1) ∗ ready 0 k c ∗ ready 1 k c ∗ room 0 k (nxt c) ∗ room 1 k (prv c)
        ∗ slotR I c k.val (by omega) ∗ slotL I c k.val (by omega) ∗ pts c wQ Finset.univ fullShare (fWq I c) ∗ Tr c mQ Finset.univ (Dq ps) (fQ I c))
      ⊢ iprop((iprop(Ow c j ∗ spent 0 k c ∗ spent 1 k c ∗ slotR I c k.val (by omega) ∗ slotL I c k.val (by omega)
            ∗ slotR I c (k.val + 1) (by omega) ∗ slotL I c (k.val + 1) (by omega)
            ∗ pts c wQ Finset.univ fullShare (fWq I c) ∗ Tr c mQ Finset.univ (Dq (filled c k.val ps)) (fQ I c)) -∗ runs c (kk ⟨⟩) Q)
        -∗ runs c (send n (srcM 0 k) (dstM 0 k) (sS 0 k) (sR 0 k) w0 w1 >>= fun _ => send n' (srcM 1 k) (dstM 1 k) (sS 1 k) (sR 1 k) w2 w3 >>= fun _ =>
            storeQ commR k.val i0 p p' >>= fun _ => storeQ commL k.val i1 r r' >>= fun _ =>
            arrive (sS 0 k) (dstM 0 k) (srcM 0 k) w4 w5 >>= fun _ => arrive (sR 0 k) (srcM 0 k) (dstM 0 k) w6 w7 >>= fun _ =>
            arrive (sS 1 k) (dstM 1 k) (srcM 1 k) w8 w9 >>= fun _ => arrive (sR 1 k) (srcM 1 k) (dstM 1 k) w10 w11 >>= kk) Q) := by
  subst hj
  have hk := k.isLt
  have e1 : 10 - 2 * k.val + 1 = 11 - 2 * k.val := by omega
  have hlev : ∀ i < 10 - 2 * k.val, 2 + k.val < dlv i := fun i hi => by unfold dlv; rw [if_pos (by omega)]; omega
  iintro ⟨#HR, #Hlev, HO, H0, H1, Hr0, Hr1, HsR, HsL, Hw, HQ⟩ Hk
  ihave ⟨HsR, HsR'⟩ := (halves _ _).1 $$ HsR
  ihave ⟨HsL, HsL'⟩ := (halves _ _).1 $$ HsL
  iapply (wp_send_lane I K c 0 k (10 - 2 * k.val + 1) (by omega) (by rw [e1]; exact (lane_even k).1) (by rw [e1]; exact (lane_even k).2) hn) $$ [HO H0 Hr0 HsR']
  · isplitr; · iexact HR
    isplitl [HsR']; · iapply (pay_send0 I c k).2; iexact HsR'
    isplitl [Hr0]; · iexact Hr0
    isplitl [HO] <;> iassumption
  iintro ⟨H0, HO⟩
  iapply (wp_send_lane I K c 1 k (10 - 2 * k.val) (by omega) (lane_odd k).1 (lane_odd k).2 hn') $$ [HO H1 Hr1 HsL']
  · isplitr; · iexact HR
    isplitl [HsL']; · iapply (pay_send1 I c k).2; iexact HsL'
    isplitl [Hr1]; · iexact Hr1
    isplitl [HO] <;> iassumption
  iintro ⟨H1, HO⟩
  iapply (wp_storeR I c k.val i0 ps h1 h2) $$ [HsR Hw HQ]
  · isplitl [HsR]; · iexact HsR
    isplitl [Hw] <;> iassumption
  iintro ⟨HsR, Hw, HQ⟩
  iapply (wp_storeL I c k.val i1 _ h3 h4) $$ [HsL Hw HQ]
  · isplitl [HsL]; · iexact HsL
    isplitl [Hw] <;> iassumption
  iintro ⟨HsL, Hw, HQ⟩
  iapply (wp_landed I K c 0 k (10 - 2 * k.val) hlev (credit_src 0 k) (credit_dst 0 k)) $$ [HO H0]
  · isplitr; · iexact HR
    isplitr; · iexact Hlev
    isplitl [HO] <;> iassumption
  iintro ⟨HsR', Hr0, H0, HO⟩
  iapply (wp_landed I K c 1 k (10 - 2 * k.val) hlev (credit_src 1 k) (credit_dst 1 k)) $$ [HO H1]
  · isplitr; · iexact HR
    isplitr; · iexact Hlev
    isplitl [HO] <;> iassumption
  iintro ⟨HsL', Hr1, H1, HO⟩
  ihave HsR' := (pay_send0 I c k).1 $$ HsR'
  ihave HsL' := (pay_send1 I c k).1 $$ HsL'
  ihave Hr0 := (pay_recv0 I c k).1 $$ Hr0
  ihave Hr1 := (pay_recv1 I c k).1 $$ Hr1
  iapply Hk
  isplitl [HO]; · iexact HO
  isplitl [H0]; · iexact H0
  isplitl [H1]; · iexact H1
  isplitl [HsR HsR']
  · iapply (halves _ _).2
    isplitl [HsR] <;> iassumption
  isplitl [HsL HsL']
  · iapply (halves _ _).2
    isplitl [HsL] <;> iassumption
  isplitl [Hr0]; · iexact Hr0
  isplitl [Hr1]; · iexact Hr1
  isplitl [Hw]; · iexact Hw
  iexact HQ

/-! ## The weights and the first slots -/

theorem read_sWq (g : Vec F S1024x1024 .f32) : rd sWq ![0, 0] S1024x1024.size inb_S1024x1024_S1024x1024_0_0 g = g :=
  Memref.readAt_unit_zero (Elt F) cc0_stg1_0 hz2 _ g

abbrev anyOf (c : Dev nD) {s : Shape} {e : EltTy} (m : Memref sig .tc .vmem s e) (S : Finset (Idx (m.view.loc (c : Thread nD τ)))) : sProp 𝕄 :=
  iprop(∃ f, pts c m S fullShare f)

theorem put_full {s : Shape} {e : EltTy} (m : Memref sig .tc .vmem s e) {S : Finset (Idx (m.view.loc (c : Thread nD τ)))}
    (g : Buf (Elt F) (m.view.loc (c : Thread nD τ))) : anyOf c m S ⊢ Tr c m S (fun _ => False) g := by
  iintro ⟨%f, H⟩
  iapply (Tr_intro c (fun i _ h => h) f g)
  iexact H

/-- A store over all the places held. -/
theorem wp_fill {α : Type} {Q : α → sProp 𝕄} {n : ℕ} {d : Fin n → ℕ} {e : EltTy} (m : Memref sig .tc .vmem ⟨n, d⟩ e) {off sz : Fin n → ℕ}
    {inb : ∀ a, off a + sz a ≤ d a} {h : 0 < (⟨n, sz⟩ : Shape).numel} {S : Finset (Idx (m.view.loc (c : Thread nD τ)))}
    (g : Buf (Elt F) (m.view.loc (c : Thread nD τ))) {w : Vec F ⟨n, sz⟩ e} {hx} {k : PUnit → P F α}
    (hS : m.view.setOn (Rect.unit (s := ⟨n, d⟩) off sz inb).set = S)
    (hw : m.view.readAt (Elt F) (Rect.unit (s := ⟨n, d⟩) off sz inb).toLoadRect g = w) :
    anyOf c m S ⊢ iprop((pts c m S fullShare g -∗ runs c (k ⟨⟩) Q) -∗ runs c (putR m off sz inb h w hx >>= k) Q) := by
  iintro H Hk
  ihave H := (put_full c m g) $$ H
  iapply (wp_putT c (fun i => i ∈ S) (le_of_eq hS) hw (fun i hi hn => absurd (hS ▸ hi) hn)) $$ H
  iintro H
  iapply Hk
  iapply (Tr_full c (fun i hi => hi) g)
  iexact H

theorem univ_q {b : Ref sig .tc} {r : Rect b.ty.shape} (h : ∀ i, i ∈ r.set) : (Memref.whole b : Memref sig .tc _ _ _).view.setOn r.set = Finset.univ :=
  Finset.eq_univ_of_forall fun i => (mem_whole b _ i).mpr (h i)

theorem all_1024 (i : S1024x1024.Idx) : i ∈ (Rect.unit (s := S1024x1024) ![0, 0] S1024x1024.size inb_S1024x1024_S1024x1024_0_0).set :=
  Rect.mem_set_unit.mpr fun a => ⟨by fin_cases a <;> exact Nat.zero_le _, by fin_cases a <;> exact (Nat.zero_add _).symm ▸ (i _).isLt⟩

theorem wp_castW {α : Type} {Q : α → sProp 𝕄} {kk : PUnit → P F α} :
    iprop(pts c sWq Finset.univ fullShare (I.wq c) ∗ pts c sWo Finset.univ fullShare (I.wo c) ∗ anyOf c wQ Finset.univ ∗ anyOf c wO Finset.univ)
      ⊢ iprop((iprop(pts c sWq Finset.univ fullShare (I.wq c) ∗ pts c sWo Finset.univ fullShare (I.wo c)
          ∗ pts c wQ Finset.univ fullShare (fWq I c) ∗ pts c wO Finset.univ fullShare (fWo I c)) -∗ runs c (kk ⟨⟩) Q) -∗ runs c (castW >>= kk) Q) := by
  unfold castW
  simp only [bind_assoc]
  iintro ⟨H1, H2, H3, H4⟩ Hk
  iapply (wp_loadR c (Finset.subset_univ _)) $$ H1; iintro H1
  iapply (wp_fill c wQ (fWq I c) (univ_q all_1024) (Memref.readAt_unit_zero (Elt F) cc0_scratch11 hz2 _ (fWq I c))) $$ H3; iintro H3
  iapply (wp_loadR c (Finset.subset_univ _)) $$ H2; iintro H2
  iapply (wp_fill c wO (fWo I c) (univ_q all_1024) (Memref.readAt_unit_zero (Elt F) cc0_scratch12 hz2 _ (fWo I c))) $$ H4; iintro H4
  iapply Hk
  isplitl [H1]; · iexact H1
  isplitl [H2]; · iexact H2
  isplitl [H3] <;> iassumption

theorem wp_fillX {α : Type} {Q : α → sProp 𝕄} {kk : PUnit → P F α} :
    iprop(pts c sX Finset.univ fullShare (I.x c) ∗ anyOf c commR (sl commR 0 (slot_inb (by decide))) ∗ anyOf c commL (sl commL 0 (slot_inb (by decide))))
      ⊢ iprop((iprop(pts c sX Finset.univ fullShare (I.x c) ∗ slotR I c 0 (by decide) ∗ slotL I c 0 (by decide)) -∗ runs c (kk ⟨⟩) Q)
        -∗ runs c (fillX >>= kk) Q) := by
  unfold fillX
  simp only [bind_assoc]
  iintro ⟨H1, H2, H3⟩ Hk
  iapply (wp_loadR c (Finset.subset_univ _)) $$ H1; iintro H1
  iapply (wp_fill c commR (fCR I c) rfl (rd_commR I c 0 _)) $$ H2; iintro H2
  iapply (wp_loadR c (Finset.subset_univ _)) $$ H1; iintro H1
  iapply (wp_fill c commL (fCL I c) rfl (rd_commL I c 0 _)) $$ H3; iintro H3
  iapply Hk
  isplitl [H1]; · iexact H1
  isplitl [H2] <;> iassumption

/-! ## The gathering -/

def allFilled : List ℕ := filled c 3 (filled c 2 (filled c 1 (filled c 0 [])))

theorem mem_allFilled (p : Fin 16) : p.val ∈ allFilled c := by revert c p; decide

theorem full_q : Tr c mQ Finset.univ (Dq (posOf (4 * (dn c 3).val + 3) :: posOf (4 * (dn c 3).val + 2) :: posOf (4 * (up c 3).val + 1)
      :: posOf (4 * (up c 3).val) :: filled c (2 : Fin 3).val (filled c (1 : Fin 3).val (filled c (0 : Fin 3).val [])))) (fQ I c)
    ⊢ pts c mQ Finset.univ fullShare (fQ I c) :=
  Tr_full c (m := mQ) (D := Dq (allFilled c)) (fun i _ => mem_allFilled c ⟨((show S1024x1024.Idx from i) 0).val / 64, by
    have h : ((show S1024x1024.Idx from i) 0).val < 1024 := ((show S1024x1024.Idx from i) 0).isLt
    omega⟩) (fQ I c)

def spents (l : Fin 4) : sProp 𝕄 := iprop(spent l 0 c ∗ spent l 1 c ∗ spent l 2 c)
def readys (l : Fin 4) : sProp 𝕄 := iprop(ready l 0 c ∗ ready l 1 c ∗ ready l 2 c)
def slotsR : sProp 𝕄 := iprop(slotR I c 0 (by decide) ∗ slotR I c 1 (by decide) ∗ slotR I c 2 (by decide) ∗ slotR I c 3 (by decide))
def slotsL : sProp 𝕄 := iprop(slotL I c 0 (by decide) ∗ slotL I c 1 (by decide) ∗ slotL I c 2 (by decide) ∗ slotL I c 3 (by decide))

theorem wp_gather {α : Type} {Q : α → sProp 𝕄} {kk : PUnit → P F α} :
    iprop(records I K ∗ levAts L lv ∗ Ow c 12 ∗ readys c 0 ∗ readys c 1 ∗ rooms 0 (nxt c) ∗ rooms 1 (prv c)
        ∗ pts c sX Finset.univ fullShare (I.x c) ∗ anyOf c commR (sl commR 0 (slot_inb (by decide))) ∗ anyOf c commL (sl commL 0 (slot_inb (by decide)))
        ∗ pts c wQ Finset.univ fullShare (fWq I c) ∗ anyOf c mQ Finset.univ)
      ⊢ iprop((iprop(Ow c 6 ∗ spents c 0 ∗ spents c 1 ∗ pts c sX Finset.univ fullShare (I.x c) ∗ slotsR I c ∗ slotsL I c
            ∗ pts c wQ Finset.univ fullShare (fWq I c) ∗ pts c mQ Finset.univ fullShare (fQ I c)) -∗ runs c (kk ⟨⟩) Q)
        -∗ runs c (gather c >>= kk) Q) := by
  unfold gather hop0 hop1 hop2 readys rooms spents slotsR slotsL
  simp only [bind_assoc]
  iintro ⟨#HR, #Hlev, HO, ⟨A0, A1, A2⟩, ⟨B0, B1, B2⟩, ⟨RA0, RA1, RA2⟩, ⟨RB0, RB1, RB2⟩, HX, HR0, HL0, Hw, HQ⟩ Hk
  iapply (wp_fillX I c) $$ [HX HR0 HL0]
  · isplitl [HX]; · iexact HX
    isplitl [HR0] <;> iassumption
  iintro ⟨HX, HR0, HL0⟩
  ihave HQ := (put_full c mQ (fQ I c)) $$ HQ
  ihave HQ := (Tr_mono c (m := mQ) (D' := Dq []) (fun i _ h => absurd h List.not_mem_nil) (fQ I c)) $$ HQ
  iapply (wp_hop I c K 0 10 rfl (n := ⟨k0_dev3 c, k0_dev3_lt c⟩) (n' := ⟨k0_dev4 c, k0_dev4_lt c⟩) (Fin.ext (k0_dev3_eq c)) (Fin.ext (k0_dev4_eq c)) []
    (by clear * -; revert c; decide) (by clear * -; revert c; decide) (by clear * -; revert c; decide) (by clear * -; revert c; decide)) $$ [HO A0 B0 RA0 RB0 HR0 HL0 Hw HQ]
  · isplitr; · iexact HR
    isplitr; · iexact Hlev
    isplitl [HO]; · iexact HO
    isplitl [A0]; · iexact A0
    isplitl [B0]; · iexact B0
    isplitl [RA0]; · iexact RA0
    isplitl [RB0]; · iexact RB0
    isplitl [HR0]; · iexact HR0
    isplitl [HL0]; · iexact HL0
    isplitl [Hw] <;> iassumption
  iintro ⟨HO, A0, B0, HR0, HL0, HR1, HL1, Hw, HQ⟩
  iapply (wp_hop I c K 1 8 rfl (n := ⟨k0_dev5 c, k0_dev5_lt c⟩) (n' := ⟨k0_dev6 c, k0_dev6_lt c⟩) (Fin.ext (k0_dev5_eq c)) (Fin.ext (k0_dev6_eq c)) _
    (by clear * -; revert c; decide) (by clear * -; revert c; decide) (by clear * -; revert c; decide) (by clear * -; revert c; decide)) $$ [HO A1 B1 RA1 RB1 HR1 HL1 Hw HQ]
  · isplitr; · iexact HR
    isplitr; · iexact Hlev
    isplitl [HO]; · iexact HO
    isplitl [A1]; · iexact A1
    isplitl [B1]; · iexact B1
    isplitl [RA1]; · iexact RA1
    isplitl [RB1]; · iexact RB1
    isplitl [HR1]; · iexact HR1
    isplitl [HL1]; · iexact HL1
    isplitl [Hw] <;> iassumption
  iintro ⟨HO, A1, B1, HR1, HL1, HR2, HL2, Hw, HQ⟩
  iapply (wp_hop I c K 2 6 rfl (n := ⟨k0_dev7 c, k0_dev7_lt c⟩) (n' := ⟨k0_dev8 c, k0_dev8_lt c⟩) (Fin.ext (k0_dev7_eq c)) (Fin.ext (k0_dev8_eq c)) _
    (by clear * -; revert c; decide) (by clear * -; revert c; decide) (by clear * -; revert c; decide) (by clear * -; revert c; decide)) $$ [HO A2 B2 RA2 RB2 HR2 HL2 Hw HQ]
  · isplitr; · iexact HR
    isplitr; · iexact Hlev
    isplitl [HO]; · iexact HO
    isplitl [A2]; · iexact A2
    isplitl [B2]; · iexact B2
    isplitl [RA2]; · iexact RA2
    isplitl [RB2]; · iexact RB2
    isplitl [HR2]; · iexact HR2
    isplitl [HL2]; · iexact HL2
    isplitl [Hw] <;> iassumption
  iintro ⟨HO, A2, B2, HR2, HL2, HR3, HL3, Hw, HQ⟩
  iapply (wp_storeR I c 3 _ _ (p := qR3 c) (p' := qR3' c) (by clear * -; revert c; decide) (by clear * -; revert c; decide)) $$ [HR3 Hw HQ]
  · isplitl [HR3]; · iexact HR3
    isplitl [Hw] <;> iassumption
  iintro ⟨HR3, Hw, HQ⟩
  iapply (wp_storeL I c 3 _ _ (p := qL3 c) (p' := qL3' c) (by clear * -; revert c; decide) (by clear * -; revert c; decide)) $$ [HL3 Hw HQ]
  · isplitl [HL3]; · iexact HL3
    isplitl [Hw] <;> iassumption
  iintro ⟨HL3, Hw, HQ⟩
  ihave HQ := (full_q I c) $$ HQ
  iapply Hk
  isplitl [HO]; · iexact HO
  isplitl [A0 A1 A2]
  · isplitl [A0]; · iexact A0
    isplitl [A1] <;> iassumption
  isplitl [B0 B1 B2]
  · isplitl [B0]; · iexact B0
    isplitl [B1] <;> iassumption
  isplitl [HX]; · iexact HX
  isplitl [HR0 HR1 HR2 HR3]
  · isplitl [HR0]; · iexact HR0
    isplitl [HR1]; · iexact HR1
    isplitl [HR2]; · iexact HR2
    iexact HR3
  isplitl [HL0 HL1 HL2 HL3]
  · isplitl [HL0]; · iexact HL0
    isplitl [HL1]; · iexact HL1
    isplitl [HL2]; · iexact HL2
    iexact HL3
  isplitl [Hw] <;> iassumption

end Cert.KernelIdeal.Body
-- ==== Proof.Lists.lean ====
module

public import proofs.«01_k».proof.Proof.Contents

@[expose] public section

noncomputable section

namespace Cert.KernelIdeal.Body

open Cert.KernelIdeal Cert.KernelIdeal.Gen
open Idealize.ShloMosaic Idealize.SL.Sem
open Idealize.ShloMosaic.ValueIdx

/-! ## The transfers of a head

The transfers into a staging slot fill it row of blocks by row of blocks: row `g`, place `j` of a buffer of `a` rows of `r`
blocks is transfer `g * r + j`, and reads block `kb g j` of head `hd`.
-/

variable {a b n : ℕ}

theorem can_hd (r : ℕ) (hb : b = 64 * r) (hn : n = a * r) (s : ℕ) (x : Fin n) :
    ∀ i, (![s % 2, x.val / r, 64 * (x.val % r), 0] : Fin 4 → ℕ) i + S1x1x64x128.size i ≤ (KS a b).size i := by
  have hx : x.val < a * r := Nat.lt_of_lt_of_eq x.isLt hn
  have hr : 0 < r := Nat.pos_of_ne_zero fun h => by subst h; omega
  have h1 : x.val / r < a := Nat.div_lt_of_lt_mul (by rw [Nat.mul_comm]; exact hx)
  have h2 : x.val % r < r := Nat.mod_lt _ hr
  intro i
  fin_cases i
  · show s % 2 + 1 ≤ 2; omega
  · show x.val / r + 1 ≤ a; omega
  · show 64 * (x.val % r) + 64 ≤ b; omega
  · show 0 + 128 ≤ 128; omega

theorem can_hs (hd kb : ℕ) : ∀ i, (![0, 64 * (kb % 64), hd % 32, 0] : Fin 4 → ℕ) i + S1x64x1x128.size i ≤ S1x4096x32x128.size i := by
  intro i
  fin_cases i
  · show 0 + 1 ≤ 1; omega
  · show 64 * (kb % 64) + 64 ≤ 4096; omega
  · show hd % 32 + 1 ≤ 32; omega
  · show 0 + 128 ≤ 128; omega

theorem can_hq (s : ℕ) : ∀ i, (![s % 2] : Fin 1 → ℕ) i + S1.size i ≤ S2.size i := by
  intro i
  fin_cases i
  show s % 2 + 1 ≤ 2; omega

def can (r : ℕ) (hb : b = 64 * r) (hn : n = a * r) (kb : ℕ → ℕ → ℕ) (s hd : ℕ) (x : Fin n) : Iss a b :=
  ⟨![s % 2, x.val / r, 64 * (x.val % r), 0], can_hd r hb hn s x, ![0, 64 * (kb (x.val / r) (x.val % r) % 64), hd % 32, 0], can_hs _ _,
    ![s % 2], can_hq s⟩

abbrev canG (s hd : ℕ) : Fin 66 → Iss 3 1408 := can 22 rfl rfl kbG s hd
abbrev canD (s hd : ℕ) : Fin 10 → Iss 2 320 := can 5 rfl rfl kbD s hd

/-- The numbers of a transfer. -/
def code (x : Iss a b) : (Fin 4 → ℕ) × (Fin 4 → ℕ) × (Fin 1 → ℕ) := (x.od, x.os, x.oq)

theorem code_inj : Function.Injective (code (a := a) (b := b)) := by
  intro x y h
  cases x; cases y
  simp only [code, Prod.mk.injEq] at h
  obtain ⟨rfl, rfl, rfl⟩ := h
  rfl

theorem lists_eq {l l' : List (Iss a b)} (h : l.map code = l'.map code) : l = l' := List.map_injective_iff.mpr code_inj h

theorem proG_eq (c : Dev nD) : proG c = List.ofFn (canG 0 (8 * c.val)) := lists_eq (by revert c; decide +kernel)
theorem proD_eq (c : Dev nD) : proD c = List.ofFn (canD 0 (8 * c.val)) := lists_eq (by revert c; decide +kernel)
theorem nxtG_eq (c : Dev nD) (t : Fin k0_t1_loop.trips) (h : k0_cond1 t = 1#1) : nxtG c t h = List.ofFn (canG (t.val + 1) (8 * c.val + (t.val + 1))) :=
  lists_eq (by revert c t; decide +kernel)
theorem nxtD_eq (c : Dev nD) (t : Fin k0_t1_loop.trips) (h : k0_cond1 t = 1#1) : nxtD c t h = List.ofFn (canD (t.val + 1) (8 * c.val + (t.val + 1))) :=
  lists_eq (by revert c t; decide +kernel)
theorem curG_oq (c : Dev nD) (t : Fin k0_t1_loop.trips) : (curG c t).map (fun x => x.oq) = List.replicate 66 ![t.val % 2] := by revert c t; decide +kernel
theorem curD_oq (c : Dev nD) (t : Fin k0_t1_loop.trips) : (curD c t).map (fun x => x.oq) = List.replicate 10 ![t.val % 2] := by revert c t; decide +kernel
theorem cond_lt (t : Fin k0_t1_loop.trips) : k0_cond1 t = 1#1 ↔ t.val + 1 < 8 := by revert t; decide

theorem oq_of_replicate {l : List (Iss a b)} {m : ℕ} {q : Fin 1 → ℕ} (h : l.map (fun x => x.oq) = List.replicate m q) :
    l.length = m ∧ ∀ x ∈ l, x.oq = q := by
  refine ⟨by rw [← List.length_map (f := fun x : Iss a b => x.oq), h, List.length_replicate], fun x hx => ?_⟩
  exact List.eq_of_mem_replicate (h ▸ List.mem_map.mpr ⟨x, hx, rfl⟩)

/-! ## The semaphore of a slot -/

def smV (S : DmaSems sig S2) (s : ℕ) : DmaSem sig := ((S.slice (Rect.unit (s := S2) ![s % 2] S1.size (can_hq s))).squeeze S_ squeezes_S1_S_).sem

theorem semV_of {S : DmaSems sig S2} {x : Iss a b} {s : ℕ} (h : x.oq = ![s % 2]) : semV S x = smV S s := by
  obtain ⟨od, hd, os, hs, oq, hq⟩ := x
  dsimp only at h
  subst h
  rfl

/-! ## Where the transfers of a head land -/

/-- The places of a slot. -/
def slotOf (a b s : ℕ) : Finset (KS a b).Idx := Finset.univ.filter fun i => (i 0).val = s % 2

/-- The places where a transfer lands. -/
abbrev spot (x : Iss a b) : Finset (KS a b).Idx := (Rect.unit (s := KS a b) x.od S1x1x64x128.size x.hd).set

theorem mem_spot (r : ℕ) (hb : b = 64 * r) (hn : n = a * r) (kb) (s hd : ℕ) (x : Fin n) (i : (KS a b).Idx) :
    i ∈ spot (can r hb hn kb s hd x) ↔ (i 0).val = s % 2 ∧ r * (i 1).val + (i 2).val / 64 = x.val := by
  have hx : x.val < a * r := Nat.lt_of_lt_of_eq x.isLt hn
  have hr : 0 < r := Nat.pos_of_ne_zero fun h => by subst h; omega
  have h1 : x.val / r < a := Nat.div_lt_of_lt_mul (by rw [Nat.mul_comm]; exact hx)
  have h2 : x.val % r < r := Nat.mod_lt _ hr
  have h3 : r * (x.val / r) + x.val % r = x.val := Nat.div_add_mod _ _
  have hi2 : (i 2).val < b := (i 2).isLt
  have hi3 : (i 3).val < 128 := (i 3).isLt
  rw [Rect.mem_set_unit]
  constructor
  · intro h
    have e0 : s % 2 ≤ (i 0).val ∧ (i 0).val < s % 2 + 1 := h 0
    have e1 : x.val / r ≤ (i 1).val ∧ (i 1).val < x.val / r + 1 := h 1
    have e2 : 64 * (x.val % r) ≤ (i 2).val ∧ (i 2).val < 64 * (x.val % r) + 64 := h 2
    refine ⟨by omega, ?_⟩
    rw [show (i 1).val = x.val / r by omega, show (i 2).val / 64 = x.val % r by omega]
    exact h3
  · rintro ⟨e0, e1⟩
    have hq : (i 2).val / 64 < r := by omega
    have e2 : x.val / r = (i 1).val := by
      rw [← e1, Nat.mul_add_div hr, Nat.div_eq_of_lt hq, Nat.add_zero]
    have e3 : x.val % r = (i 2).val / 64 := by
      rw [← e1, Nat.mul_add_mod, Nat.mod_eq_of_lt hq]
    intro q
    fin_cases q
    · show s % 2 ≤ (i 0).val ∧ (i 0).val < s % 2 + 1; omega
    · show x.val / r ≤ (i 1).val ∧ (i 1).val < x.val / r + 1; omega
    · show 64 * (x.val % r) ≤ (i 2).val ∧ (i 2).val < 64 * (x.val % r) + 64; omega
    · show 0 ≤ (i 3).val ∧ (i 3).val < 0 + 128; omega

theorem spot_disjoint (r : ℕ) (hb : b = 64 * r) (hn : n = a * r) (kb) (s hd : ℕ) (x y : Fin n) (h : x ≠ y) :
    Disjoint (spot (can r hb hn kb s hd x)) (spot (can r hb hn kb s hd y)) :=
  Finset.disjoint_left.mpr fun i hx hy => h (Fin.ext (((mem_spot r hb hn kb s hd x i).mp hx).2.symm.trans ((mem_spot r hb hn kb s hd y i).mp hy).2))

theorem spot_cover (r : ℕ) (hb : b = 64 * r) (hn : n = a * r) (kb) (s hd : ℕ) :
    Finset.univ.biUnion (fun x => spot (can r hb hn kb s hd x)) = slotOf a b s := by
  ext i
  have hi1 : (i 1).val < a := (i 1).isLt
  have hi2 : (i 2).val < b := (i 2).isLt
  simp only [Finset.mem_biUnion, Finset.mem_univ, true_and, slotOf, Finset.mem_filter]
  constructor
  · rintro ⟨x, hx⟩
    exact ((mem_spot r hb hn kb s hd x i).mp hx).1
  · intro h
    have hlt : r * (i 1).val + (i 2).val / 64 < n := by
      have h1 : (i 2).val / 64 < r := by omega
      have h2 : r * ((i 1).val + 1) ≤ r * a := Nat.mul_le_mul_left _ hi1
      rw [Nat.mul_succ] at h2
      rw [hn, Nat.mul_comm a r]
      omega
    exact ⟨⟨_, hlt⟩, (mem_spot r hb hn kb s hd _ i).mpr ⟨h, rfl⟩⟩

/-! ## What the transfers of a head bring -/

def inDst (i : S64x128.Idx) : S1x1x64x128.Idx := ix4 (0 : Fin 1) (0 : Fin 1) (i 0 : Fin 64) (i 1 : Fin 128)
def inSrc (i : S64x128.Idx) : S1x64x1x128.Idx := ix4 (0 : Fin 1) (i 0 : Fin 64) (0 : Fin 1) (i 1 : Fin 128)

theorem squash_dst (i : S64x128.Idx) : Shape.reshapeEquiv squeezes_S1x1x64x128_S64x128.numel_eq i = inDst i :=
  Shape.reshapeEquiv_eq_of_rowMajor _ ((Shape.rowMajor_val_four (d := ![1, 1, 64, 128]) _).trans (Eq.trans (by
    show ((0 * 1 + 0) * 64 + (i 0).val) * 128 + (i 1).val = (i 0).val * 128 + (i 1).val
    omega) (Shape.rowMajor_val_two (d := ![64, 128]) i).symm))

theorem squash_src (i : S64x128.Idx) : Shape.reshapeEquiv squeezes_S1x64x1x128_S64x128.numel_eq i = inSrc i :=
  Shape.reshapeEquiv_eq_of_rowMajor _ ((Shape.rowMajor_val_four (d := ![1, 64, 1, 128]) _).trans (Eq.trans (by
    show ((0 * 64 + (i 0).val) * 1 + 0) * 128 + (i 1).val = (i 0).val * 128 + (i 1).val
    omega) (Shape.rowMajor_val_two (d := ![64, 128]) i).symm))

variable {F : FTy → Type} [FloatOps F] [Named F]

/-- A transfer brings to its place what the filled buffer holds there. -/
theorem brings (r : ℕ) (hb : b = 64 * r) (hn : n = a * r) (kb : ℕ → ℕ → ℕ) (s t : ℕ) (c : Dev nD) (h : Vec F S1x4096x32x128 .f32) (x : Fin n) (i : S64x128.Idx) :
    fKV (a := a) (b := b) c kb h t ((Rect.unit (s := KS a b) _ S1x1x64x128.size (can r hb hn kb s (8 * c.val + t) x).hd).emb
        (Shape.reshapeEquiv squeezes_S1x1x64x128_S64x128.numel_eq i))
      = h ((Rect.unit (s := S1x4096x32x128) _ S1x64x1x128.size (can r hb hn kb s (8 * c.val + t) x).hs).emb
        (Shape.reshapeEquiv squeezes_S1x64x1x128_S64x128.numel_eq i)) := by
  have hi0 : (i 0).val < 64 := (i 0).isLt
  rw [squash_dst, squash_src]
  unfold fKV
  refine congrArg h (funext fun q => Fin.ext ?_)
  have e1 : ((Rect.unit (s := KS a b) _ S1x1x64x128.size (can r hb hn kb s (8 * c.val + t) x).hd).emb
      (inDst i) 1).val = x.val / r := by
    show x.val / r + 1 * 0 = _; omega
  have e2 : ((Rect.unit (s := KS a b) _ S1x1x64x128.size (can r hb hn kb s (8 * c.val + t) x).hd).emb
      (inDst i) 2).val = 64 * (x.val % r) + (i 0).val := by
    show 64 * (x.val % r) + 1 * (i 0).val = _; omega
  fin_cases q
  · show 0 = 0 + 1 * 0; omega
  · show (64 * kb _ (_ / 64) + _ % 64) % 4096 = 64 * (kb (x.val / r) (x.val % r) % 64) + 1 * (i 0).val
    rw [e1, e2, show (64 * (x.val % r) + (i 0).val) / 64 = x.val % r by omega]
    omega
  · show (8 * c.val + t) % 32 = (8 * c.val + t) % 32 + 1 * 0; omega
  · show 0 + 1 * (i 1).val = 0 + 1 * (i 1).val; rfl

end Cert.KernelIdeal.Body
-- ==== Proof.KV.lean ====
module

public import proofs.«01_k».proof.Proof.Gather
public import proofs.«01_k».proof.Proof.Lists
public import Idealize.ShloMosaic.Lib.Batch
public import Idealize.ShloMosaic.Lib.Ring

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Transfers

/-! ## One array's transfers into one staging slot -/

/-- The units of a transfer of a block. -/
abbrev NB : ℕ := (dstV kG (canG 0 0 0)).view.dmaCredit
theorem NB_pos : 0 < NB := View.dmaCredit_pos _ (by decide)

/-- One array's transfers: what they fill, what they read, the semaphore they report to, what they bring. -/
structure Feed (F : FTy → Type) [FloatOps F] [Named F] (c : Dev nD) {a b n : ℕ} (can : Fin n → Iss a b) (H : Memref sig .tc .hbm S1x4096x32x128 .f32) where
  M : Memref sig .tc .vmem (KS a b) .f32
  S : DmaSems sig S2
  sm : DmaSem sig
  hsm : ∀ j, semV S (can j) = sm
  hlow : sm.val < 12
  hN : ∀ x : Iss a b, (dstV M x).view.dmaCredit = NB
  q : PosShare TreeShare
  fT : Buf (Elt F) (M.view.loc (c : Thread nD τ))
  fH : Buf (Elt F) (H.view.loc (c : Thread nD τ))
  brings : ∀ j, (dstV M (can j)).view.read (Elt F) fT = (srcV H (can j)).view.read (Elt F) fH
  place : Finset (Idx (M.view.loc (c : Thread nD τ)))
  hdis : ∀ i j, i ≠ j → Disjoint (dstV M (can i)).view.set (dstV M (can j)).view.set
  hcov : Finset.univ.biUnion (fun j => (dstV M (can j)).view.set) = place

theorem held_storable {ℓ : Loc nD τ sig} (S : Finset (Idx ℓ)) (q : PosShare TreeShare) (f : Buf (Elt F) ℓ) :
    BI.Storable (upEmb : UEmb _ 𝕄) (ℓ ↦[S]{q} f : sProp 𝕄) := inferInstance

section Feed

variable {c : Dev nD} {a b n : ℕ} {can : Fin n → Iss a b} {H : Memref sig .tc .hbm S1x4096x32x128 .f32} (A : Feed F c can H)

/-- What a transfer reads, at the share it holds meanwhile. -/
def Feed.from (j : Fin n) : sProp 𝕄 := (H.view.loc (c : Thread nD τ)) ↦[(srcV H (can j)).view.set]{shareTok A.q n j} A.fH
/-- The rest of the array at that share. -/
def Feed.aside (j : Fin n) : sProp 𝕄 := (H.view.loc (c : Thread nD τ)) ↦[Finset.univ \ (srcV H (can j)).view.set]{shareTok A.q n j} A.fH
/-- Where a transfer lands, whatever is there. -/
def Feed.into (j : Fin n) : sProp 𝕄 :=
  iprop(∃ f : Buf (Elt F) (A.M.view.loc (c : Thread nD τ)), (A.M.view.loc (c : Thread nD τ)) ↦[(dstV A.M (can j)).view.set]{fullShare} f)
/-- Where it has landed. -/
def Feed.there (j : Fin n) : sProp 𝕄 := (A.M.view.loc (c : Thread nD τ)) ↦[(dstV A.M (can j)).view.set]{fullShare} A.fT
def Feed.gives (j : Fin n) : sProp 𝕄 := iprop(A.there j ∗ A.from j)
instance (j : Fin n) : BI.Storable (upEmb : UEmb _ 𝕄) (A.gives j) := by
  have h1 : BI.Storable (upEmb : UEmb _ 𝕄) (A.there j) := held_storable _ _ _
  have h2 : BI.Storable (upEmb : UEmb _ 𝕄) (A.from j) := held_storable _ _ _
  unfold Feed.gives
  infer_instance

/-- What a feed's transfers leave alone. -/
def Feed.kept : sProp 𝕄 :=
  iprop((H.view.loc (c : Thread nD τ) ↦[Finset.univ]{shareDrop A.q n} A.fH) ∗ bigSep Finset.univ A.aside)

/-- Nothing of the feed is on its way. -/
def Feed.idle : sProp 𝕄 :=
  iprop(semVal ((c : Thread nD τ), .dma A.sm) 0 ∗ (∃ f : Buf (Elt F) (A.M.view.loc (c : Thread nD τ)), A.M.view.loc (c : Thread nD τ) ↦[A.place]{fullShare} f)
    ∗ (H.view.loc (c : Thread nD τ) ↦[Finset.univ]{A.q} A.fH))
/-- The first `j` transfers have been issued. -/
def Feed.issued (j : ℕ) : sProp 𝕄 :=
  iprop(Batch EC (c : Thread nD τ) (.dma A.sm) () NB A.gives j 0 ∗ bigSep (pending j) (fun i => iprop(A.from i ∗ A.into i)))
/-- All have been issued, `u` waited for. -/
def Feed.busy (u : ℕ) : sProp 𝕄 := iprop(Batch EC (c : Thread nD τ) (.dma A.sm) () NB A.gives n (NB * u) ∗ A.kept)
/-- The feed is done. -/
def Feed.done : sProp 𝕄 :=
  iprop(semVal ((c : Thread nD τ), .dma A.sm) 0 ∗ (A.M.view.loc (c : Thread nD τ) ↦[A.place]{fullShare} A.fT)
    ∗ (H.view.loc (c : Thread nD τ) ↦[Finset.univ]{A.q} A.fH))

theorem Feed.parted (j : Fin n) : (H.view.loc (c : Thread nD τ) ↦[Finset.univ]{shareTok A.q n j} A.fH : sProp 𝕄) = iprop(A.from j ∗ A.aside j) :=
  have h : (H.view.loc (c : Thread nD τ) ↦[Finset.univ]{shareTok A.q n j} A.fH : sProp 𝕄) ⊣⊢ iprop(A.from j ∗ A.aside j) :=
    pointsTo_split_subset (Finset.subset_univ _)
  Entails.antisymm h.1 h.2

theorem Feed.into_of (f : Buf (Elt F) (A.M.view.loc (c : Thread nD τ))) (j : Fin n) :
    (A.M.view.loc (c : Thread nD τ) ↦[(dstV A.M (can j)).view.set]{fullShare} f : sProp 𝕄) ⊢ A.into j := by
  unfold Feed.into
  iintro H; iexists f; iexact H

theorem Feed.share : bigSep Finset.univ (fun j : Fin n => (H.view.loc (c : Thread nD τ) ↦[Finset.univ]{shareTok A.q n j} A.fH : sProp 𝕄))
    = iprop(bigSep Finset.univ A.from ∗ bigSep Finset.univ A.aside) :=
  (congrArg (bigSep Finset.univ) (funext fun j => A.parted j)).trans (BI.bigSep_sep Finset.univ A.from A.aside)

theorem Feed.start : A.idle ⊢ |={Set.univ}=> iprop(A.issued 0 ∗ A.kept) := by
  unfold Feed.idle Feed.issued Feed.kept
  iintro ⟨Hv, ⟨%f, HM⟩, HH⟩
  imod (batch_alloc' EC (c : Thread nD τ) () NB A.gives) $$ Hv with HB
  ihave ⟨HH, HT⟩ := (pointsTo_toks_split A.q n) $$ HH
  ihave ⟨HF, HA⟩ := (Entails.of_eq A.share) $$ HT
  ihave HM := (Entails.of_eq (Idealize.ShloMosaic.Ring.pointsTo_sub_blocks (fun j => (dstV A.M (can j)).view.set) A.hdis A.place A.hcov f)) $$ HM
  imodintro
  isplitr [HH HA]
  · isplitl [HB]; · iexact HB
    iapply (show iprop(bigSep Finset.univ A.from ∗ bigSep Finset.univ A.into) ⊢ bigSep (pending 0) (fun i => iprop(A.from i ∗ A.into i))
      from Entails.of_eq ((BI.bigSep_sep Finset.univ A.from A.into).symm.trans (bigSep_pending_zero _)))
    isplitl [HF]; · iexact HF
    iapply (show bigSep Finset.univ (fun j => (A.M.view.loc (c : Thread nD τ) ↦[(dstV A.M (can j)).view.set]{fullShare} f : sProp 𝕄)) ⊢ bigSep Finset.univ A.into
      from BI.bigSep_mono fun j _ => A.into_of f j) $$ HM
  isplitl [HH] <;> iassumption

theorem Feed.finish : A.busy n ⊢ |={Set.univ}=> A.done := by
  unfold Feed.busy Feed.done Feed.kept
  iintro ⟨HB, HH, HA⟩
  imod (batch_collect' EC (c : Thread nD τ) NB_pos) $$ HB with ⟨HD, Hv⟩
  ihave ⟨HT, HF⟩ := (Entails.of_eq (show bigSep Finset.univ A.gives = iprop(bigSep Finset.univ A.there ∗ bigSep Finset.univ A.from) from BI.bigSep_sep Finset.univ A.there A.from)) $$ HD
  imodintro
  isplitl [Hv]; · iexact Hv
  isplitl [HT]
  · iapply (Entails.of_eq (Idealize.ShloMosaic.Ring.pointsTo_sub_blocks (fun j => (dstV A.M (can j)).view.set) A.hdis A.place A.hcov A.fT).symm)
    iexact HT
  iapply (pointsTo_toks_join A.q n)
  isplitl [HH]; · iexact HH
  iapply (Entails.of_eq A.share.symm)
  isplitl [HF] <;> iassumption

theorem Feed.landed (j : Fin n) (f : Buf (Elt F) ((dstV A.M (can j)).view.loc (c : Thread nD τ))) :
    iprop(((dstV A.M (can j)).view.loc (c : Thread nD τ) ↦[(dstV A.M (can j)).view.set]{fullShare}
        ((dstV A.M (can j)).view.write (Elt F) f (ReadAs.same.apply ((srcV H (can j)).view.read (Elt F) A.fH)) Finset.univ))
      ∗ ((srcV H (can j)).view.loc (c : Thread nD τ) ↦[(srcV H (can j)).view.set]{shareTok A.q n j} A.fH)) ⊢ A.gives j := by
  iintro ⟨H1, H2⟩
  unfold Feed.gives Feed.there Feed.from
  isplitl [H1]
  · iapply (owns_at (dstV A.M (can j)) c fullShare A.fT (A.brings j)).1
    iapply (owns_at (dstV A.M (can j)) c fullShare _ (View.read_write_univ ..)).2
    iexact H1
  · iexact H2

theorem Feed.wp_issue {α : Type} {Q : α → sProp 𝕄} (j : ℕ) (hj : j < n) {kk : PUnit → P F α} :
    A.issued j ⊢ iprop((A.issued (j + 1) -∗ runs c (kk ⟨⟩) Q) -∗ runs c (issue H A.M A.S (can ⟨j, hj⟩) >>= kk) Q) := by
  unfold Feed.issued
  rw [bigSep_pending_step _ j hj]
  iintro ⟨HB, ⟨Hf, Hi⟩, Hr⟩ Hk
  unfold Feed.into
  icases Hi with ⟨%f, Hi⟩
  have hs := A.hsm ⟨j, hj⟩
  unfold issue Feed.from
  rw [← hs]
  iapply (wp_dmaBatch EC 𝒱₀ (c : Thread nD τ) none (src := srcV H (can ⟨j, hj⟩)) (dst := dstV A.M (can ⟨j, hj⟩)) (sm := .dma (semV A.S (can ⟨j, hj⟩))) (D := A.gives) (j := j) (u := 0)
    () NB (A.hN _) subset_rfl hj (Nat.zero_le _) (A.landed ⟨j, hj⟩ f)) $$ [HB Hf Hi]
  · isplitl [Hf]; · iexact Hf
    isplitl [Hi]; · iexact Hi
    iexact HB
  iintro HB
  iapply Hk
  isplitl [HB]; · iexact HB
  iexact Hr

theorem Feed.wp_await {α : Type} {Q : α → sProp 𝕄} (m : ℕ) (hm : m ≤ 12) {x : Iss a b} (hx : semV A.S x = A.sm) (u : ℕ) (hu : u < n) {kk : PUnit → P F α} :
    iprop(levAts L lv ∗ Ow c m ∗ A.busy u) ⊢ iprop((iprop(Ow c m ∗ A.busy (u + 1)) -∗ runs c (kk ⟨⟩) Q) -∗ runs c (await H A.M A.S x >>= kk) Q) := by
  unfold Feed.busy Ow
  iintro ⟨#Hlev, ⟨%W, HO⟩, HB, Hkept⟩ Hk
  unfold await
  rw [← hx]
  iapply (wp_waitBatchMulO EC 𝒱₀ (c : Thread nD τ) none (sem := semV A.S x) (srcw := srcV H x) (dstw := dstV A.M x) (D := A.gives) (j := n) (u := NB * u) (O := owe c m) (W := W)
    () (N := NB) 1 ((A.hN x).trans (Nat.one_mul _).symm) (by rw [Nat.one_mul, ← Nat.mul_succ]; exact Nat.mul_le_mul_left _ hu)) $$ [HB HO]
  · isplitl [HB]; · iexact HB
    isplitl [HO]; · iexact HO
    iapply (mayWait_owe c (.dma (semV A.S x)) m fun i hi => by
      have h0 : lvS (.dma (semV A.S x)) = 0 := by rw [hx]; exact if_neg fun h => by have := A.hlow; omega
      rw [h0]; unfold dlv; split <;> omega)
    iexact Hlev
  rw [Nat.one_mul, ← Nat.mul_succ]
  iintro ⟨HB, HO⟩
  iapply Hk
  isplitl [HO]; · iexists _; iexact HO
  isplitl [HB]; · iexact HB
  iexact Hkept

end Feed

section Two

variable {c : Dev nD} {a b n : ℕ} {can : Fin n → Iss a b}
variable (A : Feed F c can (Memref.whole main_arg2)) (B : Feed F c can (Memref.whole main_arg3))

theorem wp_issueAll {α : Type} {Q : α → sProp 𝕄} {kk : PUnit → P F α} (m : ℕ) : ∀ j, j + m = n →
    iprop(A.issued j ∗ B.issued j) ⊢ iprop((iprop(A.issued n ∗ B.issued n) -∗ runs c (kk ⟨⟩) Q)
      -∗ runs c (issueAll A.M B.M A.S B.S ((List.ofFn can).drop j) >>= kk) Q) := by
  induction m with
  | zero =>
    intro j hj
    obtain rfl : j = n := hj
    rw [List.drop_of_length_le (by rw [List.length_ofFn])]
    iintro H Hk
    iapply Hk; iexact H
  | succ m ih =>
    intro j hj
    have hlt : j < n := by omega
    rw [List.drop_eq_getElem_cons (by rw [List.length_ofFn]; exact hlt), List.getElem_ofFn]
    unfold issueAll
    simp only [bind_assoc]
    iintro ⟨HA, HB⟩ Hk
    iapply (A.wp_issue j hlt) $$ HA; iintro HA
    iapply (B.wp_issue j hlt) $$ HB; iintro HB
    iapply (ih (j + 1) (by omega)) $$ [HA HB]
    · isplitl [HA] <;> iassumption
    iexact Hk

theorem wp_feed {α : Type} {Q : α → sProp 𝕄} {kk : PUnit → P F α} :
    iprop(A.idle ∗ B.idle) ⊢ iprop((iprop(A.busy 0 ∗ B.busy 0) -∗ runs c (kk ⟨⟩) Q) -∗ runs c (issueAll A.M B.M A.S B.S (List.ofFn can) >>= kk) Q) := by
  iintro ⟨HA, HB⟩ Hk
  imod A.start $$ HA with ⟨HA, HA'⟩
  imod B.start $$ HB with ⟨HB, HB'⟩
  iapply (wp_issueAll A B n 0 (Nat.zero_add n)) $$ [HA HB]
  · isplitl [HA] <;> iassumption
  iintro ⟨HA, HB⟩
  iapply Hk
  unfold Feed.issued Feed.busy
  icases HA with ⟨HA, -⟩
  icases HB with ⟨HB, -⟩
  isplitl [HA HA']
  · isplitl [HA] <;> iassumption
  isplitl [HB] <;> iassumption

theorem wp_awaitAll {α : Type} {Q : α → sProp 𝕄} {kk : PUnit → P F α} (m : ℕ) (hm : m ≤ 12) (l : List (Iss a b)) :
    ∀ u, u + l.length = n → (∀ x ∈ l, semV A.S x = A.sm ∧ semV B.S x = B.sm) →
    iprop(levAts L lv ∗ Ow c m ∗ A.busy u ∗ B.busy u) ⊢ iprop((iprop(Ow c m ∗ A.busy n ∗ B.busy n) -∗ runs c (kk ⟨⟩) Q)
      -∗ runs c (awaitAll A.M B.M A.S B.S l >>= kk) Q) := by
  induction l with
  | nil =>
    intro u hu _
    obtain rfl : u = n := hu
    iintro ⟨-, H⟩ Hk
    iapply Hk; iexact H
  | cons x l ih =>
    intro u hu hx
    rw [List.length_cons] at hu
    have hlt : u < n := by omega
    unfold awaitAll
    simp only [bind_assoc]
    iintro ⟨#Hlev, HO, HA, HB⟩ Hk
    iapply (A.wp_await m hm (hx x List.mem_cons_self).1 u hlt) $$ [HO HA]
    · isplitr; · iexact Hlev
      isplitl [HO] <;> iassumption
    iintro ⟨HO, HA⟩
    iapply (B.wp_await m hm (hx x List.mem_cons_self).2 u hlt) $$ [HO HB]
    · isplitr; · iexact Hlev
      isplitl [HO] <;> iassumption
    iintro ⟨HO, HB⟩
    iapply (ih (u + 1) (by omega) fun y hy => hx y (List.mem_cons_of_mem _ hy)) $$ [HO HA HB]
    · isplitr; · iexact Hlev
      isplitl [HO]; · iexact HO
      isplitl [HA] <;> iassumption
    iexact Hk

theorem wp_fed {α : Type} {Q : α → sProp 𝕄} {kk : PUnit → P F α} (m : ℕ) (hm : m ≤ 12) (l : List (Iss a b)) (hl : l.length = n)
    (hx : ∀ x ∈ l, semV A.S x = A.sm ∧ semV B.S x = B.sm) :
    iprop(levAts L lv ∗ Ow c m ∗ A.busy 0 ∗ B.busy 0) ⊢ iprop((iprop(Ow c m ∗ A.done ∗ B.done) -∗ runs c (kk ⟨⟩) Q)
      -∗ runs c (awaitAll A.M B.M A.S B.S l >>= kk) Q) := by
  iintro H Hk
  iapply (wp_awaitAll A B m hm l 0 (by rw [hl, Nat.zero_add]) hx) $$ H
  iintro ⟨HO, HA, HB⟩
  imod A.finish $$ HA with HA
  imod B.finish $$ HB with HB
  iapply Hk
  isplitl [HO]; · iexact HO
  isplitl [HA] <;> iassumption

end Two

end Cert.KernelIdeal.Body
-- ==== Proof.Feeds.lean ====
module

public import proofs.«01_k».proof.Proof.KV

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The four arrays' transfers of a head -/

theorem whole_spot (b : Ref sig .tc) (M : Finset b.ty.shape.Idx) : (Memref.whole b : Memref sig .tc _ _ _).view.setOn M = M :=
  Finset.ext fun i => mem_whole b M i

theorem sem_ok (S : DmaSems sig S2) (s : ℕ) : smV S s = smV S (s % 2) := by
  have e : ∀ (o : Fin 1 → ℕ) (h : ∀ i, o i + S1.size i ≤ S2.size i), o = ![s % 2] →
      ((S.slice (Rect.unit (s := S2) o S1.size h)).squeeze S_ squeezes_S1_S_).sem = smV S s := fun o h ho => by subst ho; rfl
  exact (e ![s % 2 % 2] (can_hq (s % 2)) (by rw [Nat.mod_mod])).symm
theorem slot_mod (a b s : ℕ) : slotOf a b s = slotOf a b (s % 2) := by unfold slotOf; rw [Nat.mod_mod]

/-- The share of an array that a slot's transfers of one kind read at. -/
def qs (s : ℕ) (d : Bool) : PosShare TreeShare :=
  if s % 2 = 0 then (if d then (half1).right else (half1).left) else (if d then (half2).right else (half2).left)
theorem qs_mod (s : ℕ) (d : Bool) : qs s d = qs (s % 2) d := by unfold qs; rw [Nat.mod_mod]

variable (I : In F) (c : Dev nD)

theorem kG_spot (x : Iss 3 1408) : (dstV kG x).view.set = spot x :=
  (View.set_reshape _ _).trans ((View.set_slice (kG).view _).trans (whole_spot cc0_scratch3 _))

theorem KG_reads (x : Iss 3 1408) (f : Buf (Elt F) ((kG).view.loc (c : Thread nD τ))) : (dstV kG x).view.read (Elt F) f
    = fun i => f ((Rect.unit (s := KS 3 1408) x.od S1x1x64x128.size x.hd).emb (Shape.reshapeEquiv squeezes_S1x1x64x128_S64x128.numel_eq i)) := rfl
theorem KG_source (x : Iss 3 1408) (f : Buf (Elt F) ((Memref.whole main_arg2).view.loc (c : Thread nD τ))) : (srcV (Memref.whole main_arg2) x).view.read (Elt F) f
    = fun i => f ((Rect.unit (s := S1x4096x32x128) x.os S1x64x1x128.size x.hs).emb (Shape.reshapeEquiv squeezes_S1x64x1x128_S64x128.numel_eq i)) := rfl

theorem KG_brings (s t : ℕ) (j : Fin 66) : (dstV kG (canG s (8 * c.val + t) j)).view.read (Elt F) (fKV (a := 3) (b := 1408) c kbG (I.k c) t)
    = (srcV (Memref.whole main_arg2) (canG s (8 * c.val + t) j)).view.read (Elt F) (I.k c) := by
  refine (KG_reads c (canG s (8 * c.val + t) j) (fKV (a := 3) (b := 1408) c kbG (I.k c) t)).trans (Eq.trans ?_ (KG_source c (canG s (8 * c.val + t) j) (I.k c)).symm)
  funext i
  exact brings (a := 3) (b := 1408) (n := 66) 22 rfl rfl kbG s t c (I.k c) j i

def feedKG (s t : ℕ) : Feed F c (canG s (8 * c.val + t)) (Memref.whole main_arg2) where
  M := kG
  S := cc0_scratch21
  sm := smV cc0_scratch21 s
  hsm _ := semV_of rfl
  hlow := by
    rw [sem_ok]
    rcases Nat.mod_two_eq_zero_or_one s with h | h <;> rw [h] <;> decide
  hN _ := rfl
  q := qs s false
  fT := fKV c kbG (I.k c) t
  fH := I.k c
  brings j := KG_brings I c s t j
  place := slotOf 3 1408 s
  hdis i j h := by rw [kG_spot, kG_spot]; exact spot_disjoint (a := 3) (b := 1408) (n := 66) 22 rfl rfl kbG s (8 * c.val + t) i j h
  hcov := by simp only [kG_spot]; exact spot_cover (a := 3) (b := 1408) (n := 66) 22 rfl rfl kbG s (8 * c.val + t)

theorem idleKG (s t : ℕ) : (feedKG I c s t).idle =
    iprop(semVal ((c : Thread nD τ), .dma (smV cc0_scratch21 s)) 0 ∗ (∃ f : Buf (Elt F) ((kG).view.loc (c : Thread nD τ)), pts c kG (slotOf 3 1408 s) fullShare f)
      ∗ ((Memref.whole main_arg2).view.loc (c : Thread nD τ) ↦[Finset.univ]{qs s false} I.k c)) := rfl

theorem idleKG_mod (s t : ℕ) : (feedKG I c s t).idle = (feedKG I c (s % 2) 0).idle := by
  rw [idleKG, idleKG, sem_ok, slot_mod, qs_mod]

theorem doneKG (s t : ℕ) : (feedKG I c s t).done ⊢ (feedKG I c s 0).idle := by
  rw [idleKG]
  unfold Feed.done
  iintro ⟨H1, H2, H3⟩
  isplitl [H1]; · iexact H1
  isplitl [H2]; · iexists _; iexact H2
  iexact H3

theorem vG_spot (x : Iss 3 1408) : (dstV vG x).view.set = spot x :=
  (View.set_reshape _ _).trans ((View.set_slice (vG).view _).trans (whole_spot cc0_scratch4 _))

theorem VG_reads (x : Iss 3 1408) (f : Buf (Elt F) ((vG).view.loc (c : Thread nD τ))) : (dstV vG x).view.read (Elt F) f
    = fun i => f ((Rect.unit (s := KS 3 1408) x.od S1x1x64x128.size x.hd).emb (Shape.reshapeEquiv squeezes_S1x1x64x128_S64x128.numel_eq i)) := rfl
theorem VG_source (x : Iss 3 1408) (f : Buf (Elt F) ((Memref.whole main_arg3).view.loc (c : Thread nD τ))) : (srcV (Memref.whole main_arg3) x).view.read (Elt F) f
    = fun i => f ((Rect.unit (s := S1x4096x32x128) x.os S1x64x1x128.size x.hs).emb (Shape.reshapeEquiv squeezes_S1x64x1x128_S64x128.numel_eq i)) := rfl

theorem VG_brings (s t : ℕ) (j : Fin 66) : (dstV vG (canG s (8 * c.val + t) j)).view.read (Elt F) (fKV (a := 3) (b := 1408) c kbG (I.v c) t)
    = (srcV (Memref.whole main_arg3) (canG s (8 * c.val + t) j)).view.read (Elt F) (I.v c) := by
  refine (VG_reads c (canG s (8 * c.val + t) j) (fKV (a := 3) (b := 1408) c kbG (I.v c) t)).trans (Eq.trans ?_ (VG_source c (canG s (8 * c.val + t) j) (I.v c)).symm)
  funext i
  exact brings (a := 3) (b := 1408) (n := 66) 22 rfl rfl kbG s t c (I.v c) j i

def feedVG (s t : ℕ) : Feed F c (canG s (8 * c.val + t)) (Memref.whole main_arg3) where
  M := vG
  S := cc0_scratch22
  sm := smV cc0_scratch22 s
  hsm _ := semV_of rfl
  hlow := by
    rw [sem_ok]
    rcases Nat.mod_two_eq_zero_or_one s with h | h <;> rw [h] <;> decide
  hN _ := rfl
  q := qs s false
  fT := fKV c kbG (I.v c) t
  fH := I.v c
  brings j := VG_brings I c s t j
  place := slotOf 3 1408 s
  hdis i j h := by rw [vG_spot, vG_spot]; exact spot_disjoint (a := 3) (b := 1408) (n := 66) 22 rfl rfl kbG s (8 * c.val + t) i j h
  hcov := by simp only [vG_spot]; exact spot_cover (a := 3) (b := 1408) (n := 66) 22 rfl rfl kbG s (8 * c.val + t)

theorem idleVG (s t : ℕ) : (feedVG I c s t).idle =
    iprop(semVal ((c : Thread nD τ), .dma (smV cc0_scratch22 s)) 0 ∗ (∃ f : Buf (Elt F) ((vG).view.loc (c : Thread nD τ)), pts c vG (slotOf 3 1408 s) fullShare f)
      ∗ ((Memref.whole main_arg3).view.loc (c : Thread nD τ) ↦[Finset.univ]{qs s false} I.v c)) := rfl

theorem idleVG_mod (s t : ℕ) : (feedVG I c s t).idle = (feedVG I c (s % 2) 0).idle := by
  rw [idleVG, idleVG, sem_ok, slot_mod, qs_mod]

theorem doneVG (s t : ℕ) : (feedVG I c s t).done ⊢ (feedVG I c s 0).idle := by
  rw [idleVG]
  unfold Feed.done
  iintro ⟨H1, H2, H3⟩
  isplitl [H1]; · iexact H1
  isplitl [H2]; · iexists _; iexact H2
  iexact H3

theorem kD_spot (x : Iss 2 320) : (dstV kD x).view.set = spot x :=
  (View.set_reshape _ _).trans ((View.set_slice (kD).view _).trans (whole_spot cc0_scratch5 _))

theorem KD_reads (x : Iss 2 320) (f : Buf (Elt F) ((kD).view.loc (c : Thread nD τ))) : (dstV kD x).view.read (Elt F) f
    = fun i => f ((Rect.unit (s := KS 2 320) x.od S1x1x64x128.size x.hd).emb (Shape.reshapeEquiv squeezes_S1x1x64x128_S64x128.numel_eq i)) := rfl
theorem KD_source (x : Iss 2 320) (f : Buf (Elt F) ((Memref.whole main_arg2).view.loc (c : Thread nD τ))) : (srcV (Memref.whole main_arg2) x).view.read (Elt F) f
    = fun i => f ((Rect.unit (s := S1x4096x32x128) x.os S1x64x1x128.size x.hs).emb (Shape.reshapeEquiv squeezes_S1x64x1x128_S64x128.numel_eq i)) := rfl

theorem KD_brings (s t : ℕ) (j : Fin 10) : (dstV kD (canD s (8 * c.val + t) j)).view.read (Elt F) (fKV (a := 2) (b := 320) c kbD (I.k c) t)
    = (srcV (Memref.whole main_arg2) (canD s (8 * c.val + t) j)).view.read (Elt F) (I.k c) := by
  refine (KD_reads c (canD s (8 * c.val + t) j) (fKV (a := 2) (b := 320) c kbD (I.k c) t)).trans (Eq.trans ?_ (KD_source c (canD s (8 * c.val + t) j) (I.k c)).symm)
  funext i
  exact brings (a := 2) (b := 320) (n := 10) 5 rfl rfl kbD s t c (I.k c) j i

def feedKD (s t : ℕ) : Feed F c (canD s (8 * c.val + t)) (Memref.whole main_arg2) where
  M := kD
  S := cc0_scratch23
  sm := smV cc0_scratch23 s
  hsm _ := semV_of rfl
  hlow := by
    rw [sem_ok]
    rcases Nat.mod_two_eq_zero_or_one s with h | h <;> rw [h] <;> decide
  hN _ := rfl
  q := qs s true
  fT := fKV c kbD (I.k c) t
  fH := I.k c
  brings j := KD_brings I c s t j
  place := slotOf 2 320 s
  hdis i j h := by rw [kD_spot, kD_spot]; exact spot_disjoint (a := 2) (b := 320) (n := 10) 5 rfl rfl kbD s (8 * c.val + t) i j h
  hcov := by simp only [kD_spot]; exact spot_cover (a := 2) (b := 320) (n := 10) 5 rfl rfl kbD s (8 * c.val + t)

theorem idleKD (s t : ℕ) : (feedKD I c s t).idle =
    iprop(semVal ((c : Thread nD τ), .dma (smV cc0_scratch23 s)) 0 ∗ (∃ f : Buf (Elt F) ((kD).view.loc (c : Thread nD τ)), pts c kD (slotOf 2 320 s) fullShare f)
      ∗ ((Memref.whole main_arg2).view.loc (c : Thread nD τ) ↦[Finset.univ]{qs s true} I.k c)) := rfl

theorem idleKD_mod (s t : ℕ) : (feedKD I c s t).idle = (feedKD I c (s % 2) 0).idle := by
  rw [idleKD, idleKD, sem_ok, slot_mod, qs_mod]

theorem doneKD (s t : ℕ) : (feedKD I c s t).done ⊢ (feedKD I c s 0).idle := by
  rw [idleKD]
  unfold Feed.done
  iintro ⟨H1, H2, H3⟩
  isplitl [H1]; · iexact H1
  isplitl [H2]; · iexists _; iexact H2
  iexact H3

theorem vD_spot (x : Iss 2 320) : (dstV vD x).view.set = spot x :=
  (View.set_reshape _ _).trans ((View.set_slice (vD).view _).trans (whole_spot cc0_scratch6 _))

theorem VD_reads (x : Iss 2 320) (f : Buf (Elt F) ((vD).view.loc (c : Thread nD τ))) : (dstV vD x).view.read (Elt F) f
    = fun i => f ((Rect.unit (s := KS 2 320) x.od S1x1x64x128.size x.hd).emb (Shape.reshapeEquiv squeezes_S1x1x64x128_S64x128.numel_eq i)) := rfl
theorem VD_source (x : Iss 2 320) (f : Buf (Elt F) ((Memref.whole main_arg3).view.loc (c : Thread nD τ))) : (srcV (Memref.whole main_arg3) x).view.read (Elt F) f
    = fun i => f ((Rect.unit (s := S1x4096x32x128) x.os S1x64x1x128.size x.hs).emb (Shape.reshapeEquiv squeezes_S1x64x1x128_S64x128.numel_eq i)) := rfl

theorem VD_brings (s t : ℕ) (j : Fin 10) : (dstV vD (canD s (8 * c.val + t) j)).view.read (Elt F) (fKV (a := 2) (b := 320) c kbD (I.v c) t)
    = (srcV (Memref.whole main_arg3) (canD s (8 * c.val + t) j)).view.read (Elt F) (I.v c) := by
  refine (VD_reads c (canD s (8 * c.val + t) j) (fKV (a := 2) (b := 320) c kbD (I.v c) t)).trans (Eq.trans ?_ (VD_source c (canD s (8 * c.val + t) j) (I.v c)).symm)
  funext i
  exact brings (a := 2) (b := 320) (n := 10) 5 rfl rfl kbD s t c (I.v c) j i

def feedVD (s t : ℕ) : Feed F c (canD s (8 * c.val + t)) (Memref.whole main_arg3) where
  M := vD
  S := cc0_scratch24
  sm := smV cc0_scratch24 s
  hsm _ := semV_of rfl
  hlow := by
    rw [sem_ok]
    rcases Nat.mod_two_eq_zero_or_one s with h | h <;> rw [h] <;> decide
  hN _ := rfl
  q := qs s true
  fT := fKV c kbD (I.v c) t
  fH := I.v c
  brings j := VD_brings I c s t j
  place := slotOf 2 320 s
  hdis i j h := by rw [vD_spot, vD_spot]; exact spot_disjoint (a := 2) (b := 320) (n := 10) 5 rfl rfl kbD s (8 * c.val + t) i j h
  hcov := by simp only [vD_spot]; exact spot_cover (a := 2) (b := 320) (n := 10) 5 rfl rfl kbD s (8 * c.val + t)

theorem idleVD (s t : ℕ) : (feedVD I c s t).idle =
    iprop(semVal ((c : Thread nD τ), .dma (smV cc0_scratch24 s)) 0 ∗ (∃ f : Buf (Elt F) ((vD).view.loc (c : Thread nD τ)), pts c vD (slotOf 2 320 s) fullShare f)
      ∗ ((Memref.whole main_arg3).view.loc (c : Thread nD τ) ↦[Finset.univ]{qs s true} I.v c)) := rfl

theorem idleVD_mod (s t : ℕ) : (feedVD I c s t).idle = (feedVD I c (s % 2) 0).idle := by
  rw [idleVD, idleVD, sem_ok, slot_mod, qs_mod]

theorem doneVD (s t : ℕ) : (feedVD I c s t).done ⊢ (feedVD I c s 0).idle := by
  rw [idleVD]
  unfold Feed.done
  iintro ⟨H1, H2, H3⟩
  isplitl [H1]; · iexact H1
  isplitl [H2]; · iexists _; iexact H2
  iexact H3

/-- A slot none of whose transfers are on their way; a slot into which a head's transfers are on their way; a slot holding a head. -/
def idles (s : ℕ) : sProp 𝕄 := iprop(((feedKG I c s 0).idle ∗ (feedVG I c s 0).idle) ∗ ((feedKD I c s 0).idle ∗ (feedVD I c s 0).idle))
def busys (t : ℕ) : sProp 𝕄 := iprop(((feedKG I c t t).busy 0 ∗ (feedVG I c t t).busy 0) ∗ ((feedKD I c t t).busy 0 ∗ (feedVD I c t t).busy 0))
def dones (t : ℕ) : sProp 𝕄 := iprop(((feedKG I c t t).done ∗ (feedVG I c t t).done) ∗ ((feedKD I c t t).done ∗ (feedVD I c t t).done))

theorem idles_mod (s s' : ℕ) (h : s % 2 = s' % 2) : idles I c s = idles I c s' := by
  unfold idles
  rw [idleKG_mod, idleVG_mod, idleKD_mod, idleVD_mod, h, ← idleKG_mod, ← idleVG_mod, ← idleKD_mod, ← idleVD_mod]

theorem dones_idles (t : ℕ) : dones I c t ⊢ idles I c t := by
  unfold dones idles
  iintro ⟨⟨H1, H2⟩, H3, H4⟩
  isplitl [H1 H2]
  · isplitl [H1]; · iapply (doneKG I c t t); iexact H1
    iapply (doneVG I c t t); iexact H2
  isplitl [H3]; · iapply (doneKD I c t t); iexact H3
  iapply (doneVD I c t t); iexact H4

theorem wp_issueHead {α : Type} {Q : α → sProp 𝕄} {kk : PUnit → P F α} (t : ℕ) :
    idles I c t ⊢ iprop((busys I c t -∗ runs c (kk ⟨⟩) Q)
      -∗ runs c (issueHead (List.ofFn (canG t (8 * c.val + t))) (List.ofFn (canD t (8 * c.val + t))) >>= kk) Q) := by
  unfold idles busys issueHead
  rw [show (feedKG I c t 0).idle = (feedKG I c t t).idle from rfl, show (feedVG I c t 0).idle = (feedVG I c t t).idle from rfl,
    show (feedKD I c t 0).idle = (feedKD I c t t).idle from rfl, show (feedVD I c t 0).idle = (feedVD I c t t).idle from rfl]
  simp only [bind_assoc]
  iintro ⟨H1, H2⟩ Hk
  iapply (wp_feed (feedKG I c t t) (feedVG I c t t)) $$ H1; iintro H1
  iapply (wp_feed (feedKD I c t t) (feedVD I c t t)) $$ H2; iintro H2
  iapply Hk
  isplitl [H1] <;> iassumption

theorem wp_awaitHead {α : Type} {Q : α → sProp 𝕄} {kk : PUnit → P F α} (t : Fin k0_t1_loop.trips) :
    iprop(levAts L lv ∗ Ow c 6 ∗ busys I c t.val) ⊢ iprop((iprop(Ow c 6 ∗ dones I c t.val) -∗ runs c (kk ⟨⟩) Q)
      -∗ runs c (awaitHead (curG c t) (curD c t) >>= kk) Q) := by
  unfold busys dones awaitHead
  simp only [bind_assoc]
  have hG := oq_of_replicate (curG_oq c t)
  have hD := oq_of_replicate (curD_oq c t)
  iintro ⟨#Hlev, HO, ⟨H1, H2⟩, H3, H4⟩ Hk
  iapply (wp_fed (feedKG I c t.val t.val) (feedVG I c t.val t.val) 6 (by omega) (curG c t) hG.1 fun x hx => ⟨semV_of (hG.2 x hx), semV_of (hG.2 x hx)⟩) $$ [HO H1 H2]
  · isplitr; · iexact Hlev
    isplitl [HO]; · iexact HO
    isplitl [H1] <;> iassumption
  iintro ⟨HO, H1, H2⟩
  iapply (wp_fed (feedKD I c t.val t.val) (feedVD I c t.val t.val) 6 (by omega) (curD c t) hD.1 fun x hx => ⟨semV_of (hD.2 x hx), semV_of (hD.2 x hx)⟩) $$ [HO H3 H4]
  · isplitr; · iexact Hlev
    isplitl [HO]; · iexact HO
    isplitl [H3] <;> iassumption
  iintro ⟨HO, H3, H4⟩
  iapply Hk
  isplitl [HO]; · iexact HO
  isplitl [H1 H2]
  · isplitl [H1] <;> iassumption
  isplitl [H3] <;> iassumption

end Cert.KernelIdeal.Body
-- ==== Proof.Trip.lean ====
module

public import proofs.«01_k».proof.Proof.Feeds

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## One head of the loop -/

theorem all_of {s : Shape} {off sz : Fin s.rank → ℕ} (ho : off = fun _ => 0) (hz : sz = s.size) (inb : ∀ a, off a + sz a ≤ s.size a) (i : s.Idx) :
    i ∈ (Rect.unit (s := s) off sz inb).set := by
  subst ho hz
  exact Rect.mem_set_unit.mpr fun a => ⟨Nat.zero_le _, by rw [Nat.zero_add]; exact (i a).isLt⟩

theorem win_sub {a b s : ℕ} {off sz : Fin 4 → ℕ} (inb : ∀ x, off x + sz x ≤ (KS a b).size x) (h0 : off 0 = s % 2) (h1 : sz 0 = 1) :
    (Rect.unit (s := KS a b) off sz inb).set ⊆ slotOf a b s := by
  intro i hi
  have h := Rect.mem_set_unit.mp hi 0
  refine Finset.mem_filter.mpr ⟨Finset.mem_univ _, ?_⟩
  show (i 0).val = s % 2
  have h' : off 0 ≤ (i 0).val ∧ (i 0).val < off 0 + sz 0 := h
  omega

variable (I : In F) (c : Dev nD)

theorem doneKG_eq (t : ℕ) : (feedKG I c t t).done =
    iprop(semVal ((c : Thread nD τ), .dma (smV cc0_scratch21 t)) 0 ∗ pts c kG (slotOf 3 1408 t) fullShare (fKV (a := 3) (b := 1408) c kbG (I.k c) t)
      ∗ ((Memref.whole main_arg2).view.loc (c : Thread nD τ) ↦[Finset.univ]{qs t false} I.k c)) := rfl
theorem doneVG_eq (t : ℕ) : (feedVG I c t t).done =
    iprop(semVal ((c : Thread nD τ), .dma (smV cc0_scratch22 t)) 0 ∗ pts c vG (slotOf 3 1408 t) fullShare (fKV (a := 3) (b := 1408) c kbG (I.v c) t)
      ∗ ((Memref.whole main_arg3).view.loc (c : Thread nD τ) ↦[Finset.univ]{qs t false} I.v c)) := rfl
theorem doneKD_eq (t : ℕ) : (feedKD I c t t).done =
    iprop(semVal ((c : Thread nD τ), .dma (smV cc0_scratch23 t)) 0 ∗ pts c kD (slotOf 2 320 t) fullShare (fKV (a := 2) (b := 320) c kbD (I.k c) t)
      ∗ ((Memref.whole main_arg2).view.loc (c : Thread nD τ) ↦[Finset.univ]{qs t true} I.k c)) := rfl
theorem doneVD_eq (t : ℕ) : (feedVD I c t t).done =
    iprop(semVal ((c : Thread nD τ), .dma (smV cc0_scratch24 t)) 0 ∗ pts c vD (slotOf 2 320 t) fullShare (fKV (a := 2) (b := 320) c kbD (I.v c) t)
      ∗ ((Memref.whole main_arg3).view.loc (c : Thread nD τ) ↦[Finset.univ]{qs t true} I.v c)) := rfl

theorem wp_roundKG {α : Type} {Q : α → sProp 𝕄} (t : Fin k0_t1_loop.trips) {n0 n1 hx} {kk : PUnit → P F α} :
    iprop((feedKG I c t.val t.val).done ∗ anyOf c kGb Finset.univ) ⊢ iprop((iprop((feedKG I c t.val t.val).done ∗ pts c kGb Finset.univ fullShare (gK I c t)) -∗ runs c (kk ⟨⟩) Q)
      -∗ runs c (loadR kG (k0_off350 t) S1x3x1408x128.size (k0_off350_inb t) n0 >>= fun x =>
        putR kGb ![0, 0, 0] S3x1408x128.size inb_S3x1408x128_S3x1408x128_0_0_0 n1 (gRound x) hx >>= kk) Q) := by
  rw [doneKG_eq]
  iintro ⟨⟨H1, H2, H3⟩, H4⟩ Hk
  iapply (wp_loadR c (m := kG) ((whole_spot cc0_scratch3 _).trans_subset (win_sub _ (congrFun (k0_off350_eq t) 0) rfl))) $$ H2; iintro H2
  iapply (wp_fill c kGb (gK I c t) (univ_q (b := cc0_scratch7) (all_of hz3 rfl _)) (Memref.readAt_unit_zero (Elt F) cc0_scratch7 hz3 _ _)) $$ H4; iintro H4
  iapply Hk
  isplitr [H4]; · isplitl [H1]; · iexact H1
                  isplitl [H2] <;> iassumption
  iexact H4

theorem wp_roundVG {α : Type} {Q : α → sProp 𝕄} (t : Fin k0_t1_loop.trips) {n0 n1 hx} {kk : PUnit → P F α} :
    iprop((feedVG I c t.val t.val).done ∗ anyOf c vGb Finset.univ) ⊢ iprop((iprop((feedVG I c t.val t.val).done ∗ pts c vGb Finset.univ fullShare (gV I c t)) -∗ runs c (kk ⟨⟩) Q)
      -∗ runs c (loadR vG (k0_off350 t) S1x3x1408x128.size (k0_off350_inb t) n0 >>= fun x =>
        putR vGb ![0, 0, 0] S3x1408x128.size inb_S3x1408x128_S3x1408x128_0_0_0 n1 (gRound x) hx >>= kk) Q) := by
  rw [doneVG_eq]
  iintro ⟨⟨H1, H2, H3⟩, H4⟩ Hk
  iapply (wp_loadR c (m := vG) ((whole_spot cc0_scratch4 _).trans_subset (win_sub _ (congrFun (k0_off350_eq t) 0) rfl))) $$ H2; iintro H2
  iapply (wp_fill c vGb (gV I c t) (univ_q (b := cc0_scratch8) (all_of hz3 rfl _)) (Memref.readAt_unit_zero (Elt F) cc0_scratch8 hz3 _ _)) $$ H4; iintro H4
  iapply Hk
  isplitr [H4]; · isplitl [H1]; · iexact H1
                  isplitl [H2] <;> iassumption
  iexact H4

theorem wp_roundKD {α : Type} {Q : α → sProp 𝕄} (t : Fin k0_t1_loop.trips) {n0 n1 hx} {kk : PUnit → P F α} :
    iprop((feedKD I c t.val t.val).done ∗ anyOf c kDb Finset.univ) ⊢ iprop((iprop((feedKD I c t.val t.val).done ∗ pts c kDb Finset.univ fullShare (dK I c t)) -∗ runs c (kk ⟨⟩) Q)
      -∗ runs c (loadR kD (k0_off351 t) S1x2x320x128.size (k0_off351_inb t) n0 >>= fun x =>
        putR kDb ![0, 0, 0] S2x320x128.size inb_S2x320x128_S2x320x128_0_0_0 n1 (dRound x) hx >>= kk) Q) := by
  rw [doneKD_eq]
  iintro ⟨⟨H1, H2, H3⟩, H4⟩ Hk
  iapply (wp_loadR c (m := kD) ((whole_spot cc0_scratch5 _).trans_subset (win_sub _ (congrFun (k0_off351_eq t) 0) rfl))) $$ H2; iintro H2
  iapply (wp_fill c kDb (dK I c t) (univ_q (b := cc0_scratch9) (all_of hz3 rfl _)) (Memref.readAt_unit_zero (Elt F) cc0_scratch9 hz3 _ _)) $$ H4; iintro H4
  iapply Hk
  isplitr [H4]; · isplitl [H1]; · iexact H1
                  isplitl [H2] <;> iassumption
  iexact H4

theorem wp_roundVD {α : Type} {Q : α → sProp 𝕄} (t : Fin k0_t1_loop.trips) {n0 n1 hx} {kk : PUnit → P F α} :
    iprop((feedVD I c t.val t.val).done ∗ anyOf c vDb Finset.univ) ⊢ iprop((iprop((feedVD I c t.val t.val).done ∗ pts c vDb Finset.univ fullShare (dV I c t)) -∗ runs c (kk ⟨⟩) Q)
      -∗ runs c (loadR vD (k0_off351 t) S1x2x320x128.size (k0_off351_inb t) n0 >>= fun x =>
        putR vDb ![0, 0, 0] S2x320x128.size inb_S2x320x128_S2x320x128_0_0_0 n1 (dRound x) hx >>= kk) Q) := by
  rw [doneVD_eq]
  iintro ⟨⟨H1, H2, H3⟩, H4⟩ Hk
  iapply (wp_loadR c (m := vD) ((whole_spot cc0_scratch6 _).trans_subset (win_sub _ (congrFun (k0_off351_eq t) 0) rfl))) $$ H2; iintro H2
  iapply (wp_fill c vDb (dV I c t) (univ_q (b := cc0_scratch10) (all_of hz3 rfl _)) (Memref.readAt_unit_zero (Elt F) cc0_scratch10 hz3 _ _)) $$ H4; iintro H4
  iapply Hk
  isplitr [H4]; · isplitl [H1]; · iexact H1
                  isplitl [H2] <;> iassumption
  iexact H4

/-- The head's keys and values as they are computed with. -/
def rounded (t : Fin k0_t1_loop.trips) : sProp 𝕄 :=
  iprop(pts c kGb Finset.univ fullShare (gK I c t) ∗ pts c vGb Finset.univ fullShare (gV I c t)
    ∗ pts c kDb Finset.univ fullShare (dK I c t) ∗ pts c vDb Finset.univ fullShare (dV I c t))
def unrounded : sProp 𝕄 := iprop(anyOf (F := F) c kGb Finset.univ ∗ anyOf (F := F) c vGb Finset.univ ∗ anyOf (F := F) c kDb Finset.univ ∗ anyOf (F := F) c vDb Finset.univ)

theorem rounded_un (t : Fin k0_t1_loop.trips) : rounded I c t ⊢ unrounded c := by
  unfold rounded unrounded anyOf
  iintro ⟨H1, H2, H3, H4⟩
  isplitl [H1]; · iexists _; iexact H1
  isplitl [H2]; · iexists _; iexact H2
  isplitl [H3]; · iexists _; iexact H3
  iexists _; iexact H4

theorem wp_rounds {α : Type} {Q : α → sProp 𝕄} (t : Fin k0_t1_loop.trips) {kk : PUnit → P F α} :
    iprop(dones I c t.val ∗ unrounded c) ⊢ iprop((iprop(dones I c t.val ∗ rounded I c t) -∗ runs c (kk ⟨⟩) Q) -∗ runs c (rounds t >>= kk) Q) := by
  unfold dones unrounded rounded rounds
  simp only [bind_assoc]
  iintro ⟨⟨⟨H1, H2⟩, H3, H4⟩, G1, G2, G3, G4⟩ Hk
  iapply (wp_roundKG I c t) $$ [H1 G1]; · isplitl [H1] <;> iassumption
  iintro ⟨H1, G1⟩
  iapply (wp_roundVG I c t) $$ [H2 G2]; · isplitl [H2] <;> iassumption
  iintro ⟨H2, G2⟩
  iapply (wp_roundKD I c t) $$ [H3 G3]; · isplitl [H3] <;> iassumption
  iintro ⟨H3, G3⟩
  iapply (wp_roundVD I c t) $$ [H4 G4]; · isplitl [H4] <;> iassumption
  iintro ⟨H4, G4⟩
  iapply Hk
  isplitl [H1 H2 H3 H4]
  · isplitl [H1 H2]
    · isplitl [H1] <;> iassumption
    isplitl [H3] <;> iassumption
  isplitl [G1]; · iexact G1
  isplitl [G2]; · iexact G2
  isplitl [G3] <;> iassumption

/-- The places of the context that are filled: the heads before `t`, and of head `t` the blocks `js`. -/
def Dc (t : ℕ) (js : List ℕ) (i : S1024x1024.Idx) : Prop := (i 1).val / 128 < t ∨ ((i 1).val / 128 = t ∧ (i 0).val / 64 ∈ js)

abbrev ctxT (t : ℕ) (js : List ℕ) : sProp 𝕄 := Tr c mCtx Finset.univ (Dc t js) (fC I c)

theorem wp_putC {α : Type} {Q : α → sProp 𝕄} (t : Fin k0_t1_loop.trips) (js : List ℕ) (b : ℕ) {p : CDst} (ho : p.off = ![64 * b, 128 * t.val])
    {w : Vec F S64x128 .bf16} (hw : cBlk I c t b = w) {kk : PUnit → P F α} :
    ctxT I c t.val js ⊢ iprop((ctxT I c t.val (b :: js) -∗ runs c (kk ⟨⟩) Q) -∗ runs c (putC p w >>= kk) Q) := by
  refine wp_putT c (m := mCtx) (Dc t.val (b :: js)) (Finset.subset_univ _) ((rd_ctx I c t ho p.inb).trans hw) fun i hi hn => ?_
  rcases hi with hi | ⟨hi, hj⟩
  · exact Or.inl hi
  rcases List.mem_cons.mp hj with he | he
  · refine absurd ((mem_whole cc0_scratch13 _ i).mpr (Rect.mem_set_unit.mpr fun a => ?_)) hn
    have hi' : ((show S1024x1024.Idx from i) 1).val / 128 = t.val := hi
    have he' : ((show S1024x1024.Idx from i) 0).val / 64 = b := he
    have h0 : p.off 0 = 64 * b := congrFun ho 0
    have h1 : p.off 1 = 128 * t.val := congrFun ho 1
    fin_cases a
    · show p.off 0 ≤ ((show S1024x1024.Idx from i) 0).val ∧ ((show S1024x1024.Idx from i) 0).val < p.off 0 + 64; omega
    · show p.off 1 ≤ ((show S1024x1024.Idx from i) 1).val ∧ ((show S1024x1024.Idx from i) 1).val < p.off 1 + 128; omega
  · exact Or.inr ⟨hi, he⟩

abbrev qsF : sProp 𝕄 := pts c mQ Finset.univ fullShare (fQ I c)

theorem wp_group0 {α : Type} {Q : α → sProp 𝕄} (t : Fin k0_t1_loop.trips) {kk : PUnit → P F α} :
    iprop(qsF I c ∗ rounded I c t ∗ ctxT I c t.val []) ⊢ iprop((iprop(qsF I c ∗ rounded I c t ∗ ctxT I c t.val [15, 12, 9, 6, 3, 0]) -∗ runs c (kk ⟨⟩) Q)
      -∗ runs c (group0 t >>= kk) Q) := by
  unfold rounded group0
  simp only [bind_assoc]
  iintro ⟨HQ, ⟨G1, G2, G3, G4⟩, HC⟩ Hk
  iapply (wp_loadR c (m := mQ) (Finset.subset_univ _)) $$ HQ; iintro HQ
  iapply (wp_loadR c (m := kGb) (Finset.subset_univ _)) $$ G1; iintro G1
  iapply (wp_loadR c (m := vGb) (Finset.subset_univ _)) $$ G2; iintro G2
  iapply (wp_putC I c t [] 0 (k0_off353_eq t) rfl) $$ HC; iintro HC
  iapply (wp_putC I c t [0] 3 (k0_off354_eq t) rfl) $$ HC; iintro HC
  iapply (wp_putC I c t [3, 0] 6 (k0_off355_eq t) rfl) $$ HC; iintro HC
  iapply (wp_putC I c t [6, 3, 0] 9 (k0_off356_eq t) rfl) $$ HC; iintro HC
  iapply (wp_putC I c t [9, 6, 3, 0] 12 (k0_off357_eq t) rfl) $$ HC; iintro HC
  iapply (wp_putC I c t [12, 9, 6, 3, 0] 15 (k0_off358_eq t) rfl) $$ HC; iintro HC
  iapply Hk
  isplitl [HQ]; · iexact HQ
  isplitr [HC]
  · isplitl [G1]; · iexact G1
    isplitl [G2]; · iexact G2
    isplitl [G3] <;> iassumption
  iexact HC

theorem wp_group1 {α : Type} {Q : α → sProp 𝕄} (t : Fin k0_t1_loop.trips) {kk : PUnit → P F α} :
    iprop(qsF I c ∗ rounded I c t ∗ ctxT I c t.val [15, 12, 9, 6, 3, 0]) ⊢ iprop((iprop(qsF I c ∗ rounded I c t ∗ ctxT I c t.val [13, 10, 7, 4, 1, 15, 12, 9, 6, 3, 0]) -∗ runs c (kk ⟨⟩) Q)
      -∗ runs c (group1 t >>= kk) Q) := by
  unfold rounded group1
  simp only [bind_assoc]
  iintro ⟨HQ, ⟨G1, G2, G3, G4⟩, HC⟩ Hk
  iapply (wp_loadR c (m := mQ) (Finset.subset_univ _)) $$ HQ; iintro HQ
  iapply (wp_loadR c (m := kGb) (Finset.subset_univ _)) $$ G1; iintro G1
  iapply (wp_loadR c (m := kDb) (Finset.subset_univ _)) $$ G3; iintro G3
  iapply (wp_loadR c (m := vGb) (Finset.subset_univ _)) $$ G2; iintro G2
  iapply (wp_loadR c (m := vDb) (Finset.subset_univ _)) $$ G4; iintro G4
  iapply (wp_putC I c t [15, 12, 9, 6, 3, 0] 1 (k0_off360_eq t) rfl) $$ HC; iintro HC
  iapply (wp_putC I c t [1, 15, 12, 9, 6, 3, 0] 4 (k0_off361_eq t) rfl) $$ HC; iintro HC
  iapply (wp_putC I c t [4, 1, 15, 12, 9, 6, 3, 0] 7 (k0_off362_eq t) rfl) $$ HC; iintro HC
  iapply (wp_putC I c t [7, 4, 1, 15, 12, 9, 6, 3, 0] 10 (k0_off363_eq t) rfl) $$ HC; iintro HC
  iapply (wp_putC I c t [10, 7, 4, 1, 15, 12, 9, 6, 3, 0] 13 (k0_off364_eq t) rfl) $$ HC; iintro HC
  iapply Hk
  isplitl [HQ]; · iexact HQ
  isplitr [HC]
  · isplitl [G1]; · iexact G1
    isplitl [G2]; · iexact G2
    isplitl [G3] <;> iassumption
  iexact HC

theorem wp_group2 {α : Type} {Q : α → sProp 𝕄} (t : Fin k0_t1_loop.trips) {kk : PUnit → P F α} :
    iprop(qsF I c ∗ rounded I c t ∗ ctxT I c t.val [13, 10, 7, 4, 1, 15, 12, 9, 6, 3, 0]) ⊢ iprop((iprop(qsF I c ∗ rounded I c t ∗ ctxT I c t.val [14, 11, 8, 5, 2, 13, 10, 7, 4, 1, 15, 12, 9, 6, 3, 0]) -∗ runs c (kk ⟨⟩) Q)
      -∗ runs c (group2 t >>= kk) Q) := by
  unfold rounded group2
  simp only [bind_assoc]
  iintro ⟨HQ, ⟨G1, G2, G3, G4⟩, HC⟩ Hk
  iapply (wp_loadR c (m := mQ) (Finset.subset_univ _)) $$ HQ; iintro HQ
  iapply (wp_loadR c (m := kGb) (Finset.subset_univ _)) $$ G1; iintro G1
  iapply (wp_loadR c (m := kDb) (Finset.subset_univ _)) $$ G3; iintro G3
  iapply (wp_loadR c (m := vGb) (Finset.subset_univ _)) $$ G2; iintro G2
  iapply (wp_loadR c (m := vDb) (Finset.subset_univ _)) $$ G4; iintro G4
  iapply (wp_putC I c t [13, 10, 7, 4, 1, 15, 12, 9, 6, 3, 0] 2 (k0_off366_eq t) rfl) $$ HC; iintro HC
  iapply (wp_putC I c t [2, 13, 10, 7, 4, 1, 15, 12, 9, 6, 3, 0] 5 (k0_off367_eq t) rfl) $$ HC; iintro HC
  iapply (wp_putC I c t [5, 2, 13, 10, 7, 4, 1, 15, 12, 9, 6, 3, 0] 8 (k0_off368_eq t) rfl) $$ HC; iintro HC
  iapply (wp_putC I c t [8, 5, 2, 13, 10, 7, 4, 1, 15, 12, 9, 6, 3, 0] 11 (k0_off369_eq t) rfl) $$ HC; iintro HC
  iapply (wp_putC I c t [11, 8, 5, 2, 13, 10, 7, 4, 1, 15, 12, 9, 6, 3, 0] 14 (k0_off370_eq t) rfl) $$ HC; iintro HC
  iapply Hk
  isplitl [HQ]; · iexact HQ
  isplitr [HC]
  · isplitl [G1]; · iexact G1
    isplitl [G2]; · iexact G2
    isplitl [G3] <;> iassumption
  iexact HC

theorem ctx_next (t : ℕ) : ctxT I c t [14, 11, 8, 5, 2, 13, 10, 7, 4, 1, 15, 12, 9, 6, 3, 0] ⊢ ctxT I c (t + 1) [] :=
  Tr_mono c (fun i _ hi => by
    rcases hi with hi | ⟨_, hi⟩
    · have h0 : ((show S1024x1024.Idx from i) 0).val < 1024 := ((show S1024x1024.Idx from i) 0).isLt
      have hi' : ((show S1024x1024.Idx from i) 1).val / 128 < t + 1 := hi
      by_cases h : ((show S1024x1024.Idx from i) 1).val / 128 < t
      · exact Or.inl h
      · refine Or.inr ⟨?_, ?_⟩
        · show ((show S1024x1024.Idx from i) 1).val / 128 = t
          omega
        · show ((show S1024x1024.Idx from i) 0).val / 64 ∈ _
          have hb : ((show S1024x1024.Idx from i) 0).val / 64 < 16 := by omega
          revert hb
          generalize ((show S1024x1024.Idx from i) 0).val / 64 = b
          revert b
          decide
    · cases hi) _

/-- What is in, or on its way into, head `t`'s slot when trip `t` begins. -/
def heads (t : ℕ) : sProp 𝕄 := if t < 8 then busys I c t else idles I c t

theorem wp_prefetch {α : Type} {Q : α → sProp 𝕄} (t : Fin k0_t1_loop.trips) {kk : PUnit → P F α} :
    idles I c (t.val + 1) ⊢ iprop((heads I c (t.val + 1) -∗ runs c (kk ⟨⟩) Q) -∗ runs c (prefetch c t >>= kk) Q) := by
  unfold prefetch heads
  by_cases h : k0_cond1 t = 1#1
  · rw [dif_pos h, if_pos ((cond_lt t).mp h), nxtG_eq, nxtD_eq]
    exact wp_issueHead I c (t.val + 1)
  · rw [dif_neg h, if_neg (fun h' => h ((cond_lt t).mpr h'))]
    iintro H Hk
    iapply Hk; iexact H

/-- What holds between trips. -/
def inv (t : ℕ) : sProp 𝕄 :=
  iprop(heads I c t ∗ idles I c (t + 1) ∗ qsF I c ∗ unrounded c ∗ ctxT I c t [] ∗ Ow (F := F) c 6)

theorem wp_trip {α : Type} {Q : α → sProp 𝕄} (t : Fin k0_t1_loop.trips) {kk : PUnit → P F α} :
    iprop(levAts L lv ∗ inv I c t.val) ⊢ iprop((inv I c (t.val + 1) -∗ runs c (kk ⟨⟩) Q) -∗ runs c (trip c t >>= kk) Q) := by
  unfold inv trip
  simp only [bind_assoc]
  rw [show heads I c t.val = busys I c t.val from if_pos t.isLt]
  iintro ⟨#Hlev, Hh, Hi, HQ, HU, HC, HO⟩ Hk
  iapply (wp_prefetch I c t) $$ Hi; iintro Hn
  iapply (wp_awaitHead I c t) $$ [HO Hh]
  · isplitr; · iexact Hlev
    isplitl [HO] <;> iassumption
  iintro ⟨HO, Hd⟩
  iapply (wp_rounds I c t) $$ [Hd HU]
  · isplitl [Hd] <;> iassumption
  iintro ⟨Hd, HR⟩
  iapply (wp_group0 I c t) $$ [HQ HR HC]
  · isplitl [HQ]; · iexact HQ
    isplitl [HR] <;> iassumption
  iintro ⟨HQ, HR, HC⟩
  iapply (wp_group1 I c t) $$ [HQ HR HC]
  · isplitl [HQ]; · iexact HQ
    isplitl [HR] <;> iassumption
  iintro ⟨HQ, HR, HC⟩
  iapply (wp_group2 I c t) $$ [HQ HR HC]
  · isplitl [HQ]; · iexact HQ
    isplitl [HR] <;> iassumption
  iintro ⟨HQ, HR, HC⟩
  iapply Hk
  isplitl [Hn]; · iexact Hn
  isplitl [Hd]
  · rw [idles_mod I c (t.val + 1 + 1) t.val (by omega)]
    iapply (dones_idles I c t.val); iexact Hd
  isplitl [HQ]; · iexact HQ
  isplitl [HR]; · iapply (rounded_un I c t); iexact HR
  isplitl [HC]; · iapply (ctx_next I c t.val); iexact HC
  iexact HO

theorem runs_ret {Q : PUnit → sProp 𝕄} : Q ⟨⟩ ⊢ runs c (pure ⟨⟩ : P F PUnit) Q := by
  show _ ⊢ runs c (.ret ⟨⟩) Q
  unfold runs
  rw [wp_ret]
  iintro H
  imodintro; iexact H

theorem wp_trip_whole (t : Fin k0_t1_loop.trips) :
    iprop(levAts L lv ∗ inv I c t.val) ⊢ runs c (trip c t) (fun _ => iprop(levAts L lv ∗ inv I c (t.val + 1))) := by
  rw [← bind_pure (trip c t)]
  iintro ⟨#Hlev, H⟩
  iapply (wp_trip I c t) $$ [H]
  · isplitr; · iexact Hlev
    iexact H
  iintro H
  iapply (runs_ret c)
  isplitr; · iexact Hlev
  iexact H

theorem wp_loop {α : Type} {Q : α → sProp 𝕄} {kk : PUnit → P F α} :
    iprop(levAts L lv ∗ inv I c 0) ⊢ iprop((inv I c 8 -∗ runs c (kk ⟨⟩) Q)
      -∗ runs c ((Scf.Loop.for k0_t1_loop k0_t1_ok (⟨⟩ : PUnit) fun t _ => trip c t) >>= kk) Q) := by
  iintro H Hk
  iapply (Scf.wp_for_bind frame (wpE (defs₀ (F := F)) 𝒱₀ (c : Thread nD τ) none) Set.univ (0#32) (Scalar.addi 0#32 8#32) (1#32) k0_t1_ok _ _
    (fun t _ => iprop(levAts L lv ∗ inv I c t)) (fun t _ => wp_trip_whole I c t)) $$ H
  iintro %acc ⟨-, H⟩
  iapply Hk; iexact H

end Cert.KernelIdeal.Body
-- ==== Proof.Scatter.lean ====
module

public import proofs.«01_k».proof.Proof.Gather

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : In F) (c : Dev nD) (K : Dev nD × Fin 25 → ℕ)

/-! ## What the summation sends and receives -/

theorem pay_stR : sendPay I 2 0 c ⊣⊢ pts c stR Finset.univ fullShare (fStR I c) := by
  have := owns_at stR c fullShare (fStR I c) (View.read_whole (Val := Elt F) cc0_scratch15 (fStR I c))
  rw [show stR.view.set = Finset.univ from View.set_whole _] at this
  exact this
theorem pay_stL : sendPay I 3 0 c ⊣⊢ pts c stL Finset.univ fullShare (fStL I c) := by
  have := owns_at stL c fullShare (fStL I c) (View.read_whole (Val := Elt F) cc0_scratch16 (fStL I c))
  rw [show stL.view.set = Finset.univ from View.set_whole _] at this
  exact this

abbrev slotSR (k : ℕ) (h : k < 2) : sProp 𝕄 := pts c sdR (sl sdR k (slot_inb h)) fullShare (fSdR I c)
abbrev slotSL (k : ℕ) (h : k < 2) : sProp 𝕄 := pts c sdL (sl sdL k (slot_inb h)) fullShare (fSdL I c)
abbrev slotVR (k : ℕ) (h : k < 3) : sProp 𝕄 := pts c rvR (sl rvR k (slot_inb h)) fullShare (fRvR I c)
abbrev slotVL (k : ℕ) (h : k < 3) : sProp 𝕄 := pts c rvL (sl rvL k (slot_inb h)) fullShare (fRvL I c)

theorem pay_send2_1 : sendPay I 2 1 c ⊣⊢ slotSR I c 0 (by decide) := slot_owns sdR 0 _ c fullShare (fSdR I c) (rd_sdR I c 0 _)
theorem pay_send2_2 : sendPay I 2 2 c ⊣⊢ slotSR I c 1 (by decide) := slot_owns sdR 1 _ c fullShare (fSdR I c) (rd_sdR I c 1 _)
theorem pay_send3_1 : sendPay I 3 1 c ⊣⊢ slotSL I c 0 (by decide) := slot_owns sdL 0 _ c fullShare (fSdL I c) (rd_sdL I c 0 _)
theorem pay_send3_2 : sendPay I 3 2 c ⊣⊢ slotSL I c 1 (by decide) := slot_owns sdL 1 _ c fullShare (fSdL I c) (rd_sdL I c 1 _)
theorem pay_recv2 (k : Fin 3) : recvPay I 2 k c ⊣⊢ slotVR I c k.val k.isLt := slot_owns rvR k.val _ c fullShare (fRvR I c) (rd_rvR I c k.val _)
theorem pay_recv3 (k : Fin 3) : recvPay I 3 k c ⊣⊢ slotVL I c k.val k.isLt := slot_owns rvL k.val _ c fullShare (fRvL I c) (rd_rvL I c k.val _)

theorem lane_even2 : ∀ k : Fin 3, mLane (11 - (5 - 2 * k.val)) = 2 ∧ mHop (11 - (5 - 2 * k.val)) = k := by decide
theorem lane_odd2 : ∀ k : Fin 3, mLane (11 - (4 - 2 * k.val)) = 3 ∧ mHop (11 - (4 - 2 * k.val)) = k := by decide

theorem wp_sendStep {α : Type} {Q : α → sProp 𝕄} (k : Fin 3) (j : ℕ) (hj : j = 4 - 2 * k.val) {n n' : Dev nD} (hn : n = nxt c) (hn' : n' = prv c)
    {w0 w1 w2 w3} {kk : PUnit → P F α} :
    iprop(records I K ∗ Ow c (j + 1 + 1) ∗ ready 2 k c ∗ ready 3 k c ∗ room 2 k (nxt c) ∗ room 3 k (prv c) ∗ sendPay I 2 k c ∗ sendPay I 3 k c)
      ⊢ iprop((iprop(Ow c j ∗ flying 2 k c ∗ flying 3 k c) -∗ runs c (kk ⟨⟩) Q)
        -∗ runs c (send n (srcM 2 k) (dstM 2 k) (sS 2 k) (sR 2 k) w0 w1 >>= fun _ => send n' (srcM 3 k) (dstM 3 k) (sS 3 k) (sR 3 k) w2 w3 >>= kk) Q) := by
  subst hj
  have hk := k.isLt
  have e1 : 4 - 2 * k.val + 1 = 5 - 2 * k.val := by omega
  iintro ⟨#HR, HO, H0, H1, Hr0, Hr1, Hs0, Hs1⟩ Hk
  iapply (wp_send_lane I K c 2 k (4 - 2 * k.val + 1) (by omega) (by rw [e1]; exact (lane_even2 k).1) (by rw [e1]; exact (lane_even2 k).2) hn) $$ [HO H0 Hr0 Hs0]
  · isplitr; · iexact HR
    isplitl [Hs0]; · iexact Hs0
    isplitl [Hr0]; · iexact Hr0
    isplitl [HO] <;> iassumption
  iintro ⟨H0, HO⟩
  iapply (wp_send_lane I K c 3 k (4 - 2 * k.val) (by omega) (lane_odd2 k).1 (lane_odd2 k).2 hn') $$ [HO H1 Hr1 Hs1]
  · isplitr; · iexact HR
    isplitl [Hs1]; · iexact Hs1
    isplitl [Hr1]; · iexact Hr1
    isplitl [HO] <;> iassumption
  iintro ⟨H1, HO⟩
  iapply Hk
  isplitl [HO]; · iexact HO
  isplitl [H0] <;> iassumption

theorem wp_waitStep {α : Type} {Q : α → sProp 𝕄} (k : Fin 3) (j : ℕ) (hj : j = 4 - 2 * k.val)
    {w4 w5 w6 w7 w8 w9 w10 w11} {kk : PUnit → P F α} :
    iprop(records I K ∗ levAts L lv ∗ Ow c j ∗ flying 2 k c ∗ flying 3 k c)
      ⊢ iprop((iprop(Ow c j ∗ spent 2 k c ∗ spent 3 k c ∗ sendPay I 2 k c ∗ sendPay I 3 k c ∗ slotVR I c k.val k.isLt ∗ slotVL I c k.val k.isLt) -∗ runs c (kk ⟨⟩) Q)
        -∗ runs c (arrive (sS 2 k) (dstM 2 k) (srcM 2 k) w4 w5 >>= fun _ => arrive (sR 2 k) (srcM 2 k) (dstM 2 k) w6 w7 >>= fun _ =>
            arrive (sS 3 k) (dstM 3 k) (srcM 3 k) w8 w9 >>= fun _ => arrive (sR 3 k) (srcM 3 k) (dstM 3 k) w10 w11 >>= kk) Q) := by
  subst hj
  have hk := k.isLt
  have hlev : ∀ i < 4 - 2 * k.val, 5 + k.val < dlv i := fun i hi => by unfold dlv; rw [if_pos (by omega)]; omega
  iintro ⟨#HR, #Hlev, HO, H0, H1⟩ Hk
  iapply (wp_landed I K c 2 k (4 - 2 * k.val) hlev (credit_src 2 k) (credit_dst 2 k)) $$ [HO H0]
  · isplitr; · iexact HR
    isplitr; · iexact Hlev
    isplitl [HO] <;> iassumption
  iintro ⟨Hs0, Hr0, H0, HO⟩
  iapply (wp_landed I K c 3 k (4 - 2 * k.val) hlev (credit_src 3 k) (credit_dst 3 k)) $$ [HO H1]
  · isplitr; · iexact HR
    isplitr; · iexact Hlev
    isplitl [HO] <;> iassumption
  iintro ⟨Hs1, Hr1, H1, HO⟩
  ihave Hr0 := (pay_recv2 I c k).1 $$ Hr0
  ihave Hr1 := (pay_recv3 I c k).1 $$ Hr1
  iapply Hk
  isplitl [HO]; · iexact HO
  isplitl [H0]; · iexact H0
  isplitl [H1]; · iexact H1
  isplitl [Hs0]; · iexact Hs0
  isplitl [Hs1]; · iexact Hs1
  isplitl [Hr0] <;> iassumption

/-! ## The products -/

/-- The products that are there. -/
def Dp (js : List ℕ) (i : S4x256x1024.Idx) : Prop := (i 0).val ∈ js

abbrev parts (js : List ℕ) : sProp 𝕄 := Tr c mPart Finset.univ (Dp js) (fP I c)
abbrev ctxF : sProp 𝕄 := pts c mCtx Finset.univ fullShare (fC I c)
abbrev woF : sProp 𝕄 := pts c wO Finset.univ fullShare (fWo I c)

theorem wp_part {α : Type} {Q : α → sProp 𝕄} (j : ℕ) (js : List ℕ) {off : Fin 2 → ℕ} {i0 : ∀ a, off a + S256x1024.size a ≤ S1024x1024.size a}
    {i1 : ∀ a, (![j, 0, 0] : Fin 3 → ℕ) a + S1x256x1024.size a ≤ S4x256x1024.size a} {n0 n1 n2 hx}
    (hv : pt I c j = chunk (rd mCtx off S256x1024.size i0 (fC I c)) (rd wO ![0, 0] S1024x1024.size inb_S1024x1024_S1024x1024_0_0 (fWo I c)))
    {kk : PUnit → P F α} :
    iprop(ctxF I c ∗ woF I c ∗ parts I c js)
      ⊢ iprop((iprop(ctxF I c ∗ woF I c ∗ parts I c (j :: js)) -∗ runs c (kk ⟨⟩) Q)
        -∗ runs c (loadR mCtx off S256x1024.size i0 n0 >>= fun x => loadR wO ![0, 0] S1024x1024.size inb_S1024x1024_S1024x1024_0_0 n1 >>= fun w =>
            putR mPart ![j, 0, 0] S1x256x1024.size i1 n2 (chunk x w) hx >>= kk) Q) := by
  iintro ⟨H1, H2, H3⟩ Hk
  iapply (wp_loadR c (Finset.subset_univ _)) $$ H1; iintro H1
  iapply (wp_loadR c (Finset.subset_univ _)) $$ H2; iintro H2
  iapply (wp_putT c (m := mPart) (Dp (j :: js)) (Finset.subset_univ _) ((rd_part I c j i1).trans hv) ?_) $$ H3
  · intro i hi hn
    rcases List.mem_cons.mp hi with he | he
    · have he' : ((show S4x256x1024.Idx from i) 0).val = j := he
      refine absurd ((mem_whole cc0_scratch14 _ i).mpr (Rect.mem_set_unit.mpr fun a => ?_)) hn
      have h1 : ((show S4x256x1024.Idx from i) 1).val < 256 := ((show S4x256x1024.Idx from i) 1).isLt
      have h2 : ((show S4x256x1024.Idx from i) 2).val < 1024 := ((show S4x256x1024.Idx from i) 2).isLt
      fin_cases a
      · show j ≤ ((show S4x256x1024.Idx from i) 0).val ∧ ((show S4x256x1024.Idx from i) 0).val < j + 1; omega
      · show 0 ≤ ((show S4x256x1024.Idx from i) 1).val ∧ ((show S4x256x1024.Idx from i) 1).val < 0 + 256; omega
      · show 0 ≤ ((show S4x256x1024.Idx from i) 2).val ∧ ((show S4x256x1024.Idx from i) 2).val < 0 + 1024; omega
    · exact he
  iintro H3
  iapply Hk
  isplitl [H1]; · iexact H1
  isplitl [H2] <;> iassumption

/-- A load of 128 rows of a product that is there. -/
theorem wp_loadP {α : Type} {Q : α → sProp 𝕄} {j o : ℕ} {js : List ℕ} (hj : j ∈ js)
    {i1 : ∀ a, (![j, o, 0] : Fin 3 → ℕ) a + S1x128x1024.size a ≤ S4x256x1024.size a} {n0} {kk : Vec F S1x128x1024 .f32 → P F α} :
    parts I c js ⊢ iprop((parts I c js -∗ runs c (kk (rd mPart ![j, o, 0] S1x128x1024.size i1 (fP I c))) Q)
        -∗ runs c (loadR mPart ![j, o, 0] S1x128x1024.size i1 n0 >>= kk) Q) :=
  wp_loadT c (m := mPart) (Finset.subset_univ _) fun i hi => by
    have h := Rect.mem_set_unit.mp ((mem_whole cc0_scratch14 _ i).mp hi) 0
    have h' : j ≤ ((show S4x256x1024.Idx from i) 0).val ∧ ((show S4x256x1024.Idx from i) 0).val < j + 1 := h
    show ((show S4x256x1024.Idx from i) 0).val ∈ js
    rw [show ((show S4x256x1024.Idx from i) 0).val = j by omega]
    exact hj

theorem all_128 (i : S128x1024.Idx) : i ∈ (Rect.unit (s := S128x1024) ![0, 0] S128x1024.size inb_S128x1024_S128x1024_0_0).set :=
  Rect.mem_set_unit.mpr fun a => ⟨by fin_cases a <;> exact Nat.zero_le _, by fin_cases a <;> exact (Nat.zero_add _).symm ▸ (i _).isLt⟩

theorem wp_stages {α : Type} {Q : α → sProp 𝕄} {kk : PUnit → P F α} :
    iprop(parts I c [1, 0] ∗ anyOf c stR Finset.univ ∗ anyOf c stL Finset.univ)
      ⊢ iprop((iprop(parts I c [1, 0] ∗ sendPay I 2 0 c ∗ sendPay I 3 0 c) -∗ runs c (kk ⟨⟩) Q) -∗ runs c (stages >>= kk) Q) := by
  unfold stages
  simp only [bind_assoc]
  iintro ⟨H1, H2, H3⟩ Hk
  iapply (wp_loadP I c (by decide)) $$ H1; iintro H1
  iapply (wp_fill c stR (fStR I c) (univ_q all_128) (Memref.readAt_unit_zero (Elt F) cc0_scratch15 hz2 _ (fStR I c))) $$ H2; iintro H2
  iapply (wp_loadP I c (by decide)) $$ H1; iintro H1
  iapply (wp_fill c stL (fStL I c) (univ_q all_128) (Memref.readAt_unit_zero (Elt F) cc0_scratch16 hz2 _ (fStL I c))) $$ H3; iintro H3
  iapply Hk
  isplitl [H1]; · iexact H1
  isplitl [H2]; · iapply (pay_stR I c).2; iexact H2
  iapply (pay_stL I c).2; iexact H3

/-- One pass of the summation in one direction. -/
theorem wp_passR {α : Type} {Q : α → sProp 𝕄} {k j : ℕ} {js : List ℕ} (hj : j ∈ js) (hk : k < 2)
    {i0 i1 i2 n0 n1 n2 hx}
    (hv : sumR I c (k + 1) = bare (pass (slot (sumR I (prv c) k)) (rd mPart ![j, 0, 0] S1x128x1024.size i1 (fP I c)))) {kk : PUnit → P F α} :
    iprop(slotVR I c k (by omega) ∗ parts I c js ∗ anyOf c sdR (sl sdR k (slot_inb hk)))
      ⊢ iprop((iprop(slotVR I c k (by omega) ∗ parts I c js ∗ slotSR I c k hk) -∗ runs c (kk ⟨⟩) Q)
        -∗ runs c (loadR rvR ![k, 0, 0] S1x128x1024.size i0 n0 >>= fun r => loadR mPart ![j, 0, 0] S1x128x1024.size i1 n1 >>= fun p =>
            putR sdR ![k, 0, 0] S1x128x1024.size i2 n2 (pass r p) hx >>= kk) Q) := by
  iintro ⟨H1, H2, H3⟩ Hk
  iapply (wp_loadR c subset_rfl) $$ H1; iintro H1
  iapply (wp_loadP I c hj) $$ H2; iintro H2
  iapply (wp_fill c sdR (fSdR I c) rfl ((rd_sdR I c k _).trans ((congrArg slot hv).trans ((slot_bare _).trans (congrArg (pass · _) (rd_rvR I c k _).symm))))) $$ H3; iintro H3
  iapply Hk
  isplitl [H1]; · iexact H1
  isplitl [H2] <;> iassumption

theorem wp_passL {α : Type} {Q : α → sProp 𝕄} {k j : ℕ} {js : List ℕ} (hj : j ∈ js) (hk : k < 2)
    {i0 i1 i2 n0 n1 n2 hx}
    (hv : sumL I c (k + 1) = bare (pass (slot (sumL I (nxt c) k)) (rd mPart ![j, 128, 0] S1x128x1024.size i1 (fP I c)))) {kk : PUnit → P F α} :
    iprop(slotVL I c k (by omega) ∗ parts I c js ∗ anyOf c sdL (sl sdL k (slot_inb hk)))
      ⊢ iprop((iprop(slotVL I c k (by omega) ∗ parts I c js ∗ slotSL I c k hk) -∗ runs c (kk ⟨⟩) Q)
        -∗ runs c (loadR rvL ![k, 0, 0] S1x128x1024.size i0 n0 >>= fun r => loadR mPart ![j, 128, 0] S1x128x1024.size i1 n1 >>= fun p =>
            putR sdL ![k, 0, 0] S1x128x1024.size i2 n2 (pass r p) hx >>= kk) Q) := by
  iintro ⟨H1, H2, H3⟩ Hk
  iapply (wp_loadR c subset_rfl) $$ H1; iintro H1
  iapply (wp_loadP I c hj) $$ H2; iintro H2
  iapply (wp_fill c sdL (fSdL I c) rfl ((rd_sdL I c k _).trans ((congrArg slot hv).trans ((slot_bare _).trans (congrArg (pass · _) (rd_rvL I c k _).symm))))) $$ H3; iintro H3
  iapply Hk
  isplitl [H1]; · iexact H1
  isplitl [H2] <;> iassumption

/-! ## The last step -/

theorem wp_finish {α : Type} {Q : α → sProp 𝕄} {js : List ℕ} (hj : 3 ∈ js) {kk : PUnit → P F α} :
    iprop(slotVR I c 2 (by decide) ∗ slotVL I c 2 (by decide) ∗ parts I c js ∗ anyOf c sOut Finset.univ)
      ⊢ iprop((iprop(slotVR I c 2 (by decide) ∗ slotVL I c 2 (by decide) ∗ parts I c js ∗ pts c sOut Finset.univ fullShare (fO I c)) -∗ runs c (kk ⟨⟩) Q)
        -∗ runs c (finish >>= kk) Q) := by
  unfold finish
  simp only [bind_assoc]
  iintro ⟨H1, H2, H3, H4⟩ Hk
  ihave H4 := (put_full c sOut (fO I c)) $$ H4
  iapply (wp_loadR c subset_rfl) $$ H1; iintro H1
  iapply (wp_loadP I c hj) $$ H3; iintro H3
  iapply (wp_putT c (m := sOut) (fun i => ((show S1x256x1024.Idx from i) 1).val < 128) (Finset.subset_univ _)
    ((rd_out_top I c _).trans (congrArg (last · _) (rd_rvR I c 2 _).symm)) ?_) $$ H4
  · intro i hi hn
    refine absurd ((mem_whole cc0_stg3_0 _ i).mpr (Rect.mem_set_unit.mpr fun a => ?_)) hn
    have h0 : ((show S1x256x1024.Idx from i) 0).val < 1 := ((show S1x256x1024.Idx from i) 0).isLt
    have h2 : ((show S1x256x1024.Idx from i) 2).val < 1024 := ((show S1x256x1024.Idx from i) 2).isLt
    fin_cases a
    · show 0 ≤ ((show S1x256x1024.Idx from i) 0).val ∧ ((show S1x256x1024.Idx from i) 0).val < 0 + 1; omega
    · show 0 ≤ ((show S1x256x1024.Idx from i) 1).val ∧ ((show S1x256x1024.Idx from i) 1).val < 0 + 128; omega
    · show 0 ≤ ((show S1x256x1024.Idx from i) 2).val ∧ ((show S1x256x1024.Idx from i) 2).val < 0 + 1024; omega
  iintro H4
  iapply (wp_loadR c subset_rfl) $$ H2; iintro H2
  iapply (wp_loadP I c hj) $$ H3; iintro H3
  iapply (wp_putT c (m := sOut) (fun _ => True) (Finset.subset_univ _)
    ((rd_out_bot I c _).trans (congrArg (last · _) (rd_rvL I c 2 _).symm)) ?_) $$ H4
  · intro i hi hn
    by_contra hlt
    refine absurd ((mem_whole cc0_stg3_0 _ i).mpr (Rect.mem_set_unit.mpr fun a => ?_)) hn
    have h0 : ((show S1x256x1024.Idx from i) 0).val < 1 := ((show S1x256x1024.Idx from i) 0).isLt
    have h1 : ((show S1x256x1024.Idx from i) 1).val < 256 := ((show S1x256x1024.Idx from i) 1).isLt
    have h2 : ((show S1x256x1024.Idx from i) 2).val < 1024 := ((show S1x256x1024.Idx from i) 2).isLt
    fin_cases a
    · show 0 ≤ ((show S1x256x1024.Idx from i) 0).val ∧ ((show S1x256x1024.Idx from i) 0).val < 0 + 1; omega
    · show 128 ≤ ((show S1x256x1024.Idx from i) 1).val ∧ ((show S1x256x1024.Idx from i) 1).val < 128 + 128; omega
    · show 0 ≤ ((show S1x256x1024.Idx from i) 2).val ∧ ((show S1x256x1024.Idx from i) 2).val < 0 + 1024; omega
  iintro H4
  iapply Hk
  isplitl [H1]; · iexact H1
  isplitl [H2]; · iexact H2
  isplitl [H3]; · iexact H3
  iapply (Tr_full c (fun i _ => trivial) (fO I c))
  iexact H4

/-! ## The summation -/

def slotsVR : sProp 𝕄 := iprop(slotVR I c 0 (by decide) ∗ slotVR I c 1 (by decide) ∗ slotVR I c 2 (by decide))
def slotsVL : sProp 𝕄 := iprop(slotVL I c 0 (by decide) ∗ slotVL I c 1 (by decide) ∗ slotVL I c 2 (by decide))
def slotsSR : sProp 𝕄 := iprop(slotSR I c 0 (by decide) ∗ slotSR I c 1 (by decide))
def slotsSL : sProp 𝕄 := iprop(slotSL I c 0 (by decide) ∗ slotSL I c 1 (by decide))

theorem all_parts (i : S4x256x1024.Idx) : Dp [3, 2, 1, 0] i := by
  have h : (i 0).val < 4 := (i 0).isLt
  unfold Dp
  simp only [List.mem_cons, List.not_mem_nil, or_false]
  omega

theorem wp_scatter {α : Type} {Q : α → sProp 𝕄} {kk : PUnit → P F α} :
    iprop(records I K ∗ levAts L lv ∗ Ow c 6 ∗ readys c 2 ∗ readys c 3 ∗ rooms 2 (nxt c) ∗ rooms 3 (prv c)
        ∗ ctxF I c ∗ woF I c ∗ anyOf c mPart Finset.univ ∗ anyOf c stR Finset.univ ∗ anyOf c stL Finset.univ
        ∗ (anyOf c sdR (sl sdR 0 (slot_inb (by decide))) ∗ anyOf c sdR (sl sdR 1 (slot_inb (by decide))))
        ∗ (anyOf c sdL (sl sdL 0 (slot_inb (by decide))) ∗ anyOf c sdL (sl sdL 1 (slot_inb (by decide))))
        ∗ anyOf c sOut Finset.univ)
      ⊢ iprop((iprop(Ow c 0 ∗ spents c 2 ∗ spents c 3 ∗ ctxF I c ∗ woF I c ∗ pts c mPart Finset.univ fullShare (fP I c)
            ∗ pts c stR Finset.univ fullShare (fStR I c) ∗ pts c stL Finset.univ fullShare (fStL I c)
            ∗ slotsSR I c ∗ slotsSL I c ∗ slotsVR I c ∗ slotsVL I c ∗ pts c sOut Finset.univ fullShare (fO I c)) -∗ runs c (kk ⟨⟩) Q)
        -∗ runs c (scatter c >>= kk) Q) := by
  unfold scatter part0 part1 part2 part3 sendStep0 sendStep1 sendStep2 waitStep0 waitStep1 waitStep2 passOn0 passOn1 readys rooms spents slotsSR slotsSL slotsVR slotsVL
  simp only [bind_assoc]
  iintro ⟨#HR, #Hlev, HO, ⟨A0, A1, A2⟩, ⟨B0, B1, B2⟩, ⟨RA0, RA1, RA2⟩, ⟨RB0, RB1, RB2⟩, HC, HW, HP, HtR, HtL, ⟨SR0, SR1⟩, ⟨SL0, SL1⟩, HOut⟩ Hk
  ihave HP := (put_full c mPart (fP I c)) $$ HP
  ihave HP := (Tr_mono c (m := mPart) (D' := Dp []) (fun i _ h => absurd h List.not_mem_nil) (fP I c)) $$ HP
  iapply (wp_part I c 0 [] rfl) $$ [HC HW HP]
  · isplitl [HC]; · iexact HC
    isplitl [HW] <;> iassumption
  iintro ⟨HC, HW, HP⟩
  iapply (wp_part I c 1 [0] rfl) $$ [HC HW HP]
  · isplitl [HC]; · iexact HC
    isplitl [HW] <;> iassumption
  iintro ⟨HC, HW, HP⟩
  iapply (wp_stages I c) $$ [HP HtR HtL]
  · isplitl [HP]; · iexact HP
    isplitl [HtR] <;> iassumption
  iintro ⟨HP, HtR, HtL⟩
  iapply (wp_sendStep I c K 0 4 rfl (n := ⟨k0_dev9 c, k0_dev9_lt c⟩) (n' := ⟨k0_dev10 c, k0_dev10_lt c⟩) (Fin.ext (k0_dev9_eq c)) (Fin.ext (k0_dev10_eq c))) $$ [HO A0 B0 RA0 RB0 HtR HtL]
  · isplitr; · iexact HR
    isplitl [HO]; · iexact HO
    isplitl [A0]; · iexact A0
    isplitl [B0]; · iexact B0
    isplitl [RA0]; · iexact RA0
    isplitl [RB0]; · iexact RB0
    isplitl [HtR] <;> iassumption
  iintro ⟨HO, A0, B0⟩
  iapply (wp_part I c 2 [1, 0] rfl) $$ [HC HW HP]
  · isplitl [HC]; · iexact HC
    isplitl [HW] <;> iassumption
  iintro ⟨HC, HW, HP⟩
  iapply (wp_waitStep I c K 0 4 rfl) $$ [HO A0 B0]
  · isplitr; · iexact HR
    isplitr; · iexact Hlev
    isplitl [HO]; · iexact HO
    isplitl [A0] <;> iassumption
  iintro ⟨HO, A0, B0, HtR, HtL, VR0, VL0⟩
  iapply (wp_passR I c (k := 0) (j := 2) (js := [2, 1, 0]) (by decide) (by decide) rfl) $$ [VR0 HP SR0]
  · isplitl [VR0]; · iexact VR0
    isplitl [HP] <;> iassumption
  iintro ⟨VR0, HP, SR0⟩
  iapply (wp_passL I c (k := 0) (j := 2) (js := [2, 1, 0]) (by decide) (by decide) rfl) $$ [VL0 HP SL0]
  · isplitl [VL0]; · iexact VL0
    isplitl [HP] <;> iassumption
  iintro ⟨VL0, HP, SL0⟩
  ihave SR0 := (pay_send2_1 I c).2 $$ SR0
  ihave SL0 := (pay_send3_1 I c).2 $$ SL0
  iapply (wp_sendStep I c K 1 2 rfl (n := ⟨k0_dev11 c, k0_dev11_lt c⟩) (n' := ⟨k0_dev12 c, k0_dev12_lt c⟩) (Fin.ext (k0_dev11_eq c)) (Fin.ext (k0_dev12_eq c))) $$ [HO A1 B1 RA1 RB1 SR0 SL0]
  · isplitr; · iexact HR
    isplitl [HO]; · iexact HO
    isplitl [A1]; · iexact A1
    isplitl [B1]; · iexact B1
    isplitl [RA1]; · iexact RA1
    isplitl [RB1]; · iexact RB1
    isplitl [SR0] <;> iassumption
  iintro ⟨HO, A1, B1⟩
  iapply (wp_part I c 3 [2, 1, 0] rfl) $$ [HC HW HP]
  · isplitl [HC]; · iexact HC
    isplitl [HW] <;> iassumption
  iintro ⟨HC, HW, HP⟩
  iapply (wp_waitStep I c K 1 2 rfl) $$ [HO A1 B1]
  · isplitr; · iexact HR
    isplitr; · iexact Hlev
    isplitl [HO]; · iexact HO
    isplitl [A1] <;> iassumption
  iintro ⟨HO, A1, B1, SR0, SL0, VR1, VL1⟩
  iapply (wp_passR I c (k := 1) (j := 1) (js := [3, 2, 1, 0]) (by decide) (by decide) rfl) $$ [VR1 HP SR1]
  · isplitl [VR1]; · iexact VR1
    isplitl [HP] <;> iassumption
  iintro ⟨VR1, HP, SR1⟩
  iapply (wp_passL I c (k := 1) (j := 0) (js := [3, 2, 1, 0]) (by decide) (by decide) rfl) $$ [VL1 HP SL1]
  · isplitl [VL1]; · iexact VL1
    isplitl [HP] <;> iassumption
  iintro ⟨VL1, HP, SL1⟩
  ihave SR1 := (pay_send2_2 I c).2 $$ SR1
  ihave SL1 := (pay_send3_2 I c).2 $$ SL1
  iapply (wp_sendStep I c K 2 0 rfl (n := ⟨k0_dev13 c, k0_dev13_lt c⟩) (n' := ⟨k0_dev14 c, k0_dev14_lt c⟩) (Fin.ext (k0_dev13_eq c)) (Fin.ext (k0_dev14_eq c))) $$ [HO A2 B2 RA2 RB2 SR1 SL1]
  · isplitr; · iexact HR
    isplitl [HO]; · iexact HO
    isplitl [A2]; · iexact A2
    isplitl [B2]; · iexact B2
    isplitl [RA2]; · iexact RA2
    isplitl [RB2]; · iexact RB2
    isplitl [SR1] <;> iassumption
  iintro ⟨HO, A2, B2⟩
  iapply (wp_waitStep I c K 2 0 rfl) $$ [HO A2 B2]
  · isplitr; · iexact HR
    isplitr; · iexact Hlev
    isplitl [HO]; · iexact HO
    isplitl [A2] <;> iassumption
  iintro ⟨HO, A2, B2, SR1, SL1, VR2, VL2⟩
  iapply (wp_finish I c (js := [3, 2, 1, 0]) (by decide)) $$ [VR2 VL2 HP HOut]
  · isplitl [VR2]; · iexact VR2
    isplitl [VL2]; · iexact VL2
    isplitl [HP] <;> iassumption
  iintro ⟨VR2, VL2, HP, HOut⟩
  ihave HtR := (pay_stR I c).1 $$ HtR
  ihave HtL := (pay_stL I c).1 $$ HtL
  ihave SR0 := (pay_send2_1 I c).1 $$ SR0
  ihave SL0 := (pay_send3_1 I c).1 $$ SL0
  ihave SR1 := (pay_send2_2 I c).1 $$ SR1
  ihave SL1 := (pay_send3_2 I c).1 $$ SL1
  ihave HP := (Tr_full c (m := mPart) (fun i _ => all_parts i) (fP I c)) $$ HP
  iapply Hk
  isplitl [HO]; · iexact HO
  isplitl [A0 A1 A2]
  · isplitl [A0]; · iexact A0
    isplitl [A1] <;> iassumption
  isplitl [B0 B1 B2]
  · isplitl [B0]; · iexact B0
    isplitl [B1] <;> iassumption
  isplitl [HC]; · iexact HC
  isplitl [HW]; · iexact HW
  isplitl [HP]; · iexact HP
  isplitl [HtR]; · iexact HtR
  isplitl [HtL]; · iexact HtL
  isplitl [SR0 SR1]
  · isplitl [SR0] <;> iassumption
  isplitl [SL0 SL1]
  · isplitl [SL0] <;> iassumption
  isplitl [VR0 VR1 VR2]
  · isplitl [VR0]; · iexact VR0
    isplitl [VR1]; · iexact VR1
    iexact VR2
  isplitl [VL0 VL1 VL2]
  · isplitl [VL0]; · iexact VL0
    isplitl [VL1]; · iexact VL1
    iexact VL2
  iexact HOut

end Cert.KernelIdeal.Body
-- ==== Proof.Body.lean ====
module

public import proofs.«01_k».proof.Proof.Trip
public import proofs.«01_k».proof.Proof.Scatter

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Opening and closing buffers -/

theorem any_one {ℓ : Loc nD τ sig} (S : Finset (Idx ℓ)) (f : Buf (Elt F) ℓ) :
    (ℓ ↦[S]{fullShare} f : sProp 𝕄) ⊢ iprop(∃ f : Buf (Elt F) ℓ, ℓ ↦[S]{fullShare} f) := by
  iintro H; iexists f; iexact H

theorem any_open {ℓ : Loc nD τ sig} {ι : Type} [Fintype ι] [DecidableEq ι] (S : ι → Finset (Idx ℓ)) (hd : ∀ i j, i ≠ j → Disjoint (S i) (S j))
    (hc : Finset.univ.biUnion S = Finset.univ) :
    (iprop(∃ f : Buf (Elt F) ℓ, ℓ ↦[Finset.univ]{fullShare} f) : sProp 𝕄) ⊢ bigSep Finset.univ fun k => iprop(∃ f : Buf (Elt F) ℓ, ℓ ↦[S k]{fullShare} f) := by
  iintro ⟨%f, H⟩
  ihave H := (Entails.of_eq (Idealize.ShloMosaic.Ring.pointsTo_sub_blocks S hd Finset.univ hc f)) $$ H
  iapply (show bigSep Finset.univ (fun k => (ℓ ↦[S k]{fullShare} f : sProp 𝕄)) ⊢ bigSep Finset.univ fun k => iprop(∃ f : Buf (Elt F) ℓ, ℓ ↦[S k]{fullShare} f)
    from bigSep_mono fun k _ => any_one (S k) f) $$ H

theorem any_close {ℓ : Loc nD τ sig} {ι : Type} [Fintype ι] [DecidableEq ι] (S : ι → Finset (Idx ℓ)) (hd : ∀ i j, i ≠ j → Disjoint (S i) (S j))
    (hc : Finset.univ.biUnion S = Finset.univ) (f₀ : Buf (Elt F) ℓ) :
    bigSep Finset.univ (fun k => iprop(∃ f : Buf (Elt F) ℓ, ℓ ↦[S k]{fullShare} f)) ⊢ (iprop(∃ f : Buf (Elt F) ℓ, ℓ ↦[Finset.univ]{fullShare} f) : sProp 𝕄) :=
  Idealize.ShloMosaic.Ring.pointsTo_sub_blocks_join_exists S hd Finset.univ hc f₀

theorem stack_dis {n : ℕ} (m : Memref sig .tc .vmem (CS n) .bf16) (i j : Fin n) (h : i ≠ j) :
    Disjoint (sl m i.val (slot_inb i.isLt)) (sl m j.val (slot_inb j.isLt)) := by
  refine (Finset.disjoint_map _).mpr (Finset.disjoint_left.mpr fun x hx hy => h (Fin.ext ?_))
  have h1 : i.val ≤ (x 0).val ∧ (x 0).val < i.val + 1 := Rect.mem_set_unit.mp hx 0
  have h2 : j.val ≤ (x 0).val ∧ (x 0).val < j.val + 1 := Rect.mem_set_unit.mp hy 0
  omega

theorem stack_cov {n : ℕ} (m : Memref sig .tc .vmem (CS n) .bf16) (hm : m.view.setOn Finset.univ = Finset.univ) :
    Finset.univ.biUnion (fun k : Fin n => sl m k.val (slot_inb k.isLt)) = Finset.univ := by
  refine Finset.eq_univ_of_forall fun i => ?_
  have hi : i ∈ m.view.setOn Finset.univ := hm ▸ Finset.mem_univ i
  obtain ⟨x, -, rfl⟩ := Finset.mem_map.mp hi
  refine Finset.mem_biUnion.mpr ⟨⟨(x 0).val, (x 0).isLt⟩, Finset.mem_univ _, Finset.mem_map.mpr ⟨x, Rect.mem_set_unit.mpr fun a => ?_, rfl⟩⟩
  have h1 : (x 1).val < 128 := (x 1).isLt
  have h2 : (x 2).val < 1024 := (x 2).isLt
  fin_cases a
  · show (x 0).val ≤ (x 0).val ∧ (x 0).val < (x 0).val + 1; omega
  · show 0 ≤ (x 1).val ∧ (x 1).val < 0 + 128; omega
  · show 0 ≤ (x 2).val ∧ (x 2).val < 0 + 1024; omega

theorem two_dis (a b : ℕ) (i j : Fin 2) (h : i ≠ j) : Disjoint (slotOf a b i.val) (slotOf a b j.val) := by
  refine Finset.disjoint_left.mpr fun x hx hy => h (Fin.ext ?_)
  have h1 : (x 0).val = i.val % 2 := (Finset.mem_filter.mp hx).2
  have h2 : (x 0).val = j.val % 2 := (Finset.mem_filter.mp hy).2
  omega

theorem two_cov (a b : ℕ) : Finset.univ.biUnion (fun k : Fin 2 => slotOf a b k.val) = Finset.univ := by
  refine Finset.eq_univ_of_forall fun x => Finset.mem_biUnion.mpr ?_
  have h : (x 0).val < 2 := (x 0).isLt
  exact ⟨⟨(x 0).val, h⟩, Finset.mem_univ _, Finset.mem_filter.mpr ⟨Finset.mem_univ _, (Nat.mod_eq_of_lt h).symm⟩⟩

theorem sep2 (Φ : Fin 2 → sProp 𝕄) : bigSep Finset.univ Φ = iprop(Φ 0 ∗ Φ 1) := bigSep_univ_eq_bigSepL [0, 1] (by decide) (by decide) Φ
theorem sep3 (Φ : Fin 3 → sProp 𝕄) : bigSep Finset.univ Φ = iprop(Φ 0 ∗ Φ 1 ∗ Φ 2) := bigSep_univ_eq_bigSepL [0, 1, 2] (by decide) (by decide) Φ
theorem sep4 (Φ : Fin 4 → sProp 𝕄) : bigSep Finset.univ Φ = iprop(Φ 0 ∗ Φ 1 ∗ Φ 2 ∗ Φ 3) := bigSep_univ_eq_bigSepL [0, 1, 2, 3] (by decide) (by decide) Φ

variable (I : In F) (c : Dev nD)

theorem room_slot {n : ℕ} (m : Memref sig .tc .vmem (CS n) .bf16) (k : ℕ) (h) :
    (anyOf (F := F) c m (sl m k h) : sProp 𝕄) ⊢ iprop(∃ f : Buf (Elt F) ((slotV m k h).view.loc (c : Thread nD τ)), (slotV m k h).view.loc (c : Thread nD τ) ↦[(slotV m k h).view.set]{fullShare} f) := by
  rw [slotV_set]
  exact BI.Entails.refl _

theorem pts_any {s : Shape} {e : EltTy} (m : Memref sig .tc .vmem s e) (S : Finset (Idx (m.view.loc (c : Thread nD τ)))) (f : Buf (Elt F) (m.view.loc (c : Thread nD τ))) :
    pts c m S fullShare f ⊢ anyOf c m S := by
  iintro H; iexists f; iexact H

theorem open_commR : anyOf (F := F) c commR Finset.univ ⊢ iprop(anyOf c commR (sl commR 0 (slot_inb (by decide))) ∗ rooms (F := F) 0 c) := by
  refine (any_open (ℓ := commR.view.loc (c : Thread nD τ)) (fun k : Fin 4 => sl commR k.val (slot_inb k.isLt)) (stack_dis commR) (stack_cov commR (whole_spot cc0_scratch0 _))).trans ?_
  rw [sep4]
  unfold rooms room
  iintro ⟨H0, H1, H2, H3⟩
  isplitl [H0]; · iexact H0
  isplitl [H1]; · iapply (room_slot c commR 1 (slot_inb (by decide))); iexact H1
  isplitl [H2]; · iapply (room_slot c commR 2 (slot_inb (by decide))); iexact H2
  iapply (room_slot c commR 3 (slot_inb (by decide))); iexact H3

theorem close_commR : slotsR I c ⊢ anyOf c commR Finset.univ := by
  refine BIBase.Entails.trans ?_ (any_close (ℓ := commR.view.loc (c : Thread nD τ)) (fun k : Fin 4 => sl commR k.val (slot_inb k.isLt)) (stack_dis commR) (stack_cov commR (whole_spot cc0_scratch0 _)) (fCR I c))
  rw [sep4]
  unfold slotsR
  iintro ⟨H0, H1, H2, H3⟩
  isplitl [H0]; · iexists _; iexact H0
  isplitl [H1]; · iexists _; iexact H1
  isplitl [H2]; · iexists _; iexact H2
  iexists _; iexact H3

theorem open_commL : anyOf (F := F) c commL Finset.univ ⊢ iprop(anyOf c commL (sl commL 0 (slot_inb (by decide))) ∗ rooms (F := F) 1 c) := by
  refine (any_open (ℓ := commL.view.loc (c : Thread nD τ)) (fun k : Fin 4 => sl commL k.val (slot_inb k.isLt)) (stack_dis commL) (stack_cov commL (whole_spot cc0_scratch1 _))).trans ?_
  rw [sep4]
  unfold rooms room
  iintro ⟨H0, H1, H2, H3⟩
  isplitl [H0]; · iexact H0
  isplitl [H1]; · iapply (room_slot c commL 1 (slot_inb (by decide))); iexact H1
  isplitl [H2]; · iapply (room_slot c commL 2 (slot_inb (by decide))); iexact H2
  iapply (room_slot c commL 3 (slot_inb (by decide))); iexact H3

theorem close_commL : slotsL I c ⊢ anyOf c commL Finset.univ := by
  refine BIBase.Entails.trans ?_ (any_close (ℓ := commL.view.loc (c : Thread nD τ)) (fun k : Fin 4 => sl commL k.val (slot_inb k.isLt)) (stack_dis commL) (stack_cov commL (whole_spot cc0_scratch1 _)) (fCL I c))
  rw [sep4]
  unfold slotsL
  iintro ⟨H0, H1, H2, H3⟩
  isplitl [H0]; · iexists _; iexact H0
  isplitl [H1]; · iexists _; iexact H1
  isplitl [H2]; · iexists _; iexact H2
  iexists _; iexact H3

theorem open_rvR : anyOf (F := F) c rvR Finset.univ ⊢ rooms (F := F) 2 c := by
  refine (any_open (ℓ := rvR.view.loc (c : Thread nD τ)) (fun k : Fin 3 => sl rvR k.val (slot_inb k.isLt)) (stack_dis rvR) (stack_cov rvR (whole_spot cc0_scratch19 _))).trans ?_
  rw [sep3]
  unfold rooms room
  iintro ⟨H0, H1, H2⟩
  isplitl [H0]; · iapply (room_slot c rvR 0 (slot_inb (by decide))); iexact H0
  isplitl [H1]; · iapply (room_slot c rvR 1 (slot_inb (by decide))); iexact H1
  iapply (room_slot c rvR 2 (slot_inb (by decide))); iexact H2

theorem close_rvR : slotsVR I c ⊢ anyOf c rvR Finset.univ := by
  refine BIBase.Entails.trans ?_ (any_close (ℓ := rvR.view.loc (c : Thread nD τ)) (fun k : Fin 3 => sl rvR k.val (slot_inb k.isLt)) (stack_dis rvR) (stack_cov rvR (whole_spot cc0_scratch19 _)) (fRvR I c))
  rw [sep3]
  unfold slotsVR
  iintro ⟨H0, H1, H2⟩
  isplitl [H0]; · iexists _; iexact H0
  isplitl [H1]; · iexists _; iexact H1
  iexists _; iexact H2

theorem open_rvL : anyOf (F := F) c rvL Finset.univ ⊢ rooms (F := F) 3 c := by
  refine (any_open (ℓ := rvL.view.loc (c : Thread nD τ)) (fun k : Fin 3 => sl rvL k.val (slot_inb k.isLt)) (stack_dis rvL) (stack_cov rvL (whole_spot cc0_scratch20 _))).trans ?_
  rw [sep3]
  unfold rooms room
  iintro ⟨H0, H1, H2⟩
  isplitl [H0]; · iapply (room_slot c rvL 0 (slot_inb (by decide))); iexact H0
  isplitl [H1]; · iapply (room_slot c rvL 1 (slot_inb (by decide))); iexact H1
  iapply (room_slot c rvL 2 (slot_inb (by decide))); iexact H2

theorem close_rvL : slotsVL I c ⊢ anyOf c rvL Finset.univ := by
  refine BIBase.Entails.trans ?_ (any_close (ℓ := rvL.view.loc (c : Thread nD τ)) (fun k : Fin 3 => sl rvL k.val (slot_inb k.isLt)) (stack_dis rvL) (stack_cov rvL (whole_spot cc0_scratch20 _)) (fRvL I c))
  rw [sep3]
  unfold slotsVL
  iintro ⟨H0, H1, H2⟩
  isplitl [H0]; · iexists _; iexact H0
  isplitl [H1]; · iexists _; iexact H1
  iexists _; iexact H2

theorem open_sdR : anyOf (F := F) c sdR Finset.univ ⊢ iprop(anyOf c sdR (sl sdR 0 (slot_inb (by decide))) ∗ anyOf c sdR (sl sdR 1 (slot_inb (by decide)))) := by
  refine (any_open (ℓ := sdR.view.loc (c : Thread nD τ)) (fun k : Fin 2 => sl sdR k.val (slot_inb k.isLt)) (stack_dis sdR) (stack_cov sdR (whole_spot cc0_scratch17 _))).trans ?_
  rw [sep2]
  exact BI.Entails.refl _

theorem close_sdR : slotsSR I c ⊢ anyOf c sdR Finset.univ := by
  refine BIBase.Entails.trans ?_ (any_close (ℓ := sdR.view.loc (c : Thread nD τ)) (fun k : Fin 2 => sl sdR k.val (slot_inb k.isLt)) (stack_dis sdR) (stack_cov sdR (whole_spot cc0_scratch17 _)) (fSdR I c))
  rw [sep2]
  unfold slotsSR
  iintro ⟨H0, H1⟩
  isplitl [H0]; · iexists _; iexact H0
  iexists _; iexact H1

theorem open_sdL : anyOf (F := F) c sdL Finset.univ ⊢ iprop(anyOf c sdL (sl sdL 0 (slot_inb (by decide))) ∗ anyOf c sdL (sl sdL 1 (slot_inb (by decide)))) := by
  refine (any_open (ℓ := sdL.view.loc (c : Thread nD τ)) (fun k : Fin 2 => sl sdL k.val (slot_inb k.isLt)) (stack_dis sdL) (stack_cov sdL (whole_spot cc0_scratch18 _))).trans ?_
  rw [sep2]
  exact BI.Entails.refl _

theorem close_sdL : slotsSL I c ⊢ anyOf c sdL Finset.univ := by
  refine BIBase.Entails.trans ?_ (any_close (ℓ := sdL.view.loc (c : Thread nD τ)) (fun k : Fin 2 => sl sdL k.val (slot_inb k.isLt)) (stack_dis sdL) (stack_cov sdL (whole_spot cc0_scratch18 _)) (fSdL I c))
  rw [sep2]
  unfold slotsSL
  iintro ⟨H0, H1⟩
  isplitl [H0]; · iexists _; iexact H0
  iexists _; iexact H1

theorem two_kG : (anyOf (F := F) c kG Finset.univ : sProp 𝕄) ⊢ iprop(anyOf (F := F) c kG (slotOf 3 1408 0) ∗ anyOf (F := F) c kG (slotOf 3 1408 1)) :=
  (any_open (ℓ := kG.view.loc (c : Thread nD τ)) (fun k : Fin 2 => slotOf 3 1408 k.val) (two_dis 3 1408) (two_cov 3 1408)).trans (Entails.of_eq (sep2 (F := F) fun k : Fin 2 => anyOf (F := F) c kG (slotOf 3 1408 k.val)))
theorem one_kG (I : In F) (c : Dev nD) : iprop(anyOf (F := F) c kG (slotOf 3 1408 0) ∗ anyOf (F := F) c kG (slotOf 3 1408 1)) ⊢ (anyOf (F := F) c kG Finset.univ : sProp 𝕄) :=
  (Entails.of_eq (sep2 (F := F) fun k : Fin 2 => anyOf (F := F) c kG (slotOf 3 1408 k.val)).symm).trans
    (any_close (ℓ := kG.view.loc (c : Thread nD τ)) (fun k : Fin 2 => slotOf 3 1408 k.val) (two_dis 3 1408) (two_cov 3 1408)
      (fKV (a := 3) (b := 1408) c kbG (I.k c) 0))
theorem two_vG : (anyOf (F := F) c vG Finset.univ : sProp 𝕄) ⊢ iprop(anyOf (F := F) c vG (slotOf 3 1408 0) ∗ anyOf (F := F) c vG (slotOf 3 1408 1)) :=
  (any_open (ℓ := vG.view.loc (c : Thread nD τ)) (fun k : Fin 2 => slotOf 3 1408 k.val) (two_dis 3 1408) (two_cov 3 1408)).trans (Entails.of_eq (sep2 (F := F) fun k : Fin 2 => anyOf (F := F) c vG (slotOf 3 1408 k.val)))
theorem one_vG (I : In F) (c : Dev nD) : iprop(anyOf (F := F) c vG (slotOf 3 1408 0) ∗ anyOf (F := F) c vG (slotOf 3 1408 1)) ⊢ (anyOf (F := F) c vG Finset.univ : sProp 𝕄) :=
  (Entails.of_eq (sep2 (F := F) fun k : Fin 2 => anyOf (F := F) c vG (slotOf 3 1408 k.val)).symm).trans
    (any_close (ℓ := vG.view.loc (c : Thread nD τ)) (fun k : Fin 2 => slotOf 3 1408 k.val) (two_dis 3 1408) (two_cov 3 1408)
      (fKV (a := 3) (b := 1408) c kbG (I.k c) 0))
theorem two_kD : (anyOf (F := F) c kD Finset.univ : sProp 𝕄) ⊢ iprop(anyOf (F := F) c kD (slotOf 2 320 0) ∗ anyOf (F := F) c kD (slotOf 2 320 1)) :=
  (any_open (ℓ := kD.view.loc (c : Thread nD τ)) (fun k : Fin 2 => slotOf 2 320 k.val) (two_dis 2 320) (two_cov 2 320)).trans (Entails.of_eq (sep2 (F := F) fun k : Fin 2 => anyOf (F := F) c kD (slotOf 2 320 k.val)))
theorem one_kD (I : In F) (c : Dev nD) : iprop(anyOf (F := F) c kD (slotOf 2 320 0) ∗ anyOf (F := F) c kD (slotOf 2 320 1)) ⊢ (anyOf (F := F) c kD Finset.univ : sProp 𝕄) :=
  (Entails.of_eq (sep2 (F := F) fun k : Fin 2 => anyOf (F := F) c kD (slotOf 2 320 k.val)).symm).trans
    (any_close (ℓ := kD.view.loc (c : Thread nD τ)) (fun k : Fin 2 => slotOf 2 320 k.val) (two_dis 2 320) (two_cov 2 320)
      (fKV (a := 2) (b := 320) c kbD (I.k c) 0))
theorem two_vD : (anyOf (F := F) c vD Finset.univ : sProp 𝕄) ⊢ iprop(anyOf (F := F) c vD (slotOf 2 320 0) ∗ anyOf (F := F) c vD (slotOf 2 320 1)) :=
  (any_open (ℓ := vD.view.loc (c : Thread nD τ)) (fun k : Fin 2 => slotOf 2 320 k.val) (two_dis 2 320) (two_cov 2 320)).trans (Entails.of_eq (sep2 (F := F) fun k : Fin 2 => anyOf (F := F) c vD (slotOf 2 320 k.val)))
theorem one_vD (I : In F) (c : Dev nD) : iprop(anyOf (F := F) c vD (slotOf 2 320 0) ∗ anyOf (F := F) c vD (slotOf 2 320 1)) ⊢ (anyOf (F := F) c vD Finset.univ : sProp 𝕄) :=
  (Entails.of_eq (sep2 (F := F) fun k : Fin 2 => anyOf (F := F) c vD (slotOf 2 320 k.val)).symm).trans
    (any_close (ℓ := vD.view.loc (c : Thread nD τ)) (fun k : Fin 2 => slotOf 2 320 k.val) (two_dis 2 320) (two_cov 2 320)
      (fKV (a := 2) (b := 320) c kbD (I.k c) 0))

/-- The staging semaphores, all at zero. -/
def kvSems : sProp 𝕄 :=
  iprop((semVal ((c : Thread nD τ), .dma (smV cc0_scratch21 0)) 0 ∗ semVal ((c : Thread nD τ), .dma (smV cc0_scratch21 1)) 0) ∗ (semVal ((c : Thread nD τ), .dma (smV cc0_scratch22 0)) 0 ∗ semVal ((c : Thread nD τ), .dma (smV cc0_scratch22 1)) 0) ∗ (semVal ((c : Thread nD τ), .dma (smV cc0_scratch23 0)) 0 ∗ semVal ((c : Thread nD τ), .dma (smV cc0_scratch23 1)) 0) ∗ (semVal ((c : Thread nD τ), .dma (smV cc0_scratch24 0)) 0 ∗ semVal ((c : Thread nD τ), .dma (smV cc0_scratch24 1)) 0))
/-- The staging buffers. -/
def kvBufs : sProp 𝕄 := iprop(anyOf (F := F) c kG Finset.univ ∗ anyOf (F := F) c vG Finset.univ ∗ anyOf (F := F) c kD Finset.univ ∗ anyOf (F := F) c vD Finset.univ)
/-- The keys and the values. -/
abbrev keys (q : PosShare TreeShare) : sProp 𝕄 := (Memref.whole main_arg2).view.loc (c : Thread nD τ) ↦[Finset.univ]{q} I.k c
abbrev vals (q : PosShare TreeShare) : sProp 𝕄 := (Memref.whole main_arg3).view.loc (c : Thread nD τ) ↦[Finset.univ]{q} I.v c

theorem quarters {ℓ : Loc nD τ sig} (g : Buf (Elt F) ℓ) :
    (ℓ ↦[Finset.univ]{fullShare} g : sProp 𝕄) ⊣⊢ iprop(((ℓ ↦[Finset.univ]{qs 0 false} g) ∗ (ℓ ↦[Finset.univ]{qs 0 true} g))
      ∗ ((ℓ ↦[Finset.univ]{qs 1 false} g) ∗ (ℓ ↦[Finset.univ]{qs 1 true} g))) := by
  have h0 : (ℓ ↦[Finset.univ]{half1} g : sProp 𝕄) ⊣⊢ iprop((ℓ ↦[Finset.univ]{qs 0 false} g) ∗ (ℓ ↦[Finset.univ]{qs 0 true} g)) :=
    pointsTo_share (PosShare.mem_left_op_right half1)
  have h1 : (ℓ ↦[Finset.univ]{half2} g : sProp 𝕄) ⊣⊢ iprop((ℓ ↦[Finset.univ]{qs 1 false} g) ∗ (ℓ ↦[Finset.univ]{qs 1 true} g)) :=
    pointsTo_share (PosShare.mem_left_op_right half2)
  have h := halves (F := F) Finset.univ g
  constructor
  · iintro H
    ihave ⟨H0, H1⟩ := h.1 $$ H
    ihave H0 := h0.1 $$ H0
    ihave H1 := h1.1 $$ H1
    isplitl [H0] <;> iassumption
  · iintro ⟨H0, H1⟩
    ihave H0 := h0.2 $$ H0
    ihave H1 := h1.2 $$ H1
    iapply h.2
    isplitl [H0] <;> iassumption

theorem slots_open : iprop(kvSems (F := F) c ∗ kvBufs c ∗ keys I c fullShare ∗ vals I c fullShare) ⊢ iprop(idles I c 0 ∗ idles I c 1) := by
  unfold kvSems kvBufs idles
  rw [idleKG, idleVG, idleKD, idleVD, idleKG, idleVG, idleKD, idleVD]
  iintro ⟨⟨⟨S1, S1'⟩, ⟨S2, S2'⟩, ⟨S3, S3'⟩, S4, S4'⟩, ⟨B1, B2, B3, B4⟩, HK, HV⟩
  ihave ⟨B1, B1'⟩ := (two_kG c) $$ B1
  ihave ⟨B2, B2'⟩ := (two_vG c) $$ B2
  ihave ⟨B3, B3'⟩ := (two_kD c) $$ B3
  ihave ⟨B4, B4'⟩ := (two_vD c) $$ B4
  ihave ⟨⟨K1, K3⟩, K1', K3'⟩ := (quarters (I.k c)).1 $$ HK
  ihave ⟨⟨V2, V4⟩, V2', V4'⟩ := (quarters (I.v c)).1 $$ HV
  isplitl [S1 B1 K1 S2 B2 V2 S3 B3 K3 S4 B4 V4]
  · isplitl [S1 B1 K1 S2 B2 V2]
    · isplitl [S1 B1 K1]
      · isplitl [S1]; · iexact S1
        isplitl [B1]; · iexact B1
        iexact K1
      · isplitl [S2]; · iexact S2
        isplitl [B2]; · iexact B2
        iexact V2
    · isplitl [S3 B3 K3]
      · isplitl [S3]; · iexact S3
        isplitl [B3]; · iexact B3
        iexact K3
      · isplitl [S4]; · iexact S4
        isplitl [B4]; · iexact B4
        iexact V4
  · isplitl [S1' B1' K1' S2' B2' V2']
    · isplitl [S1' B1' K1']
      · isplitl [S1']; · iexact S1'
        isplitl [B1']; · iexact B1'
        iexact K1'
      · isplitl [S2']; · iexact S2'
        isplitl [B2']; · iexact B2'
        iexact V2'
    · isplitl [S3' B3' K3']
      · isplitl [S3']; · iexact S3'
        isplitl [B3']; · iexact B3'
        iexact K3'
      · isplitl [S4']; · iexact S4'
        isplitl [B4']; · iexact B4'
        iexact V4'

theorem slots_close : iprop(idles I c 0 ∗ idles I c 1) ⊢ iprop(kvSems (F := F) c ∗ kvBufs c ∗ keys I c fullShare ∗ vals I c fullShare) := by
  unfold kvSems kvBufs idles
  rw [idleKG, idleVG, idleKD, idleVD, idleKG, idleVG, idleKD, idleVD]
  iintro ⟨⟨⟨⟨S1, B1, K1⟩, S2, B2, V2⟩, ⟨S3, B3, K3⟩, S4, B4, V4⟩, ⟨⟨S1', B1', K1'⟩, S2', B2', V2'⟩, ⟨S3', B3', K3'⟩, S4', B4', V4'⟩
  isplitl [S1 S1' S2 S2' S3 S3' S4 S4']
  · isplitl [S1 S1']; · isplitl [S1]; · iexact S1
                        iexact S1'
    isplitl [S2 S2']; · isplitl [S2]; · iexact S2
                        iexact S2'
    isplitl [S3 S3']; · isplitl [S3]; · iexact S3
                        iexact S3'
    isplitl [S4]; · iexact S4
    iexact S4'
  isplitl [B1 B1' B2 B2' B3 B3' B4 B4']
  · isplitl [B1 B1']
    · iapply (one_kG I c); isplitl [B1]; · iexact B1
      iexact B1'
    isplitl [B2 B2']
    · iapply (one_vG I c); isplitl [B2]; · iexact B2
      iexact B2'
    isplitl [B3 B3']
    · iapply (one_kD I c); isplitl [B3]; · iexact B3
      iexact B3'
    iapply (one_vD I c); isplitl [B4]; · iexact B4
    iexact B4'
  isplitl [K1 K3 K1' K3']
  · iapply (quarters (I.k c)).2
    isplitl [K1 K3]; · isplitl [K1]; · iexact K1
                       iexact K3
    isplitl [K1']; · iexact K1'
    iexact K3'
  iapply (quarters (I.v c)).2
  isplitl [V2 V4]; · isplitl [V2]; · iexact V2
                     iexact V4
  isplitl [V2']; · iexact V2'
  iexact V4'

/-! ## The whole body -/

/-- The buffers the kernel computes in, whatever they hold. -/
def scratch : sProp 𝕄 :=
  iprop(anyOf (F := F) c commR Finset.univ ∗ anyOf (F := F) c commL Finset.univ ∗ anyOf (F := F) c mQ Finset.univ ∗ anyOf (F := F) c kG Finset.univ ∗ anyOf (F := F) c vG Finset.univ ∗ anyOf (F := F) c kD Finset.univ ∗ anyOf (F := F) c vD Finset.univ ∗ anyOf (F := F) c kGb Finset.univ ∗ anyOf (F := F) c vGb Finset.univ ∗ anyOf (F := F) c kDb Finset.univ ∗ anyOf (F := F) c vDb Finset.univ ∗ anyOf (F := F) c wQ Finset.univ ∗ anyOf (F := F) c wO Finset.univ ∗ anyOf (F := F) c mCtx Finset.univ ∗ anyOf (F := F) c mPart Finset.univ ∗ anyOf (F := F) c stR Finset.univ ∗ anyOf (F := F) c stL Finset.univ ∗ anyOf (F := F) c sdR Finset.univ ∗ anyOf (F := F) c sdL Finset.univ ∗ anyOf (F := F) c rvR Finset.univ ∗ anyOf (F := F) c rvL Finset.univ)

/-- What the staged blocks hold at the end; at the start the result's block holds anything. -/
def staged (out : sProp 𝕄) : sProp 𝕄 :=
  iprop(pts c sX Finset.univ fullShare (I.x c) ∗ pts c sWq Finset.univ fullShare (I.wq c) ∗ pts c sWo Finset.univ fullShare (I.wo c) ∗ out)

/-- What a device starts from beside its buffers. -/
def outset (K : Dev nD × Fin 25 → ℕ) : sProp 𝕄 :=
  iprop(records I K ∗ levAts L lv ∗ knock (F := F) c ∗ (readys (F := F) c 0 ∗ readys (F := F) c 1 ∗ readys (F := F) c 2 ∗ readys (F := F) c 3)
    ∗ kvSems (F := F) c ∗ keys I c fullShare ∗ vals I c fullShare)
/-- What it ends with. -/
def close : sProp 𝕄 :=
  iprop(semVal (barCell c) 0 ∗ (spents (F := F) c 0 ∗ spents (F := F) c 1 ∗ spents (F := F) c 2 ∗ spents (F := F) c 3)
    ∗ kvSems (F := F) c ∗ keys I c fullShare ∗ vals I c fullShare)

theorem heads_zero : heads I c 0 = busys I c 0 := by unfold heads; rw [if_pos (by decide)]
theorem heads_end : heads I c 8 = idles I c 0 := by unfold heads; rw [if_neg (by decide)]; exact idles_mod I c 8 0 (by decide)
theorem idles_end : idles I c (8 + 1) = idles I c 1 := idles_mod I c (8 + 1) 1 (by decide)

theorem wp_kmain (K : Dev nD × Fin 25 → ℕ) {Q : PUnit → sProp 𝕄} :
    iprop(outset I c K ∗ scratch c ∗ Ow (F := F) c 14 ∗ staged I c (anyOf c sOut Finset.univ))
      ⊢ iprop((iprop(close I c ∗ scratch c ∗ Ow (F := F) c 0 ∗ staged I c (pts c sOut Finset.univ fullShare (fO I c))) -∗ Q ⟨⟩)
        -∗ runs c (kmain c) Q) := by
  rw [← bind_pure (kmain c)]
  unfold kmain before outset scratch staged close
  simp only [bind_assoc]
  iintro ⟨⟨#HR, #Hlev, Hk, ⟨A0, A1, A2, A3⟩, Hs, HK, HV⟩, ⟨McommR, McommL, MmQ, MkG, MvG, MkD, MvD, MkGb, MvGb, MkDb, MvDb, MwQ, MwO, MmCtx, MmPart, MstR, MstL, MsdR, MsdL, MrvR, MrvL⟩, HO, HX, HWq, HWo, HOut⟩ Hq
  ihave ⟨R0, E0⟩ := (open_commR c) $$ McommR
  ihave ⟨R1, E1⟩ := (open_commL c) $$ McommL
  ihave E2 := (open_rvR c) $$ MrvR
  ihave E3 := (open_rvL c) $$ MrvL
  iapply (wp_enter I K c) $$ [HO Hk E0 E1 E2 E3]
  · isplitr; · iexact HR
    isplitr; · iexact Hlev
    isplitl [HO]; · iexact HO
    isplitl [Hk]; · iexact Hk
    isplitl [E0]; · iexact E0
    isplitl [E1]; · iexact E1
    isplitl [E2]; · iexact E2
    iexact E3
  iintro ⟨E0, E1, E2, E3, HB, HO⟩
  ihave ⟨Hi, Hj⟩ := (slots_open I c) $$ [Hs HK HV MkG MvG MkD MvD]
  · isplitl [Hs]; · iexact Hs
    isplitl [MkG MvG MkD MvD]
    · unfold kvBufs
      isplitl [MkG]; · iexact MkG
      isplitl [MvG]; · iexact MvG
      isplitl [MkD]; · iexact MkD
      iexact MvD
    isplitl [HK]; · iexact HK
    iexact HV
  rw [proG_eq, proD_eq]
  iapply (wp_issueHead I c 0) $$ Hi; iintro Hi
  iapply (wp_castW I c) $$ [HWq HWo MwQ MwO]
  · isplitl [HWq]; · iexact HWq
    isplitl [HWo]; · iexact HWo
    isplitl [MwQ]; · iexact MwQ
    iexact MwO
  iintro ⟨HWq, HWo, HwQ, HwO⟩
  iapply (wp_gather I c K) $$ [HO A0 A1 E0 E1 HX R0 R1 HwQ MmQ]
  · isplitr; · iexact HR
    isplitr; · iexact Hlev
    isplitl [HO]; · iexact HO
    isplitl [A0]; · iexact A0
    isplitl [A1]; · iexact A1
    isplitl [E0]; · iexact E0
    isplitl [E1]; · iexact E1
    isplitl [HX]; · iexact HX
    isplitl [R0]; · iexact R0
    isplitl [R1]; · iexact R1
    isplitl [HwQ]; · iexact HwQ
    iexact MmQ
  iintro ⟨HO, P0, P1, HX, HsR, HsL, HwQ, HQ⟩
  ihave HC := (put_full c mCtx (fC I c)) $$ MmCtx
  ihave HC := (Tr_mono c (m := mCtx) (D' := Dc 0 []) (fun i _ h => by
    rcases h with h | ⟨_, h⟩
    · exact absurd h (Nat.not_lt_zero _)
    · cases h) (fC I c)) $$ HC
  iapply (wp_loop I c) $$ [Hi Hj HQ MkGb MvGb MkDb MvDb HC HO]
  · isplitr; · iexact Hlev
    unfold inv unrounded
    rw [heads_zero]
    isplitl [Hi]; · iexact Hi
    isplitl [Hj]; · iexact Hj
    isplitl [HQ]; · iexact HQ
    isplitl [MkGb MvGb MkDb MvDb]
    · isplitl [MkGb]; · iexact MkGb
      isplitl [MvGb]; · iexact MvGb
      isplitl [MkDb]; · iexact MkDb
      iexact MvDb
    isplitl [HC]; · iexact HC
    iexact HO
  unfold inv unrounded
  iintro ⟨Hi, Hj, HQ, ⟨MkGb, MvGb, MkDb, MvDb⟩, HC, HO⟩
  ihave Hi := (Entails.of_eq (heads_end I c)) $$ Hi
  ihave Hj := (Entails.of_eq (idles_end I c)) $$ Hj
  ihave ⟨Hs, Hbufs, HK, HV⟩ := (slots_close I c) $$ [Hi Hj]
  · isplitl [Hi] <;> iassumption
  unfold kvBufs
  icases Hbufs with ⟨MkG, MvG, MkD, MvD⟩
  ihave HC := (Tr_full c (m := mCtx) (D := Dc 8 []) (fun i _ => Or.inl (by
    have h1 : ((show S1024x1024.Idx from i) 1).val < 1024 := ((show S1024x1024.Idx from i) 1).isLt
    show ((show S1024x1024.Idx from i) 1).val / 128 < 8
    omega)) (fC I c)) $$ HC
  ihave HsdR := (open_sdR c) $$ MsdR
  ihave HsdL := (open_sdL c) $$ MsdL
  iapply (wp_scatter I c K) $$ [HO A2 A3 E2 E3 HC HwO MmPart MstR MstL HsdR HsdL HOut]
  · isplitr; · iexact HR
    isplitr; · iexact Hlev
    isplitl [HO]; · iexact HO
    isplitl [A2]; · iexact A2
    isplitl [A3]; · iexact A3
    isplitl [E2]; · iexact E2
    isplitl [E3]; · iexact E3
    isplitl [HC]; · iexact HC
    isplitl [HwO]; · iexact HwO
    isplitl [MmPart]; · iexact MmPart
    isplitl [MstR]; · iexact MstR
    isplitl [MstL]; · iexact MstL
    isplitl [HsdR]; · iexact HsdR
    isplitl [HsdL]; · iexact HsdL
    iexact HOut
  iintro ⟨HO, P2, P3, HC, HwO, HP, HtR, HtL, HsdR, HsdL, HvR, HvL, HOut⟩
  iapply (runs_ret c)
  iapply Hq
  isplitl [HB P0 P1 P2 P3 Hs HK HV]
  · isplitl [HB]; · iexact HB
    isplitl [P0 P1 P2 P3]
    · isplitl [P0]; · iexact P0
      isplitl [P1]; · iexact P1
      isplitl [P2]; · iexact P2
      iexact P3
    isplitl [Hs]; · iexact Hs
    isplitl [HK]; · iexact HK
    iexact HV
  isplitr [HO HX HWq HWo HOut]
  · isplitl [HsR]; · iapply (close_commR I c); iexact HsR
    isplitl [HsL]; · iapply (close_commL I c); iexact HsL
    isplitl [HQ]; · iapply (pts_any c mQ); iexact HQ
    isplitl [MkG]; · iexact MkG
    isplitl [MvG]; · iexact MvG
    isplitl [MkD]; · iexact MkD
    isplitl [MvD]; · iexact MvD
    isplitl [MkGb]; · iexact MkGb
    isplitl [MvGb]; · iexact MvGb
    isplitl [MkDb]; · iexact MkDb
    isplitl [MvDb]; · iexact MvDb
    isplitl [HwQ]; · iapply (pts_any c wQ); iexact HwQ
    isplitl [HwO]; · iapply (pts_any c wO); iexact HwO
    isplitl [HC]; · iapply (pts_any c mCtx); iexact HC
    isplitl [HP]; · iapply (pts_any c mPart); iexact HP
    isplitl [HtR]; · iapply (pts_any c stR); iexact HtR
    isplitl [HtL]; · iapply (pts_any c stL); iexact HtL
    isplitl [HsdR]; · iapply (close_sdR I c); iexact HsdR
    isplitl [HsdL]; · iapply (close_sdL I c); iexact HsdL
    isplitl [HvR]; · iapply (close_rvR I c); iexact HvR
    iapply (close_rvL I c); iexact HvL
  isplitl [HO]; · iexact HO
  isplitl [HX]; · iexact HX
  isplitl [HWq]; · iexact HWq
  isplitl [HWo]; · iexact HWo
  iexact HOut

end Cert.KernelIdeal.Body
-- ==== Proof.Deal.lean ====
module

public import proofs.«01_k».proof.Proof.Body
public import proofs.«01_k».proof.Proof.Gen.KernelIdeal.Launch
public import Idealize.ShloMosaic.Lib.Pipeline.Launch

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Over the cells of a device -/

/-- One thing per hop of every lane. -/
def hops (Φ : Fin 4 → Fin 3 → sProp 𝕄) : sProp 𝕄 := bigSep Finset.univ fun l : Fin 4 => bigSep Finset.univ fun k : Fin 3 => Φ l k

theorem hops_sep (Φ Ψ : Fin 4 → Fin 3 → sProp 𝕄) : hops (fun l k => iprop(Φ l k ∗ Ψ l k)) = iprop(hops Φ ∗ hops Ψ) := by
  unfold hops
  rw [← bigSep_sep']
  exact bigSep_congr fun l _ => bigSep_sep' ..

theorem hops_list (Φ : Fin 4 → Fin 3 → sProp 𝕄) :
    hops Φ = iprop((Φ 0 0 ∗ Φ 0 1 ∗ Φ 0 2) ∗ (Φ 1 0 ∗ Φ 1 1 ∗ Φ 1 2) ∗ (Φ 2 0 ∗ Φ 2 1 ∗ Φ 2 2) ∗ (Φ 3 0 ∗ Φ 3 1 ∗ Φ 3 2)) := by
  unfold hops
  rw [sep4, sep3, sep3, sep3, sep3]

set_option backward.proofsInPublic true in
def ixOf (p : (Fin 4 × Fin 3) × Bool) : Fin 25 := if p.2 then ixR p.1.1 p.1.2 else ixS p.1.1 p.1.2
theorem ixOf_inj : Function.Injective ixOf := by decide +kernel
theorem ix_all : (Finset.univ : Finset (Fin 25)).erase 0 = Finset.univ.map ⟨ixOf, ixOf_inj⟩ := by decide +kernel

theorem sepB (Φ : Bool → sProp 𝕄) : bigSep Finset.univ Φ = iprop(Φ false ∗ Φ true) := bigSep_univ_eq_bigSepL [false, true] (by decide) (by decide) Φ

theorem over_cells (Ψ : Fin 25 → sProp 𝕄) : bigSep Finset.univ Ψ = iprop(Ψ 0 ∗ hops fun l k => iprop(Ψ (ixS l k) ∗ Ψ (ixR l k))) := by
  rw [bigSep_univ_at Ψ 0, ix_all, bigSep_map, bigSep_univ_prod, bigSep_univ_prod]
  unfold hops
  refine congrArg _ (bigSep_congr fun l _ => bigSep_congr fun k _ => ?_)
  rw [sepB]
  rfl

/-- What is said of every cell of a device, said of its entry cell and of each hop's two cells. -/
theorem over_gsem (c : Dev nD) (Ψ : GSem nD τ sig → sProp 𝕄) :
    bigSep Finset.univ (fun i : Fin 25 => Ψ (kcell (c, i))) = iprop(Ψ (barCell c) ∗ hops fun l k => iprop(Ψ (sendCell l k c) ∗ Ψ (recvCell l k c))) := by
  rw [over_cells]
  refine congrArg₂ _ rfl (congrArg hops (funext fun l => funext fun k => ?_))
  unfold kcell
  rw [csem_S, csem_R]

/-! ## The semaphores at launch -/

set_option backward.proofsInPublic true in
def osem (i : Fin 32) : SemLoc sig := .dma ⟨4 + i.val, by have := i.isLt; show _ < 36; omega⟩
theorem ownSemFacts : Pipeline.OwnSemFacts cfg0.spec osem := by decide +kernel

set_option backward.proofsInPublic true in
def oKV (p : Fin 4 × Fin 2) : Fin 32 := ⟨2 * p.1.val + p.2.val, by omega⟩
set_option backward.proofsInPublic true in
def oHop (p : (Fin 4 × Fin 3) × Bool) : Fin 32 := ⟨8 + 6 * p.1.1.val + p.1.2.val + (if p.2 then 3 else 0), by split <;> omega⟩
theorem oKV_inj : Function.Injective oKV := by decide +kernel
theorem oHop_inj : Function.Injective oHop := by decide +kernel
theorem o_all : (Finset.univ : Finset (Fin 32)) = Finset.univ.map ⟨oKV, oKV_inj⟩ ∪ Finset.univ.map ⟨oHop, oHop_inj⟩ := by decide +kernel
theorem o_dis : Disjoint (Finset.univ.map ⟨oKV, oKV_inj⟩) (Finset.univ.map ⟨oHop, oHop_inj⟩) := by decide +kernel

theorem osem_S : ∀ l k, osem (oHop ((l, k), false)) = .dma (sS l k) := by decide +kernel
theorem osem_R : ∀ l k, osem (oHop ((l, k), true)) = .dma (sR l k) := by decide +kernel
theorem osem_KG : ∀ s : Fin 2, osem (oKV (0, s)) = .dma (smV cc0_scratch21 s.val) := by decide +kernel
theorem osem_VG : ∀ s : Fin 2, osem (oKV (1, s)) = .dma (smV cc0_scratch22 s.val) := by decide +kernel
theorem osem_KD : ∀ s : Fin 2, osem (oKV (2, s)) = .dma (smV cc0_scratch23 s.val) := by decide +kernel
theorem osem_VD : ∀ s : Fin 2, osem (oKV (3, s)) = .dma (smV cc0_scratch24 s.val) := by decide +kernel

theorem ownSems0_eq (c : Dev nD) : (Pipeline.ownSems0 (Ix := Unit) (Name := ℕ) (U := UU) (Lvl := ℕ) (Val := Elt F) (τ := τ) osem c : sProp 𝕄)
    = iprop(kvSems c ∗ hops fun l k => spent l k c) := by
  unfold Pipeline.ownSems0
  rw [o_all, BI.bigSep_union o_dis, bigSep_map, bigSep_map, bigSep_univ_prod, bigSep_univ_prod, bigSep_univ_prod, sep4, sep2, sep2, sep2, sep2]
  refine congrArg₂ _ ?_ ?_
  · show iprop((semVal ((c : Thread nD τ), osem (oKV (0, 0))) 0 ∗ semVal ((c : Thread nD τ), osem (oKV (0, 1))) 0)
      ∗ (semVal ((c : Thread nD τ), osem (oKV (1, 0))) 0 ∗ semVal ((c : Thread nD τ), osem (oKV (1, 1))) 0)
      ∗ (semVal ((c : Thread nD τ), osem (oKV (2, 0))) 0 ∗ semVal ((c : Thread nD τ), osem (oKV (2, 1))) 0)
      ∗ (semVal ((c : Thread nD τ), osem (oKV (3, 0))) 0 ∗ semVal ((c : Thread nD τ), osem (oKV (3, 1))) 0)) = _
    rw [osem_KG, osem_KG, osem_VG, osem_VG, osem_KD, osem_KD, osem_VD, osem_VD]
    rfl
  · unfold hops
    refine bigSep_congr fun l _ => bigSep_congr fun k _ => ?_
    rw [sepB]
    show iprop(semVal ((c : Thread nD τ), osem (oHop ((l, k), false))) 0 ∗ semVal ((c : Thread nD τ), osem (oHop ((l, k), true))) 0) = _
    rw [osem_S, osem_R]
    rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_open (c : Dev nD) :
    iprop(Pipeline.ownSems0 (Ix := Unit) (Name := ℕ) (U := UU) (Lvl := ℕ) (Val := Elt F) (τ := τ) osem c ∗ unscopedSems0 c)
      ⊢ iprop(kvSems c ∗ (bigSep Finset.univ fun i : Fin 25 => semVal (kcell (c, i)) 0 : sProp 𝕄)) := by
  rw [ownSems0_eq, unscopedSems0_eq, over_gsem c fun g => semVal g 0]
  iintro ⟨⟨HK, HH⟩, HB⟩
  isplitl [HK]; · iexact HK
  isplitl [HB]; · iexact HB
  iexact HH

/-! ## The tokens -/

def ringE (l : Fin 4) : Dev nD ≃ Dev nD := ⟨peer l, orig l, orig_peer l, peer_orig l⟩
def nxtE : Dev nD ≃ Dev nD := ⟨nxt, prv, prv_nxt, nxt_prv⟩

theorem deal (Φ : Fin 4 → Fin 3 → Dev nD → sProp 𝕄) :
    (bigSep Finset.univ fun c : Dev nD => hops fun l k => Φ l k c) = bigSep Finset.univ fun c : Dev nD => hops fun l k => Φ l k (peer l c) := by
  unfold hops
  rw [BI.bigSep_univ_comm, bigSep_congr (s := Finset.univ) (fun (l : Fin 4) _ => bigSep_univ_equiv (ringE l) (fun c : Dev nD => bigSep Finset.univ fun k : Fin 3 => Φ l k c)), BI.bigSep_univ_comm]
  rfl

theorem kcell_inj : Function.Injective (kcell : Dev nD × Fin 25 → GSem nD τ sig) := by
  rintro ⟨c, i⟩ ⟨c', i'⟩ h
  have h1 : c = c' := congrArg (fun g : GSem nD τ sig => g.1.1) h
  have h2 : csem i = csem i' := congrArg Prod.snd h
  have h3 : ∀ i i' : Fin 25, csem i = csem i' → i = i' := by decide +kernel
  rw [h1, h3 i i' h2]

def ringCells : Finset (GSem nD τ sig) := Finset.univ.map ⟨kcell, kcell_inj⟩
def tokF (ck : Dev nD × Fin 25) : GSem nD τ sig × ℕ × Bool := (kcell ck, 0, false)
def tokT (c : Dev nD) : GSem nD τ sig × ℕ × Bool := (barCell c, 0, true)
theorem tokF_inj : Function.Injective tokF := fun a b h => kcell_inj (congrArg Prod.fst h)
theorem tokT_inj : Function.Injective tokT := fun a b h => congrArg (fun x : GSem nD τ sig × ℕ × Bool => x.1.1.1) h
def ringToks : Finset (GSem nD τ sig × ℕ × Bool) := Finset.univ.map ⟨tokF, tokF_inj⟩ ∪ Finset.univ.map ⟨tokT, tokT_inj⟩
theorem toks_dis : Disjoint (Finset.univ.map ⟨tokF, tokF_inj⟩) (Finset.univ.map ⟨tokT, tokT_inj⟩) :=
  Finset.disjoint_left.mpr fun x hx hy => by
    obtain ⟨a, -, rfl⟩ := Finset.mem_map.mp hx
    obtain ⟨b, -, hb⟩ := Finset.mem_map.mp hy
    exact Bool.noConfusion (congrArg (fun x : GSem nD τ sig × ℕ × Bool => x.2.2) hb)

/-- The tokens of a device's own cells. -/
def toks (c : Dev nD) : sProp 𝕄 :=
  iprop((bigSep Finset.univ fun i : Fin 25 => dutyTok ER (kcell (c, i)) 0 false) ∗ dutyTok ER (barCell c) 0 true)
/-- The tokens of the payments a device makes. -/
def payToks (c : Dev nD) : sProp 𝕄 :=
  iprop(dutyTok ER (barCell (nxt c)) 0 false ∗ dutyTok ER (barCell (prv c)) 0 true
    ∗ hops fun l k => iprop(dutyTok ER (sendCell l k c) 0 false ∗ dutyTok ER (recvCell l k (peer l c)) 0 false))

theorem toks_around : (bigSep Finset.univ fun c : Dev nD => (toks c : sProp 𝕄)) ⊢ bigSep Finset.univ fun c : Dev nD => payToks c := by
  have h : ∀ c : Dev nD, (toks c : sProp 𝕄) = iprop((dutyTok ER (barCell c) 0 false ∗ (hops fun l k => dutyTok ER (sendCell l k c) 0 false)
      ∗ hops fun l k => dutyTok ER (recvCell l k c) 0 false) ∗ dutyTok ER (barCell c) 0 true) := fun c => by
    unfold toks
    rw [over_gsem c fun g => dutyTok ER g 0 false, hops_sep]
  have h' : ∀ c : Dev nD, (payToks c : sProp 𝕄) = iprop(dutyTok ER (barCell (nxt c)) 0 false ∗ dutyTok ER (barCell (prv c)) 0 true
      ∗ (hops fun l k => dutyTok ER (sendCell l k c) 0 false) ∗ hops fun l k => dutyTok ER (recvCell l k (peer l c)) 0 false) := fun c => by
    unfold payToks
    rw [hops_sep]
  rw [bigSep_congr (s := Finset.univ) (fun (c : Dev nD) _ => h c), bigSep_congr (s := Finset.univ) (fun (c : Dev nD) _ => h' c)]
  simp only [bigSep_sep']
  rw [bigSep_univ_equiv nxtE (fun c : Dev nD => (dutyTok ER (barCell c) 0 false : sProp 𝕄)),
    bigSep_univ_equiv nxtE.symm (fun c : Dev nD => (dutyTok ER (barCell c) 0 true : sProp 𝕄)),
    deal (fun l k c => (dutyTok ER (recvCell l k c) 0 false : sProp 𝕄))]
  iintro ⟨⟨H1, H2, H3⟩, H4⟩
  isplitl [H1]; · iexact H1
  isplitl [H4]; · iexact H4
  isplitl [H2]; · iexact H2
  iexact H3

/-! ## The launch -/

variable (I : In F)

/-- What the launch deals a device. -/
def G (c : Dev nD) : sProp 𝕄 :=
  iprop((bigSep Finset.univ fun k : Fin 25 => roundState ER (ringRd I) (kcell (c, k)) 0)
    ∗ ((bigSep Finset.univ fun k : Fin 25 => atPos ER (kcell (c, k)) 0 ∅ 0) ∗ (bigSep Finset.univ fun k : Fin 25 => reached ER (kcell (c, k)) 0)) ∗ toks c)
/-- What stays with it. -/
def linear (c : Dev nD) : sProp 𝕄 := iprop(kvSems c ∗ (bigSep Finset.univ fun k : Fin 25 => atPos ER (kcell (c, k)) 0 ∅ 0) ∗ payToks c)
def G' (c : Dev nD) : sProp 𝕄 := iprop(∃ K, records I K ∗ linear c)

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks
    rw [BI.bigSep_union toks_dis, bigSep_map, bigSep_map, bigSep_univ_prod, bigSep_sep']
    rfl
  iintro HX
  imod (Rounds.fund ER (ringRd I) ringCells ringToks) $$ HX with ⟨Hst, Hr, Hat, Htok⟩
  imodintro
  ihave Hst := (Entails.of_eq (hX fun g => roundState ER (ringRd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The cells of a device, allocated. -/
theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : Fin 25 => iprop(∃ κ : ℕ, cellInv ER (ringRd I) κ (kcell (c, k))))
          ∗ (bigSep Finset.univ fun k : Fin 25 => reached ER (kcell (c, k)) 0)
          ∗ kvSems c ∗ (bigSep Finset.univ fun k : Fin 25 => atPos ER (kcell (c, k)) 0 ∅ 0) ∗ toks c) := by
  unfold G
  iintro ⟨Hos, Hus, Hst, ⟨Hat, Hr⟩, Htok⟩
  ihave ⟨HK, Hv⟩ := (sems0_open (F := F) c) $$ [Hos Hus]
  · isplitl [Hos] <;> iassumption
  imod (show iprop((bigSep Finset.univ fun k : Fin 25 => semVal (kcell (c, k)) 0) ∗ bigSep Finset.univ fun k : Fin 25 => roundState ER (ringRd I) (kcell (c, k)) 0)
      ⊢ (|={Set.univ}=> bigSep Finset.univ fun k : Fin 25 => iprop(∃ κ : ℕ, cellInv ER (ringRd I) κ (kcell (c, k))) : sProp 𝕄) from by
        rw [← bigSep_sep']
        exact (bigSep_mono fun k _ => (Rounds.body_intro ER (ringRd I) (kcell (c, k))).trans inv_alloc).trans (bigSep_fupd _ _)) $$ [Hv Hst] with Hinv
  · isplitl [Hv] <;> iassumption
  imodintro
  isplitl [Hinv]; · iexact Hinv
  isplitl [Hr]; · iexact Hr
  isplitl [HK]; · iexact HK
  isplitl [Hat]; · iexact Hat
  iexact Htok

theorem give_all {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem give_one (K : Dev nD × Fin 25 → ℕ) (c : Dev nD) : iprop(records I K ∗ linear c) ⊢ G' I c := by
  unfold G'; iintro H; iexists K; iexact H

theorem regroup :
    (bigSep Finset.univ fun c : Dev nD => iprop((bigSep Finset.univ fun k : Fin 25 => iprop(∃ κ : ℕ, cellInv ER (ringRd I) κ (kcell (c, k))))
          ∗ (bigSep Finset.univ fun k : Fin 25 => reached ER (kcell (c, k)) 0)
          ∗ kvSems c ∗ (bigSep Finset.univ fun k : Fin 25 => atPos ER (kcell (c, k)) 0 ∅ 0) ∗ toks c) : sProp 𝕄)
      ⊢ bigSep Finset.univ (G' I) := by
  rw [bigSep_sep', bigSep_sep', bigSep_sep', bigSep_sep', ← bigSep_univ_prod (fun ck : Dev nD × Fin 25 => iprop(∃ κ : ℕ, cellInv ER (ringRd I) κ (kcell ck))),
    ← bigSep_univ_prod (fun ck : Dev nD × Fin 25 => (reached ER (kcell ck) 0 : sProp 𝕄))]
  iintro ⟨HI, HR, HK, Hat, Htok⟩
  ihave HK' := (BI.bigSep_exists_pi Finset.univ (fun (ck : Dev nD × Fin 25) (κ : ℕ) => (cellInv ER (ringRd I) κ (kcell ck) : sProp 𝕄))) $$ HI
  icases HK' with ⟨%K, HI⟩
  ihave Htk := (toks_around (F := F)) $$ Htok
  iapply (give_all (R := records I K) fun c _ => give_one I K c)
  isplitl [HI HR]
  · unfold records
    rw [bigSep_sep']
    isplitl [HI]; · iexact HI
    iexact HR
  · unfold linear
    rw [bigSep_sep', bigSep_sep']
    isplitl [HK]; · iexact HK
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credit at launch -/

theorem owe_sum (d : Dev nD) (g : GSem nD τ sig) (n : ℕ) :
    owe d n g () = ∑ j ∈ Finset.range n, if g = debtCell d j then (if j < 12 then NN else 1) else 0 := by
  induction n with
  | zero => rfl
  | succ n ih =>
    unfold owe
    rw [Pi.add_apply, Finsupp.add_apply, tallyAt_apply, ih, Finset.sum_range_succ]
    congr 1
    exact if_congr (and_iff_left rfl) rfl rfl

def jOf (l : Fin 4) (k : Fin 3) : ℕ := 11 - (6 * (l.val / 2) + 2 * k.val + l.val % 2)

theorem debt_recv : ∀ (l : Fin 4) (k : Fin 3) (c d : Dev nD), ∀ j < 14, (recvCell l k c = debtCell d j ↔ d = orig l c ∧ j = jOf l k) := by decide +kernel
theorem debt_bar : ∀ (c d : Dev nD), ∀ j < 14, (barCell c = debtCell d j ↔ (d = prv c ∧ j = 12) ∨ (d = nxt c ∧ j = 13)) := by decide +kernel
theorem jOf_lt (l : Fin 4) (k : Fin 3) : jOf l k < 12 := by unfold jOf; omega

theorem owed_recv (l : Fin 4) (k : Fin 3) (c : Dev nD) : (∑ d : Dev nD, owe d 14 (recvCell l k c) ()) = NN := by
  rw [Finset.sum_eq_single (orig l c) (fun d _ hd => ?_) (fun h => absurd (Finset.mem_univ _) h), owe_sum,
    Finset.sum_eq_single (jOf l k) (fun j hj hne => ?_) (fun h => absurd (Finset.mem_range.mpr (Nat.lt_trans (jOf_lt l k) (by decide))) h),
    if_pos ((debt_recv l k c _ _ (Nat.lt_trans (jOf_lt l k) (by decide))).mpr ⟨rfl, rfl⟩), if_pos (jOf_lt l k)]
  · exact if_neg fun h => hne ((debt_recv l k c _ j (Finset.mem_range.mp hj)).mp h).2
  · rw [owe_sum]
    exact Finset.sum_eq_zero fun j hj => if_neg fun h => hd ((debt_recv l k c d j (Finset.mem_range.mp hj)).mp h).1

theorem owed_bar_one (c d : Dev nD) : owe d 14 (barCell c) () = (if d = prv c then 1 else 0) + (if d = nxt c then 1 else 0) := by
  have h0 : (∑ j ∈ Finset.range 12, if barCell c = debtCell d j then (if j < 12 then NN else 1) else 0) = 0 :=
    Finset.sum_eq_zero fun j hj => if_neg fun h => by
      have hj := Finset.mem_range.mp hj
      rcases (debt_bar c d j (by omega)).mp h with ⟨_, h⟩ | ⟨_, h⟩ <;> omega
  rw [owe_sum, Finset.sum_range_succ, Finset.sum_range_succ, h0, Nat.zero_add, if_neg (by decide : ¬ 12 < 12), if_neg (by decide : ¬ 13 < 12)]
  refine congrArg₂ _ (if_congr ((debt_bar c d 12 (by decide)).trans ?_) rfl rfl) (if_congr ((debt_bar c d 13 (by decide)).trans ?_) rfl rfl)
  · exact ⟨fun h => h.elim (·.1) (fun h => absurd h.2 (by decide)), fun h => Or.inl ⟨h, rfl⟩⟩
  · exact ⟨fun h => h.elim (fun h => absurd h.2 (by decide)) (·.1), fun h => Or.inr ⟨h, rfl⟩⟩

theorem owed_bar (c : Dev nD) : (∑ d : Dev nD, owe d 14 (barCell c) ()) = 2 := by
  rw [Finset.sum_congr rfl fun d _ => owed_bar_one c d, Finset.sum_add_distrib, Finset.sum_ite_eq' Finset.univ (prv c) fun _ => 1,
    Finset.sum_ite_eq' Finset.univ (nxt c) fun _ => 1, if_pos (Finset.mem_univ _), if_pos (Finset.mem_univ _)]

def O₀ (c : Dev nD) : CellTallies nD τ sig Unit := owe c 14

theorem launch_at (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

set_option backward.proofsInPublic true in
def sRp (p : Fin 4 × Fin 3) : SemLoc sig := .dma (sR p.1 p.2)
theorem sRp_inj : Function.Injective sRp := by decide +kernel
theorem sRp_ne : ∀ p, sRp p ≠ .reg barS := by decide +kernel
theorem sRp_sub : (Finset.univ.map ⟨sRp, sRp_inj⟩ : Finset (SemLoc sig)) ⊆ Finset.univ.erase (.reg barS) := fun x hx => by
  obtain ⟨p, -, rfl⟩ := Finset.mem_map.mp hx
  exact Finset.mem_erase.mpr ⟨sRp_ne p, Finset.mem_univ _⟩

theorem creds (c : Dev nD) :
    (Pipeline.launchCred O₀ c : sProp 𝕄) ⊢ iprop(cred (tallyAt (barCell c) () 2) ∗ hops fun l k => cred (tallyAt (recvCell l k c) () NN)) := by
  unfold Pipeline.launchCred
  rw [bigSep_univ_at _ (SemLoc.reg barS), launch_at (barCell c) 2 (owed_bar c)]
  have hh : bigSep (Finset.univ.map ⟨sRp, sRp_inj⟩) (fun sm : SemLoc sig => (cred (tallyOn ((c : Thread nD τ), sm) (launchCredit (Pipeline.owing O₀) 0 ((c : Thread nD τ), sm))) : sProp 𝕄))
      = hops fun l k => cred (tallyAt (recvCell l k c) () NN) := by
    rw [bigSep_map, bigSep_univ_prod]
    unfold hops
    refine bigSep_congr fun l _ => bigSep_congr fun k _ => ?_
    show cred (tallyOn (recvCell l k c) (launchCredit (Pipeline.owing O₀) 0 (recvCell l k c))) = _
    rw [launch_at (recvCell l k c) NN (owed_recv l k c)]
  rw [← hh]
  exact sep_mono_right (BI.bigSep_subset sRp_sub)

theorem ready_one (l : Fin 4) (k : Fin 3) (c : Dev nD) :
    (iprop((atPos ER (sendCell l k c) 0 ∅ 0 ∗ atPos ER (recvCell l k c) 0 ∅ 0)
      ∗ (dutyTok ER (sendCell l k c) 0 false ∗ dutyTok ER (recvCell l k (peer l c)) 0 false) ∗ cred (tallyAt (recvCell l k c) () NN)) : sProp 𝕄) ⊢ ready (F := F) l k c := by
  unfold ready
  iintro ⟨⟨H1, H2⟩, ⟨H3, H4⟩, H5⟩
  isplitl [H1]; · iexact H1
  isplitl [H2]; · iexact H2
  isplitl [H3]; · iexact H3
  isplitl [H4]; · iexact H4
  iexact H5

theorem ready_all (c : Dev nD) :
    (iprop((hops fun l k => iprop(atPos ER (sendCell l k c) 0 ∅ 0 ∗ atPos ER (recvCell l k c) 0 ∅ 0))
      ∗ (hops fun l k => iprop(dutyTok ER (sendCell l k c) 0 false ∗ dutyTok ER (recvCell l k (peer l c)) 0 false))
      ∗ hops fun l k => cred (tallyAt (recvCell l k c) () NN)) : sProp 𝕄)
      ⊢ iprop(readys (F := F) c 0 ∗ readys (F := F) c 1 ∗ readys (F := F) c 2 ∗ readys (F := F) c 3) := by
  have h : iprop(readys (F := F) c 0 ∗ readys (F := F) c 1 ∗ readys (F := F) c 2 ∗ readys (F := F) c 3) = hops fun l k => ready (F := F) l k c := by
    rw [hops_list]; rfl
  rw [h, ← hops_sep, ← hops_sep]
  unfold hops
  refine bigSep_mono fun l _ => bigSep_mono fun k _ => ready_one l k c

/-- All that a device starts from. -/
theorem outset_intro (c : Dev nD) :
    iprop(G' I c ∗ Pipeline.launchCred O₀ c ∗ levAts L lv ∗ keys I c fullShare ∗ vals I c fullShare) ⊢ iprop(∃ K, outset I c K) := by
  unfold G' linear payToks outset
  iintro ⟨⟨%K, #HR, HS, Hat, T1, T2, Ht⟩, Hcr, #Hlev, HK, HV⟩
  ihave ⟨C, Hc⟩ := (creds (F := F) c) $$ Hcr
  ihave ⟨A, Ha⟩ := (Entails.of_eq (over_gsem c fun g => (atPos ER g 0 ∅ 0 : sProp 𝕄))) $$ Hat
  iexists K
  isplitr; · iexact HR
  isplitr; · iexact Hlev
  isplitl [A T1 T2 C]
  · unfold knock
    isplitl [A]; · iexact A
    isplitl [T2]; · iexact T2
    isplitl [T1]; · iexact T1
    iexact C
  isplitl [Ha Ht Hc]
  · iapply (ready_all (F := F) c)
    isplitl [Ha]; · iexact Ha
    isplitl [Ht]; · iexact Ht
    iexact Hc
  isplitl [HS]; · iexact HS
  isplitl [HK]; · iexact HK
  iexact HV

theorem spent_all (c : Dev nD) :
    iprop(spents (F := F) c 0 ∗ spents (F := F) c 1 ∗ spents (F := F) c 2 ∗ spents (F := F) c 3) = hops fun l k => spent (F := F) l k c := by
  rw [hops_list]; rfl

end Cert.KernelIdeal.Body
-- ==== Proof.Run.lean ====
module

public import proofs.«01_k».proof.Proof.BodyEq
public import proofs.«01_k».proof.Proof.Deal
public import proofs.«01_k».proof.Proof.Gen.KernelIdeal.Points
public import Idealize.ShloMosaic.Lib.Quiescent
public import Idealize.ShloMosaic.Lib.Pipeline.CollectiveSegs

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The buffers the run starts from -/

abbrev s₀ : MemSt nD τ sig (Elt F) := ⟨m, fun _ => 0, ρ⟩

/-- The contents of every device's arguments. -/
def inOf : In F where
  x c := (win0_0.blk (0 : Fin 1)).view.read (Elt F) (m ((c : Thread nD τ).loc main_arg0))
  wq c := (win0_1.blk (0 : Fin 1)).view.read (Elt F) (m ((c : Thread nD τ).loc main_arg1))
  wo c := (win0_2.blk (0 : Fin 1)).view.read (Elt F) (m ((c : Thread nD τ).loc main_arg4))
  k c := m ((c : Thread nD τ).loc main_arg2)
  v c := m ((c : Thread nD τ).loc main_arg3)

def Φ₀ (c : Dev nD) : sProp 𝕄 := iprop((∃ K, outset (inOf m) c K) ∗ scratch (F := F) c)
def Φ₁ (c : Dev nD) : sProp 𝕄 := iprop(close (inOf m) c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inOf m).x c
    | ⟨1, _⟩ => (inOf m).wq c
    | ⟨2, _⟩ => (inOf m).wo c
    | ⟨3, _⟩ => fO (inOf m) c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

theorem owns_whole_eq (c : Dev nD) (b : Ref sig .tc) (X : b.ty.Contents (Elt F)) :
    (owns (Ix := Unit) (Name := ℕ) (U := UU) (Lvl := ℕ) c (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ ∗ stg c cc0_stg0_0 ((inOf m).x c) ∗ stg c cc0_stg1_0 ((inOf m).wq c)
    ∗ stg c cc0_stg2_0 ((inOf m).wo c) ∗ stg c cc0_stg3_0 (fO (inOf m) c))

theorem before_x (c : Dev nD) (d) : (dats m ρ 0 c).before (0 : Fin 4) t0_0 d = (inOf m).x c := by
  unfold Dat.before; rw [if_pos (fetch0_0 t0_0)]; rfl
theorem before_wq (c : Dev nD) (d) : (dats m ρ 0 c).before (1 : Fin 4) t0_0 d = (inOf m).wq c := by
  unfold Dat.before; rw [if_pos (fetch0_1 t0_0)]; rfl
theorem before_wo (c : Dev nD) (d) : (dats m ρ 0 c).before (2 : Fin 4) t0_0 d = (inOf m).wo c := by
  unfold Dat.before; rw [if_pos (fetch0_2 t0_0)]; rfl

theorem take (c : Dev nD) {b : Ref sig .tc} {D : Type} {X : D → b.ty.Contents (Elt F)} {Y : b.ty.Contents (Elt F)} (h : ∀ d, X d = Y) :
    (iprop(∃ d, stg c b (X d)) : sProp 𝕄) ⊢ (((c : Thread nD τ).loc b) ↦{fullShare} Y) := by
  iintro ⟨%d, %f, %hf, H⟩
  rw [h d] at hf
  subst hf
  iexact H

theorem take_any (c : Dev nD) {b : Ref sig .tc} {D : Type} {X : D → b.ty.Contents (Elt F)} :
    (iprop(∃ d, stg c b (X d)) : sProp 𝕄) ⊢ iprop(∃ f, ((c : Thread nD τ).loc b) ↦{fullShare} f) := by
  iintro ⟨%d, %f, %hf, H⟩
  iexists f
  iexact H

theorem put (c : Dev nD) {b : Ref sig .tc} {Y : b.ty.Contents (Elt F)} :
    (((c : Thread nD τ).loc b) ↦{fullShare} Y : sProp 𝕄) ⊢ stg c b Y := by
  iintro H
  iexists Y
  isplitr
  · ipureintro; rfl
  iexact H

theorem owes_open (c : Dev nD) : ((dats m ρ 0 c).owesAt () t0_0.castSucc : sProp 𝕄) ⊢ Ow (F := F) c 14 := by
  unfold Dat.owesAt Pipeline.owesWithin Ow
  iintro ⟨%W, %hW, HO⟩
  iexists W
  iexact HO

theorem owes_close (c : Dev nD) : (Ow (F := F) c 0 : sProp 𝕄) ⊢ (dats m ρ 0 c).owesAt () t0_0.succ := by
  unfold Dat.owesAt Pipeline.owesWithin Ow
  iintro ⟨%W, HO⟩
  iexists W
  isplitr
  · ipureintro; exact fun _ _ => Or.inl trivial
  iexact HO

theorem sound_body (c : Dev nD) : bodyPre m ρ c ⊢ runs c (cc0_body sX (hstage0_0 0) sWq (hstage0_1 0) (Memref.whole main_arg2) (Memref.isWhole_whole _) (Memref.whole main_arg3) (Memref.isWhole_whole _) sWo (hstage0_2 0) sOut (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) cc0_scratch21 cc0_scratch22 cc0_scratch23 cc0_scratch24 cc0_scratch25 cc0_scratch26 cc0_scratch27 cc0_scratch28 cc0_scratch29 cc0_scratch30 cc0_scratch31 cc0_scratch32) (fun _ => bodyPost m ρ c) := by
  rw [body_eq]
  simp only [Prog.lift, Prog.bind_op, Prog.bind_ret, Prog.pure_eq_ret, wp_deviceId]
  unfold bodyPre Φ₀
  iintro ⟨⟨⟨%K, Hs⟩, Hscr⟩, Ho, Hx, Hwq, Hwo, Hout⟩
  ihave Hx := (take c (before_x m ρ c)) $$ Hx
  ihave Hwq := (take c (before_wq m ρ c)) $$ Hwq
  ihave Hwo := (take c (before_wo m ρ c)) $$ Hwo
  ihave Hout := (take_any c) $$ Hout
  ihave Ho := (owes_open m ρ c) $$ Ho
  iapply (wp_kmain (inOf m) c K) $$ [Hs Hscr Ho Hx Hwq Hwo Hout]
  · isplitl [Hs]; · iexact Hs
    isplitl [Hscr]; · iexact Hscr
    isplitl [Ho]; · iexact Ho
    unfold staged
    isplitl [Hx]; · iexact Hx
    isplitl [Hwq]; · iexact Hwq
    isplitl [Hwo]; · iexact Hwo
    iexact Hout
  unfold staged bodyPost Φ₁
  iintro ⟨HC, Hscr, Ho, Hx, Hwq, Hwo, Hout⟩
  isplitl [HC Hscr]
  · isplitl [HC]; · iexact HC
    iexact Hscr
  isplitl [Ho]
  · iapply (owes_close m ρ c) $$ Ho
  isplitl [Hx]; · iapply (put c) $$ Hx
  isplitl [Hwq]; · iapply (put c) $$ Hwq
  isplitl [Hwo]; · iapply (put c) $$ Hwo
  iapply (put c) $$ Hout

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), (initOf ringCells ringToks, 1))

theorem fund_all (I : In F) : BI.own (embR (A := UR sig nD τ) (B := UB × Counters) (initOf ringCells ringToks, 1)) ⊢ (|==> bigSep Finset.univ (G I) : sProp 𝕄) :=
  fund_ring I

def start (c : Dev nD) : sProp 𝕄 := iprop(∃ K, outset (inOf m) c K)
def stop (c : Dev nD) : sProp 𝕄 := iprop(unscopedSems0 c ∗ keys (inOf m) c fullShare ∗ vals (inOf m) c fullShare)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inOf m) c)
      ⊢ |={Set.univ}=> iprop(start m c ∗ emp) := by
  rw [Pipeline.unscopedRestP_none]
  iintro ⟨Hr, Hlev, Hcr, -, HG⟩
  ihave ⟨HK, HV⟩ := (Entails.of_eq (unscopedRest0_eq c _)) $$ Hr
  imodintro
  isplitl
  · unfold start
    iapply (outset_intro (inOf m) c)
    isplitl [HG]; · iexact HG
    isplitl [Hcr]; · iexact Hcr
    isplitl [Hlev]; · iexact Hlev
    isplitl [HK]; · iexact HK
    iexact HV
  · iempintro

theorem rest_eq (c : Dev nD) : (Pipeline.scopedRest cfg0.spec c : sProp 𝕄) = scratch (F := F) c := (scopedRest0_eq c).trans rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ start
  iintro ⟨Hs, -, Hr⟩
  isplitl [Hs]; · iexact Hs
  iapply (Entails.of_eq (rest_eq c)) $$ Hr

theorem phi1_exit (c : Dev nD) :
    (dats m ρ 0 c).Φ (Fin.last cfg0.N) ⊢ iprop(stop m c ∗ Pipeline.ownSems0 osem c ∗ Pipeline.scopedRest cfg0.spec c) := by
  rw [show (dats m ρ 0 c).Φ (Fin.last cfg0.N) = Φ₁ m c from rfl, ownSems0_eq]
  unfold Φ₁ close stop
  rw [unscopedSems0_eq, ← spent_all]
  iintro ⟨⟨HB, HS, HK, Hk, Hv⟩, Hr⟩
  isplitl [HB Hk Hv]
  · isplitl [HB]; · iexact HB
    isplitl [Hk]; · iexact Hk
    iexact Hv
  isplitl [HK HS]
  · isplitl [HK]; · iexact HK
    iexact HS
  iapply (Entails.of_eq (rest_eq c).symm) $$ Hr

theorem stage_low : ∀ (w : Fin 4) (s : Fin (spec0 w).nbuf), lvS (.dma ((spec0 w).sem s)) = 0 := by decide +kernel
theorem dlv_pos (j : ℕ) : 0 < dlv j := by unfold dlv; split <;> omega

theorem waits (c : Dev nD) : (levAts L lv : sProp 𝕄) ⊢ Pipeline.cellsWaits cfgs (dats m ρ) () 0 c :=
  Pipeline.cellsWaits_intro cfgs (dats m ρ) () 0 c fun w s t => by
    have hl : lvS (.dma ((spec0 w).sem s)) = 0 := stage_low w s
    rcases t with ⟨_ | _, ht⟩
    · exact mayWait_owe c _ 14 fun j _ => Nat.lt_of_le_of_lt (Nat.le_of_eq hl) (dlv_pos j)
    · exact mayWait_owe c _ 0 fun j _ => Nat.lt_of_le_of_lt (Nat.le_of_eq hl) (dlv_pos j)

/-! ## The run -/

def finalA (c : Dev nD) (w : Fin cfg0.W) : Buf (Elt F) ((cfg0.win w).arr.view.loc (c : Thread nD τ)) := (dats m ρ 0 c).arrAt w cfg0.N

def Kept (c : Dev nD) (s : MemSt nD τ sig (Elt F)) : Prop :=
  s.mem ((c : Thread nD τ).loc main_arg2) = m ((c : Thread nD τ).loc main_arg2) ∧ s.mem ((c : Thread nD τ).loc main_arg3) = m ((c : Thread nD τ).loc main_arg3)

def QC : PUnit × MemSt nD τ sig (Elt F) → Prop := fun r =>
  ∀ c : Dev nD, (∀ w : Fin cfg0.W, r.2.mem ((cfg0.win w).arr.view.loc (c : Thread nD τ)) = finalA m ρ c w) ∧ Kept m c r.2

theorem final_read (c : Dev nD) (s' : Phys nD τ sig (Elt F)) :
    (iprop(stop m c ∗ emp ∗ SI s') : sProp 𝕄)
      ⊢ |={Set.univ}=> iprop(⌜Kept m c s'.mem ∧ ∀ sm : SemLoc sig, sm.isScoped .tc = false → s'.mem.sem ((c.tc : Thread nD τ), sm) = 0⌝ ∗ SI s') := by
  unfold stop
  iintro ⟨⟨Hu, Hk, Hv⟩, -, HSI⟩
  icombine HSI Hk gives %hk
  icombine HSI Hv gives %hv
  imod (Pipeline.unscopedSems0_read (X := unscopedSems0 c) (c := c) fupd_intro s') $$ [Hu HSI] with ⟨%hs, HSI⟩
  · isplitl [Hu]; · iexact Hu
    iexact HSI
  imodintro
  isplitr
  · ipureintro
    exact ⟨⟨funext fun i => hk i (Finset.mem_univ i), funext fun i => hv i (Finset.mem_univ i)⟩, hs⟩
  iexact HSI

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inOf m)) (G' := G' (inOf m)) (u₀ := u₀)
    (hu₀ := by
      unfold u₀
      iintro Hu
      ihave H := (ownU_pair _ _) $$ Hu
      icases H with ⟨HP, HX⟩
      imod (fund_all (inOf m)) $$ HX with HG
      imodintro
      isplitl [HP] <;> iassumption)
    (hglob := glob (inOf m))
    (hA := fun _ _ => rfl) (hpf := fun _ k => k.elim0)
    (X := start m) (Y := stop m) (Z := fun _ => iprop(emp))
    (hX := start_intro m ρ) (hin := phi0_intro m ρ) (hout := phi1_exit m ρ)
    (QY := fun c s => Kept m c s ∧ ∀ sm : SemLoc sig, sm.isScoped .tc = false → s.sem ((c.tc : Thread nD τ), sm) = 0)
    (hY := final_read m)
    (hQ := fun _ h hs => ⟨fun c => ⟨(h c).1, (h c).2.2.1⟩, sem_eq_zero hs fun c => (h c).2.2.2⟩)

theorem finalA_in (c : Dev nD) (w : Fin cfg0.W) (hw : (cfg0.win w).isOut = false) :
    finalA m ρ c w = m ((cfg0.win w).arr.view.loc (c : Thread nD τ)) := (dats (F := F) m ρ 0 c).arrAt_in w hw _

theorem finalA_out (c : Dev nD) : (win0_3.blk (0 : Fin 1)).view.read (Elt F) (finalA m ρ c (3 : Fin 4)) = fO (inOf m) c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

end Cert.KernelIdeal.Body
-- ==== Proof.Ends.lean ====
module

public import proofs.«01_k».proof.Proof.Run
public import Idealize.ShloMosaic.Lib.StableHlo.RunHlo

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- The run leaves every argument as it was and every counter at zero, and each device's result is what the body computes. -/
theorem run_all : θ_run defs (onTc (τ := τ) (main (F := F))) ⟨m, fun _ => 0, ρ⟩ (fun r => (∀ c : Dev nD,
      ((win0_3.blk (0 : Fin 1)).view.read (Elt F) (r.2.mem ((c.tc : Thread nD τ).loc main_v1)) = fO (inOf m) c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_mono (run_main m ρ) fun r h => ⟨fun c => by
    have hw : ∀ w : Fin 4, r.2.mem ((cfg0.win w).arr.view.loc (c : Thread nD τ)) = finalA m ρ c w := (h.1 c).1
    exact ⟨(congrArg ((win0_3.blk (0 : Fin 1)).view.read (Elt F)) (hw 3)).trans (finalA_out m ρ c),
      (hw 0).trans (finalA_in m ρ c (0 : Fin 4) rfl), (hw 1).trans (finalA_in m ρ c (1 : Fin 4) rfl), (h.1 c).2.1, (h.1 c).2.2,
      (hw 2).trans (finalA_in m ρ c (2 : Fin 4) rfl)⟩, h.2⟩

/-- The same of the arguments and the counters alone. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_mono (run_all m ρ) fun r h => ⟨fun c => (h.1 c).2, h.2⟩

end Cert.KernelIdeal.Body
-- ==== Proof.Same.lean ====
module

public import proofs.«01_k».proof.Proof.Gen.Kernel
public import proofs.«01_k».proof.Proof.Ends

@[expose] public section

noncomputable section

namespace Cert.Same

open Idealize.ShloMosaic Idealize.SL.Sem
open Cert.Kernel

variable {F : FTy → Type} [FloatOps F]

/-- The named constant read as the word it stands for. -/
@[reducible] def words : Named F where named _ _ {φ} b := Scalar.ofBits φ b

attribute [local instance] words

set_option maxRecDepth 100000 in
set_option maxHeartbeats 4000000 in
theorem defs₀_same : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

theorem defs_same : Cert.Kernel.defs (F := F) = Cert.KernelIdeal.defs (F := F) := congrArg (Pipeline.defs Cert.Kernel.pcfgs) defs₀_same

/-- At words for the named constant the two printed programs are one, so the frame is the same. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (congrArg (fun D => θ_run D _ _ _) defs_same).mpr (Cert.KernelIdeal.Body.run_frame m ρ)

end Cert.Same
-- ==== Proof.Soft.lean ====
/- Softmax sums over the extended reals: what a masked attention row comes to, whatever set of keys it is summed over. -/
module

public import Idealize.ShloMosaic.PureOps.Ideal.Laws

@[expose] public section

noncomputable section

namespace Cert.Soft

open Idealize.ShloMosaic

variable {α β : Type} [Fintype α] [Fintype β]

/-- The largest score. -/
def top (s : α → EReal) : EReal := Finset.univ.fold max ⊥ s

/-- A score's weight before the row is divided by its sum. -/
def wt (s : α → EReal) (a : α) : EReal := Ideal.exp (s a - top s)

/-- The weighted mean, divided after the sum. -/
def mean (s v : α → EReal) : EReal := Ideal.div (∑ a, wt s a * v a) (∑ a, wt s a)

theorem top_eq_sup (s : α → EReal) : top s = Finset.univ.sup s := by
  unfold top
  exact (Finset.sup_def.trans rfl).symm

theorem le_top (s : α → EReal) (a : α) : s a ≤ top s := by
  rw [top_eq_sup]; exact Finset.le_sup (Finset.mem_univ a)

theorem top_le {s : α → EReal} {x : EReal} (h : ∀ a, s a ≤ x) : top s ≤ x := by
  rw [top_eq_sup]; exact Finset.sup_le fun a _ => h a

theorem top_sum (s : α → EReal) (t : β → EReal) : top (Sum.elim s t) = max (top s) (top t) := by
  refine le_antisymm (top_le fun a => ?_) (max_le (top_le fun a => le_top (Sum.elim s t) (.inl a)) (top_le fun b => le_top (Sum.elim s t) (.inr b)))
  cases a with
  | inl a => exact (le_top s a).trans (le_max_left _ _)
  | inr b => exact (le_top t b).trans (le_max_right _ _)

theorem wt_bot {s : α → EReal} {a : α} (h : s a = ⊥) : wt s a = 0 := by
  unfold wt
  rw [h, sub_eq_add_neg, EReal.bot_add]
  rfl

/-- The keys may be listed in any order, each excluded one any number of times. -/
theorem top_of {s : α → EReal} {t : β → EReal} (ψ : α → β) (h1 : ∀ a, s a ≠ ⊥ → s a = t (ψ a))
    (h3 : ∀ b, t b ≠ ⊥ → ∃ a, ψ a = b ∧ s a ≠ ⊥) : top s = top t := by
  refine le_antisymm (top_le fun a => ?_) (top_le fun b => ?_)
  · by_cases ha : s a = ⊥
    · rw [ha]; exact bot_le
    · rw [h1 a ha]; exact le_top t _
  · by_cases hb : t b = ⊥
    · rw [hb]; exact bot_le
    · obtain ⟨a, rfl, ha⟩ := h3 b hb
      rw [← h1 a ha]; exact le_top s a

theorem sum_of {s : α → EReal} {t : β → EReal} (ψ : α → β) (h1 : ∀ a, s a ≠ ⊥ → s a = t (ψ a))
    (h2 : ∀ a a', s a ≠ ⊥ → s a' ≠ ⊥ → ψ a = ψ a' → a = a')
    (h3 : ∀ b, t b ≠ ⊥ → ∃ a, ψ a = b ∧ s a ≠ ⊥) (v : β → EReal) :
    ∑ a, wt s a * v (ψ a) = ∑ b, wt t b * v b := by
  classical
  have ht := top_of ψ h1 h3
  rw [← Finset.sum_filter_of_ne (p := fun a => s a ≠ ⊥) (fun a _ h hs => h (by rw [wt_bot hs, zero_mul])),
    ← Finset.sum_filter_of_ne (s := (Finset.univ : Finset β)) (p := fun b => t b ≠ ⊥) (fun b _ h hs => h (by rw [wt_bot hs, zero_mul]))]
  refine Finset.sum_bij (fun a _ => ψ a) (fun a ha => ?_) (fun a ha a' ha' e => ?_) (fun b hb => ?_) (fun a ha => ?_)
  · have := (Finset.mem_filter.mp ha).2
    exact Finset.mem_filter.mpr ⟨Finset.mem_univ _, h1 a this ▸ this⟩
  · exact h2 a a' (Finset.mem_filter.mp ha).2 (Finset.mem_filter.mp ha').2 e
  · obtain ⟨a, e, ha⟩ := h3 b (Finset.mem_filter.mp hb).2
    exact ⟨a, Finset.mem_filter.mpr ⟨Finset.mem_univ _, ha⟩, e⟩
  · unfold wt
    rw [ht, h1 a (Finset.mem_filter.mp ha).2]

theorem mean_of {s : α → EReal} {t : β → EReal} (ψ : α → β) (h1 : ∀ a, s a ≠ ⊥ → s a = t (ψ a))
    (h2 : ∀ a a', s a ≠ ⊥ → s a' ≠ ⊥ → ψ a = ψ a' → a = a')
    (h3 : ∀ b, t b ≠ ⊥ → ∃ a, ψ a = b ∧ s a ≠ ⊥) (v : β → EReal) :
    mean s (fun a => v (ψ a)) = mean t v := by
  unfold mean
  have e := sum_of ψ h1 h2 h3 (fun _ => 1)
  simp only [mul_one] at e
  rw [sum_of ψ h1 h2 h3 v, e]

/-! ## Division -/

theorem sum_mul_of_pos {c : EReal} (h0 : 0 ≤ c) (h1 : c ≠ ⊤) (f : α → EReal) : (∑ a, f a) * c = ∑ a, f a * c := by
  classical
  refine Finset.induction_on (Finset.univ : Finset α) (by rw [Finset.sum_empty, Finset.sum_empty, zero_mul]) fun a S ha ih => ?_
  rw [Finset.sum_insert ha, Finset.sum_insert ha, EReal.right_distrib_of_nonneg_of_ne_top h0 h1, ih]

theorem div_pos_eq {r : ℝ} (hr : 0 < r) (x : EReal) : Ideal.div x (r : EReal) = x * ((r⁻¹ : ℝ) : EReal) := by
  unfold Ideal.div
  rw [if_neg (by rw [EReal.coe_eq_zero]; exact ne_of_gt hr)]
  rw [EReal.coe_inv]

/-- A row with real scores where it is kept, and one kept at least: the weights' sum is a positive real. -/
theorem sum_wt_pos {s : α → EReal} (h : ∀ a, s a ≠ ⊤) {a₀ : α} (h0 : s a₀ ≠ ⊥) : ∃ r : ℝ, 0 < r ∧ ∑ a, wt s a = (r : EReal) := by
  classical
  have htop : top s ≠ ⊤ := by
    intro e
    have : top s < ⊤ := by
      rw [top_eq_sup]
      exact (Finset.sup_lt_iff (by exact bot_lt_top)).mpr fun a _ => lt_of_le_of_ne _root_.le_top (h a)
    exact absurd e (ne_of_lt this)
  have hbot : top s ≠ ⊥ := fun e => h0 (le_bot_iff.mp (e ▸ le_top s a₀))
  have hw : ∀ a, ∃ r : ℝ, 0 ≤ r ∧ (s a ≠ ⊥ → 0 < r) ∧ wt s a = (r : EReal) := by
    intro a
    by_cases ha : s a = ⊥
    · exact ⟨0, le_refl _, fun x => absurd ha x, by rw [wt_bot ha]; rfl⟩
    · refine ⟨Real.exp ((s a).toReal - (top s).toReal), (Real.exp_pos _).le, fun _ => Real.exp_pos _, ?_⟩
      unfold wt
      rw [← EReal.coe_toReal (h a) ha, ← EReal.coe_toReal htop hbot, ← EReal.coe_sub]
      rfl
  choose r hr0 hr1 hr using hw
  refine ⟨∑ a, r a, Finset.sum_pos' (fun a _ => hr0 a) ⟨a₀, Finset.mem_univ _, hr1 a₀ h0⟩, ?_⟩
  rw [Finset.sum_congr rfl fun a _ => hr a]
  exact (map_sum (⟨⟨Real.toEReal, rfl⟩, EReal.coe_add⟩ : ℝ →+ EReal) r Finset.univ).symm

/-- Dividing after the sum, or each weight before it. -/
theorem mean_eq {s : α → EReal} (h : ∀ a, s a ≠ ⊤) {a₀ : α} (h0 : s a₀ ≠ ⊥) (v : α → EReal) :
    mean s v = ∑ a, v a * Ideal.div (wt s a) (∑ b, wt s b) := by
  obtain ⟨r, hr, e⟩ := sum_wt_pos h h0
  unfold mean
  rw [e, div_pos_eq hr, sum_mul_of_pos (by exact_mod_cast (inv_pos.mpr hr).le) (EReal.coe_ne_top _)]
  refine Finset.sum_congr rfl fun a _ => ?_
  rw [div_pos_eq hr, mul_comm (wt s a), mul_assoc]

end Cert.Soft

end
-- ==== Proof.Reads.lean ====
/- The kernel's pieces of arithmetic over the extended reals, read at an index. -/
module

public import proofs.«01_k».proof.Proof.Model
public import proofs.«01_k».proof.Proof.Soft
public import Idealize.ShloMosaic.Lib.Pointwise

@[expose] public section

set_option maxRecDepth 16384

noncomputable section

namespace Cert.KernelIdeal.Body

open Cert.KernelIdeal Cert.KernelIdeal.Gen
open Idealize.ShloMosaic
open Cert.Soft

theorem ofBits_bot : Ideal.ofBits .f32 0xFF800000#32 = ⊥ := by simp [Ideal.ofBits, Ideal.ieee]

/-- The scale of the scores. -/
def scl : EReal := Ideal.ofBits .f32 0x3DB504F3#32

def sc {a b : ℕ} (q : Vec Ideal ⟨2, ![a, 128]⟩ .bf16) (k : Vec Ideal ⟨3, ![1, b, 128]⟩ .bf16) (r : Fin a) (j : Fin b) : EReal :=
  (∑ d : Fin 128, q (ix2 r d) * k (ix3 (0 : Fin 1) j d)) * scl

theorem scores0_apply (q : Vec Ideal S384x128 .bf16) (k : Vec Ideal S1x1408x128 .bf16) (r : Fin 384) (j : Fin 1408) :
    scores0 q k (ix2 r j) = sc q k r j := by
  unfold sc scl
  pointwise [scores0]

theorem scoresG_apply (q : Vec Ideal S320x128 .bf16) (k : Vec Ideal S1x1408x128 .bf16) (r : Fin 320) (j : Fin 1408) :
    scoresG q k (ix2 r j) = sc q k r j := by
  unfold sc scl
  pointwise [scoresG]

theorem expo0_apply (s : FVec Ideal S384x1408 .f32) (r : Fin 384) (j : Fin 1408) :
    expo0 s (ix2 r j) = wt (fun j' => s (ix2 r j')) j := by
  unfold wt Soft.top
  pointwise [expo0, ofBits_bot]

theorem att0_apply (q : Vec Ideal S384x128 .bf16) (k v : Vec Ideal S1x1408x128 .bf16) (r : Fin 384) (d : Fin 128) :
    att0 q k v (ix2 r d) = mean (sc q k r) (fun j => v (ix3 (0 : Fin 1) j d)) := by
  have e : ∀ j, expo0 (scores0 q k) (ix2 r j) = wt (sc q k r) j := fun j => by
    rw [expo0_apply]
    exact congrArg (fun s => wt s j) (funext fun j' => scores0_apply q k r j')
  unfold mean
  pointwise [att0]
  simp only [e]

/-! ## The groups with their own blocks -/

/-- A word's block number. -/
def blk (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem blk_eq : ∀ n : Fin 320, blk (BitVec.ofNat 32 n.val) = BitVec.ofNat 32 (n.val / 64) := by decide +kernel

theorem sameBlock_apply (r j : Fin 320) : sameBlock (ix2 r j) = if r.val / 64 = j.val / 64 then 1#1 else 0#1 := by
  have h : sameBlock (ix2 r j) = IntOp.cmpi .eq (blk (BitVec.ofNat 32 r.val)) (blk (BitVec.ofNat 32 j.val)) := by
    unfold blk
    pointwise [sameBlock, blockOf]
  rw [h, blk_eq, blk_eq]
  have hr : r.val / 64 < 5 := by omega
  have hj : j.val / 64 < 5 := by omega
  generalize r.val / 64 = a at *
  generalize j.val / 64 = b at *
  interval_cases a <;> interval_cases b <;> rfl

/-- A score against a key of the own blocks. -/
def scD (q : Vec Ideal S320x128 .bf16) (k : Vec Ideal S1x320x128 .bf16) (r : Fin 320) (j : Fin 320) : EReal :=
  if r.val / 64 = j.val / 64 then sc q k r j else ⊥

theorem scoresD_apply (q : Vec Ideal S320x128 .bf16) (k : Vec Ideal S1x320x128 .bf16) (r j : Fin 320) :
    scoresD q k (ix2 r j) = scD q k r j := by
  have hn : (Named.named κ "mask" (φ := .f32) 0xCE6E6B28#32 : Ideal .f32) = (⊥ : EReal) := IdealRules.named_const.ideal_named_scalar _ _ _ _ rfl
  unfold scD sc scl
  by_cases h : r.val / 64 = j.val / 64
  · have hs : sameBlock (ix2 r j) = 1#1 := (sameBlock_apply r j).trans (if_pos h)
    rw [if_pos h]
    pointwise [scoresD]
    rw [hs]
    rfl
  · have hs : sameBlock (ix2 r j) = 0#1 := (sameBlock_apply r j).trans (if_neg h)
    rw [if_neg h]
    pointwise [scoresD]
    rw [hs]
    exact hn

theorem expoG_apply (s : FVec Ideal S320x1408 .f32) (d : FVec Ideal S320x320 .f32) (r : Fin 320) (j : Fin 1408) :
    expoG s d (ix2 r j) = wt (Sum.elim (fun j' => s (ix2 r j')) (fun j' => d (ix2 r j'))) (.inl j) := by
  unfold wt
  rw [top_sum]
  unfold Soft.top
  pointwise [expoG, Body.top, ofBits_bot]
  rfl

theorem expoD_apply (s : FVec Ideal S320x1408 .f32) (d : FVec Ideal S320x320 .f32) (r : Fin 320) (j : Fin 320) :
    expoD s d (ix2 r j) = wt (Sum.elim (fun j' => s (ix2 r j')) (fun j' => d (ix2 r j'))) (.inr j) := by
  unfold wt
  rw [top_sum]
  unfold Soft.top
  pointwise [expoD, Body.top, ofBits_bot]
  rfl

theorem attG_apply (q : Vec Ideal S320x128 .bf16) (k : Vec Ideal S1x1408x128 .bf16) (kd : Vec Ideal S1x320x128 .bf16)
    (v : Vec Ideal S1x1408x128 .bf16) (vd : Vec Ideal S1x320x128 .bf16) (r : Fin 320) (d : Fin 128) :
    attG q k kd v vd (ix2 r d)
      = mean (Sum.elim (sc q k r) (scD q kd r)) (Sum.elim (fun j => v (ix3 (0 : Fin 1) j d)) (fun j => vd (ix3 (0 : Fin 1) j d))) := by
  have es : Sum.elim (fun j' => scoresG q k (ix2 r j')) (fun j' => scoresD q kd (ix2 r j')) = Sum.elim (sc q k r) (scD q kd r) :=
    congrArg₂ Sum.elim (funext fun j' => scoresG_apply q k r j') (funext fun j' => scoresD_apply q kd r j')
  have eG : ∀ j, expoG (scoresG q k) (scoresD q kd) (ix2 r j) = wt (Sum.elim (sc q k r) (scD q kd r)) (.inl j) := fun j => by
    rw [expoG_apply, es]
  have eD : ∀ j, expoD (scoresG q k) (scoresD q kd) (ix2 r j) = wt (Sum.elim (sc q k r) (scD q kd r)) (.inr j) := fun j => by
    rw [expoD_apply, es]
  unfold mean
  rw [Fintype.sum_sum_type, Fintype.sum_sum_type]
  pointwise [attG, mixG]
  simp only [eG, eD, Sum.elim_inl, Sum.elim_inr]

end Cert.KernelIdeal.Body

end
-- ==== Proof.Heads.lean ====
/- What the kernel's contents are in terms of the whole arrays: the queries, the keys of a head, and the context. -/
module

public import proofs.«01_k».proof.Proof.Contents
public import proofs.«01_k».proof.Proof.Reads

@[expose] public section

set_option maxRecDepth 16384

noncomputable section

namespace Cert.KernelIdeal.Body

open Cert.KernelIdeal Cert.KernelIdeal.Gen
open Idealize.ShloMosaic
open Cert.Soft

/-- The whole arrays, by number. -/
structure Whole where
  X : ℕ → ℕ → EReal
  W : ℕ → ℕ → EReal
  K : ℕ → ℕ → ℕ → EReal
  V : ℕ → ℕ → ℕ → EReal
  O : ℕ → ℕ → EReal

namespace Whole

variable (A : Whole)

def q (i n : ℕ) : EReal := ∑ k : Fin 1024, A.X i k.val * A.W k.val n
def score (h i j : ℕ) : EReal := (∑ d : Fin 128, A.q i (128 * h + d.val) * A.K j h d.val) * scl

/-- Which keys a query attends to, by the numbers of their blocks. -/
abbrev keep (i j : ℕ) : Prop := i / 64 = j / 64 ∨ j / 64 = 0 ∨ (i / 64 + j / 64) % 3 = 0

def masked (h i : ℕ) (j : Fin 4096) : EReal := if keep i j.val then A.score h i j.val else ⊥
def ctx (h i d : ℕ) : EReal := mean (A.masked h i) fun j => A.V j.val h d
def out (i n : ℕ) : EReal := ∑ k : Fin 4096, A.ctx (k.val / 128) i (k.val % 128) * A.O k.val n

end Whole

/-- The devices hold these arrays' blocks. -/
structure Holds (I : In Ideal) (A : Whole) : Prop where
  x : ∀ (c : Dev nD) (r : Fin 256) (k : Fin 1024), I.x c (ix3 (0 : Fin 1) r k) = A.X (256 * c.val + r.val) k.val
  wq : ∀ (c : Dev nD) (k n : Fin 1024), I.wq c (ix2 k n) = A.W k.val (1024 * c.val + n.val)
  wo : ∀ (c : Dev nD) (k n : Fin 1024), I.wo c (ix2 k n) = A.O (1024 * c.val + k.val) n.val
  k : ∀ (c : Dev nD) (j : Fin 4096) (h : Fin 32) (d : Fin 128), I.k c (ix4 (0 : Fin 1) j h d) = A.K j.val h.val d.val
  v : ∀ (c : Dev nD) (j : Fin 4096) (h : Fin 32) (d : Fin 128), I.v c (ix4 (0 : Fin 1) j h d) = A.V j.val h.val d.val

variable {I : In Ideal} {A : Whole} (H : Holds I A) (c : Dev nD)
include H

/-! ## The queries -/

theorem upRows_apply (r : Fin 128) (k : Fin 1024) : upRows I c (ix3 (0 : Fin 1) r k) = A.X (256 * c.val + r.val) k.val := by
  have e := H.x c ⟨r.val, by omega⟩ k
  refine Eq.trans ?_ e
  pointwise [upRows, xSlot]
  show I.x c _ = _
  refine congrArg (I.x c) (funext fun a => Fin.ext ?_)
  fin_cases a
  · rfl
  · show 0 + 1 * r.val = r.val; omega
  · show 0 + 1 * k.val = k.val; omega

theorem loRows_apply (r : Fin 128) (k : Fin 1024) : loRows I c (ix3 (0 : Fin 1) r k) = A.X (256 * c.val + 128 + r.val) k.val := by
  have e := H.x c ⟨128 + r.val, by omega⟩ k
  refine Eq.trans ?_ (e.trans (congrArg (fun n => A.X n k.val) (by show 256 * c.val + (128 + r.val) = _; omega)))
  pointwise [loRows, xSlot]
  show I.x c _ = _
  refine congrArg (I.x c) (funext fun a => Fin.ext ?_)
  fin_cases a
  · rfl
  · show 128 + 1 * r.val = 128 + r.val; omega
  · show 0 + 1 * k.val = k.val; omega

theorem fWq_apply (k n : Fin 1024) : fWq I c (ix2 k n) = A.W k.val (1024 * c.val + n.val) := by
  refine Eq.trans ?_ (H.wq c k n)
  pointwise [fWq, wRound]
  show I.wq c _ = _
  refine congrArg (I.wq c) (funext fun a => Fin.ext ?_)
  fin_cases a
  · show 0 + 1 * k.val = k.val; omega
  · show 0 + 1 * n.val = n.val; omega

theorem fWo_apply (k n : Fin 1024) : fWo I c (ix2 k n) = A.O (1024 * c.val + k.val) n.val := by
  refine Eq.trans ?_ (H.wo c k n)
  pointwise [fWo, wRound]
  show I.wo c _ = _
  refine congrArg (I.wo c) (funext fun a => Fin.ext ?_)
  fin_cases a
  · show 0 + 1 * k.val = k.val; omega
  · show 0 + 1 * n.val = n.val; omega

omit H in
theorem qTop_apply (v : Vec Ideal S1x128x1024 .bf16) (w : Vec Ideal S1024x1024 .bf16) (r : Fin 64) (n : Fin 1024) :
    qTop v w (ix2 r n) = ∑ k : Fin 1024, v (ix3 (0 : Fin 1) (⟨r.val, by omega⟩ : Fin 128) k) * w (ix2 k n) := by
  pointwise [qTop, qRows]

omit H in
theorem qBot_apply (v : Vec Ideal S1x128x1024 .bf16) (w : Vec Ideal S1024x1024 .bf16) (r : Fin 64) (n : Fin 1024) :
    qBot v w (ix2 r n) = ∑ k : Fin 1024, v (ix3 (0 : Fin 1) (⟨64 + r.val, by omega⟩ : Fin 128) k) * w (ix2 k n) := by
  pointwise [qBot, qRows]

theorem qBlk_apply {b : ℕ} (hb : b < 16) (r : Fin 64) (n : Fin 1024) : qBlk I c b (ix2 r n) = A.q (64 * b + r.val) (1024 * c.val + n.val) := by
  have hd : (devOf b).val = b / 4 := Nat.mod_eq_of_lt (by omega)
  unfold qBlk Whole.q
  have hr := r.isLt
  obtain h | h | h | h : b % 4 = 0 ∨ b % 4 = 1 ∨ b % 4 = 2 ∨ b % 4 = 3 := by omega
  · rw [h]
    show qTop (upRows I (devOf b)) (fWq I c) (ix2 r n) = _
    rw [qTop_apply]
    refine Finset.sum_congr rfl fun k _ => ?_
    rw [upRows_apply H, fWq_apply H, hd]
    refine congrArg (fun i => A.X i k.val * _) ?_
    show 256 * (b / 4) + r.val = _; omega
  · rw [h]
    show qBot (upRows I (devOf b)) (fWq I c) (ix2 r n) = _
    rw [qBot_apply]
    refine Finset.sum_congr rfl fun k _ => ?_
    rw [upRows_apply H, fWq_apply H, hd]
    refine congrArg (fun i => A.X i k.val * _) ?_
    show 256 * (b / 4) + (64 + r.val) = _; omega
  · rw [h]
    show qTop (loRows I (devOf b)) (fWq I c) (ix2 r n) = _
    rw [qTop_apply]
    refine Finset.sum_congr rfl fun k _ => ?_
    rw [loRows_apply H, fWq_apply H, hd]
    refine congrArg (fun i => A.X i k.val * _) ?_
    show 256 * (b / 4) + 128 + r.val = _; omega
  · rw [h]
    show qBot (loRows I (devOf b)) (fWq I c) (ix2 r n) = _
    rw [qBot_apply]
    refine Finset.sum_congr rfl fun k _ => ?_
    rw [loRows_apply H, fWq_apply H, hd]
    refine congrArg (fun i => A.X i k.val * _) ?_
    show 256 * (b / 4) + 128 + (64 + r.val) = _; omega

omit H in
theorem qbOf_lt {p : ℕ} (hp : p < 16) : qbOf p < 16 := by unfold qbOf; split_ifs <;> omega

theorem fQ_apply (p n : Fin 1024) : fQ I c (ix2 p n) = A.q (64 * qbOf (p.val / 64) + p.val % 64) (1024 * c.val + n.val) :=
  qBlk_apply H c (qbOf_lt (by have := p.isLt; show p.val / 64 < 16; omega)) ⟨p.val % 64, Nat.mod_lt _ (by decide)⟩ n

/-- The rows of a group, at a head. -/
theorem rd_rows {R o : ℕ} {off : Fin 2 → ℕ} (t : Fin k0_t1_loop.trips) (ho : off = ![64 * o, 128 * t.val]) (hR : 64 * o + R ≤ 1024)
    (inb : ∀ a, off a + (![R, 128] : Fin 2 → ℕ) a ≤ S1024x1024.size a) (r : Fin R) (d : Fin 128) :
    rd mQ off ![R, 128] inb (fQ I c) (ix2 r d) = A.q (64 * qbOf (o + r.val / 64) + r.val % 64) (128 * (8 * c.val + t.val) + d.val) := by
  subst ho
  have ht : t.val < 8 := t.isLt
  have hr := r.isLt
  have hd := d.isLt
  have e := fQ_apply H c ⟨64 * o + r.val, by omega⟩ ⟨128 * t.val + d.val, by omega⟩
  refine Eq.trans (b := fQ I c (ix2 (⟨64 * o + r.val, by omega⟩ : Fin 1024) (⟨128 * t.val + d.val, by omega⟩ : Fin 1024))) ?_ (e.trans ?_)
  · show fQ I c _ = _
    refine congrArg (fQ I c) (funext fun a => Fin.ext ?_)
    fin_cases a
    · show 64 * o + 1 * r.val = 64 * o + r.val; omega
    · show 128 * t.val + 1 * d.val = 128 * t.val + d.val; omega
  · show A.q (64 * qbOf ((64 * o + r.val) / 64) + (64 * o + r.val) % 64) (1024 * c.val + (128 * t.val + d.val)) = _
    rw [show (64 * o + r.val) / 64 = o + r.val / 64 by omega, show (64 * o + r.val) % 64 = r.val % 64 by omega,
      show 1024 * c.val + (128 * t.val + d.val) = 128 * (8 * c.val + t.val) + d.val by omega]

end Cert.KernelIdeal.Body

end
-- ==== Proof.Attend.lean ====
/- The kernel's context is the masked softmax's: its lists of keys are the kept keys, in another order. -/
module

public import proofs.«01_k».proof.Proof.Heads

@[expose] public section

set_option maxRecDepth 16384

noncomputable section

namespace Cert.KernelIdeal.Body

open Cert.KernelIdeal Cert.KernelIdeal.Gen
open Idealize.ShloMosaic
open Cert.Soft

variable {I : In Ideal} {A : Whole} (H : Holds I A) (c : Dev nD) (t : Fin k0_t1_loop.trips)

/-! ## The keys and values of a head -/

theorem kbG_lt {g j : ℕ} (hg : g < 3) (hj : j < 22) : kbG g j < 64 := by unfold kbG; split_ifs <;> omega
theorem kbD_lt {g j : ℕ} (hj : j < 5) : kbD g j < 64 := by unfold kbD; split_ifs <;> omega

/-- The number of the key at a place of a list of blocks. -/
def keyG (g p : ℕ) : ℕ := 64 * kbG g (p / 64) + p % 64
def keyD (g p : ℕ) : ℕ := 64 * kbD g (p / 64) + p % 64

theorem keyG_lt {g p : ℕ} (hg : g < 3) (hp : p < 1408) : keyG g p < 4096 := by
  have := kbG_lt hg (show p / 64 < 22 by omega)
  unfold keyG; omega
theorem keyD_lt {g p : ℕ} (hp : p < 320) : keyD g p < 4096 := by
  have := kbD_lt (g := g) (show p / 64 < 5 by omega)
  unfold keyD; omega

theorem fKV_apply {a b : ℕ} (kb : ℕ → ℕ → ℕ) (h : Vec Ideal S1x4096x32x128 .f32) (f : ℕ → ℕ → ℕ → EReal)
    (hf : ∀ (j : Fin 4096) (n : Fin 32) (d : Fin 128), h (ix4 (0 : Fin 1) j n d) = f j.val n.val d.val)
    (u : Fin 2) (g : Fin a) (p : Fin b) (d : Fin 128) (hk : 64 * kb g.val (p.val / 64) + p.val % 64 < 4096) :
    fKV (F := Ideal) c kb h t.val (ix4 u g p d : (KS a b).Idx)
      = f (64 * kb g.val (p.val / 64) + p.val % 64) (8 * c.val + t.val) d.val := by
  have ht : t.val < 8 := t.isLt
  have hc : c.val < 4 := c.isLt
  refine (hf _ _ _).trans ?_
  show f ((64 * kb g.val (p.val / 64) + p.val % 64) % 4096) ((8 * c.val + t.val) % 32) d.val = _
  rw [Nat.mod_eq_of_lt hk, Nat.mod_eq_of_lt (show 8 * c.val + t.val < 32 by omega)]

/-- Where a slot's element lies. -/
theorem emb_slot {a b u : ℕ} {off : Fin 4 → ℕ} (ho : off = ![u, 0, 0, 0]) (hu : u < 2)
    (inb : ∀ i, off i + (![1, a, b, 128] : Fin 4 → ℕ) i ≤ (KS a b).size i) (g : Fin a) (p : Fin b) (d : Fin 128) :
    (Rect.unit (s := KS a b) off ![1, a, b, 128] inb).emb (ix4 (0 : Fin 1) g p d) = (ix4 (⟨u, hu⟩ : Fin 2) g p d : (KS a b).Idx) := by
  subst ho
  refine funext fun i => Fin.ext ?_
  fin_cases i
  · show u + 1 * 0 = u; omega
  · show 0 + 1 * g.val = g.val; omega
  · show 0 + 1 * p.val = p.val; omega
  · show 0 + 1 * d.val = d.val; omega

theorem par_lt : t.val % 2 < 2 := Nat.mod_lt _ (by decide)

include H

theorem gK_apply (g : Fin 3) (p : Fin 1408) (d : Fin 128) : gK I c t (ix3 g p d) = A.K (keyG g.val p.val) (8 * c.val + t.val) d.val := by
  refine Eq.trans ?_ (fKV_apply c t kbG (I.k c) A.K (H.k c) ⟨t.val % 2, par_lt t⟩ g p d (keyG_lt g.isLt p.isLt))
  pointwise [gK, gRound]
  exact congrArg (fKV c kbG (I.k c) t.val) (emb_slot (k0_off350_eq t) (par_lt t) _ g p d)

theorem gV_apply (g : Fin 3) (p : Fin 1408) (d : Fin 128) : gV I c t (ix3 g p d) = A.V (keyG g.val p.val) (8 * c.val + t.val) d.val := by
  refine Eq.trans ?_ (fKV_apply c t kbG (I.v c) A.V (H.v c) ⟨t.val % 2, par_lt t⟩ g p d (keyG_lt g.isLt p.isLt))
  pointwise [gV, gRound]
  exact congrArg (fKV c kbG (I.v c) t.val) (emb_slot (k0_off350_eq t) (par_lt t) _ g p d)

theorem dK_apply (g : Fin 2) (p : Fin 320) (d : Fin 128) : dK I c t (ix3 g p d) = A.K (keyD g.val p.val) (8 * c.val + t.val) d.val := by
  refine Eq.trans ?_ (fKV_apply c t kbD (I.k c) A.K (H.k c) ⟨t.val % 2, par_lt t⟩ g p d (keyD_lt p.isLt))
  pointwise [dK, dRound]
  exact congrArg (fKV c kbD (I.k c) t.val) (emb_slot (k0_off351_eq t) (par_lt t) _ g p d)

theorem dV_apply (g : Fin 2) (p : Fin 320) (d : Fin 128) : dV I c t (ix3 g p d) = A.V (keyD g.val p.val) (8 * c.val + t.val) d.val := by
  refine Eq.trans ?_ (fKV_apply c t kbD (I.v c) A.V (H.v c) ⟨t.val % 2, par_lt t⟩ g p d (keyD_lt p.isLt))
  pointwise [dV, dRound]
  exact congrArg (fKV c kbD (I.v c) t.val) (emb_slot (k0_off351_eq t) (par_lt t) _ g p d)

omit H

/-- Where an element of one list of the three, or two, lies. -/
theorem emb_list {a b g : ℕ} (hg : g < a) (inb : ∀ i, (![g, 0, 0] : Fin 3 → ℕ) i + (![1, b, 128] : Fin 3 → ℕ) i ≤ (⟨3, ![a, b, 128]⟩ : Shape).size i)
    (p : Fin b) (d : Fin 128) :
    (Rect.unit (s := ⟨3, ![a, b, 128]⟩) ![g, 0, 0] ![1, b, 128] inb).emb (ix3 (0 : Fin 1) p d) = (ix3 (⟨g, hg⟩ : Fin a) p d : (⟨3, ![a, b, 128]⟩ : Shape).Idx) := by
  refine funext fun i => Fin.ext ?_
  fin_cases i
  · show g + 1 * 0 = g; omega
  · show 0 + 1 * p.val = p.val; omega
  · show 0 + 1 * d.val = d.val; omega

/-- A score, from the row of the query and the row of the key. -/
theorem sc_eq {a b : ℕ} (q : Vec Ideal ⟨2, ![a, 128]⟩ .bf16) (k : Vec Ideal ⟨3, ![1, b, 128]⟩ .bf16) (r : Fin a) (j : Fin b) (h i n : ℕ)
    (hq : ∀ d : Fin 128, q (ix2 r d) = A.q i (128 * h + d.val)) (hk : ∀ d : Fin 128, k (ix3 (0 : Fin 1) j d) = A.K n h d.val) :
    sc q k r j = A.score h i n := by
  unfold sc Whole.score
  simp only [hq, hk]

/-! ## The three groups -/

theorem masked_eq {h i : ℕ} {j : Fin 4096} (hk : Whole.keep i j.val) : A.masked h i j = A.score h i j.val := if_pos hk

theorem keep_of {h i : ℕ} {j : Fin 4096} (hj : A.masked h i j ≠ ⊥) : Whole.keep i j.val := by
  by_contra hk
  exact hj (if_neg hk)

include H

theorem out0_apply (r : Fin 384) (d : Fin 128) :
    out0 I c t (ix2 r d) = A.ctx (8 * c.val + t.val) (64 * (3 * (r.val / 64)) + r.val % 64) d.val := by
  have hr := r.isLt
  have hs : ∀ j : Fin 1408, sc (rd mQ (k0_off352 t) S384x128.size (k0_off352_inb t) (fQ I c))
      (rd kGb ![0, 0, 0] S1x1408x128.size inb_S3x1408x128_S1x1408x128_0_0_0 (gK I c t)) r j
      = A.score (8 * c.val + t.val) (64 * (3 * (r.val / 64)) + r.val % 64) (keyG 0 j.val) := fun j => by
    refine sc_eq _ _ r j _ _ _ (fun d => ?_) fun d => ?_
    · refine (rd_rows H c (R := 384) (o := 0) t (k0_off352_eq t) (by omega) _ r d).trans ?_
      rw [Nat.zero_add, show qbOf (r.val / 64) = 3 * (r.val / 64) from if_pos (by omega)]
    · exact (congrArg (gK I c t) (emb_list (a := 3) (by decide) _ j d)).trans (gK_apply H c t 0 j d)
  unfold out0 Whole.ctx
  rw [att0_apply]
  refine Eq.trans (congrArg₂ mean (funext hs) (funext fun j => (congrArg (gV I c t) (emb_list (a := 3) (by decide) _ j d)).trans (gV_apply H c t 0 j d))) ?_
  have hkey : ∀ j : Fin 1408, keyG 0 j.val / 64 = 3 * (j.val / 64) ∧ keyG 0 j.val % 64 = j.val % 64 := fun j => by
    unfold keyG kbG; rw [if_pos rfl]; omega
  have hkeep : ∀ j : Fin 1408, Whole.keep (64 * (3 * (r.val / 64)) + r.val % 64) (keyG 0 j.val) := fun j => by
    have := hkey j; unfold Whole.keep; omega
  refine mean_of (fun j : Fin 1408 => (⟨keyG 0 j.val, keyG_lt (by decide) j.isLt⟩ : Fin 4096)) (fun j _ => (masked_eq (hkeep j)).symm)
    (fun j j' _ _ e => Fin.ext ?_) (fun b hb => ?_) (fun b : Fin 4096 => A.V b.val (8 * c.val + t.val) d.val)
  · have e' : keyG 0 j.val = keyG 0 j'.val := congrArg Fin.val e
    have h1 := hkey j
    have h2 := hkey j'
    omega
  · have hk := keep_of hb
    have hb' := b.isLt
    unfold Whole.keep at hk
    have hj : 64 * (b.val / 64 / 3) + b.val % 64 < 1408 := by omega
    have e : (⟨keyG 0 (64 * (b.val / 64 / 3) + b.val % 64), keyG_lt (by decide) hj⟩ : Fin 4096) = b := Fin.ext (by
      show keyG 0 _ = b.val
      have := hkey ⟨_, hj⟩
      simp only at this
      omega)
    refine ⟨⟨_, hj⟩, e, ?_⟩
    have e2 := masked_eq (A := A) (h := 8 * c.val + t.val) (hkeep ⟨_, hj⟩) (j := ⟨_, keyG_lt (by decide) hj⟩)
    rw [← e2]
    exact (congrArg (A.masked _ _) e).trans_ne hb

omit H

/-- The second and the third group: the keys of a class, the first block, and the query's own block. -/
theorem attG_ctx {g : ℕ} (hg : g = 1 ∨ g = 2) (h : ℕ) (q : Vec Ideal S320x128 .bf16) (k : Vec Ideal S1x1408x128 .bf16)
    (kd : Vec Ideal S1x320x128 .bf16) (v : Vec Ideal S1x1408x128 .bf16) (vd : Vec Ideal S1x320x128 .bf16) (r : Fin 320) (d : Fin 128)
    (hq : ∀ d : Fin 128, q (ix2 r d) = A.q (64 * (3 * (r.val / 64) + g) + r.val % 64) (128 * h + d.val))
    (hk : ∀ (j : Fin 1408) (d : Fin 128), k (ix3 (0 : Fin 1) j d) = A.K (keyG g j.val) h d.val)
    (hkd : ∀ (j : Fin 320) (d : Fin 128), kd (ix3 (0 : Fin 1) j d) = A.K (keyD (g - 1) j.val) h d.val)
    (hv : ∀ (j : Fin 1408) (d : Fin 128), v (ix3 (0 : Fin 1) j d) = A.V (keyG g j.val) h d.val)
    (hvd : ∀ (j : Fin 320) (d : Fin 128), vd (ix3 (0 : Fin 1) j d) = A.V (keyD (g - 1) j.val) h d.val) :
    attG q k kd v vd (ix2 r d) = A.ctx h (64 * (3 * (r.val / 64) + g) + r.val % 64) d.val := by
  have hr := r.isLt
  have hg3 : g < 3 := by omega
  have lG : ∀ j : Fin 1408, keyG g j.val < 4096 := fun j => keyG_lt hg3 j.isLt
  have lD : ∀ j : Fin 320, keyD (g - 1) j.val < 4096 := fun j => keyD_lt j.isLt
  have eG : ∀ j : ℕ, j < 1408 → (j / 64 = 0 ∧ keyG g j / 64 = 0 ∨ j / 64 ≠ 0 ∧ keyG g j / 64 + g = 3 * (j / 64)) ∧ keyG g j % 64 = j % 64 := fun j _ => by
    unfold keyG kbG; rw [if_neg (by omega)]; split_ifs <;> omega
  have eD : ∀ j : ℕ, j < 320 → keyD (g - 1) j / 64 = 3 * (j / 64) + g ∧ keyD (g - 1) j % 64 = j % 64 := fun j _ => by
    unfold keyD kbD; split_ifs <;> omega
  have keepG : ∀ j : ℕ, j < 1408 → Whole.keep (64 * (3 * (r.val / 64) + g) + r.val % 64) (keyG g j) := fun j hj => by
    have := eG j hj; unfold Whole.keep; omega
  have keepD : ∀ j : ℕ, j < 320 → r.val / 64 = j / 64 → Whole.keep (64 * (3 * (r.val / 64) + g) + r.val % 64) (keyD (g - 1) j) := fun j hj e => by
    have := eD j hj; unfold Whole.keep; omega
  let ψ : Fin 1408 ⊕ Fin 320 → Fin 4096 := Sum.elim (fun j => ⟨keyG g j.val, lG j⟩) (fun j => ⟨keyD (g - 1) j.val, lD j⟩)
  have sG : ∀ j : Fin 1408, sc q k r j = A.masked h (64 * (3 * (r.val / 64) + g) + r.val % 64) (ψ (.inl j)) := fun j =>
    (sc_eq q k r j h _ _ hq (hk j)).trans (masked_eq (j := ψ (.inl j)) (keepG j.val j.isLt)).symm
  have sD : ∀ j : Fin 320, r.val / 64 = j.val / 64 → scD q kd r j = A.masked h (64 * (3 * (r.val / 64) + g) + r.val % 64) (ψ (.inr j)) := fun j e =>
    (if_pos e).trans ((sc_eq q kd r j h _ _ hq (hkd j)).trans (masked_eq (j := ψ (.inr j)) (keepD j.val j.isLt e)).symm)
  have own : ∀ j : Fin 320, scD q kd r j ≠ ⊥ → r.val / 64 = j.val / 64 := fun j hj => by
    by_contra e
    exact hj (if_neg e)
  unfold Whole.ctx
  rw [attG_apply]
  have ev : Sum.elim (fun j => v (ix3 (0 : Fin 1) j d)) (fun j => vd (ix3 (0 : Fin 1) j d)) = fun a => A.V (ψ a).val h d.val := funext fun a => by
    cases a with
    | inl j => exact hv j d
    | inr j => exact hvd j d
  rw [ev]
  refine mean_of ψ (fun a ha => ?_) (fun a a' ha ha' e => ?_) (fun b hb => ?_) (fun b : Fin 4096 => A.V b.val h d.val)
  · cases a with
    | inl j => exact sG j
    | inr j => exact sD j (own j ha)
  · have e' : (ψ a).val = (ψ a').val := congrArg Fin.val e
    cases a with
    | inl j =>
      cases a' with
      | inl j' =>
        have e'' : keyG g j.val = keyG g j'.val := e'
        have h1 := eG j.val j.isLt
        have h2 := eG j'.val j'.isLt
        exact congrArg Sum.inl (Fin.ext (by omega))
      | inr j' =>
        have e'' : keyG g j.val = keyD (g - 1) j'.val := e'
        have h1 := eG j.val j.isLt
        have h2 := eD j'.val j'.isLt
        exfalso; omega
    | inr j =>
      cases a' with
      | inl j' =>
        have e'' : keyD (g - 1) j.val = keyG g j'.val := e'
        have h1 := eD j.val j.isLt
        have h2 := eG j'.val j'.isLt
        exfalso; omega
      | inr j' =>
        have e'' : keyD (g - 1) j.val = keyD (g - 1) j'.val := e'
        have h1 := eD j.val j.isLt
        have h2 := eD j'.val j'.isLt
        exact congrArg Sum.inr (Fin.ext (by omega))
  · have hk' := keep_of hb
    have hb' := b.isLt
    have inG : ∀ j : ℕ, j < 1408 → keyG g j = b.val → ∃ a, ψ a = b ∧ Sum.elim (sc q k r) (scD q kd r) a ≠ ⊥ := fun j hj e => by
      have e2 : ψ (.inl ⟨j, hj⟩) = b := Fin.ext e
      refine ⟨.inl ⟨j, hj⟩, e2, ?_⟩
      show sc q k r ⟨j, hj⟩ ≠ ⊥
      rw [sG, e2]
      exact hb
    have inD : ∀ j : ℕ, j < 320 → r.val / 64 = j / 64 → keyD (g - 1) j = b.val → ∃ a, ψ a = b ∧ Sum.elim (sc q k r) (scD q kd r) a ≠ ⊥ := fun j hj o e => by
      have e2 : ψ (.inr ⟨j, hj⟩) = b := Fin.ext e
      refine ⟨.inr ⟨j, hj⟩, e2, ?_⟩
      show scD q kd r ⟨j, hj⟩ ≠ ⊥
      rw [sD _ o, e2]
      exact hb
    have hg' : (64 * (3 * (r.val / 64) + g) + r.val % 64) / 64 = 3 * (r.val / 64) + g := by omega
    unfold Whole.keep at hk'
    rw [hg'] at hk'
    rcases hk' with o | o | o
    · have hj : 64 * (r.val / 64) + b.val % 64 < 320 := by omega
      have := eD _ hj
      exact inD _ hj (by omega) (by omega)
    · have hj : b.val % 64 < 1408 := by omega
      have := eG _ hj
      exact inG _ hj (by omega)
    · have hj : 64 * ((b.val / 64 + g) / 3) + b.val % 64 < 1408 := by omega
      have := eG _ hj
      exact inG _ hj (by omega)

include H

theorem out1_apply (r : Fin 320) (d : Fin 128) :
    out1 I c t (ix2 r d) = A.ctx (8 * c.val + t.val) (64 * (3 * (r.val / 64) + 1) + r.val % 64) d.val := by
  have hr := r.isLt
  refine attG_ctx (g := 1) (.inl rfl) _ _ _ _ _ _ r d (fun d => ?_) (fun j d => ?_) (fun j d => ?_) (fun j d => ?_) fun j d => ?_
  · refine (rd_rows H c (R := 320) (o := 6) t (k0_off359_eq t) (by omega) _ r d).trans ?_
    rw [show qbOf (6 + r.val / 64) = 3 * (r.val / 64) + 1 by unfold qbOf; split_ifs <;> omega]
  · exact (congrArg (gK I c t) (emb_list (a := 3) (by decide) _ j d)).trans (gK_apply H c t 1 j d)
  · exact (congrArg (dK I c t) (emb_list (a := 2) (by decide) _ j d)).trans (dK_apply H c t 0 j d)
  · exact (congrArg (gV I c t) (emb_list (a := 3) (by decide) _ j d)).trans (gV_apply H c t 1 j d)
  · exact (congrArg (dV I c t) (emb_list (a := 2) (by decide) _ j d)).trans (dV_apply H c t 0 j d)

theorem out2_apply (r : Fin 320) (d : Fin 128) :
    out2 I c t (ix2 r d) = A.ctx (8 * c.val + t.val) (64 * (3 * (r.val / 64) + 2) + r.val % 64) d.val := by
  have hr := r.isLt
  refine attG_ctx (g := 2) (.inr rfl) _ _ _ _ _ _ r d (fun d => ?_) (fun j d => ?_) (fun j d => ?_) (fun j d => ?_) fun j d => ?_
  · refine (rd_rows H c (R := 320) (o := 11) t (k0_off365_eq t) (by omega) _ r d).trans ?_
    rw [show qbOf (11 + r.val / 64) = 3 * (r.val / 64) + 2 by unfold qbOf; split_ifs <;> omega]
  · exact (congrArg (gK I c t) (emb_list (a := 3) (by decide) _ j d)).trans (gK_apply H c t 2 j d)
  · exact (congrArg (dK I c t) (emb_list (a := 2) (by decide) _ j d)).trans (dK_apply H c t 1 j d)
  · exact (congrArg (gV I c t) (emb_list (a := 3) (by decide) _ j d)).trans (gV_apply H c t 2 j d)
  · exact (congrArg (dV I c t) (emb_list (a := 2) (by decide) _ j d)).trans (dV_apply H c t 1 j d)

/-! ## The context -/

omit H

theorem cut0_apply {o : ℕ} (hs : S384x128.Slices ![o, 0] S64x128) (v : FVec Ideal S384x128 .f32) (r : Fin 64) (d : Fin 128) (ho : o + r.val < 384) :
    cut0 ![o, 0] hs v (ix2 r d) = v (ix2 (⟨o + r.val, ho⟩ : Fin 384) d) := by
  pointwise [cut0]

theorem cutG_apply {o : ℕ} (hs : S320x128.Slices ![o, 0] S64x128) (v : FVec Ideal S320x128 .f32) (r : Fin 64) (d : Fin 128) (ho : o + r.val < 320) :
    cutG ![o, 0] hs v (ix2 r d) = v (ix2 (⟨o + r.val, ho⟩ : Fin 320) d) := by
  pointwise [cutG]

include H

theorem cut0_ctx {k : ℕ} (hk : k < 6) (hs : S384x128.Slices ![64 * k, 0] S64x128) (r : Fin 64) (d : Fin 128) :
    cut0 ![64 * k, 0] hs (out0 I c t) (ix2 r d) = A.ctx (8 * c.val + t.val) (64 * (3 * k) + r.val) d.val := by
  have hr := r.isLt
  rw [cut0_apply hs _ r d (by omega), out0_apply H]
  simp only
  rw [show (64 * k + r.val) / 64 = k by omega, show (64 * k + r.val) % 64 = r.val by omega]

theorem cut1_ctx {k : ℕ} (hk : k < 5) (hs : S320x128.Slices ![64 * k, 0] S64x128) (r : Fin 64) (d : Fin 128) :
    cutG ![64 * k, 0] hs (out1 I c t) (ix2 r d) = A.ctx (8 * c.val + t.val) (64 * (3 * k + 1) + r.val) d.val := by
  have hr := r.isLt
  rw [cutG_apply hs _ r d (by omega), out1_apply H]
  simp only
  rw [show (64 * k + r.val) / 64 = k by omega, show (64 * k + r.val) % 64 = r.val by omega]

theorem cut2_ctx {k : ℕ} (hk : k < 5) (hs : S320x128.Slices ![64 * k, 0] S64x128) (r : Fin 64) (d : Fin 128) :
    cutG ![64 * k, 0] hs (out2 I c t) (ix2 r d) = A.ctx (8 * c.val + t.val) (64 * (3 * k + 2) + r.val) d.val := by
  have hr := r.isLt
  rw [cutG_apply hs _ r d (by omega), out2_apply H]
  simp only
  rw [show (64 * k + r.val) / 64 = k by omega, show (64 * k + r.val) % 64 = r.val by omega]

theorem cBlk_apply {b : ℕ} (hb : b < 16) (r : Fin 64) (d : Fin 128) :
    cBlk I c t b (ix2 r d) = A.ctx (8 * c.val + t.val) (64 * b + r.val) d.val := by
  interval_cases b
  · exact cut0_ctx H c t (k := 0) (by decide) _ r d
  · exact cut1_ctx H c t (k := 0) (by decide) _ r d
  · exact cut2_ctx H c t (k := 0) (by decide) _ r d
  · exact cut0_ctx H c t (k := 1) (by decide) _ r d
  · exact cut1_ctx H c t (k := 1) (by decide) _ r d
  · exact cut2_ctx H c t (k := 1) (by decide) _ r d
  · exact cut0_ctx H c t (k := 2) (by decide) _ r d
  · exact cut1_ctx H c t (k := 2) (by decide) _ r d
  · exact cut2_ctx H c t (k := 2) (by decide) _ r d
  · exact cut0_ctx H c t (k := 3) (by decide) _ r d
  · exact cut1_ctx H c t (k := 3) (by decide) _ r d
  · exact cut2_ctx H c t (k := 3) (by decide) _ r d
  · exact cut0_ctx H c t (k := 4) (by decide) _ r d
  · exact cut1_ctx H c t (k := 4) (by decide) _ r d
  · exact cut2_ctx H c t (k := 4) (by decide) _ r d
  · exact cut0_ctx H c t (k := 5) (by decide) _ r d

theorem fC_apply (i n : Fin 1024) : fC I c (ix2 i n) = A.ctx (8 * c.val + n.val / 128) i.val (n.val % 128) := by
  have hi := i.isLt
  have hn := n.isLt
  refine (cBlk_apply H c (headOf (n.val / 128)) (b := i.val / 64) (by omega) ⟨i.val % 64, Nat.mod_lt _ (by decide)⟩ ⟨n.val % 128, Nat.mod_lt _ (by decide)⟩).trans ?_
  show A.ctx (8 * c.val + n.val / 128 % 8) (64 * (i.val / 64) + i.val % 64) (n.val % 128) = _
  rw [show n.val / 128 % 8 = n.val / 128 by omega, show 64 * (i.val / 64) + i.val % 64 = i.val by omega]

end Cert.KernelIdeal.Body

end
-- ==== Proof.Sums.lean ====
/- The products with the output weights, summed around the ring, are the result. -/
module

public import proofs.«01_k».proof.Proof.Attend

@[expose] public section

set_option maxRecDepth 16384

noncomputable section

namespace Cert.KernelIdeal.Body

open Cert.KernelIdeal Cert.KernelIdeal.Gen
open Idealize.ShloMosaic
open Cert.Soft

/-- What one device's heads give to a result element. -/
def Whole.share (A : Whole) (d i n : ℕ) : EReal :=
  ∑ k : Fin 1024, A.ctx (8 * d + k.val / 128) i (k.val % 128) * A.O (1024 * d + k.val) n

theorem Whole.out_eq (A : Whole) (i n : ℕ) : A.out i n = ∑ d : Fin 4, A.share d.val i n := by
  unfold Whole.out Whole.share
  rw [← Fintype.sum_prod_type' (f := fun (d : Fin 4) (k : Fin 1024) => A.ctx (8 * d.val + k.val / 128) i (k.val % 128) * A.O (1024 * d.val + k.val) n)]
  refine (Fintype.sum_equiv (finProdFinEquiv (m := 4) (n := 1024)) _ _ fun p => ?_).symm
  have h2 := p.2.isLt
  show _ = A.ctx ((p.2.val + 1024 * p.1.val) / 128) i ((p.2.val + 1024 * p.1.val) % 128) * A.O (p.2.val + 1024 * p.1.val) n
  rw [show (p.2.val + 1024 * p.1.val) / 128 = 8 * p.1.val + p.2.val / 128 by omega,
    show (p.2.val + 1024 * p.1.val) % 128 = p.2.val % 128 by omega, Nat.add_comm p.2.val]

theorem chunk_apply (x : Vec Ideal S256x1024 .bf16) (w : Vec Ideal S1024x1024 .bf16) (r : Fin 256) (n : Fin 1024) :
    chunk x w (ix3 (0 : Fin 1) r n) = ∑ k : Fin 1024, x (ix2 r k) * w (ix2 k n) := by
  pointwise [chunk]

theorem stage0_apply (p : Vec Ideal S1x128x1024 .f32) (r : Fin 128) (n : Fin 1024) : stage0 p (ix2 r n) = p (ix3 (0 : Fin 1) r n) := by
  pointwise [stage0]

theorem passed_apply (v : Vec Ideal S128x1024 .bf16) (p : Vec Ideal S1x128x1024 .f32) (r : Fin 128) (n : Fin 1024) :
    bare (pass (slot v) p) (ix2 r n) = v (ix2 r n) + p (ix3 (0 : Fin 1) r n) := by
  pointwise [bare, pass, slot, sum0]

theorem last_apply (v : Vec Ideal S128x1024 .bf16) (p : Vec Ideal S1x128x1024 .f32) (r : Fin 128) (n : Fin 1024) :
    last (slot v) p (ix3 (0 : Fin 1) r n) = v (ix2 r n) + p (ix3 (0 : Fin 1) r n) := by
  pointwise [last, slot, sum0]

/-- How far ahead of a device its chunk of rows is. -/
def ahead : ℕ → ℕ
  | 0 => 3
  | 1 => 1
  | 2 => 2
  | _ => 0

theorem off371_0 : ∀ (c : Dev nD) (a : Fin 2), k0_off371 c 3#32 a = (![256 * ((c.val + 3) % 4), 0] : Fin 2 → ℕ) a := by decide
theorem off371_1 : ∀ (c : Dev nD) (a : Fin 2), k0_off371 c 1#32 a = (![256 * ((c.val + 1) % 4), 0] : Fin 2 → ℕ) a := by decide
theorem off371_2 : ∀ (c : Dev nD) (a : Fin 2), k0_off371 c 2#32 a = (![256 * ((c.val + 2) % 4), 0] : Fin 2 → ℕ) a := by decide
theorem off372_0 : ∀ (c : Dev nD) (a : Fin 2), k0_off372 c a = (![256 * ((c.val + 0) % 4), 0] : Fin 2 → ℕ) a := by decide

variable {I : In Ideal} {A : Whole} (H : Holds I A) (c : Dev nD)

include H

theorem rows_apply {off : Fin 2 → ℕ} {s : ℕ} (ho : ∀ a, off a = (![256 * ((c.val + s) % 4), 0] : Fin 2 → ℕ) a)
    (inb : ∀ a, off a + S256x1024.size a ≤ S1024x1024.size a) (r : Fin 256) (k : Fin 1024) :
    rd mCtx off S256x1024.size inb (fC I c) (ix2 r k) = A.ctx (8 * c.val + k.val / 128) (256 * ((c.val + s) % 4) + r.val) (k.val % 128) := by
  have hr := r.isLt
  have e0 : off 0 = 256 * ((c.val + s) % 4) := ho 0
  have e1 : off 1 = 0 := ho 1
  refine Eq.trans (b := fC I c (ix2 (⟨256 * ((c.val + s) % 4) + r.val, by omega⟩ : Fin 1024) k)) ?_ (fC_apply H c _ k)
  show fC I c _ = _
  refine congrArg (fC I c) (funext fun a => Fin.ext ?_)
  fin_cases a
  · show off 0 + 1 * r.val = 256 * ((c.val + s) % 4) + r.val
    omega
  · show off 1 + 1 * k.val = k.val
    omega

theorem wo_apply (k n : Fin 1024) :
    rd wO ![0, 0] S1024x1024.size inb_S1024x1024_S1024x1024_0_0 (fWo I c) (ix2 k n) = A.O (1024 * c.val + k.val) n.val := by
  refine Eq.trans (b := fWo I c (ix2 k n)) ?_ (fWo_apply H c k n)
  show fWo I c _ = _
  refine congrArg (fWo I c) (funext fun a => Fin.ext ?_)
  fin_cases a
  · show 0 + 1 * k.val = k.val
    omega
  · show 0 + 1 * n.val = n.val
    omega

theorem pt_apply {j : ℕ} (hj : j < 4) (r : Fin 256) (n : Fin 1024) :
    pt I c j (ix3 (0 : Fin 1) r n) = A.share c.val (256 * ((c.val + ahead j) % 4) + r.val) n.val := by
  unfold pt Whole.share
  rw [chunk_apply]
  refine Finset.sum_congr rfl fun k _ => congrArg₂ (· * ·) ?_ (wo_apply H c k n)
  interval_cases j
  · exact rows_apply H c (s := 3) (off371_0 c) _ r k
  · exact rows_apply H c (s := 1) (off371_1 c) _ r k
  · exact rows_apply H c (s := 2) (off371_2 c) _ r k
  · exact rows_apply H c (s := 0) (off372_0 c) _ r k

/-- Rows of a chunk, from the buffer that holds all four. -/
theorem part_apply {j o : ℕ} (hj : j < 4) (ho : o + 128 ≤ 256) (inb : ∀ a, (![j, o, 0] : Fin 3 → ℕ) a + S1x128x1024.size a ≤ S4x256x1024.size a)
    (r : Fin 128) (n : Fin 1024) :
    rd mPart ![j, o, 0] S1x128x1024.size inb (fP I c) (ix3 (0 : Fin 1) r n) = A.share c.val (256 * ((c.val + ahead j) % 4) + (o + r.val)) n.val := by
  have hr := r.isLt
  refine Eq.trans (b := pt I c j (ix3 (0 : Fin 1) (⟨o + r.val, by omega⟩ : Fin 256) n)) ?_ (pt_apply H c hj _ n)
  refine Eq.trans (b := fP I c (ix3 (⟨j, hj⟩ : Fin 4) (⟨o + r.val, by omega⟩ : Fin 256) n)) ?_ rfl
  show fP I c _ = _
  refine congrArg (fP I c) (funext fun a => Fin.ext ?_)
  fin_cases a
  · show j + 1 * 0 = j
    omega
  · show o + 1 * r.val = o + r.val
    omega
  · show 0 + 1 * n.val = n.val
    omega

theorem sumR_apply (r : Fin 128) (n : Fin 1024) : sumR I (prv c) 2 (ix2 r n) =
    A.share (prv (prv (prv c))).val (256 * c.val + r.val) n.val + A.share (prv (prv c)).val (256 * c.val + r.val) n.val
      + A.share (prv c).val (256 * c.val + r.val) n.val := by
  have e1 : ((prv c).val + ahead 1) % 4 = c.val := by revert c; decide
  have e2 : ((prv (prv c)).val + ahead 2) % 4 = c.val := by revert c; decide
  have e3 : ((prv (prv (prv c))).val + ahead 0) % 4 = c.val := by revert c; decide
  show bare (pass (slot (bare (pass (slot (fStR I (prv (prv (prv c))))) _))) _) (ix2 r n) = _
  rw [passed_apply, passed_apply, part_apply H _ (by decide) (by decide), part_apply H _ (by decide) (by decide), e1, e2, Nat.zero_add]
  unfold fStR
  rw [stage0_apply, part_apply H _ (by decide) (by decide), e3, Nat.zero_add]

theorem sumL_apply (r : Fin 128) (n : Fin 1024) : sumL I (nxt c) 2 (ix2 r n) =
    A.share (nxt (nxt (nxt c))).val (256 * c.val + (128 + r.val)) n.val + A.share (nxt (nxt c)).val (256 * c.val + (128 + r.val)) n.val
      + A.share (nxt c).val (256 * c.val + (128 + r.val)) n.val := by
  have e1 : ((nxt c).val + ahead 0) % 4 = c.val := by revert c; decide
  have e2 : ((nxt (nxt c)).val + ahead 2) % 4 = c.val := by revert c; decide
  have e3 : ((nxt (nxt (nxt c))).val + ahead 1) % 4 = c.val := by revert c; decide
  show bare (pass (slot (bare (pass (slot (fStL I (nxt (nxt (nxt c))))) _))) _) (ix2 r n) = _
  rw [passed_apply, passed_apply, part_apply H _ (by decide) (by decide), part_apply H _ (by decide) (by decide), e1, e2]
  unfold fStL
  rw [stage0_apply, part_apply H _ (by decide) (by decide), e3]

omit H in
theorem around (f : ℕ → EReal) : f (prv (prv (prv c))).val + f (prv (prv c)).val + f (prv c).val + f c.val = ∑ d : Fin 4, f d.val
    ∧ f (nxt (nxt (nxt c))).val + f (nxt (nxt c)).val + f (nxt c).val + f c.val = ∑ d : Fin 4, f d.val := by
  rw [Fin.sum_univ_four]
  have h : c = 0 ∨ c = 1 ∨ c = 2 ∨ c = 3 := by revert c; decide
  rcases h with rfl | rfl | rfl | rfl
  · exact ⟨show f 1 + f 2 + f 3 + f 0 = f 0 + f 1 + f 2 + f 3 by ac_rfl, show f 3 + f 2 + f 1 + f 0 = f 0 + f 1 + f 2 + f 3 by ac_rfl⟩
  · exact ⟨show f 2 + f 3 + f 0 + f 1 = f 0 + f 1 + f 2 + f 3 by ac_rfl, show f 0 + f 3 + f 2 + f 1 = f 0 + f 1 + f 2 + f 3 by ac_rfl⟩
  · exact ⟨show f 3 + f 0 + f 1 + f 2 = f 0 + f 1 + f 2 + f 3 by ac_rfl, show f 1 + f 0 + f 3 + f 2 = f 0 + f 1 + f 2 + f 3 by ac_rfl⟩
  · exact ⟨show f 0 + f 1 + f 2 + f 3 = f 0 + f 1 + f 2 + f 3 by ac_rfl, show f 2 + f 1 + f 0 + f 3 = f 0 + f 1 + f 2 + f 3 by ac_rfl⟩

/-- The kernel's result on a device is its rows of the whole result. -/
theorem fO_apply (r : Fin 256) (n : Fin 1024) : fO I c (ix3 (0 : Fin 1) r n) = A.out (256 * c.val + r.val) n.val := by
  have hr := r.isLt
  have e0 : (c.val + ahead 3) % 4 = c.val := by revert c; decide
  rw [Whole.out_eq]
  by_cases h : r.val < 128
  · refine (dif_pos h).trans ?_
    refine (last_apply (sumR I (prv c) 2) _ ⟨r.val, h⟩ n).trans ?_
    rw [sumR_apply H, part_apply H _ (by decide) (by decide), e0, Nat.zero_add]
    exact (around c fun d => A.share d (256 * c.val + r.val) n.val).1
  · refine (dif_neg h).trans ?_
    refine (last_apply (sumL I (nxt c) 2) _ (⟨r.val - 128, by omega⟩ : Fin 128) n).trans ?_
    rw [sumL_apply H, part_apply H _ (by decide) (by decide), e0]
    show A.share _ (256 * c.val + (128 + (r.val - 128))) n.val + A.share _ (256 * c.val + (128 + (r.val - 128))) n.val
      + A.share _ (256 * c.val + (128 + (r.val - 128))) n.val + A.share _ (256 * c.val + (128 + (r.val - 128))) n.val = _
    rw [show 128 + (r.val - 128) = r.val by omega]
    exact (around c fun d => A.share d (256 * c.val + r.val) n.val).2

end Cert.KernelIdeal.Body

end
-- ==== Proof.Mask.lean ====
/- The reference's mask, read at an index. -/
module

public import proofs.«01_k».proof.Proof.Gen.ReferenceIdeal
public import Idealize.ShloMosaic.Lib.Pointwise

@[expose] public section

set_option maxRecDepth 16384

noncomputable section

namespace Cert.ReferenceIdeal.Math

open Cert.ReferenceIdeal Cert.ReferenceIdeal.Gen
open Idealize.ShloMosaic

/-! ## The mask's steps -/

def rB : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32)))) (broadcastInDim S1024 ![] bcast_S_S1024 (constantI S_ 32 0#32))))
    (subi (Host.divsi (iotaInDim S1024 32 0) (broadcastInDim S1024 ![] bcast_S_S1024 (id (constantI S_ 32 64#32)))) (broadcastInDim S1024 ![] bcast_S_S1024 (constantI S_ 32 1#32)))
    (Host.divsi (iotaInDim S1024 32 0) (broadcastInDim S1024 ![] bcast_S_S1024 (id (constantI S_ 32 64#32))))

def cB : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))

def rBB (r : IVec S1024 32) : IVec S1024x4096 32 := broadcastInDim S1024x4096 ![0, 1] bcast_S1024x1_S1024x4096_0_1 (broadcastInDim S1024x1 ![0] bcast_S1024_S1024x1_0 r)
def cBB (c : IVec S4096 32) : IVec S1024x4096 32 := broadcastInDim S1024x4096 ![0, 1] bcast_S1x4096_S1024x4096_0_1 (broadcastInDim S1x4096 ![1] bcast_S4096_S1x4096_1 c)

def three : IVec S_ 32 := select (cmpi .eq (id (constantI S_ 32 3#32)) (constantI S_ 32 0#32)) (constantI S_ 32 1#32) (id (constantI S_ 32 3#32))

def rem3 (s : IVec S1024x4096 32) : IVec S1024x4096 32 := Host.remsi s (broadcastInDim S1024x4096 ![] bcast_S_S1024x4096 three)

def mod3 (s : IVec S1024x4096 32) : IVec S1024x4096 32 :=
  select (andi (cmpi .ne (cmpi .slt (rem3 s) (broadcastInDim S1024x4096 ![] bcast_S_S1024x4096 (constantI S_ 32 0#32)))
        (broadcastInDim S1024x4096 ![] bcast_S_S1024x4096 (cmpi .slt three (constantI S_ 32 0#32))))
      (cmpi .ne (rem3 s) (broadcastInDim S1024x4096 ![] bcast_S_S1024x4096 (constantI S_ 32 0#32))))
    (addi (rem3 s) (broadcastInDim S1024x4096 ![] bcast_S_S1024x4096 three)) (rem3 s)

def msk (r : IVec S1024 32) (c : IVec S4096 32) : IVec S1024x4096 1 :=
  ori (ori (cmpi .eq (rBB r) (cBB c))
      (broadcastInDim S1024x4096 ![0, 1] bcast_S1x4096_S1024x4096_0_1
        (cmpi .eq (broadcastInDim S1x4096 ![1] bcast_S4096_S1x4096_1 c) (broadcastInDim S1x4096 ![] bcast_S_S1x4096 (constantI S_ 32 0#32)))))
    (cmpi .eq (mod3 (addi (rBB r) (cBB c))) (broadcastInDim S1024x4096 ![] bcast_S_S1024x4096 (constantI S_ 32 0#32)))

def rowKeep (k : IVec S1024x4096 1) : IVec S1024 1 := Host.reduce IntOp.ori k (constantI S_ 1 0#1) reducesTo_S1024x4096_S1024_d1 h_S_

/-! ## Their values -/

/-- A word's block number. -/
def blkH (x : BitVec 32) : BitVec 32 :=
  Scalar.select
    (IntOp.andi
      (IntOp.cmpi .ne (if x = 0 then 0 else if x.msb = true then -1 else 1 : BitVec 32)
        (if (64#32 : BitVec 32) = 0 then 0 else if (64#32 : BitVec 32).msb = true then -1 else 1))
      (IntOp.cmpi .ne (IntOp.remsi .host x 64#32) 0#32))
    (IntOp.subi (IntOp.divsi .host x 64#32) 1#32) (IntOp.divsi .host x 64#32)

theorem blkH_eq : ∀ i : Fin 4096, blkH (BitVec.ofNat 32 i.val) = BitVec.ofNat 32 (i.val / 64) := by decide +kernel

theorem rB_apply (i : Fin 1024) : rB (ix1 i) = BitVec.ofNat 32 (i.val / 64) := by
  refine Eq.trans ?_ (blkH_eq ⟨i.val, by omega⟩)
  pointwise [rB]
  rfl

theorem cB_apply (i : Fin 4096) : cB (ix1 i) = BitVec.ofNat 32 (i.val / 64) := by
  refine Eq.trans ?_ (blkH_eq i)
  pointwise [cB]
  rfl

/-- The mask's bit, by the two block numbers. -/
def bitOf (x y : BitVec 32) : BitVec 1 :=
  let t : BitVec 32 := Scalar.select (IntOp.cmpi .eq 3#32 0#32) 1#32 3#32
  let r : BitVec 32 := IntOp.remsi .host (IntOp.addi x y) t
  IntOp.ori (IntOp.ori (IntOp.cmpi .eq x y) (IntOp.cmpi .eq y 0#32))
    (IntOp.cmpi .eq
      (Scalar.select (IntOp.andi (IntOp.cmpi .ne (IntOp.cmpi .slt r 0#32) (IntOp.cmpi .slt t 0#32)) (IntOp.cmpi .ne r 0#32)) (IntOp.addi r t) r) 0#32)

theorem bitOf_eq : ∀ (x : Fin 16) (y : Fin 64), bitOf (BitVec.ofNat 32 x.val) (BitVec.ofNat 32 y.val)
    = if x.val = y.val ∨ y.val = 0 ∨ (x.val + y.val) % 3 = 0 then 1#1 else 0#1 := by decide +kernel

theorem msk_apply (i : Fin 1024) (j : Fin 4096) : msk rB cB (ix2 i j)
    = if i.val / 64 = j.val / 64 ∨ j.val / 64 = 0 ∨ (i.val / 64 + j.val / 64) % 3 = 0 then 1#1 else 0#1 := by
  have hi := i.isLt
  have hj := j.isLt
  refine Eq.trans (b := bitOf (rB (ix1 i)) (cB (ix1 j))) ?_ ?_
  · pointwise [msk, mod3, rem3, three, rBB, cBB]
    rfl
  · rw [rB_apply, cB_apply]
    exact bitOf_eq ⟨i.val / 64, by omega⟩ ⟨j.val / 64, by omega⟩

theorem ori_one_left (x : BitVec 1) : IntOp.ori 1#1 x = 1#1 := by revert x; decide
theorem ori_one_right (x : BitVec 1) : IntOp.ori x 1#1 = 1#1 := by revert x; decide

/-- Every query keeps the first block of keys. -/
theorem rowKeep_apply (i : Fin 1024) : rowKeep (msk rB cB) (ix1 i) = 1#1 := by
  have e : rowKeep (msk rB cB) (ix1 i) = Finset.fold IntOp.ori (0#1) (fun j : Fin 4096 => msk rB cB (ix2 i j)) Finset.univ := by
    pointwise [rowKeep]
  have h0 : msk rB cB (ix2 i (0 : Fin 4096)) = 1#1 := by
    rw [msk_apply]
    exact if_pos (.inr (.inl rfl))
  rw [e, ← Finset.insert_erase (Finset.mem_univ (0 : Fin 4096)), Finset.fold_insert (Finset.notMem_erase _ _), h0, ori_one_left]

end Cert.ReferenceIdeal.Math

end
-- ==== Proof.Refer.lean ====
/- The reference's result, read at an index. -/
module

public import proofs.«01_k».proof.Proof.Mask
public import proofs.«01_k».proof.Proof.Heads
public import proofs.«01_k».proof.Proof.Gen.ReferenceIdeal.Run

@[expose] public section

set_option maxRecDepth 16384

noncomputable section

namespace Cert.ReferenceIdeal.Math

open Cert.ReferenceIdeal Cert.ReferenceIdeal.Gen
open Idealize.ShloMosaic
open Cert.Soft
open Cert.KernelIdeal.Body (Whole scl ofBits_bot)

/-! ## The steps -/

variable (x : FVec Ideal S1x1024x1024 .f32) (wq : FVec Ideal S1024x4096 .f32) (k v : FVec Ideal S1x4096x32x128 .f32) (wo : FVec Ideal S4096x1024 .f32)

def qry : FVec Ideal S1x1024x32x128 .f32 :=
  shapeCast _ (Host.dotGeneral dot_S1x1024x1024_S1024x4096_S1x1024x4096_2_0_01_1_n_n none x wq) shapeCasts_S1x1024x4096_S1x1024x32x128

def sco (q : FVec Ideal S1x1024x32x128 .f32) : FVec Ideal S1x32x1024x4096 .f32 :=
  mulf (Host.dotGeneral dot_S1x1024x32x128_S1x4096x32x128_S1x32x1024x4096_3_3_1_1_02_02 none q k)
    (broadcastInDim S1x32x1024x4096 ![] bcast_S_S1x32x1024x4096 (constant S_ .f32 0x3DB504F3#32))

def mks (b : IVec S1024x4096 1) (s : FVec Ideal S1x32x1024x4096 .f32) : FVec Ideal S1x32x1024x4096 .f32 :=
  select (broadcastInDim S1x32x1024x4096 ![0, 1, 2, 3] bcast_S1x1x1024x4096_S1x32x1024x4096_0_1_2_3
      (broadcastInDim S1x1x1024x4096 ![2, 3] bcast_S1024x4096_S1x1x1024x4096_2_3 b)) s
    (broadcastInDim S1x32x1024x4096 ![] bcast_S_S1x32x1024x4096 (id (constant S_ .f32 0xFF800000#32)))

def exs (s : FVec Ideal S1x32x1024x4096 .f32) : FVec Ideal S1x32x1024x4096 .f32 :=
  Host.exp (subf s (broadcastInDim S1x32x1024x4096 ![0, 1, 2, 3] bcast_S1x32x1024x1_S1x32x1024x4096_0_1_2_3
    (broadcastInDim S1x32x1024x1 ![0, 1, 2] bcast_S1x32x1024_S1x32x1024x1_0_1_2
      (Host.reduce FloatOps.maximumf s (constant S_ .f32 0xFF800000#32) reducesTo_S1x32x1024x4096_S1x32x1024_d3 h_S_))))

def wts (g : IVec S1024 1) (e : FVec Ideal S1x32x1024x4096 .f32) : FVec Ideal S1x32x1024x4096 .f32 :=
  select (broadcastInDim S1x32x1024x4096 ![0, 1, 2, 3] bcast_S1x1x1024x1_S1x32x1024x4096_0_1_2_3 (broadcastInDim S1x1x1024x1 ![2] bcast_S1024_S1x1x1024x1_2 g))
    (Host.divf e (broadcastInDim S1x32x1024x4096 ![0, 1, 2, 3] bcast_S1x32x1024x1_S1x32x1024x4096_0_1_2_3
      (select (broadcastInDim S1x32x1024x1 ![0, 1, 2, 3] bcast_S1x1x1024x1_S1x32x1024x1_0_1_2_3 (broadcastInDim S1x1x1024x1 ![2] bcast_S1024_S1x1x1024x1_2 g))
        (broadcastInDim S1x32x1024x1 ![0, 1, 2] bcast_S1x32x1024_S1x32x1024x1_0_1_2
          (Host.reduceAdd e (constant S_ .f32 0x00000000#32) reducesTo_S1x32x1024x4096_S1x32x1024_d3 h_S_))
        (broadcastInDim S1x32x1024x1 ![] bcast_S_S1x32x1024x1 (id (constant S_ .f32 0x3F800000#32))))))
    (broadcastInDim S1x32x1024x4096 ![] bcast_S_S1x32x1024x4096 (id (constant S_ .f32 0x00000000#32)))

def ctxs (w : FVec Ideal S1x32x1024x4096 .f32) : FVec Ideal S1x1024x4096 .f32 :=
  shapeCast _ (transpose S1x1024x32x128 [0, 3, 1, 2] (Host.dotGeneral dot_S1x4096x32x128_S1x32x1024x4096_S1x32x128x1024_1_3_3_2_02_01 none v w)
    transposes_S1x32x128x1024_S1x1024x32x128_0_3_1_2) shapeCasts_S1x1024x32x128_S1x1024x4096

def res (c : FVec Ideal S1x1024x4096 .f32) : FVec Ideal S1x1024x1024 .f32 :=
  Host.dotGeneral dot_S1x1024x4096_S4096x1024_S1x1024x1024_2_0_01_1_n_n none c wo

def all : FVec Ideal S1x1024x1024 .f32 :=
  res wo (ctxs v (wts (rowKeep (msk rB cB)) (exs (mks (msk rB cB) (sco k (qry x wq))))))

theorem res_eq (m : (ℓ : Loc nD τ sig) → Buf (Elt Ideal) ℓ) (c : Dev nD) : Value.res_main_v44 m c
    = all (m (((c.tc : Thread nD τ)).loc main_arg0)) (m ((c.tc : Thread nD τ).loc main_arg1)) (m ((c.tc : Thread nD τ).loc main_arg2))
        (m ((c.tc : Thread nD τ).loc main_arg3)) (m ((c.tc : Thread nD τ).loc main_arg4)) := rfl

/-! ## Their values -/

theorem qry_apply (i : Fin 1024) (h : Fin 32) (d : Fin 128) :
    qry x wq (ix4 (0 : Fin 1) i h d) = ∑ a : Fin 1024, x (ix3 (0 : Fin 1) i a) * wq (ix2 a (⟨128 * h.val + d.val, by omega⟩ : Fin 4096)) := by
  have e : (⟨h.val * 128 + d.val, by omega⟩ : Fin 4096) = ⟨128 * h.val + d.val, by omega⟩ := Fin.ext (by show h.val * 128 + d.val = 128 * h.val + d.val; omega)
  rw [← e]
  pointwise [qry]

theorem sco_apply (q : FVec Ideal S1x1024x32x128 .f32) (h : Fin 32) (i : Fin 1024) (j : Fin 4096) :
    sco k q (ix4 (0 : Fin 1) h i j) = (∑ d : Fin 128, q (ix4 (0 : Fin 1) i h d) * k (ix4 (0 : Fin 1) j h d)) * scl := by
  unfold scl
  pointwise [sco]

theorem mks_apply (b : IVec S1024x4096 1) (s : FVec Ideal S1x32x1024x4096 .f32) (h : Fin 32) (i : Fin 1024) (j : Fin 4096) :
    mks b s (ix4 (0 : Fin 1) h i j) = if b (ix2 i j) = 1#1 then s (ix4 (0 : Fin 1) h i j) else ⊥ := by
  rw [← ofBits_bot]
  pointwise [mks]
  rfl

theorem exs_apply (s : FVec Ideal S1x32x1024x4096 .f32) (h : Fin 32) (i : Fin 1024) (j : Fin 4096) :
    exs s (ix4 (0 : Fin 1) h i j) = wt (fun j' : Fin 4096 => s (ix4 (0 : Fin 1) h i j')) j := by
  unfold wt Soft.top
  pointwise [exs, ofBits_bot]

theorem wts_apply (g : IVec S1024 1) (e : FVec Ideal S1x32x1024x4096 .f32) (h : Fin 32) (i : Fin 1024) (j : Fin 4096) (hg : g (ix1 i) = 1#1) :
    wts g e (ix4 (0 : Fin 1) h i j) = Ideal.div (e (ix4 (0 : Fin 1) h i j)) (∑ j' : Fin 4096, e (ix4 (0 : Fin 1) h i j')) := by
  pointwise [wts]
  rw [hg]
  rfl

theorem ctxs_apply (w : FVec Ideal S1x32x1024x4096 .f32) (i : Fin 1024) (n : Fin 4096) :
    ctxs v w (ix3 (0 : Fin 1) i n) = ∑ j : Fin 4096, v (ix4 (0 : Fin 1) j (⟨n.val / 128, by omega⟩ : Fin 32) (⟨n.val % 128, by omega⟩ : Fin 128))
      * w (ix4 (0 : Fin 1) (⟨n.val / 128, by omega⟩ : Fin 32) i j) := by
  pointwise [ctxs]

theorem res_apply (c : FVec Ideal S1x1024x4096 .f32) (i n : Fin 1024) :
    res wo c (ix3 (0 : Fin 1) i n) = ∑ a : Fin 4096, c (ix3 (0 : Fin 1) i a) * wo (ix2 a n) := by
  pointwise [res]

/-! ## The whole arrays -/

/-- A number as an index, cut to the extent. -/
def num (n : ℕ) [NeZero n] (i : ℕ) : Fin n := ⟨i % n, Nat.mod_lt _ (NeZero.pos n)⟩

theorem num_val {n : ℕ} [NeZero n] (i : Fin n) : num n i.val = i := Fin.ext (Nat.mod_eq_of_lt i.isLt)

def whole : Whole where
  X i a := x (ix3 (0 : Fin 1) (num 1024 i) (num 1024 a))
  W a n := wq (ix2 (num 1024 a) (num 4096 n))
  K j h d := k (ix4 (0 : Fin 1) (num 4096 j) (num 32 h) (num 128 d))
  V j h d := v (ix4 (0 : Fin 1) (num 4096 j) (num 32 h) (num 128 d))
  O a n := wo (ix2 (num 4096 a) (num 1024 n))

theorem whole_X (i a : Fin 1024) : (whole x wq k v wo).X i.val a.val = x (ix3 (0 : Fin 1) i a) := by
  show x (ix3 (0 : Fin 1) (num 1024 i.val) (num 1024 a.val)) = _
  rw [num_val, num_val]

theorem whole_W (a : Fin 1024) (n : Fin 4096) : (whole x wq k v wo).W a.val n.val = wq (ix2 a n) := by
  show wq (ix2 (num 1024 a.val) (num 4096 n.val)) = _
  rw [num_val, num_val]

theorem whole_K (j : Fin 4096) (h : Fin 32) (d : Fin 128) : (whole x wq k v wo).K j.val h.val d.val = k (ix4 (0 : Fin 1) j h d) := by
  show k (ix4 (0 : Fin 1) (num 4096 j.val) (num 32 h.val) (num 128 d.val)) = _
  rw [num_val, num_val, num_val]

theorem whole_V (j : Fin 4096) (h : Fin 32) (d : Fin 128) : (whole x wq k v wo).V j.val h.val d.val = v (ix4 (0 : Fin 1) j h d) := by
  show v (ix4 (0 : Fin 1) (num 4096 j.val) (num 32 h.val) (num 128 d.val)) = _
  rw [num_val, num_val, num_val]

theorem whole_O (a : Fin 4096) (n : Fin 1024) : (whole x wq k v wo).O a.val n.val = wo (ix2 a n) := by
  show wo (ix2 (num 4096 a.val) (num 1024 n.val)) = _
  rw [num_val, num_val]

/-! ## Real numbers among the extended ones -/

def IsReal (a : EReal) : Prop := ∃ r : ℝ, a = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {ι : Type} [Fintype ι] {f : ι → EReal} (h : ∀ i, IsReal (f i)) : IsReal (∑ i, f i) :=
  Finset.sum_induction f IsReal (fun a b ha hb => by
    obtain ⟨r, rfl⟩ := ha
    obtain ⟨s, rfl⟩ := hb
    exact ⟨r + s, (EReal.coe_add r s).symm⟩) ⟨0, rfl⟩ fun i _ => h i

theorem IsReal.ne_top {a : EReal} (h : IsReal a) : a ≠ ⊤ := by obtain ⟨r, rfl⟩ := h; exact EReal.coe_ne_top r
theorem IsReal.ne_bot {a : EReal} (h : IsReal a) : a ≠ ⊥ := by obtain ⟨r, rfl⟩ := h; exact EReal.coe_ne_bot r

theorem scl_real : IsReal scl := by
  unfold scl
  simp only [Ideal.ofBits, Ideal.ieee]
  norm_num
  exact ⟨_, rfl⟩

variable {x wq k v wo}
variable (hx : ∀ i, IsReal (x i)) (hw : ∀ i, IsReal (wq i)) (hk : ∀ i, IsReal (k i))
include hx hw hk

theorem score_real (h i j : ℕ) : IsReal ((whole x wq k v wo).score h i j) :=
  (IsReal.sum fun _ => (IsReal.sum fun _ => (hx _).mul (hw _)).mul (hk _)).mul scl_real

theorem masked_ne_top (h i : ℕ) (j : Fin 4096) : (whole x wq k v wo).masked h i j ≠ ⊤ := by
  unfold Whole.masked
  split_ifs
  · exact (score_real hx hw hk h i j.val).ne_top
  · exact bot_ne_top

theorem masked_zero (h i : ℕ) : (whole x wq k v wo).masked h i 0 ≠ ⊥ := by
  unfold Whole.masked
  rw [if_pos (.inr (.inl rfl))]
  exact (score_real hx hw hk h i 0).ne_bot

omit hx hw hk in
theorem sco_eq (h : Fin 32) (i : Fin 1024) (j : Fin 4096) : sco k (qry x wq) (ix4 (0 : Fin 1) h i j) = (whole x wq k v wo).score h.val i.val j.val := by
  rw [sco_apply]
  unfold Whole.score
  refine congrArg (· * scl) (Finset.sum_congr rfl fun d _ => congrArg₂ (· * ·) ?_ (whole_K x wq k v wo j h d).symm)
  rw [qry_apply]
  unfold Whole.q
  exact Finset.sum_congr rfl fun a _ => congrArg₂ (· * ·) (whole_X x wq k v wo i a).symm (whole_W x wq k v wo a ⟨128 * h.val + d.val, by omega⟩).symm

omit hx hw hk in
theorem mks_eq (h : Fin 32) (i : Fin 1024) (j : Fin 4096) :
    mks (msk rB cB) (sco k (qry x wq)) (ix4 (0 : Fin 1) h i j) = (whole x wq k v wo).masked h.val i.val j := by
  rw [mks_apply, msk_apply, sco_eq (v := v) (wo := wo)]
  unfold Whole.masked
  by_cases e : Whole.keep i.val j.val
  · rw [if_pos e, if_pos e, if_pos rfl]
  · rw [if_neg e, if_neg e, if_neg (by decide)]

/-- The reference's result. -/
theorem all_apply (i n : Fin 1024) : all x wq k v wo (ix3 (0 : Fin 1) i n) = (whole x wq k v wo).out i.val n.val := by
  unfold all
  rw [res_apply]
  unfold Whole.out
  refine Finset.sum_congr rfl fun a _ => congrArg₂ (· * ·) ?_ (whole_O x wq k v wo a n).symm
  rw [ctxs_apply]
  unfold Whole.ctx
  rw [mean_eq (fun j => masked_ne_top hx hw hk (a.val / 128) i.val j) (masked_zero hx hw hk (a.val / 128) i.val)]
  have hs : (fun j : Fin 4096 => mks (msk rB cB) (sco k (qry x wq)) (ix4 (0 : Fin 1) (⟨a.val / 128, by omega⟩ : Fin 32) i j))
      = (whole x wq k v wo).masked (a.val / 128) i.val := funext fun j => mks_eq ⟨a.val / 128, by omega⟩ i j
  refine Finset.sum_congr rfl fun j _ => congrArg₂ (· * ·) (whole_V x wq k v wo j ⟨a.val / 128, by omega⟩ ⟨a.val % 128, by omega⟩).symm ?_
  rw [wts_apply _ _ _ _ _ (rowKeep_apply i)]
  simp only [exs_apply, hs]

end Cert.ReferenceIdeal.Math

end
-- ==== Proof.Value.lean ====
/- The kernel's blocks are the reference's result. -/
module

public import proofs.«01_k».proof.Defs
public import proofs.«01_k».proof.Proof.Ends
public import proofs.«01_k».proof.Proof.Sums
public import proofs.«01_k».proof.Proof.Refer
public import Idealize.ShloMosaic.Lib.ReduceAll
public import Idealize.ShloMosaic.Lib.Affine

@[expose] public section

set_option maxRecDepth 16384

noncomputable section

namespace Cert.Value

open Idealize.ShloMosaic Idealize.SL.Sem
open Cert.KernelIdeal.Body (In inOf Whole Holds fO fO_apply)
open Cert.ReferenceIdeal.Math (IsReal whole all num)

/-! ## The windows are the whole buffers -/

section Windows

open Cert.KernelIdeal Cert.KernelIdeal.Gen

theorem win0_apply (f : (⟨S1x256x1024, .f32⟩ : BufTy).Contents (Elt Ideal)) (i : S1x256x1024.Idx) :
    (win0_0.blk (0 : Fin 1)).view.read (Elt Ideal) f i = f i := by
  show f _ = f i
  refine congrArg f (funext fun a => Fin.ext ?_)
  fin_cases a
  · show 0 + 1 * (i 0).val = (i 0).val; omega
  · show 0 + 1 * (i 1).val = (i 1).val; omega
  · show 0 + 1 * (i 2).val = (i 2).val; omega

theorem win1_apply (f : (⟨S1024x1024, .f32⟩ : BufTy).Contents (Elt Ideal)) (i : S1024x1024.Idx) :
    (win0_1.blk (0 : Fin 1)).view.read (Elt Ideal) f i = f i := by
  show f _ = f i
  refine congrArg f (funext fun a => Fin.ext ?_)
  fin_cases a
  · show 0 + 1 * (i 0).val = (i 0).val; omega
  · show 0 + 1 * (i 1).val = (i 1).val; omega

theorem win2_apply (f : (⟨S1024x1024, .f32⟩ : BufTy).Contents (Elt Ideal)) (i : S1024x1024.Idx) :
    (win0_2.blk (0 : Fin 1)).view.read (Elt Ideal) f i = f i := by
  show f _ = f i
  refine congrArg f (funext fun a => Fin.ext ?_)
  fin_cases a
  · show 0 + 1 * (i 0).val = (i 0).val; omega
  · show 0 + 1 * (i 1).val = (i 1).val; omega

theorem win3_apply (f : (⟨S1x256x1024, .f32⟩ : BufTy).Contents (Elt Ideal)) (i : S1x256x1024.Idx) :
    (win0_3.blk (0 : Fin 1)).view.read (Elt Ideal) f i = f i := by
  show f _ = f i
  refine congrArg f (funext fun a => Fin.ext ?_)
  fin_cases a
  · show 0 + 1 * (i 0).val = (i 0).val; omega
  · show 0 + 1 * (i 1).val = (i 1).val; omega
  · show 0 + 1 * (i 2).val = (i 2).val; omega

end Windows

/-! ## Blocks, by coordinates -/

theorem block_mid (c : Fin 4) (v : (⟨3, ![1, 1024, 1024]⟩ : Shape).Idx → EReal) (r : Fin 256) (k : Fin 1024) :
    Layout.block ⟨3, ![1, 256, 1024]⟩ ⟨3, ![1, 1024, 1024]⟩ 1 4 c v (by decide) (ix3 (0 : Fin 1) r k)
      = v (ix3 (0 : Fin 1) (⟨256 * c.val + r.val, by omega⟩ : Fin 1024) k) := by
  refine congrArg v (funext fun a => Fin.ext ?_)
  fin_cases a
  · rfl
  · show c.val * 256 + r.val = 256 * c.val + r.val; omega
  · rfl

theorem block_col (c : Fin 4) (v : (⟨2, ![1024, 4096]⟩ : Shape).Idx → EReal) (k n : Fin 1024) :
    Layout.block ⟨2, ![1024, 1024]⟩ ⟨2, ![1024, 4096]⟩ 1 4 c v (by decide) (ix2 k n)
      = v (ix2 k (⟨1024 * c.val + n.val, by omega⟩ : Fin 4096)) := by
  refine congrArg v (funext fun a => Fin.ext ?_)
  fin_cases a
  · rfl
  · show c.val * 1024 + n.val = 1024 * c.val + n.val; omega

theorem block_row (c : Fin 4) (v : (⟨2, ![4096, 1024]⟩ : Shape).Idx → EReal) (k n : Fin 1024) :
    Layout.block ⟨2, ![1024, 1024]⟩ ⟨2, ![4096, 1024]⟩ 0 4 c v (by decide) (ix2 k n)
      = v (ix2 (⟨1024 * c.val + k.val, by omega⟩ : Fin 4096) n) := by
  refine congrArg v (funext fun a => Fin.ext ?_)
  fin_cases a
  · show c.val * 1024 + k.val = 1024 * c.val + k.val; omega
  · rfl

/-! ## What the precondition says -/

theorem preKernel : Cert.Pre_finite_scores_KernelIdeal.Facts := ⟨by decide, by decide, by decide, by decide, by decide, by decide, by decide⟩
theorem preReference : Cert.Pre_finite_scores_ReferenceIdeal.Facts := ⟨by decide, by decide, by decide, by decide, by decide, by decide, by decide⟩

theorem ofBits_top : Ideal.ofBits .f32 0x7F800000#32 = ⊤ := by simp [Ideal.ofBits, Ideal.ieee]

theorem real_of {s : Shape} (a : FVec Ideal s .f32) (h : (⟨0, ![]⟩ : Shape).BroadcastsInDim s ![]) (i : s.Idx)
    (e : cmpf .olt (Host.absf a) (broadcastInDim s ![] h (constant (⟨0, ![]⟩ : Shape) .f32 0x7F800000#32)) i = 1#1) : IsReal (a i) := by
  have e1 : BitVec.ofBool (decide (max (a i) (-(a i)) < Ideal.ofBits .f32 0x7F800000#32)) = 1#1 := e
  rw [ofBits_top] at e1
  have e2 : max (a i : EReal) (-(a i : EReal)) < ⊤ := by
    by_contra hn
    rw [decide_eq_false hn] at e1
    exact absurd e1 (by decide)
  generalize (a i : EReal) = y at e2 ⊢
  obtain ⟨h1, h2⟩ := max_lt_iff.mp e2
  exact ⟨y.toReal, (EReal.coe_toReal h1.ne fun hb => by rw [hb] at h2; exact absurd h2 (by simp)).symm⟩

instance : Subsingleton (⟨0, ![]⟩ : Shape).Idx := ⟨fun _ _ => funext fun a => a.elim0⟩

open Cert.Pre_finite_scores_KernelIdeal in
theorem pre_real (h : Cert.Pre_finite_scores_KernelIdeal.Facts) (a0 : FVec Ideal S1x256x1024 .f32) (a1 : FVec Ideal S1024x1024 .f32)
    (a2 a3 : FVec Ideal S1x4096x32x128 .f32) (a4 : FVec Ideal S1024x1024 .f32) (e : fn (F := Ideal) a0 a1 a2 a3 a4 = fun _ => 1#1) :
    (∀ i, IsReal (a0 i)) ∧ (∀ i, IsReal (a1 i)) ∧ ∀ i, IsReal (a2 i) := by
  dsimp only [fn] at e
  obtain ⟨e01, e2⟩ := IntOp.andi_eq_one.mp (congrFun e fun a => a.elim0)
  obtain ⟨e0, e1⟩ := IntOp.andi_eq_one.mp e01
  exact ⟨fun i => real_of a0 _ i (Host.reduce_andi_all _ _ _ _ _ e0 i), fun i => real_of a1 _ i (Host.reduce_andi_all _ _ _ _ _ e1 i),
    fun i => real_of a2 _ i (Host.reduce_andi_all _ _ _ _ _ e2 i)⟩

/-! ## The two programs -/

abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ

section Arrays

variable (m' : RMem)
open Cert.ReferenceIdeal

def aX : FVec Ideal S1x1024x1024 .f32 := m' (((0 : Dev nD).tc : Thread nD τ).loc main_arg0)
def aW : FVec Ideal S1024x4096 .f32 := m' (((0 : Dev nD).tc : Thread nD τ).loc main_arg1)
def aK : FVec Ideal S1x4096x32x128 .f32 := m' (((0 : Dev nD).tc : Thread nD τ).loc main_arg2)
def aV : FVec Ideal S1x4096x32x128 .f32 := m' (((0 : Dev nD).tc : Thread nD τ).loc main_arg3)
def aO : FVec Ideal S4096x1024 .f32 := m' (((0 : Dev nD).tc : Thread nD τ).loc main_arg4)

end Arrays

section Kernel

open Cert.KernelIdeal

/-- The devices' arguments are the blocks of the reference's. -/
structure Agree (m : KMem) (m' : RMem) : Prop where
  x : ∀ c : Dev nD, m ((c.tc : Thread nD τ).loc main_arg0) = Layout.block ⟨3, ![1, 256, 1024]⟩ ⟨3, ![1, 1024, 1024]⟩ 1 4 c (aX m')
  w : ∀ c : Dev nD, m ((c.tc : Thread nD τ).loc main_arg1) = Layout.block ⟨2, ![1024, 1024]⟩ ⟨2, ![1024, 4096]⟩ 1 4 c (aW m')
  k : ∀ c : Dev nD, m ((c.tc : Thread nD τ).loc main_arg2) = aK m'
  v : ∀ c : Dev nD, m ((c.tc : Thread nD τ).loc main_arg3) = aV m'
  o : ∀ c : Dev nD, m ((c.tc : Thread nD τ).loc main_arg4) = Layout.block ⟨2, ![1024, 1024]⟩ ⟨2, ![4096, 1024]⟩ 0 4 c (aO m')

variable {m : KMem} {m' : RMem} (G : Agree m m')
include G

theorem holds : Holds (inOf m) (whole (aX m') (aW m') (aK m') (aV m') (aO m')) where
  x c r k := (win0_apply _ _).trans ((congrFun (G.x c) _).trans ((block_mid c (aX m') r k).trans (ReferenceIdeal.Math.whole_X _ _ _ _ _ _ _).symm))
  wq c k n := (win1_apply _ _).trans ((congrFun (G.w c) _).trans ((block_col c (aW m') k n).trans (ReferenceIdeal.Math.whole_W _ _ _ _ _ _ _).symm))
  wo c k n := (win2_apply _ _).trans ((congrFun (G.o c) _).trans ((block_row c (aO m') k n).trans (ReferenceIdeal.Math.whole_O _ _ _ _ _ _ _).symm))
  k c j h d := (congrFun (G.k c) _).trans (ReferenceIdeal.Math.whole_K _ _ _ _ _ j h d).symm
  v c j h d := (congrFun (G.v c) _).trans (ReferenceIdeal.Math.whole_V _ _ _ _ _ j h d).symm

variable (P : Cert.Pre_KernelIdeal_finite_scores_KernelIdeal (hPre_finite_scores_KernelIdeal := preKernel) m)
include P

theorem aX_real (i : ReferenceIdeal.S1x1024x1024.Idx) : IsReal (aX m' i) := by
  idx_vars i
  rename' i0 => a, i1 => i, i2 => k
  have hi := i.isLt
  have e := (pre_real preKernel _ _ _ _ _ (P ⟨i.val / 256, by show i.val / 256 < 4; omega⟩)).1 (ix3 (0 : Fin 1) (⟨i.val % 256, by omega⟩ : Fin 256) k)
  rw [G.x, block_mid] at e
  have ei : (⟨256 * (i.val / 256) + i.val % 256, by omega⟩ : Fin 1024) = i := Fin.ext (by show 256 * (i.val / 256) + i.val % 256 = i.val; omega)
  have ea : a = 0 := Subsingleton.elim _ _
  rw [ea, ← ei]
  exact e

theorem aW_real (i : ReferenceIdeal.S1024x4096.Idx) : IsReal (aW m' i) := by
  idx_vars i
  rename' i0 => k, i1 => n
  have hn := n.isLt
  have e := (pre_real preKernel _ _ _ _ _ (P ⟨n.val / 1024, by show n.val / 1024 < 4; omega⟩)).2.1 (ix2 k (⟨n.val % 1024, by omega⟩ : Fin 1024))
  rw [G.w, block_col] at e
  have ei : (⟨1024 * (n.val / 1024) + n.val % 1024, by omega⟩ : Fin 4096) = n := Fin.ext (by show 1024 * (n.val / 1024) + n.val % 1024 = n.val; omega)
  rw [← ei]
  exact e

theorem aK_real (i : ReferenceIdeal.S1x4096x32x128.Idx) : IsReal (aK m' i) := by
  have e := (pre_real preKernel _ _ _ _ _ (P 0)).2.2 i
  rw [G.k] at e
  exact e

/-- A device's result is its block of the reference's. -/
theorem out_block (c : Dev nD) (f : (⟨S1x256x1024, .f32⟩ : BufTy).Contents (Elt Ideal))
    (hf : (win0_3.blk (0 : Fin 1)).view.read (Elt Ideal) f = fO (inOf m) c) :
    f = Layout.block ⟨3, ![1, 256, 1024]⟩ ⟨3, ![1, 1024, 1024]⟩ 1 4 c (ReferenceIdeal.Value.res_main_v44 m' 0) := by
  funext i
  rw [← win3_apply f i, hf, ReferenceIdeal.Math.res_eq]
  idx_vars i
  rename' i0 => a, i1 => r, i2 => n
  have ea : a = 0 := Subsingleton.elim _ _
  rw [ea]
  refine (fO_apply (holds G) c r n).trans (Eq.symm ?_)
  refine (block_mid c _ r n).trans ?_
  exact ReferenceIdeal.Math.all_apply (v := aV m') (wo := aO m') (aX_real G P) (aW_real G P) (aK_real G P) _ n

end Kernel

theorem value : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := preKernel) := by
  intro m g m' g' P h
  have G : Agree m m' := ⟨fun c => (h c).1, fun c => (h c).2.1, fun c => (h c).2.2.1, fun c => (h c).2.2.2.1, fun c => (h c).2.2.2.2⟩
  refine ⟨Cert.ReferenceIdeal.Value.res_main_v44 m' 0, ?_, ?_⟩
  · exact θ_run_mono (Cert.KernelIdeal.Body.run_all (F := Ideal) m g) fun r hr c => ⟨out_block G P c _ (hr.1 c).1, (hr.1 c).2⟩
  · exact (θ_run Cert.ReferenceIdeal.defs _ _).mono (fun r hr => hr 0) (Cert.ReferenceIdeal.Value.run (F := Ideal) m' g')

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

theorem frame_ref : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  Cert.Value.preKernel, Cert.Value.preReference,
  fun m g _ => Cert.Same.run_frame (F := Bits) m g,
  fun m g _ => Cert.KernelIdeal.Body.run_frame (F := Ideal) m g,
  fun m g _ => Cert.KernelIdeal.Body.run_frame (F := Ideal) m g,
  frame_ref,
  fun m g _ => frame_ref m g trivial,
  IdealRules.named_const.statement Cert.KernelIdeal.κ "mask" .f32 0xCE6E6B28#32 ⊥ rfl,
  Cert.Value.value⟩

end Cert.Proof

end
